-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v43) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)) →
    ∃ (v0 : (c : Dev Cert.Kernel2Ideal.nD) → Buf (Elt Ideal) ((c.tc : Thread Cert.Kernel2Ideal.nD Cert.Kernel2Ideal.τ).loc Cert.Kernel2Ideal.main_v1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v1) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v86) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v73) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
-- ==== Pre_finite.lean ====
abbrev S8x15x2048x128 : Shape := ⟨4, ![8, 15, 2048, 128]⟩
abbrev S8x15x256x128 : Shape := ⟨4, ![8, 15, 256, 128]⟩
abbrev S_ : Shape := ⟨0, ![]⟩

class Facts : Prop where
  bitsLt_bf16_f32 : FTy.bits .bf16 < FTy.bits .f32
  bcast_S_S8x15x2048x128 : S_.BroadcastsInDim S8x15x2048x128 (![] : Fin 0 → Fin S8x15x2048x128.rank)
  reducesTo_S8x15x2048x128_S_d0_1_2_3 : S8x15x2048x128.ReducesTo [0, 1, 2, 3] S_
  h_S_ : 0 < S_.numel
  bcast_S_S8x15x256x128 : S_.BroadcastsInDim S8x15x256x128 (![] : Fin 0 → Fin S8x15x256x128.rank)
  reducesTo_S8x15x256x128_S_d0_1_2_3 : S8x15x256x128.ReducesTo [0, 1, 2, 3] S_

variable [Facts]

def fn {F : FTy → Type} [FloatOps F] (main_arg0 : FVec F S8x15x2048x128 .bf16) (main_arg1 : FVec F S8x15x256x128 .bf16) : IVec S_ 1 :=
  let main_v0 : FVec F S8x15x2048x128 .f32 := (extf .f32 · bitsLt_bf16_f32) main_arg0
  let main_v1 : FVec F S8x15x2048x128 .f32 := Host.absf main_v0
  let main_cst : FVec F S_ .f32 := constant S_ .f32 0x7F800000#32
  let main_v2 : FVec F S8x15x2048x128 .f32 := broadcastInDim S8x15x2048x128 ![] bcast_S_S8x15x2048x128 main_cst
  let main_v3 : IVec S8x15x2048x128 1 := cmpf .olt main_v1 main_v2
  let main_c : IVec S_ 1 := constantI S_ 1 1#1
  let main_v4 : IVec S_ 1 := (fun x v => Host.reduce IntOp.andi x v reducesTo_S8x15x2048x128_S_d0_1_2_3 h_S_) main_v3 main_c
  let main_v5 : FVec F S8x15x256x128 .f32 := (extf .f32 · bitsLt_bf16_f32) main_arg1
  let main_v6 : FVec F S8x15x256x128 .f32 := Host.absf main_v5
  let main_cst_0 : FVec F S_ .f32 := constant S_ .f32 0x7F800000#32
  let main_v7 : FVec F S8x15x256x128 .f32 := broadcastInDim S8x15x256x128 ![] bcast_S_S8x15x256x128 main_cst_0
  let main_v8 : IVec S8x15x256x128 1 := cmpf .olt main_v6 main_v7
  let main_c_1 : IVec S_ 1 := constantI S_ 1 1#1
  let main_v9 : IVec S_ 1 := (fun x v => Host.reduce IntOp.andi x v reducesTo_S8x15x256x128_S_d0_1_2_3 h_S_) main_v8 main_c_1
  let main_v10 : IVec S_ 1 := andi main_v4 main_v9
  main_v10
-- ==== Kernel.lean ====
abbrev S8x15x2048x128 : Shape := ⟨4, ![8, 15, 2048, 128]⟩
abbrev S8x15x256x128 : Shape := ⟨4, ![8, 15, 256, 128]⟩
abbrev S8x4x2048x128 : Shape := ⟨4, ![8, 4, 2048, 128]⟩
abbrev S1x4x2048x128 : Shape := ⟨4, ![1, 4, 2048, 128]⟩
abbrev S1x2x2048x128 : Shape := ⟨4, ![1, 2, 2048, 128]⟩
abbrev S1x4x256x128 : Shape := ⟨4, ![1, 4, 256, 128]⟩
abbrev S1x1x256x128 : Shape := ⟨4, ![1, 1, 256, 128]⟩
abbrev S1x1x2048x128 : Shape := ⟨4, ![1, 1, 2048, 128]⟩
abbrev S2x2304x128 : Shape := ⟨3, ![2, 2304, 128]⟩
abbrev S2x512x2304 : Shape := ⟨3, ![2, 512, 2304]⟩
abbrev S256x128 : Shape := ⟨2, ![256, 128]⟩
abbrev S1x256x128 : Shape := ⟨3, ![1, 256, 128]⟩
abbrev S2048x128 : Shape := ⟨2, ![2048, 128]⟩
abbrev S1x2048x128 : Shape := ⟨3, ![1, 2048, 128]⟩
abbrev S1x128 : Shape := ⟨2, ![1, 128]⟩
abbrev S1x1x512x128 : Shape := ⟨4, ![1, 1, 512, 128]⟩
abbrev S512x128 : Shape := ⟨2, ![512, 128]⟩
abbrev S512x256 : Shape := ⟨2, ![512, 256]⟩
abbrev S256x256 : Shape := ⟨2, ![256, 256]⟩
abbrev S1x512x256 : Shape := ⟨3, ![1, 512, 256]⟩
abbrev S2048x256 : Shape := ⟨2, ![2048, 256]⟩
abbrev S512x2048 : Shape := ⟨2, ![512, 2048]⟩
abbrev S1x512x2048 : Shape := ⟨3, ![1, 512, 2048]⟩
abbrev S1x16x2304 : Shape := ⟨3, ![1, 16, 2304]⟩
abbrev S16x2304 : Shape := ⟨2, ![16, 2304]⟩
abbrev S16 : Shape := ⟨1, ![16]⟩
abbrev S16x1 : Shape := ⟨2, ![16, 1]⟩

abbrev nBuf : Space → Nat
  | .hbm => 3
  | .vmem => 21
  | .smem => 0
  | _ => 0

abbrev bufTy : (tb : Table) → Fin (tcTables nBuf tb) → BufTy
  | .hbm, ⟨0, _⟩ => ⟨S8x15x2048x128, .bf16⟩
  | .hbm, ⟨1, _⟩ => ⟨S8x15x256x128, .bf16⟩
  | .hbm, ⟨2, _⟩ => ⟨S8x4x2048x128, .bf16⟩
  | .local _ .vmem, ⟨0, _⟩ => ⟨S1x4x2048x128, .bf16⟩
  | .local _ .vmem, ⟨1, _⟩ => ⟨S1x4x2048x128, .bf16⟩
  | .local _ .vmem, ⟨2, _⟩ => ⟨S1x2x2048x128, .bf16⟩
  | .local _ .vmem, ⟨3, _⟩ => ⟨S1x2x2048x128, .bf16⟩
  | .local _ .vmem, ⟨4, _⟩ => ⟨S1x4x256x128, .bf16⟩
  | .local _ .vmem, ⟨5, _⟩ => ⟨S1x4x256x128, .bf16⟩
  | .local _ .vmem, ⟨6, _⟩ => ⟨S1x1x256x128, .bf16⟩
  | .local _ .vmem, ⟨7, _⟩ => ⟨S1x1x256x128, .bf16⟩
  | .local _ .vmem, ⟨8, _⟩ => ⟨S1x4x256x128, .bf16⟩
  | .local _ .vmem, ⟨9, _⟩ => ⟨S1x4x256x128, .bf16⟩
  | .local _ .vmem, ⟨10, _⟩ => ⟨S1x4x2048x128, .bf16⟩
  | .local _ .vmem, ⟨11, _⟩ => ⟨S1x4x2048x128, .bf16⟩
  | .local _ .vmem, ⟨12, _⟩ => ⟨S1x1x2048x128, .bf16⟩
  | .local _ .vmem, ⟨13, _⟩ => ⟨S1x1x2048x128, .bf16⟩
  | .local _ .vmem, ⟨14, _⟩ => ⟨S1x4x2048x128, .bf16⟩
  | .local _ .vmem, ⟨15, _⟩ => ⟨S1x4x2048x128, .bf16⟩
  | .local _ .vmem, ⟨16, _⟩ => ⟨S1x4x2048x128, .bf16⟩
  | .local _ .vmem, ⟨17, _⟩ => ⟨S1x4x2048x128, .bf16⟩
  | .local _ .vmem, ⟨18, _⟩ => ⟨S2x2304x128, .bf16⟩
  | .local _ .vmem, ⟨19, _⟩ => ⟨S2x512x2304, .f32⟩
  | .local _ .vmem, ⟨20, _⟩ => ⟨S2x512x2304, .bf16⟩
  | _, _ => ⟨S8x15x2048x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_scratch0 : Ref sig .tc := ⟨.vmem, 18, rfl⟩
abbrev cc0_scratch1 : Ref sig .tc := ⟨.vmem, 19, rfl⟩
abbrev cc0_scratch2 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![8, 1], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  let c0_i32_2 : BitVec 32 := 0#32
  ![arg0.toNat, v0.toNat, c0_i32_0.toNat, c0_i32_1.toNat]

def cc0_transform_1 (i : grid0.Coords) : Fin 4 → Nat :=
  let arg0 : BitVec 32 := BitVec.ofNat 32 (i 0).val
  let arg1 : BitVec 32 := BitVec.ofNat 32 (i 1).val
  let c6_i32 : BitVec 32 := 6#32
  let v0 : BitVec 32 := Scalar.addi c6_i32 arg1
  let c0_i32 : BitVec 32 := 0#32
  let c0_i32_0 : BitVec 32 := 0#32
  let c0_i32_1 : BitVec 32 := 0#32
  ![arg0.toNat, v0.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c1_i32 : BitVec 32 := 1#32
  let v0 : BitVec 32 := Scalar.addi c1_i32 arg1
  let c0_i32 : BitVec 32 := 0#32
  let c0_i32_0 : BitVec 32 := 0#32
  let c0_i32_1 : BitVec 32 := 0#32
  ![arg0.toNat, v0.toNat, c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let c14_i32 : BitVec 32 := 14#32
  let c0_i32 : BitVec 32 := 0#32
  let c0_i32_0 : BitVec 32 := 0#32
  let c0_i32_1 : BitVec 32 := 0#32
  ![arg0.toNat, c14_i32.toNat, c0_i32.toNat, c0_i32_0.toNat]

def cc0_transform_4 (i : grid0.Coords) : Fin 4 → Nat :=
  let arg0 : BitVec 32 := BitVec.ofNat 32 (i 0).val
  let arg1 : BitVec 32 := BitVec.ofNat 32 (i 1).val
  let c2_i32 : BitVec 32 := 2#32
  let v0 : BitVec 32 := Scalar.addi c2_i32 arg1
  let c0_i32 : BitVec 32 := 0#32
  let c0_i32_0 : BitVec 32 := 0#32
  let c0_i32_1 : BitVec 32 := 0#32
  ![arg0.toNat, v0.toNat, c0_i32.toNat, c0_i32_0.toNat]

def cc0_transform_5 (i : grid0.Coords) : Fin 4 → Nat :=
  let arg0 : BitVec 32 := BitVec.ofNat 32 (i 0).val
  let arg1 : BitVec 32 := BitVec.ofNat 32 (i 1).val
  let c1_i32 : BitVec 32 := 1#32
  let v0 : BitVec 32 := Scalar.addi c1_i32 arg1
  let c0_i32 : BitVec 32 := 0#32
  let c0_i32_0 : BitVec 32 := 0#32
  let c0_i32_1 : BitVec 32 := 0#32
  ![arg0.toNat, v0.toNat, c0_i32.toNat, c0_i32_0.toNat]

def cc0_transform_6 (i : grid0.Coords) : Fin 4 → Nat :=
  let arg0 : BitVec 32 := BitVec.ofNat 32 (i 0).val
  let arg1 : BitVec 32 := BitVec.ofNat 32 (i 1).val
  let c14_i32 : BitVec 32 := 14#32
  let c0_i32 : BitVec 32 := 0#32
  let c0_i32_0 : BitVec 32 := 0#32
  let c0_i32_1 : BitVec 32 := 0#32
  ![arg0.toNat, c14_i32.toNat, c0_i32.toNat, c0_i32_0.toNat]

def cc0_transform_7 (i : grid0.Coords) : Fin 4 → Nat :=
  let arg0 : BitVec 32 := BitVec.ofNat 32 (i 0).val
  let arg1 : BitVec 32 := BitVec.ofNat 32 (i 1).val
  let c2_i32 : BitVec 32 := 2#32
  let v0 : BitVec 32 := Scalar.addi c2_i32 arg1
  let c0_i32 : BitVec 32 := 0#32
  let c0_i32_0 : BitVec 32 := 0#32
  let c0_i32_1 : BitVec 32 := 0#32
  ![arg0.toNat, v0.toNat, c0_i32.toNat, c0_i32_0.toNat]

def cc0_transform_8 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x4x2048x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2x2048x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x4x256x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x256x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x4x256x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x4x2048x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x1x2048x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x4x2048x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x4x2048x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== ReferenceIdeal.lean ====
abbrev S8x15x2048x128 : Shape := ⟨4, ![8, 15, 2048, 128]⟩
abbrev S8x15x256x128 : Shape := ⟨4, ![8, 15, 256, 128]⟩
abbrev S8x4x2048x128 : Shape := ⟨4, ![8, 4, 2048, 128]⟩
abbrev S8x2x2048x128 : Shape := ⟨4, ![8, 2, 2048, 128]⟩
abbrev S8x2x2048x2x64 : Shape := ⟨5, ![8, 2, 2048, 2, 64]⟩
abbrev S8x2x2x2048x64 : Shape := ⟨5, ![8, 2, 2, 2048, 64]⟩
abbrev S8x4x2048x64 : Shape := ⟨4, ![8, 4, 2048, 64]⟩
abbrev S8x4x256x128 : Shape := ⟨4, ![8, 4, 256, 128]⟩
abbrev S8x4x2304x128 : Shape := ⟨4, ![8, 4, 2304, 128]⟩
abbrev S8x1x256x128 : Shape := ⟨4, ![8, 1, 256, 128]⟩
abbrev S8x1x2048x128 : Shape := ⟨4, ![8, 1, 2048, 128]⟩
abbrev S8x1x2304x128 : Shape := ⟨4, ![8, 1, 2304, 128]⟩
abbrev S8x2304x2x64 : Shape := ⟨4, ![8, 2304, 2, 64]⟩
abbrev S8x2x2304x64 : Shape := ⟨4, ![8, 2, 2304, 64]⟩
abbrev S8x4x2304x64 : Shape := ⟨4, ![8, 4, 2304, 64]⟩
abbrev S8x4x2048x2304 : Shape := ⟨4, ![8, 4, 2048, 2304]⟩
abbrev S_ : Shape := ⟨0, ![]⟩
abbrev S8x4x2048 : Shape := ⟨3, ![8, 4, 2048]⟩
abbrev S8x4x2048x1 : Shape := ⟨4, ![8, 4, 2048, 1]⟩

abbrev nBuf : Space → Nat
  | .hbm => 49
  | .vmem => 0
  | .smem => 0
  | _ => 0

abbrev bufTy : (tb : Table) → Fin (tcTables nBuf tb) → BufTy
  | .hbm, ⟨0, _⟩ => ⟨S8x15x2048x128, .bf16⟩
  | .hbm, ⟨1, _⟩ => ⟨S8x15x256x128, .bf16⟩
  | .hbm, ⟨2, _⟩ => ⟨S8x4x2048x128, .bf16⟩
  | .hbm, ⟨3, _⟩ => ⟨S8x4x2048x128, .f32⟩
  | .hbm, ⟨4, _⟩ => ⟨S8x2x2048x128, .bf16⟩
  | .hbm, ⟨5, _⟩ => ⟨S8x2x2048x128, .f32⟩
  | .hbm, ⟨6, _⟩ => ⟨S8x2x2048x2x64, .f32⟩
  | .hbm, ⟨7, _⟩ => ⟨S8x2x2x2048x64, .f32⟩
  | .hbm, ⟨8, _⟩ => ⟨S8x4x2048x64, .f32⟩
  | .hbm, ⟨9, _⟩ => ⟨S8x4x256x128, .bf16⟩
  | .hbm, ⟨10, _⟩ => ⟨S8x4x256x128, .f32⟩
  | .hbm, ⟨11, _⟩ => ⟨S8x4x2048x128, .bf16⟩
  | .hbm, ⟨12, _⟩ => ⟨S8x4x2048x128, .f32⟩
  | .hbm, ⟨13, _⟩ => ⟨S8x4x2304x128, .f32⟩
  | .hbm, ⟨14, _⟩ => ⟨S8x1x256x128, .bf16⟩
  | .hbm, ⟨15, _⟩ => ⟨S8x1x256x128, .f32⟩
  | .hbm, ⟨16, _⟩ => ⟨S8x1x2048x128, .bf16⟩
  | .hbm, ⟨17, _⟩ => ⟨S8x1x2048x128, .f32⟩
  | .hbm, ⟨18, _⟩ => ⟨S8x1x2304x128, .f32⟩
  | .hbm, ⟨19, _⟩ => ⟨S8x2304x2x64, .f32⟩
  | .hbm, ⟨20, _⟩ => ⟨S8x2x2304x64, .f32⟩
  | .hbm, ⟨21, _⟩ => ⟨S8x4x2304x64, .f32⟩
  | .hbm, ⟨22, _⟩ => ⟨S8x4x256x128, .bf16⟩
  | .hbm, ⟨23, _⟩ => ⟨S8x4x256x128, .f32⟩
  | .hbm, ⟨24, _⟩ => ⟨S8x4x2048x128, .bf16⟩
  | .hbm, ⟨25, _⟩ => ⟨S8x4x2048x128, .f32⟩
  | .hbm, ⟨26, _⟩ => ⟨S8x4x2304x128, .f32⟩
  | .hbm, ⟨27, _⟩ => ⟨S8x4x2048x2304, .f32⟩
  | .hbm, ⟨28, _⟩ => ⟨S8x4x2048x2304, .f32⟩
  | .hbm, ⟨29, _⟩ => ⟨S8x4x2048x2304, .f32⟩
  | .hbm, ⟨30, _⟩ => ⟨S_, .f32⟩
  | .hbm, ⟨31, _⟩ => ⟨S_, .f32⟩
  | .hbm, ⟨32, _⟩ => ⟨S8x4x2048x2304, .f32⟩
  | .hbm, ⟨33, _⟩ => ⟨S8x4x2048x2304, .f32⟩
  | .hbm, ⟨34, _⟩ => ⟨S_, .f32⟩
  | .hbm, ⟨35, _⟩ => ⟨S8x4x2048, .f32⟩
  | .hbm, ⟨36, _⟩ => ⟨S8x4x2048x1, .f32⟩
  | .hbm, ⟨37, _⟩ => ⟨S8x4x2048x2304, .f32⟩
  | .hbm, ⟨38, _⟩ => ⟨S8x4x2048x2304, .f32⟩
  | .hbm, ⟨39, _⟩ => ⟨S8x4x2048x2304, .f32⟩
  | .hbm, ⟨40, _⟩ => ⟨S_, .f32⟩
  | .hbm, ⟨41, _⟩ => ⟨S8x4x2048, .f32⟩
  | .hbm, ⟨42, _⟩ => ⟨S8x4x2048x1, .f32⟩
  | .hbm, ⟨43, _⟩ => ⟨S8x4x2048x2304, .f32⟩
  | .hbm, ⟨44, _⟩ => ⟨S8x4x2048x2304, .f32⟩
  | .hbm, ⟨45, _⟩ => ⟨S8x4x2048x2304, .bf16⟩
  | .hbm, ⟨46, _⟩ => ⟨S8x4x2048x2304, .f32⟩
  | .hbm, ⟨47, _⟩ => ⟨S8x4x2048x128, .f32⟩
  | .hbm, ⟨48, _⟩ => ⟨S8x4x2048x128, .bf16⟩
  | _, _ => ⟨S8x15x2048x128, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_v16 : Ref sig .tc := ⟨.hbm, 18, rfl⟩
abbrev main_v17 : Ref sig .tc := ⟨.hbm, 19, rfl⟩
abbrev main_v18 : Ref sig .tc := ⟨.hbm, 20, rfl⟩
abbrev main_v19 : Ref sig .tc := ⟨.hbm, 21, rfl⟩
abbrev main_v20 : Ref sig .tc := ⟨.hbm, 22, rfl⟩
abbrev main_v21 : Ref sig .tc := ⟨.hbm, 23, rfl⟩
abbrev main_v22 : Ref sig .tc := ⟨.hbm, 24, rfl⟩
abbrev main_v23 : Ref sig .tc := ⟨.hbm, 25, rfl⟩
abbrev main_v24 : Ref sig .tc := ⟨.hbm, 26, rfl⟩
abbrev main_v25 : Ref sig .tc := ⟨.hbm, 27, rfl⟩
abbrev main_v26 : Ref sig .tc := ⟨.hbm, 28, rfl⟩
abbrev main_v27 : Ref sig .tc := ⟨.hbm, 29, rfl⟩
abbrev main_cst : Ref sig .tc := ⟨.hbm, 30, rfl⟩
abbrev main_v28 : Ref sig .tc := ⟨.hbm, 31, rfl⟩
abbrev main_v29 : Ref sig .tc := ⟨.hbm, 32, rfl⟩
abbrev main_v30 : Ref sig .tc := ⟨.hbm, 33, rfl⟩
abbrev main_cst_0 : Ref sig .tc := ⟨.hbm, 34, rfl⟩
abbrev main_v31 : Ref sig .tc := ⟨.hbm, 35, rfl⟩
abbrev main_v32 : Ref sig .tc := ⟨.hbm, 36, rfl⟩
abbrev main_v33 : Ref sig .tc := ⟨.hbm, 37, rfl⟩
abbrev main_v34 : Ref sig .tc := ⟨.hbm, 38, rfl⟩
abbrev main_v35 : Ref sig .tc := ⟨.hbm, 39, rfl⟩
abbrev main_cst_1 : Ref sig .tc := ⟨.hbm, 40, rfl⟩
abbrev main_v36 : Ref sig .tc := ⟨.hbm, 41, rfl⟩
abbrev main_v37 : Ref sig .tc := ⟨.hbm, 42, rfl⟩
abbrev main_v38 : Ref sig .tc := ⟨.hbm, 43, rfl⟩
abbrev main_v39 : Ref sig .tc := ⟨.hbm, 44, rfl⟩
abbrev main_v40 : Ref sig .tc := ⟨.hbm, 45, rfl⟩
abbrev main_v41 : Ref sig .tc := ⟨.hbm, 46, rfl⟩
abbrev main_v42 : Ref sig .tc := ⟨.hbm, 47, rfl⟩
abbrev main_v43 : Ref sig .tc := ⟨.hbm, 48, rfl⟩

abbrev nD : Nat := 1
abbrev τ : Topo := Topo.v7x

variable {F : FTy → Type} [FloatOps F]
-- ==== Kernel2.lean ====
abbrev S8x2048x1024 : Shape := ⟨3, ![8, 2048, 1024]⟩
abbrev S2x16x6x1024 : Shape := ⟨4, ![2, 16, 6, 1024]⟩
abbrev S2x1024 : Shape := ⟨2, ![2, 1024]⟩
abbrev S2x1024x5632 : Shape := ⟨3, ![2, 1024, 5632]⟩
abbrev S2x3x2816 : Shape := ⟨3, ![2, 3, 2816]⟩
abbrev S2x2816 : Shape := ⟨2, ![2, 2816]⟩
abbrev S2x2816x1024 : Shape := ⟨3, ![2, 2816, 1024]⟩
abbrev S1024 : Shape := ⟨1, ![1024]⟩
abbrev S1x1024 : Shape := ⟨2, ![1, 1024]⟩
abbrev S1x2048x1024 : Shape := ⟨3, ![1, 2048, 1024]⟩
abbrev S1x1x6x1024 : Shape := ⟨4, ![1, 1, 6, 1024]⟩
abbrev S1x1024x256 : Shape := ⟨3, ![1, 1024, 256]⟩
abbrev S1x3x256 : Shape := ⟨3, ![1, 3, 256]⟩
abbrev S2x256 : Shape := ⟨2, ![2, 256]⟩
abbrev S1x256x1024 : Shape := ⟨3, ![1, 256, 1024]⟩
abbrev S2048x1024 : Shape := ⟨2, ![2048, 1024]⟩
abbrev S2x2048x512 : Shape := ⟨3, ![2, 2048, 512]⟩
abbrev S4x512x256 : Shape := ⟨3, ![4, 512, 256]⟩
abbrev S2048 : Shape := ⟨1, ![2048]⟩
abbrev S2048x1 : Shape := ⟨2, ![2048, 1]⟩
abbrev S1x1x1x1024 : Shape := ⟨4, ![1, 1, 1, 1024]⟩
abbrev S1024x256 : Shape := ⟨2, ![1024, 256]⟩
abbrev S1024x512 : Shape := ⟨2, ![1024, 512]⟩
abbrev S512x1024 : Shape := ⟨2, ![512, 1024]⟩
abbrev S512x512 : Shape := ⟨2, ![512, 512]⟩
abbrev S1x2048x512 : Shape := ⟨3, ![1, 2048, 512]⟩
abbrev S2048x512 : Shape := ⟨2, ![2048, 512]⟩
abbrev S256x1024 : Shape := ⟨2, ![256, 1024]⟩
abbrev S72x256 : Shape := ⟨2, ![72, 256]⟩
abbrev S1x1x256 : Shape := ⟨3, ![1, 1, 256]⟩
abbrev S1x256 : Shape := ⟨2, ![1, 256]⟩
abbrev S64x256 : Shape := ⟨2, ![64, 256]⟩
abbrev S1x512x256 : Shape := ⟨3, ![1, 512, 256]⟩
abbrev S512x256 : Shape := ⟨2, ![512, 256]⟩
abbrev S1x64x256 : Shape := ⟨3, ![1, 64, 256]⟩
abbrev S80x256 : Shape := ⟨2, ![80, 256]⟩
abbrev S1x512x1024 : Shape := ⟨3, ![1, 512, 1024]⟩

abbrev nBuf : Space → Nat
  | .hbm => 10
  | .vmem => 21
  | .smem => 0
  | _ => 0

abbrev bufTy : (tb : Table) → Fin (tcTables nBuf tb) → BufTy
  | .hbm, ⟨0, _⟩ => ⟨S8x2048x1024, .f32⟩
  | .hbm, ⟨1, _⟩ => ⟨S2x16x6x1024, .f32⟩
  | .hbm, ⟨2, _⟩ => ⟨S2x1024, .f32⟩
  | .hbm, ⟨3, _⟩ => ⟨S2x1024x5632, .f32⟩
  | .hbm, ⟨4, _⟩ => ⟨S2x3x2816, .f32⟩
  | .hbm, ⟨5, _⟩ => ⟨S2x2816, .f32⟩
  | .hbm, ⟨6, _⟩ => ⟨S2x2816x1024, .f32⟩
  | .hbm, ⟨7, _⟩ => ⟨S1024, .f32⟩
  | .hbm, ⟨8, _⟩ => ⟨S1x1024, .f32⟩
  | .hbm, ⟨9, _⟩ => ⟨S8x2048x1024, .f32⟩
  | .local _ .vmem, ⟨0, _⟩ => ⟨S1x2048x1024, .f32⟩
  | .local _ .vmem, ⟨1, _⟩ => ⟨S1x2048x1024, .f32⟩
  | .local _ .vmem, ⟨2, _⟩ => ⟨S1x1x6x1024, .f32⟩
  | .local _ .vmem, ⟨3, _⟩ => ⟨S1x1x6x1024, .f32⟩
  | .local _ .vmem, ⟨4, _⟩ => ⟨S2x1024, .f32⟩
  | .local _ .vmem, ⟨5, _⟩ => ⟨S1x1024x256, .f32⟩
  | .local _ .vmem, ⟨6, _⟩ => ⟨S1x1024x256, .f32⟩
  | .local _ .vmem, ⟨7, _⟩ => ⟨S1x1024x256, .f32⟩
  | .local _ .vmem, ⟨8, _⟩ => ⟨S1x1024x256, .f32⟩
  | .local _ .vmem, ⟨9, _⟩ => ⟨S1x3x256, .f32⟩
  | .local _ .vmem, ⟨10, _⟩ => ⟨S1x3x256, .f32⟩
  | .local _ .vmem, ⟨11, _⟩ => ⟨S2x256, .f32⟩
  | .local _ .vmem, ⟨12, _⟩ => ⟨S2x256, .f32⟩
  | .local _ .vmem, ⟨13, _⟩ => ⟨S1x256x1024, .f32⟩
  | .local _ .vmem, ⟨14, _⟩ => ⟨S1x256x1024, .f32⟩
  | .local _ .vmem, ⟨15, _⟩ => ⟨S1x1024, .f32⟩
  | .local _ .vmem, ⟨16, _⟩ => ⟨S1x2048x1024, .f32⟩
  | .local _ .vmem, ⟨17, _⟩ => ⟨S1x2048x1024, .f32⟩
  | .local _ .vmem, ⟨18, _⟩ => ⟨S2048x1024, .bf16⟩
  | .local _ .vmem, ⟨19, _⟩ => ⟨S2x2048x512, .f32⟩
  | .local _ .vmem, ⟨20, _⟩ => ⟨S4x512x256, .bf16⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg9_1 : Ref sig .tc := ⟨.vmem, 17, rfl⟩
abbrev cc0_scratch0 : Ref sig .tc := ⟨.vmem, 18, rfl⟩
abbrev cc0_scratch1 : Ref sig .tc := ⟨.vmem, 19, rfl⟩
abbrev cc0_scratch2 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem9_0 : DmaSem sig := 16
abbrev cc0_sem9_1 : DmaSem sig := 17

abbrev nD : Nat := 1
abbrev τ : Topo := Topo.v7x

variable {F : FTy → Type} [FloatOps F]

abbrev grid0 : Pipeline.Grid := ⟨2, ![8, 12], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_1 : BitVec 32 := 0#32
  let v2 : BitVec 1 := Scalar.cmpi .ne v1 c0_i32_1
  v2

def k0_cond2 (i : grid0.Coords) : BitVec 1 :=
  let arg1 : BitVec 32 := BitVec.ofNat 32 (i 1).val
  let c0_i32_2 : BitVec 32 := 0#32
  let v3 : BitVec 1 := Scalar.cmpi .sgt arg1 c0_i32_2
  let c11_i32 : BitVec 32 := 11#32
  let v4 : BitVec 1 := Scalar.cmpi .slt arg1 c11_i32
  let v5 : BitVec 1 := Scalar.andi v3 v4
  let c2_i32 : BitVec 32 := 2#32
  let c0_i32_3 : BitVec 32 := 0#32
  let v6 : BitVec 1 := Scalar.cmpi .eq c2_i32 c0_i32_3
  let c1_i32 : BitVec 32 := 1#32
  let v7 : BitVec 32 := Scalar.select v6 c1_i32 c2_i32
  let v8 : BitVec 32 := Scalar.remsi arg1 v7
  let c0_i32_5 : BitVec 32 := 0#32
  let v10 : BitVec 1 := Scalar.cmpi .slt v8 c0_i32_5
  let c0_i32_6 : BitVec 32 := 0#32
  let v11 : BitVec 1 := Scalar.cmpi .slt v7 c0_i32_6
  let v12 : BitVec 1 := Scalar.xori v10 v11
  let c0_i32_4 : BitVec 32 := 0#32
  let v9 : BitVec 1 := Scalar.cmpi .ne v8 c0_i32_4
  let v13 : BitVec 1 := Scalar.andi v12 v9
  let v14 : BitVec 32 := Scalar.addi v8 v7
  let v15 : BitVec 32 := Scalar.select v13 v14 v8
  let c1_i32_7 : BitVec 32 := 1#32
  let v16 : BitVec 1 := Scalar.cmpi .eq v15 c1_i32_7
  let v17 : BitVec 1 := Scalar.andi v5 v16
  let v18 : BitVec 32 := Scalar.extui v17
  let c0_i32_13 : BitVec 32 := 0#32
  let v19 : BitVec 1 := Scalar.cmpi .ne v18 c0_i32_13
  v19

def k0_cond3 (i : grid0.Coords) : BitVec 1 :=
  let arg1 : BitVec 32 := BitVec.ofNat 32 (i 1).val
  let c0_i32_2 : BitVec 32 := 0#32
  let v3 : BitVec 1 := Scalar.cmpi .sgt arg1 c0_i32_2
  let c11_i32 : BitVec 32 := 11#32
  let v4 : BitVec 1 := Scalar.cmpi .slt arg1 c11_i32
  let v5 : BitVec 1 := Scalar.andi v3 v4
  let c2_i32_14 : BitVec 32 := 2#32
  let c0_i32_15 : BitVec 32 := 0#32
  let v20 : BitVec 1 := Scalar.cmpi .eq c2_i32_14 c0_i32_15
  let c1_i32_16 : BitVec 32 := 1#32
  let v21 : BitVec 32 := Scalar.select v20 c1_i32_16 c2_i32_14
  let v22 : BitVec 32 := Scalar.remsi arg1 v21
  let c0_i32_18 : BitVec 32 := 0#32
  let v24 : BitVec 1 := Scalar.cmpi .slt v22 c0_i32_18
  let c0_i32_19 : BitVec 32 := 0#32
  let v25 : BitVec 1 := Scalar.cmpi .slt v21 c0_i32_19
  let v26 : BitVec 1 := Scalar.xori v24 v25
  let c0_i32_17 : BitVec 32 := 0#32
  let v23 : BitVec 1 := Scalar.cmpi .ne v22 c0_i32_17
  let v27 : BitVec 1 := Scalar.andi v26 v23
  let v28 : BitVec 32 := Scalar.addi v22 v21
  let v29 : BitVec 32 := Scalar.select v27 v28 v22
  let c0_i32_20 : BitVec 32 := 0#32
  let v30 : BitVec 1 := Scalar.cmpi .eq v29 c0_i32_20
  let v31 : BitVec 1 := Scalar.andi v5 v30
  let v32 : BitVec 32 := Scalar.extui v31
  let c0_i32_27 : BitVec 32 := 0#32
  let v33 : BitVec 1 := Scalar.cmpi .ne v32 c0_i32_27
  v33

def k0_cond4 (i : grid0.Coords) : BitVec 1 :=
  let arg1 : BitVec 32 := BitVec.ofNat 32 (i 1).val
  let c11_i32_28 : BitVec 32 := 11#32
  let v34 : BitVec 1 := Scalar.cmpi .eq arg1 c11_i32_28
  let v35 : BitVec 32 := Scalar.extui v34
  let c0_i32_34 : BitVec 32 := 0#32
  let v36 : BitVec 1 := Scalar.cmpi .ne v35 c0_i32_34
  v36

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 4 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c10_i32 : BitVec 32 := 10#32
  let v0 : BitVec 32 := Scalar.minsi arg1 c10_i32
  let c1_i32 : BitVec 32 := 1#32
  let c0_i32 : BitVec 32 := 0#32
  let c0_i32_0 : BitVec 32 := 0#32
  ![c1_i32.toNat, c0_i32.toNat, v0.toNat]

def cc0_transform_4 (i : grid0.Coords) : Fin 3 → Nat :=
  let arg0 : BitVec 32 := BitVec.ofNat 32 (i 0).val
  let arg1 : BitVec 32 := BitVec.ofNat 32 (i 1).val
  let c10_i32 : BitVec 32 := 10#32
  let v0 : BitVec 32 := Scalar.minsi arg1 c10_i32
  let c11_i32 : BitVec 32 := 11#32
  let v1 : BitVec 32 := Scalar.addi c11_i32 v0
  let c1_i32 : BitVec 32 := 1#32
  let c0_i32 : BitVec 32 := 0#32
  let c0_i32_0 : BitVec 32 := 0#32
  ![c1_i32.toNat, c0_i32.toNat, v1.toNat]

def cc0_transform_5 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c1_i32_0 : BitVec 32 := 1#32
  let c0_i32_1 : BitVec 32 := 0#32
  let c0_i32_2 : BitVec 32 := 0#32
  ![c1_i32_0.toNat, c0_i32_1.toNat, v1.toNat]

def cc0_transform_6 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c0_i32_0 : BitVec 32 := 0#32
  let c0_i32_1 : BitVec 32 := 0#32
  ![c0_i32_0.toNat, v1.toNat]

def cc0_transform_7 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c1_i32_0 : BitVec 32 := 1#32
  let c0_i32_1 : BitVec 32 := 0#32
  let c0_i32_2 : BitVec 32 := 0#32
  ![c1_i32_0.toNat, v1.toNat, c0_i32_1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x2048x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1x6x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S2x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x1024x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x1024x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x3x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S2x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S1x256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S1x2048x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]
-- ==== Reference2Ideal.lean ====
abbrev S8x2048x1024 : Shape := ⟨3, ![8, 2048, 1024]⟩
abbrev S2x16x6x1024 : Shape := ⟨4, ![2, 16, 6, 1024]⟩
abbrev S2x1024 : Shape := ⟨2, ![2, 1024]⟩
abbrev S2x1024x5632 : Shape := ⟨3, ![2, 1024, 5632]⟩
abbrev S2x3x2816 : Shape := ⟨3, ![2, 3, 2816]⟩
abbrev S2x2816 : Shape := ⟨2, ![2, 2816]⟩
abbrev S2x2816x1024 : Shape := ⟨3, ![2, 2816, 1024]⟩
abbrev S1024 : Shape := ⟨1, ![1024]⟩
abbrev S1x8x1x1024 : Shape := ⟨4, ![1, 8, 1, 1024]⟩
abbrev S8x1x1024 : Shape := ⟨3, ![8, 1, 1024]⟩
abbrev S1x1024 : Shape := ⟨2, ![1, 1024]⟩
abbrev S_ : Shape := ⟨0, ![]⟩
abbrev S8x2048 : Shape := ⟨2, ![8, 2048]⟩
abbrev S8x2048x1 : Shape := ⟨3, ![8, 2048, 1]⟩
abbrev S1x1x1024 : Shape := ⟨3, ![1, 1, 1024]⟩
abbrev S1x1024x5632 : Shape := ⟨3, ![1, 1024, 5632]⟩
abbrev S1024x5632 : Shape := ⟨2, ![1024, 5632]⟩
abbrev S8x2048x5632 : Shape := ⟨3, ![8, 2048, 5632]⟩
abbrev S8x2048x2816 : Shape := ⟨3, ![8, 2048, 2816]⟩
abbrev S1x3x2816 : Shape := ⟨3, ![1, 3, 2816]⟩
abbrev S3x2816 : Shape := ⟨2, ![3, 2816]⟩
abbrev S1x2816 : Shape := ⟨2, ![1, 2816]⟩
abbrev S2816 : Shape := ⟨1, ![2816]⟩
abbrev S8x2050x2816 : Shape := ⟨3, ![8, 2050, 2816]⟩
abbrev S1x1x2816 : Shape := ⟨3, ![1, 1, 2816]⟩
abbrev S1x2816x1024 : Shape := ⟨3, ![1, 2816, 1024]⟩
abbrev S2816x1024 : Shape := ⟨2, ![2816, 1024]⟩

abbrev nBuf : Space → Nat
  | .hbm => 106
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S2x16x6x1024, .f32⟩
  | .hbm, ⟨2, _⟩ => ⟨S2x1024, .f32⟩
  | .hbm, ⟨3, _⟩ => ⟨S2x1024x5632, .f32⟩
  | .hbm, ⟨4, _⟩ => ⟨S2x3x2816, .f32⟩
  | .hbm, ⟨5, _⟩ => ⟨S2x2816, .f32⟩
  | .hbm, ⟨6, _⟩ => ⟨S2x2816x1024, .f32⟩
  | .hbm, ⟨7, _⟩ => ⟨S1024, .f32⟩
  | .hbm, ⟨8, _⟩ => ⟨S1x8x1x1024, .f32⟩
  | .hbm, ⟨9, _⟩ => ⟨S8x1x1024, .f32⟩
  | .hbm, ⟨10, _⟩ => ⟨S1x8x1x1024, .f32⟩
  | .hbm, ⟨11, _⟩ => ⟨S8x1x1024, .f32⟩
  | .hbm, ⟨12, _⟩ => ⟨S1x8x1x1024, .f32⟩
  | .hbm, ⟨13, _⟩ => ⟨S8x1x1024, .f32⟩
  | .hbm, ⟨14, _⟩ => ⟨S1x1024, .f32⟩
  | .hbm, ⟨15, _⟩ => ⟨S1024, .f32⟩
  | .hbm, ⟨16, _⟩ => ⟨S8x2048x1024, .f32⟩
  | .hbm, ⟨17, _⟩ => ⟨S_, .f32⟩
  | .hbm, ⟨18, _⟩ => ⟨S8x2048, .f32⟩
  | .hbm, ⟨19, _⟩ => ⟨S8x2048x1, .f32⟩
  | .hbm, ⟨20, _⟩ => ⟨S_, .f32⟩
  | .hbm, ⟨21, _⟩ => ⟨S8x2048x1, .f32⟩
  | .hbm, ⟨22, _⟩ => ⟨S8x2048x1, .f32⟩
  | .hbm, ⟨23, _⟩ => ⟨S_, .f32⟩
  | .hbm, ⟨24, _⟩ => ⟨S8x2048x1, .f32⟩
  | .hbm, ⟨25, _⟩ => ⟨S8x2048x1, .f32⟩
  | .hbm, ⟨26, _⟩ => ⟨S8x2048x1, .f32⟩
  | .hbm, ⟨27, _⟩ => ⟨S8x2048x1024, .f32⟩
  | .hbm, ⟨28, _⟩ => ⟨S8x2048x1024, .f32⟩
  | .hbm, ⟨29, _⟩ => ⟨S1x1x1024, .f32⟩
  | .hbm, ⟨30, _⟩ => ⟨S8x2048x1024, .f32⟩
  | .hbm, ⟨31, _⟩ => ⟨S8x2048x1024, .f32⟩
  | .hbm, ⟨32, _⟩ => ⟨S_, .f32⟩
  | .hbm, ⟨33, _⟩ => ⟨S8x1x1024, .f32⟩
  | .hbm, ⟨34, _⟩ => ⟨S8x1x1024, .f32⟩
  | .hbm, ⟨35, _⟩ => ⟨S8x2048x1024, .f32⟩
  | .hbm, ⟨36, _⟩ => ⟨S8x2048x1024, .f32⟩
  | .hbm, ⟨37, _⟩ => ⟨S8x2048x1024, .f32⟩
  | .hbm, ⟨38, _⟩ => ⟨S8x2048x1024, .f32⟩
  | .hbm, ⟨39, _⟩ => ⟨S1x1024x5632, .f32⟩
  | .hbm, ⟨40, _⟩ => ⟨S1024x5632, .f32⟩
  | .hbm, ⟨41, _⟩ => ⟨S8x2048x5632, .f32⟩
  | .hbm, ⟨42, _⟩ => ⟨S8x2048x2816, .f32⟩
  | .hbm, ⟨43, _⟩ => ⟨S1x3x2816, .f32⟩
  | .hbm, ⟨44, _⟩ => ⟨S3x2816, .f32⟩
  | .hbm, ⟨45, _⟩ => ⟨S1x2816, .f32⟩
  | .hbm, ⟨46, _⟩ => ⟨S2816, .f32⟩
  | .hbm, ⟨47, _⟩ => ⟨S_, .i32⟩
  | .hbm, ⟨48, _⟩ => ⟨S_, .f32⟩
  | .hbm, ⟨49, _⟩ => ⟨S8x2050x2816, .f32⟩
  | .hbm, ⟨50, _⟩ => ⟨S8x2048x2816, .f32⟩
  | .hbm, ⟨51, _⟩ => ⟨S1x2816, .f32⟩
  | .hbm, ⟨52, _⟩ => ⟨S2816, .f32⟩
  | .hbm, ⟨53, _⟩ => ⟨S1x1x2816, .f32⟩
  | .hbm, ⟨54, _⟩ => ⟨S8x2048x2816, .f32⟩
  | .hbm, ⟨55, _⟩ => ⟨S8x2048x2816, .f32⟩
  | .hbm, ⟨56, _⟩ => ⟨S8x2048x2816, .f32⟩
  | .hbm, ⟨57, _⟩ => ⟨S1x2816, .f32⟩
  | .hbm, ⟨58, _⟩ => ⟨S2816, .f32⟩
  | .hbm, ⟨59, _⟩ => ⟨S1x1x2816, .f32⟩
  | .hbm, ⟨60, _⟩ => ⟨S8x2048x2816, .f32⟩
  | .hbm, ⟨61, _⟩ => ⟨S8x2048x2816, .f32⟩
  | .hbm, ⟨62, _⟩ => ⟨S8x2048x2816, .f32⟩
  | .hbm, ⟨63, _⟩ => ⟨S8x2048x2816, .f32⟩
  | .hbm, ⟨64, _⟩ => ⟨S1x2816, .f32⟩
  | .hbm, ⟨65, _⟩ => ⟨S2816, .f32⟩
  | .hbm, ⟨66, _⟩ => ⟨S1x1x2816, .f32⟩
  | .hbm, ⟨67, _⟩ => ⟨S8x2048x2816, .f32⟩
  | .hbm, ⟨68, _⟩ => ⟨S8x2048x2816, .f32⟩
  | .hbm, ⟨69, _⟩ => ⟨S8x2048x2816, .f32⟩
  | .hbm, ⟨70, _⟩ => ⟨S1x1x2816, .f32⟩
  | .hbm, ⟨71, _⟩ => ⟨S8x2048x2816, .f32⟩
  | .hbm, ⟨72, _⟩ => ⟨S8x2048x2816, .f32⟩
  | .hbm, ⟨73, _⟩ => ⟨S8x2048x2816, .f32⟩
  | .hbm, ⟨74, _⟩ => ⟨S8x2048x2816, .f32⟩
  | .hbm, ⟨75, _⟩ => ⟨S_, .f32⟩
  | .hbm, ⟨76, _⟩ => ⟨S8x2048x2816, .f32⟩
  | .hbm, ⟨77, _⟩ => ⟨S8x2048x2816, .f32⟩
  | .hbm, ⟨78, _⟩ => ⟨S_, .f32⟩
  | .hbm, ⟨79, _⟩ => ⟨S8x2048x2816, .f32⟩
  | .hbm, ⟨80, _⟩ => ⟨S8x2048x2816, .f32⟩
  | .hbm, ⟨81, _⟩ => ⟨S8x2048x2816, .f32⟩
  | .hbm, ⟨82, _⟩ => ⟨S8x2048x2816, .f32⟩
  | .hbm, ⟨83, _⟩ => ⟨S8x2048x2816, .f32⟩
  | .hbm, ⟨84, _⟩ => ⟨S1x2816x1024, .f32⟩
  | .hbm, ⟨85, _⟩ => ⟨S2816x1024, .f32⟩
  | .hbm, ⟨86, _⟩ => ⟨S8x2048x1024, .f32⟩
  | .hbm, ⟨87, _⟩ => ⟨S8x2048x1024, .f32⟩
  | .hbm, ⟨88, _⟩ => ⟨S8x2048x1024, .f32⟩
  | .hbm, ⟨89, _⟩ => ⟨S8x2048x1024, .f32⟩
  | .hbm, ⟨90, _⟩ => ⟨S8x2048x1024, .f32⟩
  | .hbm, ⟨91, _⟩ => ⟨S_, .f32⟩
  | .hbm, ⟨92, _⟩ => ⟨S8x2048, .f32⟩
  | .hbm, ⟨93, _⟩ => ⟨S8x2048x1, .f32⟩
  | .hbm, ⟨94, _⟩ => ⟨S_, .f32⟩
  | .hbm, ⟨95, _⟩ => ⟨S8x2048x1, .f32⟩
  | .hbm, ⟨96, _⟩ => ⟨S8x2048x1, .f32⟩
  | .hbm, ⟨97, _⟩ => ⟨S_, .f32⟩
  | .hbm, ⟨98, _⟩ => ⟨S8x2048x1, .f32⟩
  | .hbm, ⟨99, _⟩ => ⟨S8x2048x1, .f32⟩
  | .hbm, ⟨100, _⟩ => ⟨S8x2048x1, .f32⟩
  | .hbm, ⟨101, _⟩ => ⟨S8x2048x1024, .f32⟩
  | .hbm, ⟨102, _⟩ => ⟨S8x2048x1024, .f32⟩
  | .hbm, ⟨103, _⟩ => ⟨S1x1x1024, .f32⟩
  | .hbm, ⟨104, _⟩ => ⟨S8x2048x1024, .f32⟩
  | .hbm, ⟨105, _⟩ => ⟨S8x2048x1024, .f32⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst : Ref sig .tc := ⟨.hbm, 17, rfl⟩
abbrev main_v9 : Ref sig .tc := ⟨.hbm, 18, rfl⟩
abbrev main_v10 : Ref sig .tc := ⟨.hbm, 19, rfl⟩
abbrev main_cst_0 : Ref sig .tc := ⟨.hbm, 20, rfl⟩
abbrev main_v11 : Ref sig .tc := ⟨.hbm, 21, rfl⟩
abbrev main_v12 : Ref sig .tc := ⟨.hbm, 22, rfl⟩
abbrev main_cst_1 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst_2 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_c : Ref sig .tc := ⟨.hbm, 47, rfl⟩
abbrev main_call0_v0 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_cst_3 : Ref sig .tc := ⟨.hbm, 75, rfl⟩
abbrev main_v61 : Ref sig .tc := ⟨.hbm, 76, rfl⟩
abbrev main_v62 : Ref sig .tc := ⟨.hbm, 77, rfl⟩
abbrev main_cst_4 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_v67 : Ref sig .tc := ⟨.hbm, 83, rfl⟩
abbrev main_v68 : Ref sig .tc := ⟨.hbm, 84, rfl⟩
abbrev main_v69 : Ref sig .tc := ⟨.hbm, 85, rfl⟩
abbrev main_v70 : Ref sig .tc := ⟨.hbm, 86, rfl⟩
abbrev main_v71 : Ref sig .tc := ⟨.hbm, 87, rfl⟩
abbrev main_v72 : Ref sig .tc := ⟨.hbm, 88, rfl⟩
abbrev main_v73 : Ref sig .tc := ⟨.hbm, 89, rfl⟩
abbrev main_v74 : Ref sig .tc := ⟨.hbm, 90, rfl⟩
abbrev main_cst_5 : Ref sig .tc := ⟨.hbm, 91, rfl⟩
abbrev main_v75 : Ref sig .tc := ⟨.hbm, 92, rfl⟩
abbrev main_v76 : Ref sig .tc := ⟨.hbm, 93, rfl⟩
abbrev main_cst_6 : Ref sig .tc := ⟨.hbm, 94, rfl⟩
abbrev main_v77 : Ref sig .tc := ⟨.hbm, 95, rfl⟩
abbrev main_v78 : Ref sig .tc := ⟨.hbm, 96, rfl⟩
abbrev main_cst_7 : Ref sig .tc := ⟨.hbm, 97, rfl⟩
abbrev main_v79 : Ref sig .tc := ⟨.hbm, 98, rfl⟩
abbrev main_v80 : Ref sig .tc := ⟨.hbm, 99, rfl⟩
abbrev main_v81 : Ref sig .tc := ⟨.hbm, 100, rfl⟩
abbrev main_v82 : Ref sig .tc := ⟨.hbm, 101, rfl⟩
abbrev main_v83 : Ref sig .tc := ⟨.hbm, 102, rfl⟩
abbrev main_v84 : Ref sig .tc := ⟨.hbm, 103, rfl⟩
abbrev main_v85 : Ref sig .tc := ⟨.hbm, 104, rfl⟩
abbrev main_v86 : Ref sig .tc := ⟨.hbm, 105, rfl⟩

abbrev nD : Nat := 1
abbrev τ : Topo := Topo.v7x

variable {F : FTy → Type} [FloatOps F]
-- ==== Kernel3.lean ====
abbrev S8x2048x1024 : Shape := ⟨3, ![8, 2048, 1024]⟩
abbrev S2x16x6x1024 : Shape := ⟨4, ![2, 16, 6, 1024]⟩
abbrev S2x1024 : Shape := ⟨2, ![2, 1024]⟩
abbrev S2x1024x5632 : Shape := ⟨3, ![2, 1024, 5632]⟩
abbrev S2x3x2816 : Shape := ⟨3, ![2, 3, 2816]⟩
abbrev S2x2816 : Shape := ⟨2, ![2, 2816]⟩
abbrev S2x2816x1024 : Shape := ⟨3, ![2, 2816, 1024]⟩
abbrev S1x2048x1024 : Shape := ⟨3, ![1, 2048, 1024]⟩
abbrev S1x1x6x1024 : Shape := ⟨4, ![1, 1, 6, 1024]⟩
abbrev S1x1024x256 : Shape := ⟨3, ![1, 1024, 256]⟩
abbrev S1x3x256 : Shape := ⟨3, ![1, 3, 256]⟩
abbrev S2x256 : Shape := ⟨2, ![2, 256]⟩
abbrev S1x256x1024 : Shape := ⟨3, ![1, 256, 1024]⟩
abbrev S2048x1024 : Shape := ⟨2, ![2048, 1024]⟩
abbrev S2x2048x512 : Shape := ⟨3, ![2, 2048, 512]⟩
abbrev S4x512x256 : Shape := ⟨3, ![4, 512, 256]⟩
abbrev S1x1024 : Shape := ⟨2, ![1, 1024]⟩
abbrev S2048 : Shape := ⟨1, ![2048]⟩
abbrev S2048x1 : Shape := ⟨2, ![2048, 1]⟩
abbrev S1x1x1x1024 : Shape := ⟨4, ![1, 1, 1, 1024]⟩
abbrev S1024x256 : Shape := ⟨2, ![1024, 256]⟩
abbrev S1024x512 : Shape := ⟨2, ![1024, 512]⟩
abbrev S512x1024 : Shape := ⟨2, ![512, 1024]⟩
abbrev S512x512 : Shape := ⟨2, ![512, 512]⟩
abbrev S1x2048x512 : Shape := ⟨3, ![1, 2048, 512]⟩
abbrev S2048x512 : Shape := ⟨2, ![2048, 512]⟩
abbrev S256x1024 : Shape := ⟨2, ![256, 1024]⟩
abbrev S72x256 : Shape := ⟨2, ![72, 256]⟩
abbrev S1x1x256 : Shape := ⟨3, ![1, 1, 256]⟩
abbrev S1x256 : Shape := ⟨2, ![1, 256]⟩
abbrev S64x256 : Shape := ⟨2, ![64, 256]⟩
abbrev S1x512x256 : Shape := ⟨3, ![1, 512, 256]⟩
abbrev S512x256 : Shape := ⟨2, ![512, 256]⟩
abbrev S1x64x256 : Shape := ⟨3, ![1, 64, 256]⟩
abbrev S80x256 : Shape := ⟨2, ![80, 256]⟩
abbrev S1x512x1024 : Shape := ⟨3, ![1, 512, 1024]⟩

abbrev nBuf : Space → Nat
  | .hbm => 8
  | .vmem => 20
  | .smem => 0
  | _ => 0

abbrev bufTy : (tb : Table) → Fin (tcTables nBuf tb) → BufTy
  | .hbm, ⟨0, _⟩ => ⟨S8x2048x1024, .f32⟩
  | .hbm, ⟨1, _⟩ => ⟨S2x16x6x1024, .f32⟩
  | .hbm, ⟨2, _⟩ => ⟨S2x1024, .f32⟩
  | .hbm, ⟨3, _⟩ => ⟨S2x1024x5632, .f32⟩
  | .hbm, ⟨4, _⟩ => ⟨S2x3x2816, .f32⟩
  | .hbm, ⟨5, _⟩ => ⟨S2x2816, .f32⟩
  | .hbm, ⟨6, _⟩ => ⟨S2x2816x1024, .f32⟩
  | .hbm, ⟨7, _⟩ => ⟨S8x2048x1024, .f32⟩
  | .local _ .vmem, ⟨0, _⟩ => ⟨S1x2048x1024, .f32⟩
  | .local _ .vmem, ⟨1, _⟩ => ⟨S1x2048x1024, .f32⟩
  | .local _ .vmem, ⟨2, _⟩ => ⟨S1x1x6x1024, .f32⟩
  | .local _ .vmem, ⟨3, _⟩ => ⟨S1x1x6x1024, .f32⟩
  | .local _ .vmem, ⟨4, _⟩ => ⟨S2x1024, .f32⟩
  | .local _ .vmem, ⟨5, _⟩ => ⟨S1x1024x256, .f32⟩
  | .local _ .vmem, ⟨6, _⟩ => ⟨S1x1024x256, .f32⟩
  | .local _ .vmem, ⟨7, _⟩ => ⟨S1x1024x256, .f32⟩
  | .local _ .vmem, ⟨8, _⟩ => ⟨S1x1024x256, .f32⟩
  | .local _ .vmem, ⟨9, _⟩ => ⟨S1x3x256, .f32⟩
  | .local _ .vmem, ⟨10, _⟩ => ⟨S1x3x256, .f32⟩
  | .local _ .vmem, ⟨11, _⟩ => ⟨S2x256, .f32⟩
  | .local _ .vmem, ⟨12, _⟩ => ⟨S2x256, .f32⟩
  | .local _ .vmem, ⟨13, _⟩ => ⟨S1x256x1024, .f32⟩
  | .local _ .vmem, ⟨14, _⟩ => ⟨S1x256x1024, .f32⟩
  | .local _ .vmem, ⟨15, _⟩ => ⟨S1x2048x1024, .f32⟩
  | .local _ .vmem, ⟨16, _⟩ => ⟨S1x2048x1024, .f32⟩
  | .local _ .vmem, ⟨17, _⟩ => ⟨S2048x1024, .bf16⟩
  | .local _ .vmem, ⟨18, _⟩ => ⟨S2x2048x512, .f32⟩
  | .local _ .vmem, ⟨19, _⟩ => ⟨S4x512x256, .bf16⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_scratch0 : Ref sig .tc := ⟨.vmem, 17, rfl⟩
abbrev cc0_scratch1 : Ref sig .tc := ⟨.vmem, 18, rfl⟩
abbrev cc0_scratch2 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16

abbrev nD : Nat := 1
abbrev τ : Topo := Topo.v7x

variable {F : FTy → Type} [FloatOps F]

abbrev grid0 : Pipeline.Grid := ⟨2, ![8, 12], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_1 : BitVec 32 := 0#32
  let v2 : BitVec 1 := Scalar.cmpi .ne v1 c0_i32_1
  v2

def k0_cond2 (i : grid0.Coords) : BitVec 1 :=
  let arg1 : BitVec 32 := BitVec.ofNat 32 (i 1).val
  let c0_i32_2 : BitVec 32 := 0#32
  let v3 : BitVec 1 := Scalar.cmpi .sgt arg1 c0_i32_2
  let c11_i32 : BitVec 32 := 11#32
  let v4 : BitVec 1 := Scalar.cmpi .slt arg1 c11_i32
  let v5 : BitVec 1 := Scalar.andi v3 v4
  let c2_i32 : BitVec 32 := 2#32
  let c0_i32_3 : BitVec 32 := 0#32
  let v6 : BitVec 1 := Scalar.cmpi .eq c2_i32 c0_i32_3
  let c1_i32 : BitVec 32 := 1#32
  let v7 : BitVec 32 := Scalar.select v6 c1_i32 c2_i32
  let v8 : BitVec 32 := Scalar.remsi arg1 v7
  let c0_i32_5 : BitVec 32 := 0#32
  let v10 : BitVec 1 := Scalar.cmpi .slt v8 c0_i32_5
  let c0_i32_6 : BitVec 32 := 0#32
  let v11 : BitVec 1 := Scalar.cmpi .slt v7 c0_i32_6
  let v12 : BitVec 1 := Scalar.xori v10 v11
  let c0_i32_4 : BitVec 32 := 0#32
  let v9 : BitVec 1 := Scalar.cmpi .ne v8 c0_i32_4
  let v13 : BitVec 1 := Scalar.andi v12 v9
  let v14 : BitVec 32 := Scalar.addi v8 v7
  let v15 : BitVec 32 := Scalar.select v13 v14 v8
  let c1_i32_7 : BitVec 32 := 1#32
  let v16 : BitVec 1 := Scalar.cmpi .eq v15 c1_i32_7
  let v17 : BitVec 1 := Scalar.andi v5 v16
  let v18 : BitVec 32 := Scalar.extui v17
  let c0_i32_13 : BitVec 32 := 0#32
  let v19 : BitVec 1 := Scalar.cmpi .ne v18 c0_i32_13
  v19

def k0_cond3 (i : grid0.Coords) : BitVec 1 :=
  let arg1 : BitVec 32 := BitVec.ofNat 32 (i 1).val
  let c0_i32_2 : BitVec 32 := 0#32
  let v3 : BitVec 1 := Scalar.cmpi .sgt arg1 c0_i32_2
  let c11_i32 : BitVec 32 := 11#32
  let v4 : BitVec 1 := Scalar.cmpi .slt arg1 c11_i32
  let v5 : BitVec 1 := Scalar.andi v3 v4
  let c2_i32_14 : BitVec 32 := 2#32
  let c0_i32_15 : BitVec 32 := 0#32
  let v20 : BitVec 1 := Scalar.cmpi .eq c2_i32_14 c0_i32_15
  let c1_i32_16 : BitVec 32 := 1#32
  let v21 : BitVec 32 := Scalar.select v20 c1_i32_16 c2_i32_14
  let v22 : BitVec 32 := Scalar.remsi arg1 v21
  let c0_i32_18 : BitVec 32 := 0#32
  let v24 : BitVec 1 := Scalar.cmpi .slt v22 c0_i32_18
  let c0_i32_19 : BitVec 32 := 0#32
  let v25 : BitVec 1 := Scalar.cmpi .slt v21 c0_i32_19
  let v26 : BitVec 1 := Scalar.xori v24 v25
  let c0_i32_17 : BitVec 32 := 0#32
  let v23 : BitVec 1 := Scalar.cmpi .ne v22 c0_i32_17
  let v27 : BitVec 1 := Scalar.andi v26 v23
  let v28 : BitVec 32 := Scalar.addi v22 v21
  let v29 : BitVec 32 := Scalar.select v27 v28 v22
  let c0_i32_20 : BitVec 32 := 0#32
  let v30 : BitVec 1 := Scalar.cmpi .eq v29 c0_i32_20
  let v31 : BitVec 1 := Scalar.andi v5 v30
  let v32 : BitVec 32 := Scalar.extui v31
  let c0_i32_27 : BitVec 32 := 0#32
  let v33 : BitVec 1 := Scalar.cmpi .ne v32 c0_i32_27
  v33

def k0_cond4 (i : grid0.Coords) : BitVec 1 :=
  let arg1 : BitVec 32 := BitVec.ofNat 32 (i 1).val
  let c11_i32_28 : BitVec 32 := 11#32
  let v34 : BitVec 1 := Scalar.cmpi .eq arg1 c11_i32_28
  let v35 : BitVec 32 := Scalar.extui v34
  let c0_i32_34 : BitVec 32 := 0#32
  let v36 : BitVec 1 := Scalar.cmpi .ne v35 c0_i32_34
  v36

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c10_i32 : BitVec 32 := 10#32
  let v0 : BitVec 32 := Scalar.minsi arg1 c10_i32
  let c0_i32 : BitVec 32 := 0#32
  let c0_i32_0 : BitVec 32 := 0#32
  let c0_i32_1 : BitVec 32 := 0#32
  ![c0_i32.toNat, c0_i32_0.toNat, v0.toNat]

def cc0_transform_4 (i : grid0.Coords) : Fin 3 → Nat :=
  let arg0 : BitVec 32 := BitVec.ofNat 32 (i 0).val
  let arg1 : BitVec 32 := BitVec.ofNat 32 (i 1).val
  let c10_i32 : BitVec 32 := 10#32
  let v0 : BitVec 32 := Scalar.minsi arg1 c10_i32
  let c11_i32 : BitVec 32 := 11#32
  let v1 : BitVec 32 := Scalar.addi c11_i32 v0
  let c0_i32 : BitVec 32 := 0#32
  let c0_i32_0 : BitVec 32 := 0#32
  let c0_i32_1 : BitVec 32 := 0#32
  ![c0_i32.toNat, c0_i32_0.toNat, v1.toNat]

def cc0_transform_5 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c0_i32_0 : BitVec 32 := 0#32
  let c0_i32_1 : BitVec 32 := 0#32
  let c0_i32_2 : BitVec 32 := 0#32
  ![c0_i32_0.toNat, c0_i32_1.toNat, v1.toNat]

def cc0_transform_6 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c0_i32_0 : BitVec 32 := 0#32
  let c0_i32_1 : BitVec 32 := 0#32
  ![c0_i32_0.toNat, v1.toNat]

def cc0_transform_7 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c0_i32_0 : BitVec 32 := 0#32
  let c0_i32_1 : BitVec 32 := 0#32
  let c0_i32_2 : BitVec 32 := 0#32
  ![c0_i32_0.toNat, v1.toNat, c0_i32_1.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x2048x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1x6x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S2x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x1024x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x1024x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x3x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S2x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S1x256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S1x2048x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]
-- ==== Reference3Ideal.lean ====
abbrev S8x2048x1024 : Shape := ⟨3, ![8, 2048, 1024]⟩
abbrev S2x16x6x1024 : Shape := ⟨4, ![2, 16, 6, 1024]⟩
abbrev S2x1024 : Shape := ⟨2, ![2, 1024]⟩
abbrev S2x1024x5632 : Shape := ⟨3, ![2, 1024, 5632]⟩
abbrev S2x3x2816 : Shape := ⟨3, ![2, 3, 2816]⟩
abbrev S2x2816 : Shape := ⟨2, ![2, 2816]⟩
abbrev S2x2816x1024 : Shape := ⟨3, ![2, 2816, 1024]⟩
abbrev S1x8x1x1024 : Shape := ⟨4, ![1, 8, 1, 1024]⟩
abbrev S8x1x1024 : Shape := ⟨3, ![8, 1, 1024]⟩
abbrev S1x1024 : Shape := ⟨2, ![1, 1024]⟩
abbrev S1024 : Shape := ⟨1, ![1024]⟩
abbrev S_ : Shape := ⟨0, ![]⟩
abbrev S8x2048 : Shape := ⟨2, ![8, 2048]⟩
abbrev S8x2048x1 : Shape := ⟨3, ![8, 2048, 1]⟩
abbrev S1x1x1024 : Shape := ⟨3, ![1, 1, 1024]⟩
abbrev S1x1024x5632 : Shape := ⟨3, ![1, 1024, 5632]⟩
abbrev S1024x5632 : Shape := ⟨2, ![1024, 5632]⟩
abbrev S8x2048x5632 : Shape := ⟨3, ![8, 2048, 5632]⟩
abbrev S8x2048x2816 : Shape := ⟨3, ![8, 2048, 2816]⟩
abbrev S1x3x2816 : Shape := ⟨3, ![1, 3, 2816]⟩
abbrev S3x2816 : Shape := ⟨2, ![3, 2816]⟩
abbrev S1x2816 : Shape := ⟨2, ![1, 2816]⟩
abbrev S2816 : Shape := ⟨1, ![2816]⟩
abbrev S8x2050x2816 : Shape := ⟨3, ![8, 2050, 2816]⟩
abbrev S1x1x2816 : Shape := ⟨3, ![1, 1, 2816]⟩
abbrev S1x2816x1024 : Shape := ⟨3, ![1, 2816, 1024]⟩
abbrev S2816x1024 : Shape := ⟨2, ![2816, 1024]⟩

abbrev nBuf : Space → Nat
  | .hbm => 89
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S2x16x6x1024, .f32⟩
  | .hbm, ⟨2, _⟩ => ⟨S2x1024, .f32⟩
  | .hbm, ⟨3, _⟩ => ⟨S2x1024x5632, .f32⟩
  | .hbm, ⟨4, _⟩ => ⟨S2x3x2816, .f32⟩
  | .hbm, ⟨5, _⟩ => ⟨S2x2816, .f32⟩
  | .hbm, ⟨6, _⟩ => ⟨S2x2816x1024, .f32⟩
  | .hbm, ⟨7, _⟩ => ⟨S1x8x1x1024, .f32⟩
  | .hbm, ⟨8, _⟩ => ⟨S8x1x1024, .f32⟩
  | .hbm, ⟨9, _⟩ => ⟨S1x8x1x1024, .f32⟩
  | .hbm, ⟨10, _⟩ => ⟨S8x1x1024, .f32⟩
  | .hbm, ⟨11, _⟩ => ⟨S1x8x1x1024, .f32⟩
  | .hbm, ⟨12, _⟩ => ⟨S8x1x1024, .f32⟩
  | .hbm, ⟨13, _⟩ => ⟨S1x1024, .f32⟩
  | .hbm, ⟨14, _⟩ => ⟨S1024, .f32⟩
  | .hbm, ⟨15, _⟩ => ⟨S8x2048x1024, .f32⟩
  | .hbm, ⟨16, _⟩ => ⟨S_, .f32⟩
  | .hbm, ⟨17, _⟩ => ⟨S8x2048, .f32⟩
  | .hbm, ⟨18, _⟩ => ⟨S8x2048x1, .f32⟩
  | .hbm, ⟨19, _⟩ => ⟨S_, .f32⟩
  | .hbm, ⟨20, _⟩ => ⟨S8x2048x1, .f32⟩
  | .hbm, ⟨21, _⟩ => ⟨S8x2048x1, .f32⟩
  | .hbm, ⟨22, _⟩ => ⟨S_, .f32⟩
  | .hbm, ⟨23, _⟩ => ⟨S8x2048x1, .f32⟩
  | .hbm, ⟨24, _⟩ => ⟨S8x2048x1, .f32⟩
  | .hbm, ⟨25, _⟩ => ⟨S8x2048x1, .f32⟩
  | .hbm, ⟨26, _⟩ => ⟨S8x2048x1024, .f32⟩
  | .hbm, ⟨27, _⟩ => ⟨S8x2048x1024, .f32⟩
  | .hbm, ⟨28, _⟩ => ⟨S1x1x1024, .f32⟩
  | .hbm, ⟨29, _⟩ => ⟨S8x2048x1024, .f32⟩
  | .hbm, ⟨30, _⟩ => ⟨S8x2048x1024, .f32⟩
  | .hbm, ⟨31, _⟩ => ⟨S_, .f32⟩
  | .hbm, ⟨32, _⟩ => ⟨S8x1x1024, .f32⟩
  | .hbm, ⟨33, _⟩ => ⟨S8x1x1024, .f32⟩
  | .hbm, ⟨34, _⟩ => ⟨S8x2048x1024, .f32⟩
  | .hbm, ⟨35, _⟩ => ⟨S8x2048x1024, .f32⟩
  | .hbm, ⟨36, _⟩ => ⟨S8x2048x1024, .f32⟩
  | .hbm, ⟨37, _⟩ => ⟨S8x2048x1024, .f32⟩
  | .hbm, ⟨38, _⟩ => ⟨S1x1024x5632, .f32⟩
  | .hbm, ⟨39, _⟩ => ⟨S1024x5632, .f32⟩
  | .hbm, ⟨40, _⟩ => ⟨S8x2048x5632, .f32⟩
  | .hbm, ⟨41, _⟩ => ⟨S8x2048x2816, .f32⟩
  | .hbm, ⟨42, _⟩ => ⟨S1x3x2816, .f32⟩
  | .hbm, ⟨43, _⟩ => ⟨S3x2816, .f32⟩
  | .hbm, ⟨44, _⟩ => ⟨S1x2816, .f32⟩
  | .hbm, ⟨45, _⟩ => ⟨S2816, .f32⟩
  | .hbm, ⟨46, _⟩ => ⟨S_, .i32⟩
  | .hbm, ⟨47, _⟩ => ⟨S_, .f32⟩
  | .hbm, ⟨48, _⟩ => ⟨S8x2050x2816, .f32⟩
  | .hbm, ⟨49, _⟩ => ⟨S8x2048x2816, .f32⟩
  | .hbm, ⟨50, _⟩ => ⟨S1x2816, .f32⟩
  | .hbm, ⟨51, _⟩ => ⟨S2816, .f32⟩
  | .hbm, ⟨52, _⟩ => ⟨S1x1x2816, .f32⟩
  | .hbm, ⟨53, _⟩ => ⟨S8x2048x2816, .f32⟩
  | .hbm, ⟨54, _⟩ => ⟨S8x2048x2816, .f32⟩
  | .hbm, ⟨55, _⟩ => ⟨S8x2048x2816, .f32⟩
  | .hbm, ⟨56, _⟩ => ⟨S1x2816, .f32⟩
  | .hbm, ⟨57, _⟩ => ⟨S2816, .f32⟩
  | .hbm, ⟨58, _⟩ => ⟨S1x1x2816, .f32⟩
  | .hbm, ⟨59, _⟩ => ⟨S8x2048x2816, .f32⟩
  | .hbm, ⟨60, _⟩ => ⟨S8x2048x2816, .f32⟩
  | .hbm, ⟨61, _⟩ => ⟨S8x2048x2816, .f32⟩
  | .hbm, ⟨62, _⟩ => ⟨S8x2048x2816, .f32⟩
  | .hbm, ⟨63, _⟩ => ⟨S1x2816, .f32⟩
  | .hbm, ⟨64, _⟩ => ⟨S2816, .f32⟩
  | .hbm, ⟨65, _⟩ => ⟨S1x1x2816, .f32⟩
  | .hbm, ⟨66, _⟩ => ⟨S8x2048x2816, .f32⟩
  | .hbm, ⟨67, _⟩ => ⟨S8x2048x2816, .f32⟩
  | .hbm, ⟨68, _⟩ => ⟨S8x2048x2816, .f32⟩
  | .hbm, ⟨69, _⟩ => ⟨S1x1x2816, .f32⟩
  | .hbm, ⟨70, _⟩ => ⟨S8x2048x2816, .f32⟩
  | .hbm, ⟨71, _⟩ => ⟨S8x2048x2816, .f32⟩
  | .hbm, ⟨72, _⟩ => ⟨S8x2048x2816, .f32⟩
  | .hbm, ⟨73, _⟩ => ⟨S8x2048x2816, .f32⟩
  | .hbm, ⟨74, _⟩ => ⟨S_, .f32⟩
  | .hbm, ⟨75, _⟩ => ⟨S8x2048x2816, .f32⟩
  | .hbm, ⟨76, _⟩ => ⟨S8x2048x2816, .f32⟩
  | .hbm, ⟨77, _⟩ => ⟨S_, .f32⟩
  | .hbm, ⟨78, _⟩ => ⟨S8x2048x2816, .f32⟩
  | .hbm, ⟨79, _⟩ => ⟨S8x2048x2816, .f32⟩
  | .hbm, ⟨80, _⟩ => ⟨S8x2048x2816, .f32⟩
  | .hbm, ⟨81, _⟩ => ⟨S8x2048x2816, .f32⟩
  | .hbm, ⟨82, _⟩ => ⟨S8x2048x2816, .f32⟩
  | .hbm, ⟨83, _⟩ => ⟨S1x2816x1024, .f32⟩
  | .hbm, ⟨84, _⟩ => ⟨S2816x1024, .f32⟩
  | .hbm, ⟨85, _⟩ => ⟨S8x2048x1024, .f32⟩
  | .hbm, ⟨86, _⟩ => ⟨S8x2048x1024, .f32⟩
  | .hbm, ⟨87, _⟩ => ⟨S8x2048x1024, .f32⟩
  | .hbm, ⟨88, _⟩ => ⟨S8x2048x1024, .f32⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst : Ref sig .tc := ⟨.hbm, 16, rfl⟩
abbrev main_v9 : Ref sig .tc := ⟨.hbm, 17, rfl⟩
abbrev main_v10 : Ref sig .tc := ⟨.hbm, 18, rfl⟩
abbrev main_cst_0 : Ref sig .tc := ⟨.hbm, 19, rfl⟩
abbrev main_v11 : Ref sig .tc := ⟨.hbm, 20, rfl⟩
abbrev main_v12 : Ref sig .tc := ⟨.hbm, 21, rfl⟩
abbrev main_cst_1 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst_2 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_c : Ref sig .tc := ⟨.hbm, 46, rfl⟩
abbrev main_call0_v0 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_v59 : Ref sig .tc := ⟨.hbm, 72, rfl⟩
abbrev main_v60 : Ref sig .tc := ⟨.hbm, 73, rfl⟩
abbrev main_cst_3 : Ref sig .tc := ⟨.hbm, 74, rfl⟩
abbrev main_v61 : Ref sig .tc := ⟨.hbm, 75, rfl⟩
abbrev main_v62 : Ref sig .tc := ⟨.hbm, 76, rfl⟩
abbrev main_cst_4 : Ref sig .tc := ⟨.hbm, 77, rfl⟩
abbrev main_v63 : Ref sig .tc := ⟨.hbm, 78, rfl⟩
abbrev main_v64 : Ref sig .tc := ⟨.hbm, 79, rfl⟩
abbrev main_v65 : Ref sig .tc := ⟨.hbm, 80, rfl⟩
abbrev main_v66 : Ref sig .tc := ⟨.hbm, 81, rfl⟩
abbrev main_v67 : Ref sig .tc := ⟨.hbm, 82, rfl⟩
abbrev main_v68 : Ref sig .tc := ⟨.hbm, 83, rfl⟩
abbrev main_v69 : Ref sig .tc := ⟨.hbm, 84, rfl⟩
abbrev main_v70 : Ref sig .tc := ⟨.hbm, 85, rfl⟩
abbrev main_v71 : Ref sig .tc := ⟨.hbm, 86, rfl⟩
abbrev main_v72 : Ref sig .tc := ⟨.hbm, 87, rfl⟩
abbrev main_v73 : Ref sig .tc := ⟨.hbm, 88, rfl⟩

abbrev nD : Nat := 1
abbrev τ : Topo := Topo.v7x

variable {F : FTy → Type} [FloatOps F]
-- ==== Proof.Chain.lean ====
/- What one grid step's body stores, chain by chain: a chain is one head's block of 512 query rows, and every chain
   computes the same function of the blocks it loads. The run's piece list is matched against that function. -/
module

public import proofs.«01_k».proof.Proof.Gen.KernelIdeal.Value

@[expose] public section

set_option maxRecDepth 16384

noncomputable section

namespace Cert.KernelIdeal.Chain

open Cert.KernelIdeal Cert.KernelIdeal.Gen Idealize.ShloMosaic Idealize.ShloMosaic.TcCoe

variable {F : FTy → Type} [FloatOps F]

/-! ## The rectangles of chain `i`: head `i / 4`, row block `i % 4`, scratch slot `i % 2` -/

/-- Rows of the nope queries, and of the output. -/
abbrev rQ (i : ℕ) : Rect S1x4x2048x128 := Rect.unit (s := S1x4x2048x128) ![0, i / 4 % 4, 512 * (i % 4), 0] S1x1x512x128.size
  (by intro a; fin_cases a <;> simp [S1x4x2048x128, S1x1x512x128] <;> omega)
/-- Rows of the rotary queries: two heads share a slab. -/
abbrev rR (i : ℕ) : Rect S1x2x2048x128 := Rect.unit (s := S1x2x2048x128) ![0, i / 4 % 4 / 2, 512 * (i % 4), 0] S1x1x512x128.size
  (by intro a; fin_cases a <;> simp [S1x2x2048x128, S1x1x512x128] <;> omega)
/-- One head of the context's keys or values. -/
abbrev rC (i : ℕ) : Rect S1x4x256x128 := Rect.unit (s := S1x4x256x128) ![0, i / 4 % 4, 0, 0] S1x1x256x128.size
  (by intro a; fin_cases a <;> simp [S1x4x256x128, S1x1x256x128] <;> omega)
/-- One head of the latents' keys or values. -/
abbrev rL (i : ℕ) : Rect S1x4x2048x128 := Rect.unit (s := S1x4x2048x128) ![0, i / 4 % 4, 0, 0] S1x1x2048x128.size
  (by intro a; fin_cases a <;> simp [S1x4x2048x128, S1x1x2048x128] <;> omega)
/-- The masked rotary keys of the head's parity, context part. -/
abbrev kC (i : ℕ) : Rect S2x2304x128 := Rect.unit (s := S2x2304x128) ![i / 4 % 2, 0, 0] S1x256x128.size
  (by intro a; fin_cases a <;> simp [S2x2304x128, S1x256x128] <;> omega)
/-- The masked rotary keys of the head's parity, latent part. -/
abbrev kL (i : ℕ) : Rect S2x2304x128 := Rect.unit (s := S2x2304x128) ![i / 4 % 2, 256, 0] S1x2048x128.size
  (by intro a; fin_cases a <;> simp [S2x2304x128, S1x2048x128] <;> omega)
/-- The slot's columns of the context's keys (scores and weights). -/
abbrev sC (i : ℕ) : Rect S2x512x2304 := Rect.unit (s := S2x512x2304) ![i % 2, 0, 0] S1x512x256.size
  (by intro a; fin_cases a <;> simp [S2x512x2304, S1x512x256] <;> omega)
/-- The slot's columns of the latents' keys (scores and weights). -/
abbrev sL (i : ℕ) : Rect S2x512x2304 := Rect.unit (s := S2x512x2304) ![i % 2, 0, 256] S1x512x2048.size
  (by intro a; fin_cases a <;> simp [S2x512x2304, S1x512x2048] <;> omega)
/-- The slot's strip `g` of 16 rows. -/
abbrev sG (i g : ℕ) : Rect S2x512x2304 := Rect.unit (s := S2x512x2304) ![i % 2, 16 * (g % 32), 0] S1x16x2304.size
  (by intro a; fin_cases a <;> simp [S2x512x2304, S1x16x2304] <;> omega)

section
variable (arg2 : Memref sig .tc .vmem S1x4x2048x128 .bf16) (harg2 : arg2.IsWhole) (arg3 : Memref sig .tc .vmem S1x2x2048x128 .bf16) (harg3 : arg3.IsWhole)
  (arg4 : Memref sig .tc .vmem S1x4x256x128 .bf16) (harg4 : arg4.IsWhole) (arg5 : Memref sig .tc .vmem S1x1x256x128 .bf16) (harg5 : arg5.IsWhole)
  (arg6 : Memref sig .tc .vmem S1x4x256x128 .bf16) (harg6 : arg6.IsWhole) (arg7 : Memref sig .tc .vmem S1x4x2048x128 .bf16) (harg7 : arg7.IsWhole)
  (arg8 : Memref sig .tc .vmem S1x1x2048x128 .bf16) (harg8 : arg8.IsWhole) (arg9 : Memref sig .tc .vmem S1x4x2048x128 .bf16) (harg9 : arg9.IsWhole)
  (arg11 : Memref sig .tc .vmem S2x2304x128 .bf16) (arg12 : Memref sig .tc .vmem S2x512x2304 .f32) (arg13 : Memref sig .tc .vmem S2x512x2304 .bf16)
  (x0 : Vec F S1x4x2048x128 .bf16) (x1 : Vec F S1x2x2048x128 .bf16) (x2 : Vec F S1x4x256x128 .bf16) (x3 : Vec F S1x1x256x128 .bf16)
  (x4 : Vec F S1x4x256x128 .bf16) (x5 : Vec F S1x4x2048x128 .bf16) (x6 : Vec F S1x1x2048x128 .bf16) (x7 : Vec F S1x4x2048x128 .bf16)
  (K : List (View.Piece (Elt F) S2x2304x128 .bf16))

/-- The chain's queries, nope beside rotary. -/
def queries (i : ℕ) : FVec F S512x256 .bf16 :=
  k0_pay14 (arg2.view.readAt (Elt F) (rQ i).toLoadRect (harg2.unread x0)) (arg3.view.readAt (Elt F) (rR i).toLoadRect (harg3.unread x1))

/-- The two blocks of scores chain `i` stores: latents last. `K` is what the rotary scratch holds. -/
def scores (i : ℕ) : List (View.Piece (Elt F) S2x512x2304 .f32) :=
  [⟨sL i, k0_pay17 (queries arg2 harg2 arg3 harg3 x0 x1 i) (arg7.view.readAt (Elt F) (rL i).toLoadRect (harg7.unread x5))
      (arg11.view.readCov K (kL i).toLoadRect)⟩,
   ⟨sC i, k0_pay16 (queries arg2 harg2 arg3 harg3 x0 x1 i)
      (k0_pay15 (arg4.view.readAt (Elt F) (rC i).toLoadRect (harg4.unread x2)) (arg11.view.readCov K (kC i).toLoadRect))
      (constant S512x256 .f32 0x00000000#32)⟩]

/-- The strips of weights chain `i` stores from the scores `S`, newest first. -/
def strips (S : List (View.Piece (Elt F) S2x512x2304 .f32)) (i : ℕ) : ℕ → List (View.Piece (Elt F) S2x512x2304 .bf16)
  | 0 => []
  | g + 1 => ⟨sG i g, k0_pay22 (arg12.view.readCov S (sG i g).toLoadRect)⟩ :: strips S i g

/-- What chain `i` stores into the output, from the weights `P`. -/
def weighted (P : List (View.Piece (Elt F) S2x512x2304 .bf16)) (i : ℕ) : FVec F S1x1x512x128 .bf16 :=
  k0_pay63
    (k0_pay61 k0_pay13 (arg6.view.readAt (Elt F) (rC i).toLoadRect (harg6.unread x4)) (arg13.view.readCov P (sC i).toLoadRect))
    (k0_pay62 k0_pay13 (arg9.view.readAt (Elt F) (rL i).toLoadRect (harg9.unread x7)))
    (arg13.view.readCov P (sL i).toLoadRect)

/-- `w` is what chain `i` stores: the scores' history holds the chain's own scores under those of a chain of the other
    slot (or none), the weights' history the chain's own strips over older ones. -/
def IsChain (i : ℕ) (w : (rQ i).shape.Idx → Elt F .bf16) : Prop :=
  ∃ (S : List (View.Piece (Elt F) S2x512x2304 .f32)) (P : List (View.Piece (Elt F) S2x512x2304 .bf16)) (js : List ℕ)
    (S' : List (View.Piece (Elt F) S2x512x2304 .f32)) (P' : List (View.Piece (Elt F) S2x512x2304 .bf16)),
    w = weighted arg6 harg6 arg9 harg9 arg13 x4 x7 P i
    ∧ P = strips arg12 S i 32 ++ P'
    ∧ S = js.flatMap (scores arg2 harg2 arg3 harg3 arg4 harg4 arg7 harg7 arg11 x0 x1 x2 x5 K)
        ++ (scores arg2 harg2 arg3 harg3 arg4 harg4 arg7 harg7 arg11 x0 x1 x2 x5 K i ++ S')
    ∧ ∀ j ∈ js, j % 2 ≠ i % 2

/-- A piece list made of the chains below `n`, newest first. -/
def Chains : ℕ → List (View.Piece (Elt F) S1x4x2048x128 .bf16) → Prop
  | 0, L => L = []
  | n + 1, L => ∃ (w : (rQ n).shape.Idx → Elt F .bf16) (L' : List (View.Piece (Elt F) S1x4x2048x128 .bf16)),
      L = ⟨rQ n, w⟩ :: L' ∧ IsChain arg2 harg2 arg3 harg3 arg4 harg4 arg6 harg6 arg7 harg7 arg9 harg9 arg11 arg12 arg13 x0 x1 x2 x4 x5 x7 K n w ∧ Chains n L'

end

/-- The output pieces of the whole body are the sixteen chains, newest first. -/
theorem pieces (c : Dev nD) (i : grid0.Coords) (arg2 : Memref sig .tc .vmem S1x4x2048x128 .bf16) (harg2 : arg2.IsWhole) (arg3 : Memref sig .tc .vmem S1x2x2048x128 .bf16) (harg3 : arg3.IsWhole)
  (arg4 : Memref sig .tc .vmem S1x4x256x128 .bf16) (harg4 : arg4.IsWhole) (arg5 : Memref sig .tc .vmem S1x1x256x128 .bf16) (harg5 : arg5.IsWhole)
  (arg6 : Memref sig .tc .vmem S1x4x256x128 .bf16) (harg6 : arg6.IsWhole) (arg7 : Memref sig .tc .vmem S1x4x2048x128 .bf16) (harg7 : arg7.IsWhole)
  (arg8 : Memref sig .tc .vmem S1x1x2048x128 .bf16) (harg8 : arg8.IsWhole) (arg9 : Memref sig .tc .vmem S1x4x2048x128 .bf16) (harg9 : arg9.IsWhole)
  (arg10 : Memref sig .tc .vmem S1x4x2048x128 .bf16) (harg10 : arg10.IsWhole)
  (arg11 : Memref sig .tc .vmem S2x2304x128 .bf16) (harg11 : arg11.IsWhole) (arg12 : Memref sig .tc .vmem S2x512x2304 .f32) (harg12 : arg12.IsWhole)
  (arg13 : Memref sig .tc .vmem S2x512x2304 .bf16) (harg13 : arg13.IsWhole)
  (x0 : Vec F S1x4x2048x128 .bf16) (x1 : Vec F S1x2x2048x128 .bf16) (x2 : Vec F S1x4x256x128 .bf16) (x3 : Vec F S1x1x256x128 .bf16)
  (x4 : Vec F S1x4x256x128 .bf16) (x5 : Vec F S1x4x2048x128 .bf16) (x6 : Vec F S1x1x2048x128 .bf16) (x7 : Vec F S1x4x2048x128 .bf16) :
    Chains arg2 harg2 arg3 harg3 arg4 harg4 arg6 harg6 arg7 harg7 arg9 harg9 arg11 arg12 arg13 x0 x1 x2 x4 x5 x7
      (kernelRun0_A.sl.HS0_4 c arg5 harg5 arg8 harg8 x3 x6) 16
      (kernelRun0_A c i arg2 harg2 arg3 harg3 arg4 harg4 arg5 harg5 arg6 harg6 arg7 harg7 arg8 harg8 arg9 harg9 arg10 harg10 arg11 harg11 arg12 harg12 arg13 harg13 x0 x1 x2 x3 x4 x5 x6 x7).1 := by
  refine ⟨_, _, rfl, ⟨_, _, [], _, _, rfl, rfl, rfl, by simp⟩, ?_⟩
  refine ⟨_, _, rfl, ⟨_, _, [15], _, _, rfl, rfl, rfl, by simp⟩, ?_⟩
  refine ⟨_, _, rfl, ⟨_, _, [14], _, _, rfl, rfl, rfl, by simp⟩, ?_⟩
  refine ⟨_, _, rfl, ⟨_, _, [13], _, _, rfl, rfl, rfl, by simp⟩, ?_⟩
  refine ⟨_, _, rfl, ⟨_, _, [12], _, _, rfl, rfl, rfl, by simp⟩, ?_⟩
  refine ⟨_, _, rfl, ⟨_, _, [11], _, _, rfl, rfl, rfl, by simp⟩, ?_⟩
  refine ⟨_, _, rfl, ⟨_, _, [10], _, _, rfl, rfl, rfl, by simp⟩, ?_⟩
  refine ⟨_, _, rfl, ⟨_, _, [9], _, _, rfl, rfl, rfl, by simp⟩, ?_⟩
  refine ⟨_, _, rfl, ⟨_, _, [8], _, _, rfl, rfl, rfl, by simp⟩, ?_⟩
  refine ⟨_, _, rfl, ⟨_, _, [7], _, _, rfl, rfl, rfl, by simp⟩, ?_⟩
  refine ⟨_, _, rfl, ⟨_, _, [6], _, _, rfl, rfl, rfl, by simp⟩, ?_⟩
  refine ⟨_, _, rfl, ⟨_, _, [5], _, _, rfl, rfl, rfl, by simp⟩, ?_⟩
  refine ⟨_, _, rfl, ⟨_, _, [4], _, _, rfl, rfl, rfl, by simp⟩, ?_⟩
  refine ⟨_, _, rfl, ⟨_, _, [3], _, _, rfl, rfl, rfl, by simp⟩, ?_⟩
  refine ⟨_, _, rfl, ⟨_, _, [2], _, _, rfl, rfl, rfl, by simp⟩, ?_⟩
  refine ⟨_, _, rfl, ⟨_, _, [1], _, _, rfl, rfl, rfl, by simp⟩, ?_⟩
  rfl

end Cert.KernelIdeal.Chain

end
-- ==== Proof.Payload.lean ====
/- What the body's payloads are at an index, over the extended reals: scores, strips of weights, weighted values and the
   masked rotary keys. -/
module

public import proofs.«01_k».proof.Proof.Gen.KernelIdeal.Skeleton
public import Idealize.ShloMosaic.Lib.Pointwise

@[expose] public section

set_option maxRecDepth 16384

noncomputable section

namespace Cert.KernelIdeal.Payload

open Cert.KernelIdeal Cert.KernelIdeal.Gen Idealize.ShloMosaic

/-- The word of −∞ is the least extended real. -/
theorem neg_inf : Ideal.ofBits .f32 0xFF800000#32 = ⊥ := by simp [Ideal.ofBits, Ideal.ieee]

/-- Scores against the context's keys: the nope part and the rotary part, summed. -/
theorem scoreC (q qr : Vec Ideal S1x1x512x128 .bf16) (a : Vec Ideal S1x1x256x128 .bf16) (b : Vec Ideal S1x256x128 .bf16)
    (r : Fin 512) (n : Fin 256) :
    k0_pay16 (k0_pay14 q qr) (k0_pay15 a b) (constant S512x256 .f32 0x00000000#32) (ix3 0 r n)
      = (∑ k : Fin 128, q (ix4 0 0 r k) * a (ix4 0 0 n k)) + ∑ k : Fin 128, qr (ix4 0 0 r k) * b (ix3 0 n k) := by
  pointwise [k0_pay16, k0_pay14, k0_pay15]

/-- Scores against the latents' keys. -/
theorem scoreL (q qr : Vec Ideal S1x1x512x128 .bf16) (a : Vec Ideal S1x1x2048x128 .bf16) (b : Vec Ideal S1x2048x128 .bf16)
    (r : Fin 512) (n : Fin 2048) :
    k0_pay17 (k0_pay14 q qr) a b (ix3 0 r n)
      = (∑ k : Fin 128, q (ix4 0 0 r k) * a (ix4 0 0 n k)) + ∑ k : Fin 128, qr (ix4 0 0 r k) * b (ix3 0 n k) := by
  pointwise [k0_pay17, k0_pay14]

/-- A strip of weights: two to the score less the row's greatest. -/
theorem soft (s : Vec Ideal S1x16x2304 .f32) (r : Fin 16) (n : Fin 2304) :
    k0_pay22 s (ix3 0 r n) = Ideal.exp2 (s (ix3 0 r n) - Finset.univ.fold max ⊥ fun k => s (ix3 0 r k)) := by
  rw [← neg_inf]
  pointwise [k0_pay22]
  rfl

/-- The weighted values over the weights' sum; the columns of ones carry the sum. -/
theorem out (vc : Vec Ideal S1x1x256x128 .bf16) (pc : Vec Ideal S1x512x256 .bf16) (vl : Vec Ideal S1x1x2048x128 .bf16)
    (pl : Vec Ideal S1x512x2048 .bf16) (r : Fin 512) (d : Fin 128) :
    k0_pay63 (k0_pay61 k0_pay13 vc pc) (k0_pay62 k0_pay13 vl) pl (ix4 0 0 r d)
      = Ideal.div ((∑ k : Fin 256, pc (ix3 0 r k) * vc (ix4 0 0 k d)) + ∑ k : Fin 2048, pl (ix3 0 r k) * vl (ix4 0 0 k d))
          ((∑ k : Fin 256, pc (ix3 0 r k)) + ∑ k : Fin 2048, pl (ix3 0 r k)) := by
  pointwise [k0_pay63, k0_pay61, k0_pay62, k0_pay13]

/-- The word the body compares a lane's half against: the lane divided by 64, rounded down. -/
def half (k : BitVec 32) : BitVec 32 :=
  Scalar.select
    (IntOp.andi
      (IntOp.cmpi .ne
        (IntOp.subi (BitVec.setWidth 32 (IntOp.cmpi .sgt k 0#32)) (BitVec.setWidth 32 (IntOp.cmpi .slt k 0#32)))
        (Scalar.subi (Scalar.extui (Scalar.cmpi .sgt 64#32 0#32)) (Scalar.extui (Scalar.cmpi .slt 64#32 0#32))))
      (IntOp.cmpi .ne (IntOp.remsi ArithUnit.vector k 64#32) 0#32))
    (IntOp.subi (IntOp.divsi ArithUnit.vector k 64#32) 1#32)
    (IntOp.divsi ArithUnit.vector k 64#32)

/-- A lane is of half `p` when it divides to `p`. -/
theorem half_eq : ∀ (p : Fin 2) (k : Fin 128),
    IntOp.cmpi .eq (half (BitVec.ofNat 32 k)) (BitVec.ofNat 32 p) = if k.1 / 64 = p.1 then 1#1 else 0#1 := by
  decide +kernel

theorem select_half (p : Fin 2) (k : Fin 128) (x : EReal) :
    Scalar.select (IntOp.cmpi .eq (half (BitVec.ofNat 32 k)) (BitVec.ofNat 32 p)) x 0 = if k.1 / 64 = p.1 then x else 0 := by
  rw [half_eq]; split <;> rfl

/-- The context's rotary keys for the even heads: the lanes below 64. -/
theorem keyC0 (x : Vec Ideal S1x1x256x128 .bf16) (n : Fin 256) (k : Fin 128) :
    k0_pay2 x (ix3 0 n k) = if k.1 / 64 = 0 then x (ix4 0 0 n k) else 0 := by
  refine Eq.trans ?_ (select_half 0 k (x (ix4 0 0 n k)))
  pointwise [k0_pay2]
  rfl

/-- … and for the odd heads: the lanes from 64. -/
theorem keyC1 (x : Vec Ideal S1x1x256x128 .bf16) (n : Fin 256) (k : Fin 128) :
    k0_pay5 (iota Kind.tc S256x128 32 [1] iota_S256x128_d1_w32) (64#32) k0_pay3 k0_pay4 x (ix3 0 n k)
      = if k.1 / 64 = 1 then x (ix4 0 0 n k) else 0 := by
  refine Eq.trans ?_ (select_half 1 k (x (ix4 0 0 n k)))
  pointwise [k0_pay5, k0_pay3, k0_pay4]
  rfl

/-- The latents' rotary keys for the even heads. -/
theorem keyL0 (x : Vec Ideal S1x1x2048x128 .bf16) (n : Fin 2048) (k : Fin 128) :
    k0_pay8 (iota Kind.tc S2048x128 32 [1] iota_S2048x128_d1_w32) (64#32) k0_pay6 k0_pay7 x (ix3 0 n k)
      = if k.1 / 64 = 0 then x (ix4 0 0 n k) else 0 := by
  refine Eq.trans ?_ (select_half 0 k (x (ix4 0 0 n k)))
  pointwise [k0_pay8, k0_pay6, k0_pay7]
  rfl

/-- … and for the odd heads. -/
theorem keyL1 (x : Vec Ideal S1x1x2048x128 .bf16) (n : Fin 2048) (k : Fin 128) :
    k0_pay12 (iota Kind.tc S2048x128 32 [1] iota_S2048x128_d1_w32) (64#32)
        (k0_pay9 (iota Kind.tc S2048x128 32 [1] iota_S2048x128_d1_w32))
        (k0_pay10 (iota Kind.tc S2048x128 32 [1] iota_S2048x128_d1_w32)) k0_pay11 x (ix3 0 n k)
      = if k.1 / 64 = 1 then x (ix4 0 0 n k) else 0 := by
  refine Eq.trans ?_ (select_half 1 k (x (ix4 0 0 n k)))
  pointwise [k0_pay12, k0_pay9, k0_pay10, k0_pay11]
  rfl

end Cert.KernelIdeal.Payload

end
-- ==== Proof.Block.lean ====
/- What one grid step's body computes: the output block at an index, as the attention of the input blocks. The scratch
   buffers are read back through the pieces the body stored in them. -/
module

public import proofs.«01_k».proof.Proof.Chain
public import proofs.«01_k».proof.Proof.Payload
public import Idealize.ShloMosaic.Lib.WholeRead

@[expose] public section

set_option maxRecDepth 16384

noncomputable section

namespace Cert.KernelIdeal.Block

open Cert.KernelIdeal Cert.KernelIdeal.Gen Cert.KernelIdeal.Chain Idealize.ShloMosaic Idealize.ShloMosaic.TcCoe

/-! ## Reading back -/

section
variable {S : Shape} {e : EltTy} {Val : EltTy → Type} [∀ e, Nonempty (Val e)]

/-- Newer pieces that do not hold an index are read past. -/
theorem canon_append_skip (y : S.Idx) (L' : List (View.Piece Val S e)) :
    ∀ L : List (View.Piece Val S e), (∀ p ∈ L, y ∉ p.1.set) → View.canon (L ++ L') y = View.canon L' y
  | [], _ => rfl
  | p :: L, h => by
    rw [List.cons_append, View.canon_cons_of_not_mem _ _ (h p List.mem_cons_self)]
    exact canon_append_skip y L' L fun q hq => h q (List.mem_cons_of_mem _ hq)

/-- The newest piece, where it holds the index. -/
theorem canon_cons_at (r : Rect S) (w : r.shape.Idx → Val e) (L : List (View.Piece Val S e)) (x : r.shape.Idx) (y : S.Idx)
    (h : r.emb x = y) : View.canon (⟨r, w⟩ :: L) y = w x := by
  subst h; exact View.canon_cons_emb r w L x

/-- A rectangle's placement of an index, by coordinates. -/
theorem place {off size : Fin S.rank → ℕ} {inb} (x : (Rect.unit (s := S) off size inb).shape.Idx) (y : S.Idx)
    (h : ∀ a, (y a : ℕ) = off a + x a) : (Rect.unit (s := S) off size inb).idx x = y :=
  funext fun a => Fin.ext (by rw [h a]; show off a + 1 * (x a : ℕ) = _; omega)

/-- An index outside a rectangle on one axis is not in it. -/
theorem off_unit {off size : Fin S.rank → ℕ} (inb) {y : S.Idx} (a : Fin S.rank) (h : (y a : ℕ) < off a ∨ off a + size a ≤ y a) :
    y ∉ (Rect.unit (s := S) off size inb).set := by
  rw [Rect.mem_set_unit]; intro hm; have := hm a; omega

/-- A newer piece that misses an index on one axis is read past. -/
theorem canon_skip {off size : Fin S.rank → ℕ} (inb) (w : (Rect.unit (s := S) off size inb).shape.Idx → Val e)
    (L : List (View.Piece Val S e)) (y : S.Idx) (a : Fin S.rank) (h : (y a : ℕ) < off a ∨ off a + size a ≤ y a) :
    View.canon (⟨Rect.unit off size inb, w⟩ :: L) y = View.canon L y :=
  View.canon_cons_of_not_mem _ _ (off_unit inb a h)

/-- An index of one row block of one head, by its row and column. -/
theorem exists_row (x : (⟨4, ![1, 1, 512, 128]⟩ : Shape).Idx) : ∃ (r : Fin 512) (d : Fin 128), x = ix4 0 0 r d := by
  idx_vars x
  obtain rfl : x0 = 0 := Subsingleton.elim _ _
  obtain rfl : x1 = 0 := Subsingleton.elim _ _
  exact ⟨x2, x3, rfl⟩

end

/-! ## The attention of the blocks -/

section
variable (x0 : Vec Ideal S1x4x2048x128 .bf16) (x1 : Vec Ideal S1x2x2048x128 .bf16) (x2 : Vec Ideal S1x4x256x128 .bf16) (x3 : Vec Ideal S1x1x256x128 .bf16)
  (x4 : Vec Ideal S1x4x256x128 .bf16) (x5 : Vec Ideal S1x4x2048x128 .bf16) (x6 : Vec Ideal S1x1x2048x128 .bf16) (x7 : Vec Ideal S1x4x2048x128 .bf16)

/-- The rotary key of the heads of parity `p`: the lanes of their half, zero on the others. -/
def rope (p : Fin 2) (n : Fin 2304) (k : Fin 128) : EReal :=
  if k.1 / 64 = p.1 then if h : n.1 < 256 then x3 (ix4 0 0 ⟨n, h⟩ k) else x6 (ix4 0 0 ⟨n - 256, by omega⟩ k) else 0

/-- A head's nope key: the context's keys, then the latents'. -/
def nope (h : Fin 4) (n : Fin 2304) (k : Fin 128) : EReal :=
  if hn : n.1 < 256 then x2 (ix4 0 h ⟨n, hn⟩ k) else x5 (ix4 0 h ⟨n - 256, by omega⟩ k)

/-- A head's score of a query against a key. -/
def score (h : Fin 4) (q : Fin 2048) (n : Fin 2304) : EReal :=
  (∑ k : Fin 128, x0 (ix4 0 h q k) * nope x2 x5 h n k)
    + ∑ k : Fin 128, x1 (ix4 0 ⟨h / 2, by omega⟩ q k) * rope x3 x6 ⟨h % 2, by omega⟩ n k

/-- The weight of a score in its row. -/
def weight (s : Fin 2304 → EReal) (n : Fin 2304) : EReal := Ideal.exp2 (s n - Finset.univ.fold max ⊥ s)

/-- The attention of one head for one query. -/
def attend (w : Fin 2304 → EReal) (h : Fin 4) (d : Fin 128) : EReal :=
  Ideal.div ((∑ k : Fin 256, w ⟨k, by omega⟩ * x4 (ix4 0 h k d)) + ∑ k : Fin 2048, w ⟨256 + k, by omega⟩ * x7 (ix4 0 h k d))
    ((∑ k : Fin 256, w ⟨k, by omega⟩) + ∑ k : Fin 2048, w ⟨256 + k, by omega⟩)

end

section
variable (arg2 : Memref sig .tc .vmem S1x4x2048x128 .bf16) (harg2 : arg2.IsWhole) (arg3 : Memref sig .tc .vmem S1x2x2048x128 .bf16) (harg3 : arg3.IsWhole)
  (arg4 : Memref sig .tc .vmem S1x4x256x128 .bf16) (harg4 : arg4.IsWhole) (arg5 : Memref sig .tc .vmem S1x1x256x128 .bf16) (harg5 : arg5.IsWhole)
  (arg6 : Memref sig .tc .vmem S1x4x256x128 .bf16) (harg6 : arg6.IsWhole) (arg7 : Memref sig .tc .vmem S1x4x2048x128 .bf16) (harg7 : arg7.IsWhole)
  (arg8 : Memref sig .tc .vmem S1x1x2048x128 .bf16) (harg8 : arg8.IsWhole) (arg9 : Memref sig .tc .vmem S1x4x2048x128 .bf16) (harg9 : arg9.IsWhole)
  (arg11 : Memref sig .tc .vmem S2x2304x128 .bf16) (arg12 : Memref sig .tc .vmem S2x512x2304 .f32) (arg13 : Memref sig .tc .vmem S2x512x2304 .bf16)
  (x0 : Vec Ideal S1x4x2048x128 .bf16) (x1 : Vec Ideal S1x2x2048x128 .bf16) (x2 : Vec Ideal S1x4x256x128 .bf16) (x3 : Vec Ideal S1x1x256x128 .bf16)
  (x4 : Vec Ideal S1x4x256x128 .bf16) (x5 : Vec Ideal S1x4x2048x128 .bf16) (x6 : Vec Ideal S1x1x2048x128 .bf16) (x7 : Vec Ideal S1x4x2048x128 .bf16)

/-! ## The rotary scratch -/

/-- The rotary scratch holds each parity's masked keys, the context's then the latents'. -/
theorem keys_canon (c : Dev nD) (p : Fin 2) (n : Fin 2304) (k : Fin 128) :
    View.canon (kernelRun0_A.sl.HS0_4 c arg5 harg5 arg8 harg8 x3 x6) (ix3 p n k) = rope x3 x6 p n k := by
  unfold kernelRun0_A.sl.HS0_4
  sl_unfold_words
  have e5 : ∀ (n : Fin 256), (View.readAt (Elt Ideal) arg5.view
      (Rect.unit ![0, 0, 0, 0] S1x1x256x128.size inb_S1x1x256x128_S1x1x256x128_0_0_0_0).toLoadRect (harg5.unread x3)) (ix4 0 0 n k) = x3 (ix4 0 0 n k) := fun n => by
    rw [harg5.readAt_unread]
    exact congrArg x3 (place _ _ fun a => by fin_cases a <;> simp)
  have e8 : ∀ (n : Fin 2048), (View.readAt (Elt Ideal) arg8.view
      (Rect.unit ![0, 0, 0, 0] S1x1x2048x128.size inb_S1x1x2048x128_S1x1x2048x128_0_0_0_0).toLoadRect (harg8.unread x6)) (ix4 0 0 n k) = x6 (ix4 0 0 n k) := fun n => by
    rw [harg8.readAt_unread]
    exact congrArg x6 (place _ _ fun a => by fin_cases a <;> simp)
  have hp : p.1 = 0 ∨ p.1 = 1 := by omega
  by_cases hn : n.1 < 256
  · refine (canon_skip _ _ _ _ 1 (by exact Or.inl hn)).trans ?_
    refine (canon_skip _ _ _ _ 1 (by exact Or.inl hn)).trans ?_
    rcases hp with hp | hp
    · obtain rfl : p = 0 := Fin.ext hp
      refine (canon_skip _ _ _ _ 0 (by exact Or.inl Nat.zero_lt_one)).trans ?_
      refine (canon_cons_at _ _ _ (ix3 0 ⟨n, hn⟩ k) _ (place _ _ fun a => by fin_cases a <;> simp)).trans ?_
      rw [Payload.keyC0, e5, rope, dif_pos hn]; rfl
    · obtain rfl : p = 1 := Fin.ext hp
      refine (canon_cons_at _ _ _ (ix3 0 ⟨n, hn⟩ k) _ (place _ _ fun a => by fin_cases a <;> simp)).trans ?_
      rw [Payload.keyC1, e5, rope, dif_pos hn]; rfl
  · rcases hp with hp | hp
    · obtain rfl : p = 0 := Fin.ext hp
      refine (canon_skip _ _ _ _ 0 (by exact Or.inl Nat.zero_lt_one)).trans ?_
      refine (canon_cons_at _ _ _ (ix3 0 ⟨n - 256, by omega⟩ k) _ (place _ _ fun a => by fin_cases a <;> simp; omega)).trans ?_
      rw [Payload.keyL0, e8, rope, dif_neg hn]; rfl
    · obtain rfl : p = 1 := Fin.ext hp
      refine (canon_cons_at _ _ _ (ix3 0 ⟨n - 256, by omega⟩ k) _ (place _ _ fun a => by fin_cases a <;> simp; omega)).trans ?_
      rw [Payload.keyL1, e8, rope, dif_neg hn]; rfl

/-! ## One chain -/

/-- The head and the query row of chain `i`'s row `r`. -/
abbrev hd (i : ℕ) : Fin 4 := ⟨i / 4 % 4, by omega⟩
abbrev row (i : ℕ) (r : Fin 512) : Fin 2048 := ⟨512 * (i % 4) + r, by omega⟩

/-- The chain's rows of the output, placed. -/
theorem place_rQ (i : ℕ) (r : Fin 512) (d : Fin 128) : (rQ i).idx (ix4 0 0 r d) = ix4 0 (hd i) (row i r) d :=
  place _ _ fun a => by fin_cases a <;> simp

/-- The two slots do not meet. -/
theorem off_sL (i j : ℕ) (hne : j % 2 ≠ i % 2) (y : S2x512x2304.Idx) (hy : (y 0).1 = i % 2) : y ∉ (sL j).set := by
  rw [Rect.mem_set_unit]
  intro hm
  have h : j % 2 ≤ (y 0).1 ∧ (y 0).1 < j % 2 + 1 := hm 0
  omega

theorem off_sC (i j : ℕ) (hne : j % 2 ≠ i % 2) (y : S2x512x2304.Idx) (hy : (y 0).1 = i % 2) : y ∉ (sC j).set := by
  rw [Rect.mem_set_unit]
  intro hm
  have h : j % 2 ≤ (y 0).1 ∧ (y 0).1 < j % 2 + 1 := hm 0
  omega

section
variable (K : List (View.Piece (Elt Ideal) S2x2304x128 .bf16)) (hK : ∀ p n k, View.canon K (ix3 p n k) = rope x3 x6 p n k)
include hK

/-- A chain's scores, read from the history: newer pieces are of the other slot. -/
theorem scores_canon (i : ℕ) (js : List ℕ) (hjs : ∀ j ∈ js, j % 2 ≠ i % 2) (S' : List (View.Piece (Elt Ideal) S2x512x2304 .f32))
    (r : Fin 512) (n : Fin 2304) :
    View.canon (js.flatMap (scores arg2 harg2 arg3 harg3 arg4 harg4 arg7 harg7 arg11 x0 x1 x2 x5 K)
        ++ (scores arg2 harg2 arg3 harg3 arg4 harg4 arg7 harg7 arg11 x0 x1 x2 x5 K i ++ S')) (ix3 ⟨i % 2, by omega⟩ r n)
      = score x0 x1 x2 x3 x5 x6 (hd i) (row i r) n := by
  rw [canon_append_skip]
  · have eq : ∀ k : Fin 128, View.readAt (Elt Ideal) arg2.view (rQ i).toLoadRect (harg2.unread x0) (ix4 0 0 r k)
        = x0 (ix4 0 (hd i) (row i r) k) := fun k => by
      rw [harg2.readAt_unread]
      exact congrArg x0 (place _ _ fun a => by fin_cases a <;> simp)
    have er : ∀ k : Fin 128, View.readAt (Elt Ideal) arg3.view (rR i).toLoadRect (harg3.unread x1) (ix4 0 0 r k)
        = x1 (ix4 0 ⟨(hd i : ℕ) / 2, by omega⟩ (row i r) k) := fun k => by
      rw [harg3.readAt_unread]
      exact congrArg x1 (place _ _ fun a => by fin_cases a <;> simp)
    have ep : ∀ h : i / 4 % 2 < 2, (⟨i / 4 % 2, h⟩ : Fin 2) = ⟨(hd i : ℕ) % 2, by omega⟩ := fun h => Fin.ext (show i / 4 % 2 = i / 4 % 4 % 2 by omega)
    unfold scores score
    rw [List.cons_append, List.cons_append]
    by_cases hn : n.1 < 256
    · refine (canon_skip _ _ _ _ 2 (by exact Or.inl hn)).trans ?_
      refine (canon_cons_at _ _ _ (ix3 0 r ⟨n, hn⟩) _ (place _ _ fun a => by fin_cases a <;> simp)).trans ?_
      unfold queries
      rw [Payload.scoreC]
      congr 1
      · refine Finset.sum_congr rfl fun k _ => ?_
        rw [eq, harg4.readAt_unread, nope, dif_pos hn]
        exact congrArg (x0 _ * ·) (congrArg x2 (place _ _ fun a => by fin_cases a <;> simp))
      · refine Finset.sum_congr rfl fun k _ => ?_
        rw [er, View.readCov_eq_canon', ← ep (by omega), ← hK]
        exact congrArg (x1 _ * ·) (congrArg (View.canon K) (place _ _ fun a => by fin_cases a <;> simp))
    · refine (canon_cons_at _ _ _ (ix3 0 r ⟨n - 256, by omega⟩) _ (place _ _ fun a => by fin_cases a <;> simp; omega)).trans ?_
      unfold queries
      rw [Payload.scoreL]
      congr 1
      · refine Finset.sum_congr rfl fun k _ => ?_
        rw [eq, harg7.readAt_unread, nope, dif_neg hn]
        exact congrArg (x0 _ * ·) (congrArg x5 (place _ _ fun a => by fin_cases a <;> simp))
      · refine Finset.sum_congr rfl fun k _ => ?_
        rw [er, View.readCov_eq_canon', ← ep (by omega), ← hK]
        exact congrArg (x1 _ * ·) (congrArg (View.canon K) (place _ _ fun a => by fin_cases a <;> simp; omega))
  · intro p hp
    obtain ⟨j, hj, hp⟩ := List.mem_flatMap.mp hp
    have hne := hjs j hj
    unfold scores at hp
    rcases List.mem_cons.mp hp with rfl | hp
    · exact off_sL i j hne _ rfl
    · obtain rfl := List.mem_singleton.mp hp
      exact off_sC i j hne _ rfl

end

/-- The strips of a chain's weights, read from the history. -/
theorem strips_canon (i : ℕ) (S : List (View.Piece (Elt Ideal) S2x512x2304 .f32)) (s : Fin 512 → Fin 2304 → EReal)
    (hS : ∀ r n, View.canon S (ix3 ⟨i % 2, by omega⟩ r n) = s r n) (P' : List (View.Piece (Elt Ideal) S2x512x2304 .bf16))
    (r : Fin 512) (n : Fin 2304) :
    ∀ g ≤ 32, r.1 < 16 * g → View.canon (strips arg12 S i g ++ P') (ix3 ⟨i % 2, by omega⟩ r n) = weight (s r) n
  | 0, _, h => by omega
  | g + 1, hg, h => by
    unfold strips
    rw [List.cons_append]
    by_cases hr : r.1 < 16 * g
    · refine (canon_skip _ _ _ _ 1 (by exact Or.inl (show r.1 < 16 * (g % 32) by omega))).trans ?_
      exact strips_canon i S s hS P' r n g (by omega) hr
    · refine (canon_cons_at _ _ _ (ix3 0 ⟨r - 16 * g, by omega⟩ n) _
        (place _ _ fun a => by fin_cases a <;> simp; omega)).trans ?_
      rw [Payload.soft, View.readCov_eq_canon']
      have e : ∀ n : Fin 2304, View.canon S ((sG i g).toLoadRect.idx (ix3 0 ⟨r - 16 * g, by omega⟩ n)) = s r n := fun n => by
        rw [← hS]
        exact congrArg (View.canon S) (place _ _ fun a => by fin_cases a <;> simp; omega)
      simp only [e]
      rfl

section
variable (K : List (View.Piece (Elt Ideal) S2x2304x128 .bf16)) (hK : ∀ p n k, View.canon K (ix3 p n k) = rope x3 x6 p n k)
include hK

/-- What a chain stores: its head's attention for its rows. -/
theorem chain_apply (i : ℕ) (w : (rQ i).shape.Idx → Elt Ideal .bf16)
    (hw : IsChain arg2 harg2 arg3 harg3 arg4 harg4 arg6 harg6 arg7 harg7 arg9 harg9 arg11 arg12 arg13 x0 x1 x2 x4 x5 x7 K i w)
    (r : Fin 512) (d : Fin 128) :
    w (ix4 0 0 r d) = attend x4 x7 (weight (score x0 x1 x2 x3 x5 x6 (hd i) (row i r))) (hd i) d := by
  obtain ⟨S, P, js, S', P', rfl, hP, hS, hjs⟩ := hw
  have hs : ∀ r n, View.canon S (ix3 ⟨i % 2, by omega⟩ r n) = score x0 x1 x2 x3 x5 x6 (hd i) (row i r) n := fun r n => by
    rw [hS]
    exact scores_canon arg2 harg2 arg3 harg3 arg4 harg4 arg7 harg7 arg11 x0 x1 x2 x3 x5 x6 K hK i js hjs S' r n
  have hp : ∀ n, View.canon P (ix3 ⟨i % 2, by omega⟩ r n) = weight (score x0 x1 x2 x3 x5 x6 (hd i) (row i r)) n := fun n => by
    rw [hP]
    exact strips_canon arg12 i S (fun r n => score x0 x1 x2 x3 x5 x6 (hd i) (row i r) n) hs P' r n 32 le_rfl (by omega)
  have hc : ∀ k : Fin 256, arg13.view.readCov P (sC i).toLoadRect (ix3 0 r k)
      = weight (score x0 x1 x2 x3 x5 x6 (hd i) (row i r)) ⟨k, by omega⟩ := fun k => by
    rw [View.readCov_eq_canon', ← hp]
    exact congrArg (View.canon P) (place _ _ fun a => by fin_cases a <;> simp)
  have hl : ∀ k : Fin 2048, arg13.view.readCov P (sL i).toLoadRect (ix3 0 r k)
      = weight (score x0 x1 x2 x3 x5 x6 (hd i) (row i r)) ⟨256 + k, by omega⟩ := fun k => by
    rw [View.readCov_eq_canon', ← hp]
    exact congrArg (View.canon P) (place _ _ fun a => by fin_cases a <;> simp)
  have h6 : ∀ k : Fin 256, View.readAt (Elt Ideal) arg6.view (rC i).toLoadRect (harg6.unread x4) (ix4 0 0 k d) = x4 (ix4 0 (hd i) k d) := fun k => by
    rw [harg6.readAt_unread]
    exact congrArg x4 (place _ _ fun a => by fin_cases a <;> simp)
  have h9 : ∀ k : Fin 2048, View.readAt (Elt Ideal) arg9.view (rL i).toLoadRect (harg9.unread x7) (ix4 0 0 k d) = x7 (ix4 0 (hd i) k d) := fun k => by
    rw [harg9.readAt_unread]
    exact congrArg x7 (place _ _ fun a => by fin_cases a <;> simp)
  unfold weighted
  refine (Payload.out _ _ _ _ r d).trans ?_
  simp only [hc, hl, h6, h9]
  rfl

/-- The chains below `n`, read at a row of one of them. -/
theorem chains_canon (y : S1x4x2048x128.Idx) (v : EReal) :
    ∀ (n : ℕ) (L : List (View.Piece (Elt Ideal) S1x4x2048x128 .bf16)),
      Chains arg2 harg2 arg3 harg3 arg4 harg4 arg6 harg6 arg7 harg7 arg9 harg9 arg11 arg12 arg13 x0 x1 x2 x4 x5 x7 K n L →
      (∃ i < n, y ∈ (rQ i).set) →
      (∀ (i : ℕ) (r : Fin 512) (d : Fin 128), y = ix4 0 (hd i) (row i r) d →
        v = attend x4 x7 (weight (score x0 x1 x2 x3 x5 x6 (hd i) (row i r))) (hd i) d) →
      View.canon L y = v
  | 0, _, _, ⟨_, h, _⟩, _ => by omega
  | n + 1, _, ⟨w, L', rfl, hw, hL⟩, ⟨i, hi, hy⟩, hv => by
    by_cases hm : y ∈ (rQ n).set
    · obtain ⟨x, rfl⟩ := (rQ n).exists_idx_of_mem hm
      refine (View.canon_cons_emb (rQ n) w L' x).trans ?_
      obtain ⟨r, d, rfl⟩ := exists_row x
      rw [chain_apply arg2 harg2 arg3 harg3 arg4 harg4 arg6 harg6 arg7 harg7 arg9 harg9 arg11 arg12 arg13 x0 x1 x2 x3 x4 x5 x6 x7 K hK n w hw r d]
      exact (hv n r d (place_rQ n r d)).symm
    · refine (View.canon_cons_of_not_mem (⟨rQ n, w⟩ : View.Piece (Elt Ideal) S1x4x2048x128 .bf16) L' hm).trans ?_
      refine chains_canon y v n L' hL ⟨i, ?_, hy⟩ hv
      rcases Nat.lt_succ_iff_lt_or_eq.mp hi with h | rfl
      · exact h
      · exact absurd hy hm

end

/-- The output block a grid step's body leaves is the attention of its input blocks. -/
theorem out_apply (c : Dev nD) (i : grid0.Coords) (arg10 : Memref sig .tc .vmem S1x4x2048x128 .bf16) (harg10 : arg10.IsWhole)
    (harg11 : arg11.IsWhole) (harg12 : arg12.IsWhole) (harg13 : arg13.IsWhole) (h : Fin 4) (q : Fin 2048) (d : Fin 128) :
    out0_A_8 c i arg2 harg2 arg3 harg3 arg4 harg4 arg5 harg5 arg6 harg6 arg7 harg7 arg8 harg8 arg9 harg9 arg10 harg10 arg11 harg11 arg12 harg12 arg13 harg13 x0 x1 x2 x3 x4 x5 x6 x7 (ix4 0 h q d)
      = attend x4 x7 (weight (score x0 x1 x2 x3 x5 x6 h q)) h d := by
  unfold out0_A_8
  rw [View.read_writes_junk_eq_canon]
  refine chains_canon arg2 harg2 arg3 harg3 arg4 harg4 arg6 harg6 arg7 harg7 arg9 harg9 arg11 arg12 arg13 x0 x1 x2 x3 x4 x5 x6 x7 _
    (keys_canon arg5 harg5 arg8 harg8 x3 x6 c) _ _ 16 _
    (pieces c i arg2 harg2 arg3 harg3 arg4 harg4 arg5 harg5 arg6 harg6 arg7 harg7 arg8 harg8 arg9 harg9 arg10 harg10 arg11 harg11 arg12 harg12 arg13 harg13 x0 x1 x2 x3 x4 x5 x6 x7)
    ⟨4 * h + q / 512, by omega, ?_⟩ ?_
  · show _ ∈ (Rect.unit _ _ _).set
    rw [Rect.mem_set_unit]
    intro a
    fin_cases a <;> simp [S1x1x512x128] <;> omega
  · intro j r e he
    obtain ⟨-, h1, h2, h3⟩ := (ix4_inj ..).mp he
    subst h1 h2 h3
    rfl

end

end Cert.KernelIdeal.Block

end
-- ==== Proof.Array.lean ====
/- What the attention kernel's result array holds after the run: the sixteen blocks of the slab arrays that one grid
   point reads, at coordinates, and the array that the points' write-backs leave. -/
module

public import proofs.«01_k».proof.Proof.Block
public import proofs.«01_k».proof.Proof.Gen.KernelIdeal.Value
public import Idealize.ShloMosaic.Lib.Pipeline.ValueKit
public import Idealize.ShloMosaic.Lib.Pointwise

@[expose] public section

noncomputable section

namespace Cert.KernelIdeal.Array

open Cert.KernelIdeal Cert.KernelIdeal.Gen Idealize.ShloMosaic Idealize.ShloMosaic.TcCoe Idealize.SL.Sem

variable (m : (ℓ : Loc nD τ sig) → Buf (Elt Ideal) ℓ)

/-- `count` of a slab array's slabs of batch `b`, from slab `first` on, as a block. -/
def slabs {n : Nat} (a : FVec Ideal ⟨4, ![8, 15, n, 128]⟩ .bf16) (b : Fin 8) (first count : Nat) (h : first + count ≤ 15) :
    FVec Ideal ⟨4, ![1, count, n, 128]⟩ .bf16 :=
  fun i => a (ix4 b ⟨first + (i 1 : Nat), by have h1 : (i 1 : Nat) < count := (i 1).isLt; omega⟩ (i 2) (i 3))

/-- The latent tokens' slabs, as launched. -/
abbrev lat (c : Dev nD) : FVec Ideal S8x15x2048x128 .bf16 := m ((c : Thread nD τ).loc main_arg0)
/-- The context tokens' slabs, as launched. -/
abbrev ctx (c : Dev nD) : FVec Ideal S8x15x256x128 .bf16 := m ((c : Thread nD τ).loc main_arg1)

/-- The batch that grid point `t` works on. -/
def batch (t : Fin cfg0.N) : Fin 8 := ⟨t.val, by have := t.isLt; have h : cfg0.N = 8 := N_0; omega⟩

theorem index0 : ∀ t : Fin cfg0.N, win0_0.index t = ![t.val, 0, 0, 0] :=
  (by decide +kernel : ∀ t : Fin grid0.N, win0_0.index t = ![t.val, 0, 0, 0])
theorem index1 : ∀ t : Fin cfg0.N, win0_1.index t = ![t.val, 6, 0, 0] :=
  (by decide +kernel : ∀ t : Fin grid0.N, win0_1.index t = ![t.val, 6, 0, 0])
theorem index2 : ∀ t : Fin cfg0.N, win0_2.index t = ![t.val, 1, 0, 0] :=
  (by decide +kernel : ∀ t : Fin grid0.N, win0_2.index t = ![t.val, 1, 0, 0])
theorem index3 : ∀ t : Fin cfg0.N, win0_3.index t = ![t.val, 14, 0, 0] :=
  (by decide +kernel : ∀ t : Fin grid0.N, win0_3.index t = ![t.val, 14, 0, 0])
theorem index4 : ∀ t : Fin cfg0.N, win0_4.index t = ![t.val, 2, 0, 0] :=
  (by decide +kernel : ∀ t : Fin grid0.N, win0_4.index t = ![t.val, 2, 0, 0])
theorem index5 : ∀ t : Fin cfg0.N, win0_5.index t = ![t.val, 1, 0, 0] :=
  (by decide +kernel : ∀ t : Fin grid0.N, win0_5.index t = ![t.val, 1, 0, 0])
theorem index6 : ∀ t : Fin cfg0.N, win0_6.index t = ![t.val, 14, 0, 0] :=
  (by decide +kernel : ∀ t : Fin grid0.N, win0_6.index t = ![t.val, 14, 0, 0])
theorem index7 : ∀ t : Fin cfg0.N, win0_7.index t = ![t.val, 2, 0, 0] :=
  (by decide +kernel : ∀ t : Fin grid0.N, win0_7.index t = ![t.val, 2, 0, 0])
theorem index8 : ∀ t : Fin cfg0.N, win0_8.index t = ![t.val, 0, 0, 0] :=
  (by decide +kernel : ∀ t : Fin grid0.N, win0_8.index t = ![t.val, 0, 0, 0])

/-- Window 0 stages the four heads' position-free queries. -/
theorem in0 (c : Dev nD) (t : Fin cfg0.N) : X0_0 m c t = slabs (lat m c) (batch t) 0 4 (by decide) := by
  funext j
  unfold X0_0 Pipeline.Window.fill
  rw [dif_pos (moved0_0 t j)]
  blk_simp [iblk]
  refine congrArg (lat m c) ?_
  idx_bounds j
  blk_ext [index0, slabs, batch]

/-- Window 1 stages the rotary queries, two heads to a slab. -/
theorem in1 (c : Dev nD) (t : Fin cfg0.N) : X0_1 m c t = slabs (lat m c) (batch t) 12 2 (by decide) := by
  funext j
  unfold X0_1 Pipeline.Window.fill
  rw [dif_pos (moved0_1 t j)]
  blk_simp [iblk]
  refine congrArg (lat m c) ?_
  idx_bounds j
  blk_ext [index1, slabs, batch]

/-- Window 2 stages the context's position-free keys. -/
theorem in2 (c : Dev nD) (t : Fin cfg0.N) : X0_2 m c t = slabs (ctx m c) (batch t) 4 4 (by decide) := by
  funext j
  unfold X0_2 Pipeline.Window.fill
  rw [dif_pos (moved0_2 t j)]
  blk_simp [iblk]
  refine congrArg (ctx m c) ?_
  idx_bounds j
  blk_ext [index2, slabs, batch]

/-- Window 3 stages the context's rotary keys. -/
theorem in3 (c : Dev nD) (t : Fin cfg0.N) : iblk m c 3 t = slabs (ctx m c) (batch t) 14 1 (by decide) := by
  funext j
  blk_simp [iblk]
  refine congrArg (ctx m c) ?_
  idx_bounds j
  blk_ext [index3, slabs, batch]

/-- Window 4 stages the context's values. -/
theorem in4 (c : Dev nD) (t : Fin cfg0.N) : X0_4 m c t = slabs (ctx m c) (batch t) 8 4 (by decide) := by
  funext j
  unfold X0_4 Pipeline.Window.fill
  rw [dif_pos (moved0_4 t j)]
  blk_simp [iblk]
  refine congrArg (ctx m c) ?_
  idx_bounds j
  blk_ext [index4, slabs, batch]

/-- Window 5 stages the latent tokens' position-free keys. -/
theorem in5 (c : Dev nD) (t : Fin cfg0.N) : X0_5 m c t = slabs (lat m c) (batch t) 4 4 (by decide) := by
  funext j
  unfold X0_5 Pipeline.Window.fill
  rw [dif_pos (moved0_5 t j)]
  blk_simp [iblk]
  refine congrArg (lat m c) ?_
  idx_bounds j
  blk_ext [index5, slabs, batch]

/-- Window 6 stages the latent tokens' rotary keys. -/
theorem in6 (c : Dev nD) (t : Fin cfg0.N) : iblk m c 6 t = slabs (lat m c) (batch t) 14 1 (by decide) := by
  funext j
  blk_simp [iblk]
  refine congrArg (lat m c) ?_
  idx_bounds j
  blk_ext [index6, slabs, batch]

/-- Window 7 stages the latent tokens' values. -/
theorem in7 (c : Dev nD) (t : Fin cfg0.N) : X0_7 m c t = slabs (lat m c) (batch t) 8 4 (by decide) := by
  funext j
  unfold X0_7 Pipeline.Window.fill
  rw [dif_pos (moved0_7 t j)]
  blk_simp [iblk]
  refine congrArg (lat m c) ?_
  idx_bounds j
  blk_ext [index7, slabs, batch]

/-- The attention of one query row: batch `b`, head `h`, query `q`, output lane `d`, off the slab arrays. -/
def attention (a : FVec Ideal S8x15x2048x128 .bf16) (k : FVec Ideal S8x15x256x128 .bf16) (b : Fin 8) (h : Fin 4) (q : Fin 2048)
    (d : Fin 128) : EReal :=
  Block.attend (slabs k b 8 4 (by decide)) (slabs a b 8 4 (by decide))
    (Block.weight (Block.score (slabs a b 0 4 (by decide)) (slabs a b 12 2 (by decide)) (slabs k b 4 4 (by decide))
      (slabs k b 14 1 (by decide)) (slabs a b 4 4 (by decide)) (slabs a b 14 1 (by decide)) h q)) h d

/-- The result array: every batch's attention. -/
def result (a : FVec Ideal S8x15x2048x128 .bf16) (k : FVec Ideal S8x15x256x128 .bf16) : FVec Ideal S8x4x2048x128 .bf16 :=
  fun i => attention a k (i 0) (i 1) (i 2) (i 3)

/-- After the run the result array holds every batch's attention: each grid point writes back its own batch's. -/
theorem final (c : Dev nD) : (dats m 0 c).arrAt 8 cfg0.N = result (lat m c) (ctx m c) := by
  refine (dats m 0 c).arrAt_eq_of_covers 8 _ (by decide +kernel) fun t hf y => ?_
  blk_simp
  rw [after0_8]
  unfold outsAt0
  rw [in0, in1, in2, in3, in4, in5, in6, in7]
  obtain ⟨h, q, d, rfl⟩ : ∃ (h : Fin 4) (q : Fin 2048) (d : Fin 128), y = (ix4 0 h q d : S1x4x2048x128.Idx) :=
    ⟨y 1, y 2, y 3, (eq_ix4 (y : S1x4x2048x128.Idx)).trans
      (congrArg (fun a : Fin 1 => (ix4 a (y 1) (y 2) (y 3) : S1x4x2048x128.Idx)) (Subsingleton.elim (α := Fin 1) _ _))⟩
  refine (Block.out_apply ..).trans ?_
  have e : (win0_8.blk t).view.emb (ix4 0 h q d : S1x4x2048x128.Idx) = (ix4 (batch t) h q d : S8x4x2048x128.Idx) := by
    blk_ext [index8, batch]
  rw [e]
  rfl

/-- The kernel's run: it ends with the result array holding every batch's attention and the slabs as launched. -/
theorem run (ρ : Dev nD → PrngReg) :
    θ_run defs (onTc (τ := τ) (main (F := Ideal))) ⟨m, fun _ => 0, ρ⟩ fun r => ∀ c : Dev nD,
      r.2.mem ((c : Thread nD τ).loc main_v0) = result (lat m c) (ctx m c)
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨(h c).1.trans (final m c), (h c).2⟩) (Value.run_blocks m ρ)

end Cert.KernelIdeal.Array

end
-- ==== Proof.Ref.lean ====
/- What the attention's reference computes, read at one element of its result. -/
module

public import proofs.«01_k».proof.Proof.Gen.ReferenceIdeal.Run
public import Idealize.ShloMosaic.Lib.Pointwise
public import Idealize.ShloMosaic.Lib.IdealHost

@[expose] public section

noncomputable section

namespace Cert.ReferenceIdeal.Ref

open Cert.ReferenceIdeal Cert.ReferenceIdeal.Gen Idealize.ShloMosaic Idealize.ShloMosaic.TcCoe Idealize.SL.Sem

section
variable (A : FVec Ideal S8x15x2048x128 .bf16) (K : FVec Ideal S8x15x256x128 .bf16)
variable (b : Fin 8) (h : Fin 4) (q : Fin 2048)

/-- Key `n`'s score with query `q` of head `h`, before the factor log 2: the position-free product over 128 lanes and the
    rotary one over 64, the context's keys first. -/
def score (n : Fin 2304) : EReal :=
  (∑ x : Fin 128, A (ix4 b ⟨h, by omega⟩ q x) *
      if _ : (n : ℕ) < 256 then K (ix4 b ⟨4 + h, by omega⟩ ⟨n, by omega⟩ x) else A (ix4 b ⟨4 + h, by omega⟩ ⟨n - 256, by omega⟩ x))
  + ∑ x : Fin 64, A (ix4 b ⟨12 + h / 2, by omega⟩ q ⟨h % 2 * 64 + x, by omega⟩) *
      if _ : (h : ℕ) < 2 then
        if _ : (n : ℕ) < 256 then K (ix4 b 14 ⟨n, by omega⟩ ⟨h * 64 + x, by omega⟩)
        else A (ix4 b 14 ⟨n - 256, by omega⟩ ⟨h * 64 + x, by omega⟩)
      else
        if _ : (n : ℕ) < 256 then K (ix4 b 14 ⟨n, by omega⟩ ⟨(h - 2) * 64 + x, by omega⟩)
        else A (ix4 b 14 ⟨n - 256, by omega⟩ ⟨(h - 2) * 64 + x, by omega⟩)

/-- A context key's score. -/
theorem score_ctx (n : Fin 256) : score A K b h q ⟨n, by omega⟩ =
    (∑ x : Fin 128, A (ix4 b ⟨h, by omega⟩ q x) * K (ix4 b ⟨4 + h, by omega⟩ n x))
    + ∑ x : Fin 64, A (ix4 b ⟨12 + h / 2, by omega⟩ q ⟨h % 2 * 64 + x, by omega⟩) *
      if _ : (h : ℕ) < 2 then K (ix4 b 14 n ⟨h * 64 + x, by omega⟩) else K (ix4 b 14 n ⟨(h - 2) * 64 + x, by omega⟩) := by
  unfold score
  simp only [n.isLt, dif_pos, Fin.eta]

/-- A latent key's score. -/
theorem score_lat (n : Fin 2048) : score A K b h q ⟨256 + n, by omega⟩ =
    (∑ x : Fin 128, A (ix4 b ⟨h, by omega⟩ q x) * A (ix4 b ⟨4 + h, by omega⟩ n x))
    + ∑ x : Fin 64, A (ix4 b ⟨12 + h / 2, by omega⟩ q ⟨h % 2 * 64 + x, by omega⟩) *
      if _ : (h : ℕ) < 2 then A (ix4 b 14 n ⟨h * 64 + x, by omega⟩) else A (ix4 b 14 n ⟨(h - 2) * 64 + x, by omega⟩) := by
  unfold score
  simp only [show ¬ (256 + (n : ℕ) < 256) by omega, dif_neg, not_false_eq_true, Nat.add_sub_cancel_left, Fin.eta]

/-- The reference's logarithm of 2. -/
abbrev ln2 : EReal := Ideal.log (Ideal.ofBits FTy.f32 1073741824#32)

/-- The unnormalised weight of key `n`: the exponential of its scaled score less the row's greatest. -/
def weight (s : Fin 2304 → EReal) (n : Fin 2304) : EReal :=
  Ideal.exp (s n * ln2 - Finset.univ.fold max (Ideal.ofBits FTy.f32 4286578688#32) fun x => s x * ln2)

/-- The weights' sum. -/
def total (w : Fin 2304 → EReal) : EReal :=
  (∑ n : Fin 256, w ⟨n, by omega⟩) + ∑ n : Fin 2048, w ⟨256 + n, by omega⟩

/-- The result's lane `d`: the values weighted by the normalised weights. -/
def attend (w : Fin 2304 → EReal) (d : Fin 128) : EReal :=
  (∑ n : Fin 256, Ideal.div (w ⟨n, by omega⟩) (total w) * K (ix4 b ⟨8 + h, by omega⟩ n d))
  + ∑ n : Fin 2048, Ideal.div (w ⟨256 + n, by omega⟩) (total w) * A (ix4 b ⟨8 + h, by omega⟩ n d)

end

variable (m : (ℓ : Loc nD τ sig) → Buf (Elt Ideal) ℓ)

set_option maxRecDepth 8192 in
/-- The reference's result at one element. -/
theorem res_apply (c : Dev nD) (b : Fin 8) (h : Fin 4) (q : Fin 2048) (d : Fin 128) :
    Value.res_main_v43 m c (ix4 b h q d)
      = attend (m ((c.tc : Thread nD τ).loc main_arg0)) (m ((c.tc : Thread nD τ).loc main_arg1)) b h
          (weight (score (m ((c.tc : Thread nD τ).loc main_arg0)) (m ((c.tc : Thread nD τ).loc main_arg1)) b h q)) d := by
  unfold Value.res_main_v43
  generalize m ((c.tc : Thread nD τ).loc main_arg0) = A
  generalize m ((c.tc : Thread nD τ).loc main_arg1) = K
  pointwise
  simp only [attend, total, weight, score_ctx, score_lat]
  rfl

end Cert.ReferenceIdeal.Ref

end
-- ==== Proof.Softmax.lean ====
/- The equation behind the attention's claim, over the reals inside the extended reals: weighting the values by powers of 2
   and dividing by their sum afterwards is weighting them by the softmax of the scores times log 2. -/
module

public import Idealize.ShloMosaic.PureOps.Ideal
public import Mathlib.Analysis.SpecialFunctions.Pow.Real

@[expose] public section

noncomputable section

namespace Cert.Softmax

open Idealize.ShloMosaic

/-- An extended real that is a number. -/
def Real' (x : EReal) : Prop := ∃ r : ℝ, x = (r : EReal)

theorem Real'.add {x y : EReal} (hx : Real' x) (hy : Real' y) : Real' (x + y) := by
  obtain ⟨a, rfl⟩ := hx; obtain ⟨b, rfl⟩ := hy
  exact ⟨a + b, (EReal.coe_add a b).symm⟩

theorem Real'.mul {x y : EReal} (hx : Real' x) (hy : Real' y) : Real' (x * y) := by
  obtain ⟨a, rfl⟩ := hx; obtain ⟨b, rfl⟩ := hy
  exact ⟨a * b, (EReal.coe_mul a b).symm⟩

theorem Real'.sum {ι : Type} (s : Finset ι) (f : ι → EReal) (h : ∀ i, Real' (f i)) : Real' (∑ i ∈ s, f i) :=
  Finset.sum_induction f Real' (fun _ _ => Real'.add) ⟨0, rfl⟩ fun i _ => h i

/-- A number whose absolute value is below ⊤ is real. -/
theorem real_of_abs_lt {x : EReal} (h : max x (-x) < ⊤) : Real' x := by
  induction x using EReal.rec with
  | bot => simp at h
  | coe r => exact ⟨r, rfl⟩
  | top => simp at h

/-- A finite sum of numbers is the sum of the reals. -/
theorem sum_coe {ι : Type} (s : Finset ι) (f : ι → ℝ) : ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

variable {ι : Type} [Fintype ι] [Nonempty ι]

/-- The greatest of finitely many numbers is a number. -/
theorem fold_max_coe (f : ι → ℝ) : ∃ r : ℝ, Finset.univ.fold max (⊥ : EReal) (fun i => (f i : EReal)) = (r : EReal) := by
  obtain ⟨i, _, h⟩ := Finset.exists_mem_eq_sup (Finset.univ : Finset ι) Finset.univ_nonempty fun i => (f i : EReal)
  exact ⟨f i, h⟩

/-- The reference's normalised weighting, each weight divided first, against the kernel's, which divides at the end and
    writes its weights as powers of 2. Both subtract a greatest score, and neither shift matters. -/
theorem softmax (σ v : ι → ℝ) :
    Ideal.div (∑ i, Ideal.exp2 ((σ i : EReal) - Finset.univ.fold max ⊥ fun k => (σ k : EReal)) * (v i : EReal))
        (∑ i, Ideal.exp2 ((σ i : EReal) - Finset.univ.fold max ⊥ fun k => (σ k : EReal)))
      = ∑ i, Ideal.div (Ideal.exp ((σ i : EReal) * (Real.log 2 : ℝ) - Finset.univ.fold max ⊥ fun k => (σ k : EReal) * (Real.log 2 : ℝ)))
          (∑ j, Ideal.exp ((σ j : EReal) * (Real.log 2 : ℝ) - Finset.univ.fold max ⊥ fun k => (σ k : EReal) * (Real.log 2 : ℝ)))
          * (v i : EReal) := by
  obtain ⟨M, hM⟩ := fold_max_coe σ
  obtain ⟨N, hN⟩ := fold_max_coe fun k => σ k * Real.log 2
  simp only [hM, hN, ← EReal.coe_sub, ← EReal.coe_mul, Ideal.exp2_coe, Ideal.exp_coe, sum_coe]
  have hp : ∀ x : ℝ, Real.rpow 2 x = Real.exp (Real.log 2 * x) := fun x => Real.rpow_def_of_pos (by norm_num) x
  have he : ∀ i, Real.exp (σ i * Real.log 2 - N) = Real.rpow 2 (σ i - M) * Real.exp (M * Real.log 2 - N) := fun i => by
    rw [hp, ← Real.exp_add]; congr 1; ring
  have hS : 0 < ∑ i, Real.rpow 2 (σ i - M) :=
    Finset.sum_pos (fun i _ => by rw [hp]; exact Real.exp_pos _) Finset.univ_nonempty
  have hC : 0 < Real.exp (M * Real.log 2 - N) := Real.exp_pos _
  simp only [he, ← Finset.sum_mul]
  rw [Ideal.div_coe hS.ne']
  simp only [Ideal.div_coe (mul_pos hS hC).ne', ← EReal.coe_mul, sum_coe]
  congr 1
  rw [Finset.sum_mul]
  refine Finset.sum_congr rfl fun i _ => ?_
  field_simp

/-- A sum over the keys, split into the context's 256 and the latent tokens' 2048. -/
theorem sum_split (f : Fin 2304 → EReal) :
    (∑ n : Fin 256, f ⟨n, by omega⟩) + ∑ n : Fin 2048, f ⟨256 + n, by omega⟩ = ∑ n, f n :=
  (Fin.sum_univ_add (a := 256) (b := 2048) f).symm

end Cert.Softmax

end
-- ==== Proof.Scores.lean ====
/- The attention's equation: the kernel's attention of one query row is the reference's, when the slabs hold numbers. -/
module

public import proofs.«01_k».proof.Proof.Array
public import proofs.«01_k».proof.Proof.Ref
public import proofs.«01_k».proof.Proof.Softmax
public import proofs.«01_k».proof.Proof.Gen.Pre_finite
public import Idealize.ShloMosaic.Lib.ReduceAll

@[expose] public section

noncomputable section

namespace Cert.Scores

open Idealize.ShloMosaic Cert.Softmax Cert.KernelIdeal
open Cert.ReferenceIdeal (Ref.score Ref.weight Ref.attend Ref.total Ref.ln2)

variable (A : FVec Ideal S8x15x2048x128 .bf16) (K : FVec Ideal S8x15x256x128 .bf16) (b : Fin 8) (h : Fin 4) (q : Fin 2048)

/-- A sum over 128 lanes that keeps the lanes of one half is the sum over that half's 64 lanes. -/
theorem sum_half (p : Nat) (hp : p < 2) (f g : Fin 128 → EReal) :
    (∑ k : Fin 128, f k * if (k : ℕ) / 64 = p then g k else 0)
      = ∑ x : Fin 64, f ⟨p * 64 + x, by omega⟩ * g ⟨p * 64 + x, by omega⟩ := by
  simp only [mul_ite, mul_zero]
  rw [← Finset.sum_filter]
  refine Finset.sum_bij' (fun k _ => ⟨(k : ℕ) - p * 64, ?_⟩) (fun x _ => ⟨p * 64 + x, by omega⟩) ?_ ?_ ?_ ?_ ?_
  · rename_i hk; have := (Finset.mem_filter.mp hk).2; omega
  · intro k _; exact Finset.mem_univ _
  · intro x _; refine Finset.mem_filter.mpr ⟨Finset.mem_univ _, ?_⟩; show (p * 64 + (x : ℕ)) / 64 = p; omega
  · intro k hk; have := (Finset.mem_filter.mp hk).2; ext; show p * 64 + ((k : ℕ) - p * 64) = k; omega
  · intro x _; ext; show p * 64 + (x : ℕ) - p * 64 = x; omega
  · intro k hk
    have := (Finset.mem_filter.mp hk).2
    have e : (⟨p * 64 + ((k : ℕ) - p * 64), by omega⟩ : Fin 128) = k := by ext; show p * 64 + ((k : ℕ) - p * 64) = k; omega
    show f k * g k = f ⟨p * 64 + ((k : ℕ) - p * 64), _⟩ * g ⟨p * 64 + ((k : ℕ) - p * 64), _⟩
    rw [e]

/-- The kernel's score, whose rotary part runs over a slab of two heads with the other head's lanes masked, is the
    reference's. -/
theorem score_eq (n : Fin 2304) :
    Block.score (Array.slabs A b 0 4 (by decide)) (Array.slabs A b 12 2 (by decide)) (Array.slabs K b 4 4 (by decide))
      (Array.slabs K b 14 1 (by decide)) (Array.slabs A b 4 4 (by decide)) (Array.slabs A b 14 1 (by decide)) h q n
      = Ref.score A K b h q n := by
  unfold Block.score Ref.score
  refine congrArg₂ (· + ·) ?_ ?_
  · refine Finset.sum_congr rfl fun k _ => congrArg₂ (· * ·) ?_ ?_
    · unfold Array.slabs; pointwise
    · unfold Block.nope Array.slabs; split <;> rfl
  · unfold Block.rope
    rw [sum_half (h % 2) (by omega)]
    refine Finset.sum_congr rfl fun k _ => congrArg₂ (· * ·) rfl ?_
    unfold Array.slabs
    by_cases hh : (h : ℕ) < 2 <;> by_cases hn : (n : ℕ) < 256
    · have e : (h : ℕ) % 2 = h := by omega
      simp only [hh, hn, dif_pos, e]; rfl
    · have e : (h : ℕ) % 2 = h := by omega
      simp only [hh, hn, dif_pos, dif_neg, not_false_eq_true, e]; rfl
    · have e : (h : ℕ) % 2 = h - 2 := by omega
      simp only [hh, hn, dif_pos, dif_neg, not_false_eq_true, e]; rfl
    · have e : (h : ℕ) % 2 = h - 2 := by omega
      simp only [hh, hn, dif_neg, not_false_eq_true, e]; rfl

/-- The word of the reference's 2.0 is 2, so its logarithm is log 2. -/
theorem ln2_eq : Ref.ln2 = ((Real.log 2 : ℝ) : EReal) := by
  have e : Ideal.ofBits FTy.f32 1073741824#32 = ((2 : ℝ) : EReal) := by
    simp [Ideal.ofBits, Ideal.ieee]; rw [← EReal.coe_mul]; norm_num
  unfold Ref.ln2
  rw [e, Ideal.log_coe, if_neg (by norm_num)]

/-- The word of −∞ is the least extended real. -/
theorem neg_inf : Ideal.ofBits FTy.f32 4286578688#32 = ⊥ := by simp [Ideal.ofBits, Ideal.ieee]

/-- The attention of one row: where the slabs hold numbers, the kernel's is the reference's. -/
theorem attention_eq (hA : ∀ i, Real' (A i)) (hK : ∀ i, Real' (K i)) (d : Fin 128) :
    Array.attention A K b h q d = Ref.attend A K b h (Ref.weight (Ref.score A K b h q)) d := by
  have hs : ∀ n, Real' (Ref.score A K b h q n) := fun n => by
    unfold Ref.score
    refine Real'.add (Real'.sum _ _ fun k => Real'.mul (hA _) ?_) (Real'.sum _ _ fun k => Real'.mul (hA _) ?_)
    · split
      · exact hK _
      · exact hA _
    · split <;> split
      · exact hK _
      · exact hA _
      · exact hK _
      · exact hA _
  choose σ hσ using hs
  let v : Fin 2304 → EReal := fun n =>
    if hn : (n : ℕ) < 256 then K (ix4 b ⟨8 + h, by omega⟩ ⟨n, hn⟩ d) else A (ix4 b ⟨8 + h, by omega⟩ ⟨n - 256, by omega⟩ d)
  have hv : ∀ n, Real' (v n) := fun n => by
    show Real' (if hn : (n : ℕ) < 256 then _ else _)
    split
    · exact hK _
    · exact hA _
  choose ν hν using hv
  have v0 : ∀ k : Fin 256, K (ix4 b ⟨8 + h, by omega⟩ k d) = v ⟨k, by omega⟩ := fun k => by
    show _ = if hn : (k : ℕ) < 256 then _ else _
    rw [dif_pos k.isLt]
  have v1 : ∀ k : Fin 2048, A (ix4 b ⟨8 + h, by omega⟩ k d) = v ⟨256 + k, by omega⟩ := fun k => by
    show _ = if hn : 256 + (k : ℕ) < 256 then _ else _
    rw [dif_neg (by omega)]
    congr 2; ext; show (k : ℕ) = 256 + k - 256; omega
  have hsc : Block.score (Array.slabs A b 0 4 (by decide)) (Array.slabs A b 12 2 (by decide)) (Array.slabs K b 4 4 (by decide))
      (Array.slabs K b 14 1 (by decide)) (Array.slabs A b 4 4 (by decide)) (Array.slabs A b 14 1 (by decide)) h q
      = fun n => (σ n : EReal) := funext fun n => (score_eq A K b h q n).trans (hσ n)
  have hsr : Ref.score A K b h q = fun n => (σ n : EReal) := funext hσ
  unfold Array.attention Block.attend Ref.attend Ref.total
  rw [hsc, hsr]
  simp only [v0, v1, show ∀ k : Fin 256, Array.slabs K b 8 4 (by decide) (ix4 0 h k d) = v ⟨k, by omega⟩ from v0,
    show ∀ k : Fin 2048, Array.slabs A b 8 4 (by decide) (ix4 0 h k d) = v ⟨256 + k, by omega⟩ from v1]
  rw [sum_split fun n => Block.weight (fun n => (σ n : EReal)) n * v n, sum_split fun n => Block.weight (fun n => (σ n : EReal)) n,
    sum_split fun n => Ref.weight (fun n => (σ n : EReal)) n,
    sum_split fun n => Ideal.div (Ref.weight (fun n => (σ n : EReal)) n) (∑ n, Ref.weight (fun n => (σ n : EReal)) n) * v n]
  unfold Block.weight Ref.weight
  simp only [ln2_eq, neg_inf, hν]
  exact softmax σ ν

/-- The precondition says that every element of both slab arrays is a number. -/
theorem numbers (hp : Cert.Pre_finite.fn (F := Ideal) A K = fun _ => 1#1) : (∀ i, Real' (A i)) ∧ ∀ i, Real' (K i) := by
  haveI : Subsingleton Pre_finite.S_.Idx := ⟨fun x y => funext fun a => a.elim0⟩
  obtain ⟨h0, h1⟩ := IntOp.andi_eq_one.1 (show IntOp.andi _ _ = 1#1 from congrFun hp ix0)
  have key : ∀ x : EReal, BitVec.ofBool (decide (max x (-x) < Ideal.ofBits FTy.f32 0x7F800000#32)) = 1#1 → Real' x := fun x hx => by
    have e : Ideal.ofBits FTy.f32 0x7F800000#32 = ⊤ := by simp [Ideal.ofBits, Ideal.ieee]
    rw [e] at hx
    refine real_of_abs_lt ?_
    by_contra hn
    simp [hn] at hx
  exact ⟨fun i => key _ (Host.reduce_andi_all _ _ _ _ _ h0 i), fun i => key _ (Host.reduce_andi_all _ _ _ _ _ h1 i)⟩

end Cert.Scores

end
-- ==== Proof.Attention.lean ====
/- The attention's claims, proved: the programs' frames, and that kernel and reference compute one function where the slabs
   hold numbers. -/
module

public import proofs.«01_k».proof.Defs
public import proofs.«01_k».proof.Proof.Gen.Kernel.Frame
public import proofs.«01_k».proof.Proof.Scores
public import Idealize.ShloMosaic.Lib.Quiescent

@[expose] public section

noncomputable section

namespace Cert.Attention

open Idealize.ShloMosaic Idealize.ShloMosaic.TcCoe Idealize.SL.Sem

theorem kernel_frame : Cert.quiescent_Kernel := fun m ρ _ => Cert.Kernel.Gen.frame m ρ

theorem ideal_frame : Cert.quiescent_KernelIdeal := fun m ρ _ => Cert.KernelIdeal.Gen.frame m ρ

theorem ideal_frame_finite : Cert.quiescent_KernelIdeal_pre_finite := fun m ρ _ => Cert.KernelIdeal.Gen.frame m ρ

/-- The reference is host code: it leaves its arguments, and it has no semaphore. -/
theorem reference_frame : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

theorem reference_frame_finite : Cert.quiescent_ReferenceIdeal_pre_finite := fun m ρ _ => reference_frame m ρ trivial

/-- From slabs of numbers, kernel and reference end with the same attention. -/
theorem algebraic : Cert.algebraic_KernelIdeal_ReferenceIdeal_pre_finite := by
  intro m ρ m' ρ' hp hagree
  refine ⟨fun c => Cert.KernelIdeal.Array.result (Cert.KernelIdeal.Array.lat m c) (Cert.KernelIdeal.Array.ctx m c),
    Cert.KernelIdeal.Array.run m ρ, ?_⟩
  refine (θ_run Cert.ReferenceIdeal.defs _ _).mono (fun _ h c => ⟨(h c).1.trans ?_, (h c).2⟩)
    (Cert.ReferenceIdeal.Value.run (F := Ideal) m' ρ')
  funext i
  obtain ⟨b, hd, q, d, rfl⟩ : ∃ b hd q d, i = (ix4 b hd q d : Cert.KernelIdeal.S8x4x2048x128.Idx) :=
    ⟨i 0, i 1, i 2, i 3, eq_ix4 (i : Cert.KernelIdeal.S8x4x2048x128.Idx)⟩
  obtain ⟨hA, hK⟩ := Cert.Scores.numbers _ _ (hp c)
  refine (Cert.ReferenceIdeal.Ref.res_apply m' c b hd q d).trans ?_
  rw [(hagree c).1, (hagree c).2]
  exact (Cert.Scores.attention_eq _ _ b hd q hA hK d).symm

end Cert.Attention

end
-- ==== Proof.FfnCommon.lean ====
/- What the runs of the feed-forward call's steps share. -/
module

public import proofs.«01_k».proof.Proof.Gen.Kernel2Ideal.Frame
public import proofs.«01_k».proof.Proof.Gen.Kernel2Ideal.Skeleton

@[expose] public section

set_option maxRecDepth 16384

noncomputable section

namespace Cert.Kernel2Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The first slot of the projection scratch: rows of one chunk's two halves. -/
abbrev slotA : Rect S2x2048x512 := Rect.unit (s := S2x2048x512) ![0, 0, 0] S1x2048x512.size (by decide)
/-- Its second slot. -/
abbrev slotB : Rect S2x2048x512 := Rect.unit (s := S2x2048x512) ![1, 0, 0] S1x2048x512.size (by decide)

end Cert.Kernel2Ideal.Gen

end
-- ==== Proof.FfnSlot.lean ====
/- The pieces the feed-forward kernel's runs leave in its buffers, read back: the two slots of the projection scratch. -/
module

public import proofs.«01_k».proof.Proof.FfnCommon
public import Idealize.ShloMosaic.Lib.Pointwise
public import Idealize.ShloMosaic.Lib.WholeRead

@[expose] public section

set_option maxRecDepth 16384

noncomputable section

namespace Cert.Kernel2Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## Reading the pieces a run leaves -/

section
variable {S : Shape} {e : EltTy} {Val : EltTy → Type} [∀ e, Nonempty (Val e)]

/-- The newest piece, at an index told by its coordinates. -/
theorem canon_hit (r : Rect S) (w : r.shape.Idx → Val e) (L : List (View.Piece Val S e)) (x : r.shape.Idx) (y : S.Idx)
    (hx : ∀ a, (y a).val = r.off a + r.stride a * (x a).val) : View.canon (⟨r, w⟩ :: L) y = w x := by
  rw [← r.emb_eq_of_coords x y hx]; exact View.canon_cons_emb r w L x

/-- A newer piece that misses an index on one axis is read past. -/
theorem canon_miss (p : View.Piece Val S e) (L : List (View.Piece Val S e)) (y : S.Idx) (a : Fin S.rank) (o n : ℕ)
    (ho : p.1.off a = o) (hst : p.1.stride a = 1) (hn : p.1.size a = n) (h : (y a).val < o ∨ o + n ≤ (y a).val) :
    View.canon (p :: L) y = View.canon L y :=
  View.canon_cons_of_not_mem _ _ (p.1.not_mem_set_of_axis y a o n ho hst hn h)

end

/-! ## The slots of the projection scratch -/

/-- Slot `p`. -/
abbrev slot (p : Fin 2) : Rect S2x2048x512 := Rect.unit (s := S2x2048x512) ![p.1, 0, 0] S1x2048x512.size (by revert p; decide)

/-- Row block `k` of slot `p`. -/
abbrev rows2 (k : Fin 4) : Rect S2048x512 := Rect.unit (s := S2048x512) ![512 * k.1, 0] S512x512.size (by revert k; decide)
/-- The same as a block of one slot. -/
abbrev rows3 (k : Fin 4) : Rect S1x2048x512 := (rows2 k).consLift ![1, 2048, 512] rfl (by decide)
/-- The same as a block of the buffer. -/
abbrev rows (p : Fin 2) (k : Fin 4) : Rect S2x2048x512 := (slot p).within (rows3 k) (fun _ => rfl)
/-- A row block as a payload of the buffer's. -/
abbrev pay (k : Fin 4) (w : Vec F S512x512 .f32) : (rows3 k).shape.Idx → Elt F .f32 :=
  Rect.payAlong (r := rows2 k) (R := rows3 k) ((rows2 k).numel_consLift ![1, 2048, 512] rfl (by decide)) w

/-- A row block stored. -/
def block (p : Fin 2) (k : Fin 4) (w : Vec F S512x512 .f32) : View.Piece (Elt F) S2x2048x512 .f32 := ⟨rows p k, pay k w⟩

/-- The four row blocks of slot `p` stored over `L`. -/
def news (p : Fin 2) (w : Fin 4 → Vec F S512x512 .f32) (L : List (View.Piece (Elt F) S2x2048x512 .f32)) :
    List (View.Piece (Elt F) S2x2048x512 .f32) :=
  block p 3 (w 3) :: block p 2 (w 2)
    :: block p 1 (w 1) :: block p 0 (w 0) :: L

theorem rows_hit (p : Fin 2) (k : Fin 4) (w : Vec F S512x512 .f32) (L : List (View.Piece (Elt F) S2x2048x512 .f32)) (r : Fin 512) (c : Fin 512)
    (R : Fin 2048) (h : R.1 = 512 * k.1 + r.1) :
    View.canon (block p k w :: L) (ix3 p R c) = w (ix2 r c) := by
  refine (canon_hit (rows p k) (pay k w) L (ix3 0 r c) _ (by
    intro a; fin_cases a
    · show p.1 = (p.1 + 0) + 1 * 0; omega
    · show R.1 = (0 + 512 * k.1) + 1 * r.1; omega
    · show c.1 = (0 + 0) + 1 * c.1; omega)).trans ?_
  exact Rect.payAlong_consLift (rows2 k) ![1, 2048, 512] rfl (by decide) w _ (ix3 0 r c) (ix2 r c) (by intro i; fin_cases i <;> rfl)

theorem rows_miss (p : Fin 2) (k : Fin 4) (w : Vec F S512x512 .f32) (L : List (View.Piece (Elt F) S2x2048x512 .f32)) (q : Fin 2) (c : Fin 512)
    (R : Fin 2048) (h : R.1 < 512 * k.1 ∨ 512 * k.1 + 512 ≤ R.1) :
    View.canon (block p k w :: L) (ix3 q R c) = View.canon L (ix3 q R c) :=
  canon_miss _ _ _ 1 (512 * k.1) 512 (show 0 + 512 * k.1 = _ by omega) rfl rfl h

theorem rows_other (p : Fin 2) (k : Fin 4) (w : Vec F S512x512 .f32) (L : List (View.Piece (Elt F) S2x2048x512 .f32)) (q : Fin 2) (c : Fin 512)
    (R : Fin 2048) (h : q ≠ p) :
    View.canon (block p k w :: L) (ix3 q R c) = View.canon L (ix3 q R c) :=
  canon_miss _ _ _ 0 p.1 1 (show p.1 + 0 = _ by omega) rfl rfl (by show q.1 < p.1 ∨ p.1 + 1 ≤ q.1; omega)

/-- Slot `p` after its four row blocks are stored. -/
theorem canon_news (p : Fin 2) (w : Fin 4 → Vec F S512x512 .f32) (L : List (View.Piece (Elt F) S2x2048x512 .f32)) (k : Fin 4) (r : Fin 512)
    (c : Fin 512) (R : Fin 2048) (h : R.1 = 512 * k.1 + r.1) : View.canon (news p w L) (ix3 p R c) = w k (ix2 r c) := by
  unfold news
  fin_cases k
  · rw [rows_miss p 3 _ _ _ _ _ (.inl (by have := r.2; simp at h ⊢; omega)), rows_miss p 2 _ _ _ _ _ (.inl (by have := r.2; simp at h ⊢; omega)), rows_miss p 1 _ _ _ _ _ (.inl (by have := r.2; simp at h ⊢; omega))]
    exact rows_hit p 0 (w 0) L r c R h
  · rw [rows_miss p 3 _ _ _ _ _ (.inl (by have := r.2; simp at h ⊢; omega)), rows_miss p 2 _ _ _ _ _ (.inl (by have := r.2; simp at h ⊢; omega))]
    exact rows_hit p 1 (w 1) _ r c R h
  · rw [rows_miss p 3 _ _ _ _ _ (.inl (by have := r.2; simp at h ⊢; omega))]
    exact rows_hit p 2 (w 2) _ r c R h
  · exact rows_hit p 3 (w 3) _ r c R h

theorem slot_emb (p : Fin 2) (R : Fin 2048) (c : Fin 512) : (slot p).emb (ix3 0 R c) = ix3 p R c :=
  Rect.emb_eq_of_coords _ _ _ (by
    intro a; fin_cases a
    · show p.1 = p.1 + 1 * 0; omega
    · show R.1 = 0 + 1 * R.1; omega
    · show c.1 = 0 + 1 * c.1; omega)

theorem mem_rows (p : Fin 2) (k : Fin 4) (R : Fin 2048) (c : Fin 512) (h : 512 * k.1 ≤ R.1 ∧ R.1 < 512 * k.1 + 512) : ix3 p R c ∈ (rows p k).set := by
  have e : (rows p k).emb (ix3 0 ⟨R.1 - 512 * k.1, by omega⟩ c) = ix3 p R c := Rect.emb_eq_of_coords _ _ _ (by
    intro a; fin_cases a
    · show p.1 = (p.1 + 0) + 1 * 0; omega
    · show R.1 = (0 + 512 * k.1) + 1 * (R.1 - 512 * k.1); omega
    · show c.1 = (0 + 0) + 1 * c.1; omega)
  rw [← e]; exact (rows p k).toLoadRect.idx_mem _

/-- The four row blocks cover their slot. -/
theorem news_cover (p : Fin 2) (w : Fin 4 → Vec F S512x512 .f32) (L : List (View.Piece (Elt F) S2x2048x512 .f32)) (x : S1x2048x512.Idx) :
    ∃ q ∈ news p w L, (slot p).emb x ∈ q.1.set := by
  obtain ⟨x1, x2, rfl⟩ : ∃ (R : Fin 2048) (c : Fin 512), x = ix3 0 R c := ⟨x 1, x 2, funext fun a => by
    fin_cases a
    · exact Subsingleton.elim (α := Fin 1) _ _
    · rfl
    · rfl⟩
  rw [slot_emb p x1 x2]
  unfold news
  by_cases h3 : 1536 ≤ x1.1
  · exact ⟨_, List.mem_cons_self, mem_rows p 3 x1 x2 (by show 512 * 3 ≤ _ ∧ _ < 512 * 3 + 512; omega)⟩
  by_cases h2 : 1024 ≤ x1.1
  · exact ⟨_, List.mem_cons_of_mem _ List.mem_cons_self, mem_rows p 2 x1 x2 (by show 512 * 2 ≤ _ ∧ _ < 512 * 2 + 512; omega)⟩
  by_cases h1 : 512 ≤ x1.1
  · exact ⟨_, List.mem_cons_of_mem _ (List.mem_cons_of_mem _ List.mem_cons_self), mem_rows p 1 x1 x2 (by show 512 * 1 ≤ _ ∧ _ < 512 * 1 + 512; omega)⟩
  · exact ⟨_, List.mem_cons_of_mem _ (List.mem_cons_of_mem _ (List.mem_cons_of_mem _ List.mem_cons_self)), mem_rows p 0 x1 x2 (by show 512 * 0 ≤ _ ∧ _ < 512 * 0 + 512; omega)⟩

/-- What a buffer holds, as one store of what it holds in a rectangle. -/
theorem restate {S : Shape} {e : EltTy} (M : Memref sig .tc .vmem S e) (hM : M.IsWhole) (f : M.view.ty.Contents (Elt F)) (L : List (View.Piece (Elt F) S e))
    (r : Rect S) (h : ∀ x : r.shape.Idx, ∃ q ∈ L, r.emb x ∈ q.1.set) :
    M.view.writes (Elt F) f L = M.view.writes (Elt F) (M.view.writes (Elt F) f L) [⟨r, fun x => View.canon L (r.emb x)⟩] := by
  refine (hM.eq_unread (X := M.view.read (Elt F) (M.view.writes (Elt F) f L)) rfl).trans (hM.eq_unread ?_).symm
  funext y
  by_cases hy : y ∈ r.set
  · obtain ⟨x, rfl⟩ := r.exists_idx_of_mem hy
    exact (View.read_writes_cons_emb _ _ r _ [] x).trans (View.read_writes_apply_eq_canon _ _ _ _ (h x)).symm
  · exact View.read_writes_cons_miss _ _ _ _ _ hy

end Cert.Kernel2Ideal.Gen

end
-- ==== Proof.FfnRunZ.lean ====
/- The run of the feed-forward call's first step of a batch element. -/
module

public import proofs.«01_k».proof.Proof.FfnCommon

@[expose] public section

set_option maxRecDepth 16384

noncomputable section

namespace Cert.Kernel2Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option sl_exec.squeezeSlice true in
set_option maxHeartbeats 13104000 in
/-- What the body leaves at the first step of a batch element: the pieces its stores leave in each buffer it stores into (last first), with the
    proof that the body runs to the continuation, which holds the inputs as they were. -/
noncomputable def runZ (c : Dev nD) (i : grid0.Coords) (arg2 : Memref sig .tc .vmem S1x2048x1024 .f32) (harg2 : arg2.IsWhole) (arg3 : Memref sig .tc .vmem S1x1x6x1024 .f32) (harg3 : arg3.IsWhole) (arg4 : Memref sig .tc .vmem S2x1024 .f32) (harg4 : arg4.IsWhole) (arg5 : Memref sig .tc .vmem S1x1024x256 .f32) (harg5 : arg5.IsWhole) (arg6 : Memref sig .tc .vmem S1x1024x256 .f32) (harg6 : arg6.IsWhole) (arg7 : Memref sig .tc .vmem S1x3x256 .f32) (harg7 : arg7.IsWhole) (arg8 : Memref sig .tc .vmem S2x256 .f32) (harg8 : arg8.IsWhole) (arg9 : Memref sig .tc .vmem S1x256x1024 .f32) (harg9 : arg9.IsWhole) (arg10 : Memref sig .tc .vmem S1x1024 .f32) (harg10 : arg10.IsWhole) (arg11 : Memref sig .tc .vmem S1x2048x1024 .f32) (harg11 : arg11.IsWhole) (arg12 : Memref sig .tc .vmem S2048x1024 .bf16) (harg12 : arg12.IsWhole) (arg13 : Memref sig .tc .vmem S2x2048x512 .f32) (harg13 : arg13.IsWhole) (arg14 : Memref sig .tc .vmem S4x512x256 .bf16) (harg14 : arg14.IsWhole)
    (hc1 : k0_cond1 i = 1#1) (hc2 : ¬ k0_cond2 i = 1#1) (hc3 : ¬ k0_cond3 i = 1#1) (hc4 : ¬ k0_cond4 i = 1#1)
    (x2 : Vec F S1x2048x1024 .f32) (x3 : Vec F S1x1x6x1024 .f32) (x4 : Vec F S2x1024 .f32) (x5 : Vec F S1x1024x256 .f32) (x6 : Vec F S1x1024x256 .f32) (x7 : Vec F S1x3x256 .f32) (x8 : Vec F S2x256 .f32) (x9 : Vec F S1x256x1024 .f32) (x10 : Vec F S1x1024 .f32)  :
    Σ' (L11 : List (View.Piece (Elt F) S1x2048x1024 .f32)), Σ' (L12 : List (View.Piece (Elt F) S2048x1024 .bf16)), { L13 : List (View.Piece (Elt F) S2x2048x512 .f32) //
      ∀ (E : Set ℕ) (K : PUnit → sProp 𝕄),
        iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d)
            ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ (∃ f, arg11.view.loc (c : Thread nD τ) ↦[arg11.view.set]{fullShare} arg11.view.writes (Elt F) f L11) ∗ (∃ f, arg12.view.loc (c : Thread nD τ) ↦[arg12.view.set]{fullShare} arg12.view.writes (Elt F) f L12) ∗ (∃ f, arg13.view.loc (c : Thread nD τ) ↦[arg13.view.set]{fullShare} arg13.view.writes (Elt F) f L13) ∗ (∃ d, owns (c : Thread nD τ) arg14 fullShare d)) -∗ K ⟨⟩))
          ⊢ wp frame (wpE (defs₀ (F := F)) Variants.none c none) E (cc0_ffn_final i arg2 harg2 arg3 harg3 arg4 harg4 arg5 harg5 arg6 harg6 arg7 harg7 arg8 harg8 arg9 harg9 arg10 harg10 arg11 harg11 arg12 harg12 arg13 harg13 arg14 harg14) K } := by
  refine ⟨?_, ?_, ?_, fun E K => ?run⟩
  case run =>
    simp only [cc0_ffn_final_eq_skeleton]; unfold cc0_ffn_final_skel
    simp only [k0_part111_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton, k0_part98_eq_skeleton, k0_part99_eq_skeleton, k0_part100_eq_skeleton, k0_part101_eq_skeleton, k0_part102_eq_skeleton, k0_part103_eq_skeleton, k0_part104_eq_skeleton, k0_part105_eq_skeleton, k0_part106_eq_skeleton, k0_part107_eq_skeleton, k0_part108_eq_skeleton, k0_part109_eq_skeleton, k0_part110_eq_skeleton]
    unfold owns
    iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, ⟨%d12, %f12, -, H12⟩, ⟨%d13, %f13, -, H13⟩, ⟨%d14, %f14, %hf14, H14⟩, Hk⟩
    obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10
    sl_exec (disch := first | exact hc1 | exact hc2 | exact hc3 | exact hc4)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexists _; isplitr; · ipureintro; exact harg10.read_unread _
      iexact H10
    isplitl [H11]
    · iexists _; iexact H11
    isplitl [H12]
    · iexists _; iexact H12
    isplitl [H13]
    · iexists _; iexact H13
    iexists d14; iexists f14; isplitr; · ipureintro; exact hf14
    iexact H14

end Cert.Kernel2Ideal.Gen

end
-- ==== Proof.FfnRunO.lean ====
/- The run of the feed-forward call's odd steps. -/
module

public import proofs.«01_k».proof.Proof.FfnCommon

@[expose] public section

set_option maxRecDepth 16384

noncomputable section

namespace Cert.Kernel2Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option sl_exec.squeezeSlice true in
set_option maxHeartbeats 13104000 in
/-- What the body leaves at an odd step: the pieces its stores leave in each buffer it stores into (last first), with the
    proof that the body runs to the continuation, which holds the inputs as they were. -/
noncomputable def runO (c : Dev nD) (i : grid0.Coords) (arg2 : Memref sig .tc .vmem S1x2048x1024 .f32) (harg2 : arg2.IsWhole) (arg3 : Memref sig .tc .vmem S1x1x6x1024 .f32) (harg3 : arg3.IsWhole) (arg4 : Memref sig .tc .vmem S2x1024 .f32) (harg4 : arg4.IsWhole) (arg5 : Memref sig .tc .vmem S1x1024x256 .f32) (harg5 : arg5.IsWhole) (arg6 : Memref sig .tc .vmem S1x1024x256 .f32) (harg6 : arg6.IsWhole) (arg7 : Memref sig .tc .vmem S1x3x256 .f32) (harg7 : arg7.IsWhole) (arg8 : Memref sig .tc .vmem S2x256 .f32) (harg8 : arg8.IsWhole) (arg9 : Memref sig .tc .vmem S1x256x1024 .f32) (harg9 : arg9.IsWhole) (arg10 : Memref sig .tc .vmem S1x1024 .f32) (harg10 : arg10.IsWhole) (arg11 : Memref sig .tc .vmem S1x2048x1024 .f32) (harg11 : arg11.IsWhole) (arg12 : Memref sig .tc .vmem S2048x1024 .bf16) (harg12 : arg12.IsWhole) (arg13 : Memref sig .tc .vmem S2x2048x512 .f32) (harg13 : arg13.IsWhole) (arg14 : Memref sig .tc .vmem S4x512x256 .bf16) (harg14 : arg14.IsWhole)
    (hc1 : ¬ k0_cond1 i = 1#1) (hc2 : k0_cond2 i = 1#1) (hc3 : ¬ k0_cond3 i = 1#1) (hc4 : ¬ k0_cond4 i = 1#1)
    (x2 : Vec F S1x2048x1024 .f32) (x3 : Vec F S1x1x6x1024 .f32) (x4 : Vec F S2x1024 .f32) (x5 : Vec F S1x1024x256 .f32) (x6 : Vec F S1x1024x256 .f32) (x7 : Vec F S1x3x256 .f32) (x8 : Vec F S2x256 .f32) (x9 : Vec F S1x256x1024 .f32) (x10 : Vec F S1x1024 .f32) (x11 : Vec F S1x2048x1024 .f32) (x12 : Vec F S2048x1024 .bf16) (x13 : Vec F S1x2048x512 .f32) :
    Σ' (L11 : List (View.Piece (Elt F) S1x2048x1024 .f32)), Σ' (L13 : List (View.Piece (Elt F) S2x2048x512 .f32)), { L14 : List (View.Piece (Elt F) S4x512x256 .bf16) //
      ∀ (E : Set ℕ) (K : PUnit → sProp 𝕄),
        iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ (∃ f, arg13.view.loc (c : Thread nD τ) ↦[arg13.view.set]{fullShare} arg13.view.writes (Elt F) f [⟨slotA, x13⟩]) ∗ (∃ d, owns (c : Thread nD τ) arg14 fullShare d)
            ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ (∃ f, arg11.view.loc (c : Thread nD τ) ↦[arg11.view.set]{fullShare} arg11.view.writes (Elt F) f L11) ∗ owns (c : Thread nD τ) arg12 fullShare x12 ∗ (∃ f, arg13.view.loc (c : Thread nD τ) ↦[arg13.view.set]{fullShare} arg13.view.writes (Elt F) f L13) ∗ (∃ f, arg14.view.loc (c : Thread nD τ) ↦[arg14.view.set]{fullShare} arg14.view.writes (Elt F) f L14)) -∗ K ⟨⟩))
          ⊢ wp frame (wpE (defs₀ (F := F)) Variants.none c none) E (cc0_ffn_final i arg2 harg2 arg3 harg3 arg4 harg4 arg5 harg5 arg6 harg6 arg7 harg7 arg8 harg8 arg9 harg9 arg10 harg10 arg11 harg11 arg12 harg12 arg13 harg13 arg14 harg14) K } := by
  refine ⟨?_, ?_, ?_, fun E K => ?run⟩
  case run =>
    simp only [cc0_ffn_final_eq_skeleton]; unfold cc0_ffn_final_skel
    simp only [k0_part111_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton, k0_part98_eq_skeleton, k0_part99_eq_skeleton, k0_part100_eq_skeleton, k0_part101_eq_skeleton, k0_part102_eq_skeleton, k0_part103_eq_skeleton, k0_part104_eq_skeleton, k0_part105_eq_skeleton, k0_part106_eq_skeleton, k0_part107_eq_skeleton, k0_part108_eq_skeleton, k0_part109_eq_skeleton, k0_part110_eq_skeleton]
    unfold owns
    iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, H13⟩, ⟨%d14, %f14, -, H14⟩, Hk⟩
    obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12
    sl_exec (disch := first | exact hc1 | exact hc2 | exact hc3 | exact hc4)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexists _; isplitr; · ipureintro; exact harg10.read_unread _
      iexact H10
    isplitl [H11]
    · iexists _; iexact H11
    isplitl [H12]
    · iexists _; isplitr; · ipureintro; exact harg12.read_unread _
      iexact H12
    isplitl [H13]
    · iexists _; iexact H13
    iexists _; iexact H14

end Cert.Kernel2Ideal.Gen

end
-- ==== Proof.FfnRunE.lean ====
/- The run of the feed-forward call's even steps. -/
module

public import proofs.«01_k».proof.Proof.FfnCommon

@[expose] public section

set_option maxRecDepth 16384

noncomputable section

namespace Cert.Kernel2Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option sl_exec.squeezeSlice true in
set_option maxHeartbeats 13104000 in
/-- What the body leaves at an even step: the pieces its stores leave in each buffer it stores into (last first), with the
    proof that the body runs to the continuation, which holds the inputs as they were. -/
noncomputable def runE (c : Dev nD) (i : grid0.Coords) (arg2 : Memref sig .tc .vmem S1x2048x1024 .f32) (harg2 : arg2.IsWhole) (arg3 : Memref sig .tc .vmem S1x1x6x1024 .f32) (harg3 : arg3.IsWhole) (arg4 : Memref sig .tc .vmem S2x1024 .f32) (harg4 : arg4.IsWhole) (arg5 : Memref sig .tc .vmem S1x1024x256 .f32) (harg5 : arg5.IsWhole) (arg6 : Memref sig .tc .vmem S1x1024x256 .f32) (harg6 : arg6.IsWhole) (arg7 : Memref sig .tc .vmem S1x3x256 .f32) (harg7 : arg7.IsWhole) (arg8 : Memref sig .tc .vmem S2x256 .f32) (harg8 : arg8.IsWhole) (arg9 : Memref sig .tc .vmem S1x256x1024 .f32) (harg9 : arg9.IsWhole) (arg10 : Memref sig .tc .vmem S1x1024 .f32) (harg10 : arg10.IsWhole) (arg11 : Memref sig .tc .vmem S1x2048x1024 .f32) (harg11 : arg11.IsWhole) (arg12 : Memref sig .tc .vmem S2048x1024 .bf16) (harg12 : arg12.IsWhole) (arg13 : Memref sig .tc .vmem S2x2048x512 .f32) (harg13 : arg13.IsWhole) (arg14 : Memref sig .tc .vmem S4x512x256 .bf16) (harg14 : arg14.IsWhole)
    (hc1 : ¬ k0_cond1 i = 1#1) (hc2 : ¬ k0_cond2 i = 1#1) (hc3 : k0_cond3 i = 1#1) (hc4 : ¬ k0_cond4 i = 1#1)
    (x2 : Vec F S1x2048x1024 .f32) (x3 : Vec F S1x1x6x1024 .f32) (x4 : Vec F S2x1024 .f32) (x5 : Vec F S1x1024x256 .f32) (x6 : Vec F S1x1024x256 .f32) (x7 : Vec F S1x3x256 .f32) (x8 : Vec F S2x256 .f32) (x9 : Vec F S1x256x1024 .f32) (x10 : Vec F S1x1024 .f32) (x11 : Vec F S1x2048x1024 .f32) (x12 : Vec F S2048x1024 .bf16) (x13 : Vec F S1x2048x512 .f32) :
    Σ' (L11 : List (View.Piece (Elt F) S1x2048x1024 .f32)), Σ' (L13 : List (View.Piece (Elt F) S2x2048x512 .f32)), { L14 : List (View.Piece (Elt F) S4x512x256 .bf16) //
      ∀ (E : Set ℕ) (K : PUnit → sProp 𝕄),
        iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ (∃ f, arg13.view.loc (c : Thread nD τ) ↦[arg13.view.set]{fullShare} arg13.view.writes (Elt F) f [⟨slotB, x13⟩]) ∗ (∃ d, owns (c : Thread nD τ) arg14 fullShare d)
            ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ (∃ f, arg11.view.loc (c : Thread nD τ) ↦[arg11.view.set]{fullShare} arg11.view.writes (Elt F) f L11) ∗ owns (c : Thread nD τ) arg12 fullShare x12 ∗ (∃ f, arg13.view.loc (c : Thread nD τ) ↦[arg13.view.set]{fullShare} arg13.view.writes (Elt F) f L13) ∗ (∃ f, arg14.view.loc (c : Thread nD τ) ↦[arg14.view.set]{fullShare} arg14.view.writes (Elt F) f L14)) -∗ K ⟨⟩))
          ⊢ wp frame (wpE (defs₀ (F := F)) Variants.none c none) E (cc0_ffn_final i arg2 harg2 arg3 harg3 arg4 harg4 arg5 harg5 arg6 harg6 arg7 harg7 arg8 harg8 arg9 harg9 arg10 harg10 arg11 harg11 arg12 harg12 arg13 harg13 arg14 harg14) K } := by
  refine ⟨?_, ?_, ?_, fun E K => ?run⟩
  case run =>
    simp only [cc0_ffn_final_eq_skeleton]; unfold cc0_ffn_final_skel
    simp only [k0_part111_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton, k0_part98_eq_skeleton, k0_part99_eq_skeleton, k0_part100_eq_skeleton, k0_part101_eq_skeleton, k0_part102_eq_skeleton, k0_part103_eq_skeleton, k0_part104_eq_skeleton, k0_part105_eq_skeleton, k0_part106_eq_skeleton, k0_part107_eq_skeleton, k0_part108_eq_skeleton, k0_part109_eq_skeleton, k0_part110_eq_skeleton]
    unfold owns
    iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, H13⟩, ⟨%d14, %f14, -, H14⟩, Hk⟩
    obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12
    sl_exec (disch := first | exact hc1 | exact hc2 | exact hc3 | exact hc4)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexists _; isplitr; · ipureintro; exact harg10.read_unread _
      iexact H10
    isplitl [H11]
    · iexists _; iexact H11
    isplitl [H12]
    · iexists _; isplitr; · ipureintro; exact harg12.read_unread _
      iexact H12
    isplitl [H13]
    · iexists _; iexact H13
    iexists _; iexact H14

end Cert.Kernel2Ideal.Gen

end
-- ==== Proof.FfnRunL.lean ====
/- The run of the feed-forward call's last step of a batch element. -/
module

public import proofs.«01_k».proof.Proof.FfnCommon

@[expose] public section

set_option maxRecDepth 16384

noncomputable section

namespace Cert.Kernel2Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option sl_exec.squeezeSlice true in
set_option maxHeartbeats 13104000 in
/-- What the body leaves at the last step of a batch element: the pieces its stores leave in each buffer it stores into (last first), with the
    proof that the body runs to the continuation, which holds the inputs as they were. -/
noncomputable def runL (c : Dev nD) (i : grid0.Coords) (arg2 : Memref sig .tc .vmem S1x2048x1024 .f32) (harg2 : arg2.IsWhole) (arg3 : Memref sig .tc .vmem S1x1x6x1024 .f32) (harg3 : arg3.IsWhole) (arg4 : Memref sig .tc .vmem S2x1024 .f32) (harg4 : arg4.IsWhole) (arg5 : Memref sig .tc .vmem S1x1024x256 .f32) (harg5 : arg5.IsWhole) (arg6 : Memref sig .tc .vmem S1x1024x256 .f32) (harg6 : arg6.IsWhole) (arg7 : Memref sig .tc .vmem S1x3x256 .f32) (harg7 : arg7.IsWhole) (arg8 : Memref sig .tc .vmem S2x256 .f32) (harg8 : arg8.IsWhole) (arg9 : Memref sig .tc .vmem S1x256x1024 .f32) (harg9 : arg9.IsWhole) (arg10 : Memref sig .tc .vmem S1x1024 .f32) (harg10 : arg10.IsWhole) (arg11 : Memref sig .tc .vmem S1x2048x1024 .f32) (harg11 : arg11.IsWhole) (arg12 : Memref sig .tc .vmem S2048x1024 .bf16) (harg12 : arg12.IsWhole) (arg13 : Memref sig .tc .vmem S2x2048x512 .f32) (harg13 : arg13.IsWhole) (arg14 : Memref sig .tc .vmem S4x512x256 .bf16) (harg14 : arg14.IsWhole)
    (hc1 : ¬ k0_cond1 i = 1#1) (hc2 : ¬ k0_cond2 i = 1#1) (hc3 : ¬ k0_cond3 i = 1#1) (hc4 : k0_cond4 i = 1#1)
    (x2 : Vec F S1x2048x1024 .f32) (x3 : Vec F S1x1x6x1024 .f32) (x4 : Vec F S2x1024 .f32) (x5 : Vec F S1x1024x256 .f32) (x6 : Vec F S1x1024x256 .f32) (x7 : Vec F S1x3x256 .f32) (x8 : Vec F S2x256 .f32) (x9 : Vec F S1x256x1024 .f32) (x10 : Vec F S1x1024 .f32) (x11 : Vec F S1x2048x1024 .f32) (x12 : Vec F S2048x1024 .bf16) (x13 : Vec F S1x2048x512 .f32) :
    Σ' (L11 : List (View.Piece (Elt F) S1x2048x1024 .f32)), { L14 : List (View.Piece (Elt F) S4x512x256 .bf16) //
      ∀ (E : Set ℕ) (K : PUnit → sProp 𝕄),
        iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ (∃ f, arg13.view.loc (c : Thread nD τ) ↦[arg13.view.set]{fullShare} arg13.view.writes (Elt F) f [⟨slotA, x13⟩]) ∗ (∃ d, owns (c : Thread nD τ) arg14 fullShare d)
            ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ (∃ f, arg11.view.loc (c : Thread nD τ) ↦[arg11.view.set]{fullShare} arg11.view.writes (Elt F) f L11) ∗ owns (c : Thread nD τ) arg12 fullShare x12 ∗ (∃ f, arg13.view.loc (c : Thread nD τ) ↦[arg13.view.set]{fullShare} arg13.view.writes (Elt F) f [⟨slotA, x13⟩]) ∗ (∃ f, arg14.view.loc (c : Thread nD τ) ↦[arg14.view.set]{fullShare} arg14.view.writes (Elt F) f L14)) -∗ K ⟨⟩))
          ⊢ wp frame (wpE (defs₀ (F := F)) Variants.none c none) E (cc0_ffn_final i arg2 harg2 arg3 harg3 arg4 harg4 arg5 harg5 arg6 harg6 arg7 harg7 arg8 harg8 arg9 harg9 arg10 harg10 arg11 harg11 arg12 harg12 arg13 harg13 arg14 harg14) K } := by
  refine ⟨?_, ?_, fun E K => ?run⟩
  case run =>
    simp only [cc0_ffn_final_eq_skeleton]; unfold cc0_ffn_final_skel
    simp only [k0_part111_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton, k0_part98_eq_skeleton, k0_part99_eq_skeleton, k0_part100_eq_skeleton, k0_part101_eq_skeleton, k0_part102_eq_skeleton, k0_part103_eq_skeleton, k0_part104_eq_skeleton, k0_part105_eq_skeleton, k0_part106_eq_skeleton, k0_part107_eq_skeleton, k0_part108_eq_skeleton, k0_part109_eq_skeleton, k0_part110_eq_skeleton]
    unfold owns
    iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, H13⟩, ⟨%d14, %f14, -, H14⟩, Hk⟩
    obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12
    sl_exec (disch := first | exact hc1 | exact hc2 | exact hc3 | exact hc4)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexists _; isplitr; · ipureintro; exact harg10.read_unread _
      iexact H10
    isplitl [H11]
    · iexists _; iexact H11
    isplitl [H12]
    · iexists _; isplitr; · ipureintro; exact harg12.read_unread _
      iexact H12
    isplitl [H13]
    · iexists _; iexact H13
    iexists _; iexact H14

end Cert.Kernel2Ideal.Gen

end
-- ==== Proof.FfnShape.lean ====
/- What each case of one step leaves in the buffers, the activations as one family over the row groups. -/
module

public import proofs.«01_k».proof.Proof.FfnSlot
public import proofs.«01_k».proof.Proof.FfnRunZ
public import proofs.«01_k».proof.Proof.FfnRunO
public import proofs.«01_k».proof.Proof.FfnRunE
public import proofs.«01_k».proof.Proof.FfnRunL

@[expose] public section

set_option maxRecDepth 16384

noncomputable section

namespace Cert.Kernel2Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The blocks of one step, in the order the body computes them -/

/-- A box of a slot of the projection scratch, read after the stores `L`. -/
def ld (arg13 : Memref sig .tc .vmem S2x2048x512 .f32) (L : List (View.Piece (Elt F) S2x2048x512 .f32)) (p : Fin 2) (off sz : Fin 2 → ℕ)
    (inb : ∀ a, off a + sz a ≤ S2048x512.size a) : (⟨2, sz⟩ : Shape).Idx → Elt F .f32 :=
  LoadRect.valAlong (lr := (Rect.unit (s := S2048x512) off sz inb).toLoadRect)
    (LoadRect.numel_consLift (Rect.unit (s := S2048x512) off sz inb).toLoadRect ![1, 2048, 512] rfl (by decide))
    (arg13.view.readCov L ((slot p).withinL ((Rect.unit (s := S2048x512) off sz inb).toLoadRect.consLift ![1, 2048, 512] rfl (by decide)) (fun _ => rfl)))

section
variable (arg7 : Memref sig .tc .vmem S1x3x256 .f32) (harg7 : arg7.IsWhole) (arg8 : Memref sig .tc .vmem S2x256 .f32) (harg8 : arg8.IsWhole) (arg13 : Memref sig .tc .vmem S2x2048x512 .f32) (x7 : Vec F S1x3x256 .f32) (x8 : Vec F S2x256 .f32)

/-- A row of the convolution's weights. -/
abbrev tap (k : Fin 3) : Vec F S1x1x256 .f32 :=
  View.readAt (Elt F) arg7.view (Rect.unit (s := S1x3x256) ![0, k.1, 0] S1x1x256.size (by revert k; decide)).toLoadRect (harg7.unread x7)
/-- The convolution's bias. -/
abbrev bias : Vec F S1x256 .f32 :=
  View.readAt (Elt F) arg8.view (Rect.unit (s := S2x256) ![1, 0] S1x256.size (by decide)).toLoadRect (harg8.unread x8)

/-- The activations of the first 64 rows. -/
def actFirst (L : List (View.Piece (Elt F) S2x2048x512 .f32)) (p : Fin 2) : Vec F S1x64x256 .bf16 :=
  k0_pay15 (ld arg13 L p ![0, 0] S72x256.size (by decide)) (k0_pay13 (ld arg13 L p ![0, 0] S72x256.size (by decide)))
    (k0_pay14 (ld arg13 L p ![0, 0] S72x256.size (by decide)) (tap arg7 harg7 x7 0)) (tap arg7 harg7 x7 1) (tap arg7 harg7 x7 2) (bias arg8 harg8 x8)
    (ld arg13 L p ![0, 256] S64x256.size (by decide))

theorem inb80 (n : ℕ) : ∀ a, ![(64 * n - 8) % 1969, 0] a + S80x256.size a ≤ S2048x512.size a := by
  intro a; fin_cases a
  · show (64 * n - 8) % 1969 + 80 ≤ 2048; omega
  · show 0 + 256 ≤ 512; omega

theorem inb64 (n : ℕ) : ∀ a, ![(64 * n) % 1985, 256] a + S64x256.size a ≤ S2048x512.size a := by
  intro a; fin_cases a
  · show (64 * n) % 1985 + 64 ≤ 2048; omega
  · show 256 + 256 ≤ 512; omega

/-- The activations of 64 rows between. -/
def actMid (L : List (View.Piece (Elt F) S2x2048x512 .f32)) (p : Fin 2) (n : ℕ) : Vec F S1x64x256 .bf16 :=
  k0_pay19 (ld arg13 L p ![(64 * n - 8) % 1969, 0] S80x256.size (inb80 n)) (k0_pay16 (ld arg13 L p ![(64 * n - 8) % 1969, 0] S80x256.size (inb80 n)))
    (k0_pay17 (ld arg13 L p ![(64 * n - 8) % 1969, 0] S80x256.size (inb80 n))) (k0_pay18 (tap arg7 harg7 x7 0)) (tap arg7 harg7 x7 1) (tap arg7 harg7 x7 2)
    (bias arg8 harg8 x8) (ld arg13 L p ![(64 * n) % 1985, 256] S64x256.size (inb64 n))

/-- The activations of the last 64 rows. -/
def actLast (L : List (View.Piece (Elt F) S2x2048x512 .f32)) (p : Fin 2) : Vec F S1x64x256 .bf16 :=
  k0_pay89 (k0_pay86 (ld arg13 L p ![1976, 0] S72x256.size (by decide))) (k0_pay87 (ld arg13 L p ![1976, 0] S72x256.size (by decide)) (tap arg7 harg7 x7 0))
    (k0_pay88 (ld arg13 L p ![1976, 0] S72x256.size (by decide)) (tap arg7 harg7 x7 1)) (tap arg7 harg7 x7 2) (bias arg8 harg8 x8)
    (ld arg13 L p ![1984, 256] S64x256.size (by decide))

/-- The activations of row group `n`, the scratch having been stored `H` then. -/
def actAt (H : ℕ → List (View.Piece (Elt F) S2x2048x512 .f32)) (p : Fin 2) (n : ℕ) : Vec F S1x64x256 .bf16 :=
  if n = 0 then actFirst arg7 harg7 arg8 harg8 arg13 x7 x8 (H 1) p
  else if n = 31 then actLast arg7 harg7 arg8 harg8 arg13 x7 x8 (H 4) p
  else actMid arg7 harg7 arg8 harg8 arg13 x7 x8 (H (n / 8 + 1)) p n

theorem inbAct (n : ℕ) : ∀ a, ![n / 8 % 4, 64 * (n % 8), 0] a + S1x64x256.size a ≤ S4x512x256.size a := by
  intro a; fin_cases a
  · show n / 8 % 4 + 1 ≤ 4; omega
  · show 64 * (n % 8) + 64 ≤ 512; omega
  · show 0 + 256 ≤ 256; omega

/-- The first `n` row groups' activations stored, last first. -/
def acts (H : ℕ → List (View.Piece (Elt F) S2x2048x512 .f32)) (p : Fin 2) : ℕ → List (View.Piece (Elt F) S4x512x256 .bf16)
  | 0 => []
  | n + 1 => ⟨Rect.unit (s := S4x512x256) ![n / 8 % 4, 64 * (n % 8), 0] S1x64x256.size (inbAct n), actAt arg7 harg7 arg8 harg8 arg13 x7 x8 H p n⟩ :: acts H p n

end

/-- The projections of a row block. -/
abbrev proj (arg5 : Memref sig .tc .vmem S1x1024x256 .f32) (harg5 : arg5.IsWhole) (arg6 : Memref sig .tc .vmem S1x1024x256 .f32) (harg6 : arg6.IsWhole) (arg12 : Memref sig .tc .vmem S2048x1024 .bf16) (harg12 : arg12.IsWhole) (x5 : Vec F S1x1024x256 .f32) (x6 : Vec F S1x1024x256 .f32) (x12 : Vec F S2048x1024 .bf16) (k : Fin 4) : Vec F S512x512 .f32 :=
  k0_pay12 (View.readAt (Elt F) arg5.view (Rect.unit (s := S1x1024x256) ![0, 0, 0] S1x1024x256.size (by decide)).toLoadRect (harg5.unread x5))
    (View.readAt (Elt F) arg6.view (Rect.unit (s := S1x1024x256) ![0, 0, 0] S1x1024x256.size (by decide)).toLoadRect (harg6.unread x6))
    (View.readAt (Elt F) arg12.view (Rect.unit (s := S2048x1024) ![512 * k.1, 0] S512x1024.size (by revert k; decide)).toLoadRect (harg12.unread x12))

/-- The scratch after the first `n` row blocks of slot `p` are stored. -/
def hist (p : Fin 2) (w : Fin 4 → Vec F S512x512 .f32) (L : List (View.Piece (Elt F) S2x2048x512 .f32)) : ℕ → List (View.Piece (Elt F) S2x2048x512 .f32)
  | 0 => L
  | n + 1 => block p (Fin.ofNat 4 n) (w (Fin.ofNat 4 n)) :: hist p w L n

/-! ## What each run leaves -/

/-- The accumulator's row block `k` after one step, the activations stored by then being the first `n` row groups'. -/
def accAt (arg9 : Memref sig .tc .vmem S1x256x1024 .f32) (harg9 : arg9.IsWhole) (arg11 : Memref sig .tc .vmem S1x2048x1024 .f32) (harg11 : arg11.IsWhole) (arg14 : Memref sig .tc .vmem S4x512x256 .bf16) (x9 : Vec F S1x256x1024 .f32) (x11 : Vec F S1x2048x1024 .f32) (A : List (View.Piece (Elt F) S4x512x256 .bf16)) (k : Fin 4) :
    Vec F S1x512x1024 .f32 :=
  k0_pay90 (k0_pay11 (View.readAt (Elt F) arg9.view (Rect.unit (s := S1x256x1024) ![0, 0, 0] S1x256x1024.size (by decide)).toLoadRect (harg9.unread x9)))
    (View.readAt (Elt F) arg11.view (Rect.unit (s := S1x2048x1024) ![0, 512 * k.1, 0] S1x512x1024.size (by revert k; decide)).toLoadRect (harg11.unread x11))
    (arg14.view.readCov A (Rect.unit (s := S4x512x256) ![k.1, 0, 0] S1x512x256.size (by revert k; decide)).toLoadRect)

/-- The four row blocks of the accumulator. -/
def accs (a : Fin 4 → Vec F S1x512x1024 .f32) : List (View.Piece (Elt F) S1x2048x1024 .f32) :=
  [⟨Rect.unit (s := S1x2048x1024) ![0, 1536, 0] S1x512x1024.size (by decide), a 3⟩, ⟨Rect.unit (s := S1x2048x1024) ![0, 1024, 0] S1x512x1024.size (by decide), a 2⟩,
   ⟨Rect.unit (s := S1x2048x1024) ![0, 512, 0] S1x512x1024.size (by decide), a 1⟩, ⟨Rect.unit (s := S1x2048x1024) ![0, 0, 0] S1x512x1024.size (by decide), a 0⟩]

theorem outO (c : Dev nD) (i : grid0.Coords) (arg2 : Memref sig .tc .vmem S1x2048x1024 .f32) (harg2 : arg2.IsWhole) (arg3 : Memref sig .tc .vmem S1x1x6x1024 .f32) (harg3 : arg3.IsWhole) (arg4 : Memref sig .tc .vmem S2x1024 .f32) (harg4 : arg4.IsWhole) (arg5 : Memref sig .tc .vmem S1x1024x256 .f32) (harg5 : arg5.IsWhole) (arg6 : Memref sig .tc .vmem S1x1024x256 .f32) (harg6 : arg6.IsWhole) (arg7 : Memref sig .tc .vmem S1x3x256 .f32) (harg7 : arg7.IsWhole) (arg8 : Memref sig .tc .vmem S2x256 .f32) (harg8 : arg8.IsWhole) (arg9 : Memref sig .tc .vmem S1x256x1024 .f32) (harg9 : arg9.IsWhole) (arg10 : Memref sig .tc .vmem S1x1024 .f32) (harg10 : arg10.IsWhole) (arg11 : Memref sig .tc .vmem S1x2048x1024 .f32) (harg11 : arg11.IsWhole) (arg12 : Memref sig .tc .vmem S2048x1024 .bf16) (harg12 : arg12.IsWhole) (arg13 : Memref sig .tc .vmem S2x2048x512 .f32) (harg13 : arg13.IsWhole) (arg14 : Memref sig .tc .vmem S4x512x256 .bf16) (harg14 : arg14.IsWhole) (hc1 : ¬ k0_cond1 i = 1#1) (hc2 : k0_cond2 i = 1#1) (hc3 : ¬ k0_cond3 i = 1#1) (hc4 : ¬ k0_cond4 i = 1#1) (x2 : Vec F S1x2048x1024 .f32) (x3 : Vec F S1x1x6x1024 .f32) (x4 : Vec F S2x1024 .f32) (x5 : Vec F S1x1024x256 .f32) (x6 : Vec F S1x1024x256 .f32) (x7 : Vec F S1x3x256 .f32) (x8 : Vec F S2x256 .f32) (x9 : Vec F S1x256x1024 .f32) (x10 : Vec F S1x1024 .f32) (x11 : Vec F S1x2048x1024 .f32) (x12 : Vec F S2048x1024 .bf16) (x13 : Vec F S1x2048x512 .f32) :
    (runO c i arg2 harg2 arg3 harg3 arg4 harg4 arg5 harg5 arg6 harg6 arg7 harg7 arg8 harg8 arg9 harg9 arg10 harg10 arg11 harg11 arg12 harg12 arg13 harg13 arg14 harg14 hc1 hc2 hc3 hc4 x2 x3 x4 x5 x6 x7 x8 x9 x10 x11 x12 x13).1 = accs (accAt arg9 harg9 arg11 harg11 arg14 x9 x11
      (acts arg7 harg7 arg8 harg8 arg13 x7 x8 (hist 1 (proj arg5 harg5 arg6 harg6 arg12 harg12 x5 x6 x12) [⟨slotA, x13⟩]) 0 32)) := rfl

theorem slotO (c : Dev nD) (i : grid0.Coords) (arg2 : Memref sig .tc .vmem S1x2048x1024 .f32) (harg2 : arg2.IsWhole) (arg3 : Memref sig .tc .vmem S1x1x6x1024 .f32) (harg3 : arg3.IsWhole) (arg4 : Memref sig .tc .vmem S2x1024 .f32) (harg4 : arg4.IsWhole) (arg5 : Memref sig .tc .vmem S1x1024x256 .f32) (harg5 : arg5.IsWhole) (arg6 : Memref sig .tc .vmem S1x1024x256 .f32) (harg6 : arg6.IsWhole) (arg7 : Memref sig .tc .vmem S1x3x256 .f32) (harg7 : arg7.IsWhole) (arg8 : Memref sig .tc .vmem S2x256 .f32) (harg8 : arg8.IsWhole) (arg9 : Memref sig .tc .vmem S1x256x1024 .f32) (harg9 : arg9.IsWhole) (arg10 : Memref sig .tc .vmem S1x1024 .f32) (harg10 : arg10.IsWhole) (arg11 : Memref sig .tc .vmem S1x2048x1024 .f32) (harg11 : arg11.IsWhole) (arg12 : Memref sig .tc .vmem S2048x1024 .bf16) (harg12 : arg12.IsWhole) (arg13 : Memref sig .tc .vmem S2x2048x512 .f32) (harg13 : arg13.IsWhole) (arg14 : Memref sig .tc .vmem S4x512x256 .bf16) (harg14 : arg14.IsWhole) (hc1 : ¬ k0_cond1 i = 1#1) (hc2 : k0_cond2 i = 1#1) (hc3 : ¬ k0_cond3 i = 1#1) (hc4 : ¬ k0_cond4 i = 1#1) (x2 : Vec F S1x2048x1024 .f32) (x3 : Vec F S1x1x6x1024 .f32) (x4 : Vec F S2x1024 .f32) (x5 : Vec F S1x1024x256 .f32) (x6 : Vec F S1x1024x256 .f32) (x7 : Vec F S1x3x256 .f32) (x8 : Vec F S2x256 .f32) (x9 : Vec F S1x256x1024 .f32) (x10 : Vec F S1x1024 .f32) (x11 : Vec F S1x2048x1024 .f32) (x12 : Vec F S2048x1024 .bf16) (x13 : Vec F S1x2048x512 .f32) :
    (runO c i arg2 harg2 arg3 harg3 arg4 harg4 arg5 harg5 arg6 harg6 arg7 harg7 arg8 harg8 arg9 harg9 arg10 harg10 arg11 harg11 arg12 harg12 arg13 harg13 arg14 harg14 hc1 hc2 hc3 hc4 x2 x3 x4 x5 x6 x7 x8 x9 x10 x11 x12 x13).2.1 = news 1 (proj arg5 harg5 arg6 harg6 arg12 harg12 x5 x6 x12) [⟨slotA, x13⟩] := rfl

theorem outE (c : Dev nD) (i : grid0.Coords) (arg2 : Memref sig .tc .vmem S1x2048x1024 .f32) (harg2 : arg2.IsWhole) (arg3 : Memref sig .tc .vmem S1x1x6x1024 .f32) (harg3 : arg3.IsWhole) (arg4 : Memref sig .tc .vmem S2x1024 .f32) (harg4 : arg4.IsWhole) (arg5 : Memref sig .tc .vmem S1x1024x256 .f32) (harg5 : arg5.IsWhole) (arg6 : Memref sig .tc .vmem S1x1024x256 .f32) (harg6 : arg6.IsWhole) (arg7 : Memref sig .tc .vmem S1x3x256 .f32) (harg7 : arg7.IsWhole) (arg8 : Memref sig .tc .vmem S2x256 .f32) (harg8 : arg8.IsWhole) (arg9 : Memref sig .tc .vmem S1x256x1024 .f32) (harg9 : arg9.IsWhole) (arg10 : Memref sig .tc .vmem S1x1024 .f32) (harg10 : arg10.IsWhole) (arg11 : Memref sig .tc .vmem S1x2048x1024 .f32) (harg11 : arg11.IsWhole) (arg12 : Memref sig .tc .vmem S2048x1024 .bf16) (harg12 : arg12.IsWhole) (arg13 : Memref sig .tc .vmem S2x2048x512 .f32) (harg13 : arg13.IsWhole) (arg14 : Memref sig .tc .vmem S4x512x256 .bf16) (harg14 : arg14.IsWhole) (hc1 : ¬ k0_cond1 i = 1#1) (hc2 : ¬ k0_cond2 i = 1#1) (hc3 : k0_cond3 i = 1#1) (hc4 : ¬ k0_cond4 i = 1#1) (x2 : Vec F S1x2048x1024 .f32) (x3 : Vec F S1x1x6x1024 .f32) (x4 : Vec F S2x1024 .f32) (x5 : Vec F S1x1024x256 .f32) (x6 : Vec F S1x1024x256 .f32) (x7 : Vec F S1x3x256 .f32) (x8 : Vec F S2x256 .f32) (x9 : Vec F S1x256x1024 .f32) (x10 : Vec F S1x1024 .f32) (x11 : Vec F S1x2048x1024 .f32) (x12 : Vec F S2048x1024 .bf16) (x13 : Vec F S1x2048x512 .f32) :
    (runE c i arg2 harg2 arg3 harg3 arg4 harg4 arg5 harg5 arg6 harg6 arg7 harg7 arg8 harg8 arg9 harg9 arg10 harg10 arg11 harg11 arg12 harg12 arg13 harg13 arg14 harg14 hc1 hc2 hc3 hc4 x2 x3 x4 x5 x6 x7 x8 x9 x10 x11 x12 x13).1 = accs (accAt arg9 harg9 arg11 harg11 arg14 x9 x11
      (acts arg7 harg7 arg8 harg8 arg13 x7 x8 (hist 0 (proj arg5 harg5 arg6 harg6 arg12 harg12 x5 x6 x12) [⟨slotB, x13⟩]) 1 32)) := rfl

theorem slotE (c : Dev nD) (i : grid0.Coords) (arg2 : Memref sig .tc .vmem S1x2048x1024 .f32) (harg2 : arg2.IsWhole) (arg3 : Memref sig .tc .vmem S1x1x6x1024 .f32) (harg3 : arg3.IsWhole) (arg4 : Memref sig .tc .vmem S2x1024 .f32) (harg4 : arg4.IsWhole) (arg5 : Memref sig .tc .vmem S1x1024x256 .f32) (harg5 : arg5.IsWhole) (arg6 : Memref sig .tc .vmem S1x1024x256 .f32) (harg6 : arg6.IsWhole) (arg7 : Memref sig .tc .vmem S1x3x256 .f32) (harg7 : arg7.IsWhole) (arg8 : Memref sig .tc .vmem S2x256 .f32) (harg8 : arg8.IsWhole) (arg9 : Memref sig .tc .vmem S1x256x1024 .f32) (harg9 : arg9.IsWhole) (arg10 : Memref sig .tc .vmem S1x1024 .f32) (harg10 : arg10.IsWhole) (arg11 : Memref sig .tc .vmem S1x2048x1024 .f32) (harg11 : arg11.IsWhole) (arg12 : Memref sig .tc .vmem S2048x1024 .bf16) (harg12 : arg12.IsWhole) (arg13 : Memref sig .tc .vmem S2x2048x512 .f32) (harg13 : arg13.IsWhole) (arg14 : Memref sig .tc .vmem S4x512x256 .bf16) (harg14 : arg14.IsWhole) (hc1 : ¬ k0_cond1 i = 1#1) (hc2 : ¬ k0_cond2 i = 1#1) (hc3 : k0_cond3 i = 1#1) (hc4 : ¬ k0_cond4 i = 1#1) (x2 : Vec F S1x2048x1024 .f32) (x3 : Vec F S1x1x6x1024 .f32) (x4 : Vec F S2x1024 .f32) (x5 : Vec F S1x1024x256 .f32) (x6 : Vec F S1x1024x256 .f32) (x7 : Vec F S1x3x256 .f32) (x8 : Vec F S2x256 .f32) (x9 : Vec F S1x256x1024 .f32) (x10 : Vec F S1x1024 .f32) (x11 : Vec F S1x2048x1024 .f32) (x12 : Vec F S2048x1024 .bf16) (x13 : Vec F S1x2048x512 .f32) :
    (runE c i arg2 harg2 arg3 harg3 arg4 harg4 arg5 harg5 arg6 harg6 arg7 harg7 arg8 harg8 arg9 harg9 arg10 harg10 arg11 harg11 arg12 harg12 arg13 harg13 arg14 harg14 hc1 hc2 hc3 hc4 x2 x3 x4 x5 x6 x7 x8 x9 x10 x11 x12 x13).2.1 = news 0 (proj arg5 harg5 arg6 harg6 arg12 harg12 x5 x6 x12) [⟨slotB, x13⟩] := rfl

/-- The normalised rows at the last step. -/
abbrev finish (arg2 : Memref sig .tc .vmem S1x2048x1024 .f32) (harg2 : arg2.IsWhole) (arg3 : Memref sig .tc .vmem S1x1x6x1024 .f32) (harg3 : arg3.IsWhole) (arg10 : Memref sig .tc .vmem S1x1024 .f32) (harg10 : arg10.IsWhole) (arg11 : Memref sig .tc .vmem S1x2048x1024 .f32) (x2 : Vec F S1x2048x1024 .f32) (x3 : Vec F S1x1x6x1024 .f32) (x10 : Vec F S1x1024 .f32) (O : List (View.Piece (Elt F) S1x2048x1024 .f32)) : Vec F S1x2048x1024 .f32 :=
  k0_pay3 (k0_pay258 (k0_pay255 (View.readAt (Elt F) arg2.view (Rect.unit (s := S1x2048x1024) ![0, 0, 0] S1x2048x1024.size (by decide)).toLoadRect (harg2.unread x2)))
    (k0_pay256 (View.readAt (Elt F) arg3.view (Rect.unit (s := S1x1x6x1024) ![0, 0, 5, 0] S1x1x1x1024.size (by decide)).toLoadRect (harg3.unread x3)))
    (k0_pay257 (arg11.view.readCov O (Rect.unit (s := S1x2048x1024) ![0, 0, 0] S1x2048x1024.size (by decide)).toLoadRect))
    (View.readAt (Elt F) arg10.view (Rect.unit (s := S1x1024) ![0, 0] S1x1024.size (by decide)).toLoadRect (harg10.unread x10)))

theorem outL (c : Dev nD) (i : grid0.Coords) (arg2 : Memref sig .tc .vmem S1x2048x1024 .f32) (harg2 : arg2.IsWhole) (arg3 : Memref sig .tc .vmem S1x1x6x1024 .f32) (harg3 : arg3.IsWhole) (arg4 : Memref sig .tc .vmem S2x1024 .f32) (harg4 : arg4.IsWhole) (arg5 : Memref sig .tc .vmem S1x1024x256 .f32) (harg5 : arg5.IsWhole) (arg6 : Memref sig .tc .vmem S1x1024x256 .f32) (harg6 : arg6.IsWhole) (arg7 : Memref sig .tc .vmem S1x3x256 .f32) (harg7 : arg7.IsWhole) (arg8 : Memref sig .tc .vmem S2x256 .f32) (harg8 : arg8.IsWhole) (arg9 : Memref sig .tc .vmem S1x256x1024 .f32) (harg9 : arg9.IsWhole) (arg10 : Memref sig .tc .vmem S1x1024 .f32) (harg10 : arg10.IsWhole) (arg11 : Memref sig .tc .vmem S1x2048x1024 .f32) (harg11 : arg11.IsWhole) (arg12 : Memref sig .tc .vmem S2048x1024 .bf16) (harg12 : arg12.IsWhole) (arg13 : Memref sig .tc .vmem S2x2048x512 .f32) (harg13 : arg13.IsWhole) (arg14 : Memref sig .tc .vmem S4x512x256 .bf16) (harg14 : arg14.IsWhole) (hc1 : ¬ k0_cond1 i = 1#1) (hc2 : ¬ k0_cond2 i = 1#1) (hc3 : ¬ k0_cond3 i = 1#1) (hc4 : k0_cond4 i = 1#1) (x2 : Vec F S1x2048x1024 .f32) (x3 : Vec F S1x1x6x1024 .f32) (x4 : Vec F S2x1024 .f32) (x5 : Vec F S1x1024x256 .f32) (x6 : Vec F S1x1024x256 .f32) (x7 : Vec F S1x3x256 .f32) (x8 : Vec F S2x256 .f32) (x9 : Vec F S1x256x1024 .f32) (x10 : Vec F S1x1024 .f32) (x11 : Vec F S1x2048x1024 .f32) (x12 : Vec F S2048x1024 .bf16) (x13 : Vec F S1x2048x512 .f32) :
    (runL c i arg2 harg2 arg3 harg3 arg4 harg4 arg5 harg5 arg6 harg6 arg7 harg7 arg8 harg8 arg9 harg9 arg10 harg10 arg11 harg11 arg12 harg12 arg13 harg13 arg14 harg14 hc1 hc2 hc3 hc4 x2 x3 x4 x5 x6 x7 x8 x9 x10 x11 x12 x13).1 = ⟨Rect.unit (s := S1x2048x1024) ![0, 0, 0] S1x2048x1024.size (by decide), finish arg2 harg2 arg3 harg3 arg10 harg10 arg11 x2 x3 x10
        (accs fun k => accAt arg9 harg9 arg11 harg11 arg14 x9 x11 (acts arg7 harg7 arg8 harg8 arg13 x7 x8 (fun _ => [⟨slotA, x13⟩]) 0 (8 * k.1 + 8)) k)⟩
      :: accs fun k => accAt arg9 harg9 arg11 harg11 arg14 x9 x11 (acts arg7 harg7 arg8 harg8 arg13 x7 x8 (fun _ => [⟨slotA, x13⟩]) 0 (8 * k.1 + 8)) k := rfl

theorem outZ (c : Dev nD) (i : grid0.Coords) (arg2 : Memref sig .tc .vmem S1x2048x1024 .f32) (harg2 : arg2.IsWhole) (arg3 : Memref sig .tc .vmem S1x1x6x1024 .f32) (harg3 : arg3.IsWhole) (arg4 : Memref sig .tc .vmem S2x1024 .f32) (harg4 : arg4.IsWhole) (arg5 : Memref sig .tc .vmem S1x1024x256 .f32) (harg5 : arg5.IsWhole) (arg6 : Memref sig .tc .vmem S1x1024x256 .f32) (harg6 : arg6.IsWhole) (arg7 : Memref sig .tc .vmem S1x3x256 .f32) (harg7 : arg7.IsWhole) (arg8 : Memref sig .tc .vmem S2x256 .f32) (harg8 : arg8.IsWhole) (arg9 : Memref sig .tc .vmem S1x256x1024 .f32) (harg9 : arg9.IsWhole) (arg10 : Memref sig .tc .vmem S1x1024 .f32) (harg10 : arg10.IsWhole) (arg11 : Memref sig .tc .vmem S1x2048x1024 .f32) (harg11 : arg11.IsWhole) (arg12 : Memref sig .tc .vmem S2048x1024 .bf16) (harg12 : arg12.IsWhole) (arg13 : Memref sig .tc .vmem S2x2048x512 .f32) (harg13 : arg13.IsWhole) (arg14 : Memref sig .tc .vmem S4x512x256 .bf16) (harg14 : arg14.IsWhole) (hc1 : k0_cond1 i = 1#1) (hc2 : ¬ k0_cond2 i = 1#1) (hc3 : ¬ k0_cond3 i = 1#1) (hc4 : ¬ k0_cond4 i = 1#1) (x2 : Vec F S1x2048x1024 .f32) (x3 : Vec F S1x1x6x1024 .f32) (x4 : Vec F S2x1024 .f32) (x5 : Vec F S1x1024x256 .f32) (x6 : Vec F S1x1024x256 .f32) (x7 : Vec F S1x3x256 .f32) (x8 : Vec F S2x256 .f32) (x9 : Vec F S1x256x1024 .f32) (x10 : Vec F S1x1024 .f32) :
    (runZ c i arg2 harg2 arg3 harg3 arg4 harg4 arg5 harg5 arg6 harg6 arg7 harg7 arg8 harg8 arg9 harg9 arg10 harg10 arg11 harg11 arg12 harg12 arg13 harg13 arg14 harg14 hc1 hc2 hc3 hc4 x2 x3 x4 x5 x6 x7 x8 x9 x10).1 = [⟨Rect.unit (s := S1x2048x1024) ![0, 0, 0] S1x2048x1024.size (by decide), k0_pay5⟩] := rfl

/-- The modulated rows of a batch element. -/
abbrev entry (arg2 : Memref sig .tc .vmem S1x2048x1024 .f32) (harg2 : arg2.IsWhole) (arg3 : Memref sig .tc .vmem S1x1x6x1024 .f32) (harg3 : arg3.IsWhole) (arg4 : Memref sig .tc .vmem S2x1024 .f32) (harg4 : arg4.IsWhole) (x2 : Vec F S1x2048x1024 .f32) (x3 : Vec F S1x1x6x1024 .f32) (x4 : Vec F S2x1024 .f32) : Vec F S2048x1024 .bf16 :=
  k0_pay4 (View.readAt (Elt F) arg2.view (Rect.unit (s := S1x2048x1024) ![0, 0, 0] S1x2048x1024.size (by decide)).toLoadRect (harg2.unread x2))
    (View.readAt (Elt F) arg4.view (Rect.unit (s := S2x1024) ![1, 0] S1x1024.size (by decide)).toLoadRect (harg4.unread x4))
    (View.readAt (Elt F) arg3.view (Rect.unit (s := S1x1x6x1024) ![0, 0, 4, 0] S1x1x1x1024.size (by decide)).toLoadRect (harg3.unread x3))
    (View.readAt (Elt F) arg3.view (Rect.unit (s := S1x1x6x1024) ![0, 0, 3, 0] S1x1x1x1024.size (by decide)).toLoadRect (harg3.unread x3))

theorem rowsZ (c : Dev nD) (i : grid0.Coords) (arg2 : Memref sig .tc .vmem S1x2048x1024 .f32) (harg2 : arg2.IsWhole) (arg3 : Memref sig .tc .vmem S1x1x6x1024 .f32) (harg3 : arg3.IsWhole) (arg4 : Memref sig .tc .vmem S2x1024 .f32) (harg4 : arg4.IsWhole) (arg5 : Memref sig .tc .vmem S1x1024x256 .f32) (harg5 : arg5.IsWhole) (arg6 : Memref sig .tc .vmem S1x1024x256 .f32) (harg6 : arg6.IsWhole) (arg7 : Memref sig .tc .vmem S1x3x256 .f32) (harg7 : arg7.IsWhole) (arg8 : Memref sig .tc .vmem S2x256 .f32) (harg8 : arg8.IsWhole) (arg9 : Memref sig .tc .vmem S1x256x1024 .f32) (harg9 : arg9.IsWhole) (arg10 : Memref sig .tc .vmem S1x1024 .f32) (harg10 : arg10.IsWhole) (arg11 : Memref sig .tc .vmem S1x2048x1024 .f32) (harg11 : arg11.IsWhole) (arg12 : Memref sig .tc .vmem S2048x1024 .bf16) (harg12 : arg12.IsWhole) (arg13 : Memref sig .tc .vmem S2x2048x512 .f32) (harg13 : arg13.IsWhole) (arg14 : Memref sig .tc .vmem S4x512x256 .bf16) (harg14 : arg14.IsWhole) (hc1 : k0_cond1 i = 1#1) (hc2 : ¬ k0_cond2 i = 1#1) (hc3 : ¬ k0_cond3 i = 1#1) (hc4 : ¬ k0_cond4 i = 1#1) (x2 : Vec F S1x2048x1024 .f32) (x3 : Vec F S1x1x6x1024 .f32) (x4 : Vec F S2x1024 .f32) (x5 : Vec F S1x1024x256 .f32) (x6 : Vec F S1x1024x256 .f32) (x7 : Vec F S1x3x256 .f32) (x8 : Vec F S2x256 .f32) (x9 : Vec F S1x256x1024 .f32) (x10 : Vec F S1x1024 .f32) :
    (runZ c i arg2 harg2 arg3 harg3 arg4 harg4 arg5 harg5 arg6 harg6 arg7 harg7 arg8 harg8 arg9 harg9 arg10 harg10 arg11 harg11 arg12 harg12 arg13 harg13 arg14 harg14 hc1 hc2 hc3 hc4 x2 x3 x4 x5 x6 x7 x8 x9 x10).2.1 = [⟨Rect.unit (s := S2048x1024) ![0, 0] S2048x1024.size (by decide), entry arg2 harg2 arg3 harg3 arg4 harg4 x2 x3 x4⟩] := rfl

/-- The projections of a row block at the first step. -/
abbrev proj0 (arg5 : Memref sig .tc .vmem S1x1024x256 .f32) (harg5 : arg5.IsWhole) (arg6 : Memref sig .tc .vmem S1x1024x256 .f32) (harg6 : arg6.IsWhole) (arg12 : Memref sig .tc .vmem S2048x1024 .bf16) (x5 : Vec F S1x1024x256 .f32) (x6 : Vec F S1x1024x256 .f32) (H : List (View.Piece (Elt F) S2048x1024 .bf16)) (k : Fin 4) : Vec F S512x512 .f32 :=
  k0_pay12 (View.readAt (Elt F) arg5.view (Rect.unit (s := S1x1024x256) ![0, 0, 0] S1x1024x256.size (by decide)).toLoadRect (harg5.unread x5))
    (View.readAt (Elt F) arg6.view (Rect.unit (s := S1x1024x256) ![0, 0, 0] S1x1024x256.size (by decide)).toLoadRect (harg6.unread x6))
    (arg12.view.readCov H (Rect.unit (s := S2048x1024) ![512 * k.1, 0] S512x1024.size (by revert k; decide)).toLoadRect)

theorem slotZ (c : Dev nD) (i : grid0.Coords) (arg2 : Memref sig .tc .vmem S1x2048x1024 .f32) (harg2 : arg2.IsWhole) (arg3 : Memref sig .tc .vmem S1x1x6x1024 .f32) (harg3 : arg3.IsWhole) (arg4 : Memref sig .tc .vmem S2x1024 .f32) (harg4 : arg4.IsWhole) (arg5 : Memref sig .tc .vmem S1x1024x256 .f32) (harg5 : arg5.IsWhole) (arg6 : Memref sig .tc .vmem S1x1024x256 .f32) (harg6 : arg6.IsWhole) (arg7 : Memref sig .tc .vmem S1x3x256 .f32) (harg7 : arg7.IsWhole) (arg8 : Memref sig .tc .vmem S2x256 .f32) (harg8 : arg8.IsWhole) (arg9 : Memref sig .tc .vmem S1x256x1024 .f32) (harg9 : arg9.IsWhole) (arg10 : Memref sig .tc .vmem S1x1024 .f32) (harg10 : arg10.IsWhole) (arg11 : Memref sig .tc .vmem S1x2048x1024 .f32) (harg11 : arg11.IsWhole) (arg12 : Memref sig .tc .vmem S2048x1024 .bf16) (harg12 : arg12.IsWhole) (arg13 : Memref sig .tc .vmem S2x2048x512 .f32) (harg13 : arg13.IsWhole) (arg14 : Memref sig .tc .vmem S4x512x256 .bf16) (harg14 : arg14.IsWhole) (hc1 : k0_cond1 i = 1#1) (hc2 : ¬ k0_cond2 i = 1#1) (hc3 : ¬ k0_cond3 i = 1#1) (hc4 : ¬ k0_cond4 i = 1#1) (x2 : Vec F S1x2048x1024 .f32) (x3 : Vec F S1x1x6x1024 .f32) (x4 : Vec F S2x1024 .f32) (x5 : Vec F S1x1024x256 .f32) (x6 : Vec F S1x1024x256 .f32) (x7 : Vec F S1x3x256 .f32) (x8 : Vec F S2x256 .f32) (x9 : Vec F S1x256x1024 .f32) (x10 : Vec F S1x1024 .f32) :
    (runZ c i arg2 harg2 arg3 harg3 arg4 harg4 arg5 harg5 arg6 harg6 arg7 harg7 arg8 harg8 arg9 harg9 arg10 harg10 arg11 harg11 arg12 harg12 arg13 harg13 arg14 harg14 hc1 hc2 hc3 hc4 x2 x3 x4 x5 x6 x7 x8 x9 x10).2.2.1 = news 0 (proj0 arg5 harg5 arg6 harg6 arg12 x5 x6
      [⟨Rect.unit (s := S2048x1024) ![0, 0] S2048x1024.size (by decide), entry arg2 harg2 arg3 harg3 arg4 harg4 x2 x3 x4⟩]) [] := rfl

/-- The accumulator's row blocks cover it. -/
theorem accs_cover (a : Fin 4 → Vec F S1x512x1024 .f32) (y : S1x2048x1024.Idx) : ∃ p ∈ accs a, y ∈ p.1.set :=
  View.cover_of_tiledL (accs a) S1x512x1024.size (by sl_kernel_rfl) y

theorem cover_whole {S : Shape} {e : EltTy} (off : Fin S.rank → ℕ) (inb) (h : ∀ a, off a = 0) (w) (L : List (View.Piece (Elt F) S e)) (y : S.Idx) :
    ∃ p ∈ (⟨Rect.unit (s := S) off S.size inb, w⟩ :: L : List (View.Piece (Elt F) S e)), y ∈ p.1.set :=
  ⟨_, List.mem_cons_self, by
    rw [Rect.set_eq_univ_of_whole _ (fun a => ⟨h a, rfl, rfl⟩)]; exact Finset.mem_univ _⟩

end Cert.Kernel2Ideal.Gen

end
-- ==== Proof.FfnState.lean ====
/- The grid steps of the feed-forward call: the scratch is carried from one step to the next, so the invariant between two steps
   says what it holds. -/
module

public import proofs.«01_k».proof.Proof.FfnShape
public import Idealize.ShloMosaic.Lib.Claim

@[expose] public section

set_option maxRecDepth 16384

noncomputable section

namespace Cert.Kernel2Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## Stores as ownership -/

theorem own_of_writes {S : Shape} {e : EltTy} (c : Dev nD) (M : Memref sig .tc .vmem S e) (L : List (View.Piece (Elt F) S e)) (h : ∀ y, ∃ p ∈ L, y ∈ p.1.set) :
    (iprop(∃ f, M.view.loc (c : Thread nD τ) ↦[M.view.set]{fullShare} M.view.writes (Elt F) f L) : sProp 𝕄) ⊢ owns (c : Thread nD τ) M fullShare (View.canon L) := by
  iintro ⟨%f, H⟩
  unfold owns; iexists _; isplitr
  swap; · iexact H
  ipureintro; exact View.read_writes_eq_canon _ _ _ h

theorem any_of_writes {S : Shape} {e : EltTy} (c : Dev nD) (M : Memref sig .tc .vmem S e) (L : List (View.Piece (Elt F) S e)) :
    (iprop(∃ f, M.view.loc (c : Thread nD τ) ↦[M.view.set]{fullShare} M.view.writes (Elt F) f L) : sProp 𝕄) ⊢ iprop(∃ d, owns (c : Thread nD τ) M fullShare d) := by
  iintro ⟨%f, H⟩
  iexists _; unfold owns; iexists _; isplitr
  swap; · iexact H
  ipureintro; rfl

theorem slot_of_writes {S : Shape} {e : EltTy} (c : Dev nD) (M : Memref sig .tc .vmem S e) (hM : M.IsWhole) (L : List (View.Piece (Elt F) S e)) (r : Rect S)
    (h : ∀ x : r.shape.Idx, ∃ q ∈ L, r.emb x ∈ q.1.set) :
    (iprop(∃ f, M.view.loc (c : Thread nD τ) ↦[M.view.set]{fullShare} M.view.writes (Elt F) f L) : sProp 𝕄)
      ⊢ iprop(∃ f, M.view.loc (c : Thread nD τ) ↦[M.view.set]{fullShare} M.view.writes (Elt F) f [⟨r, fun x => View.canon L (r.emb x)⟩]) := by
  iintro ⟨%f, H⟩
  iexists M.view.writes (Elt F) f L
  rw [← restate M hM f L r h]
  iexact H

/-! ## The operands -/

abbrev ms0_0 (t : Fin cfg0.N) : Memref sig .tc .vmem S1x2048x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x1x6x1024 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S2x1024 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x1024x256 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x1024x256 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x3x256 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S2x256 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x256x1024 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1x1024 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S1x2048x1024 .f32 := win0_9.stage (cfg0.slots t 9)
abbrev hs0_9 (t : Fin cfg0.N) : (ms0_9 t).IsWhole := hstage0_9 ((cfg0.slots t 9).cast nbuf0_9)
abbrev scM0_0 : Memref sig .tc .vmem S2048x1024 .bf16 := Memref.whole cc0_scratch0
abbrev scM0_1 : Memref sig .tc .vmem S2x2048x512 .f32 := Memref.whole cc0_scratch1
abbrev scM0_2 : Memref sig .tc .vmem S4x512x256 .bf16 := Memref.whole cc0_scratch2

/-- The scratch at some contents, and the generator register. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d)) ∗ (∃ r, prngReg c r)) := by
  unfold Pipeline.ΦA; rw [scopedRest0_eq]; simp only [scM0_0, scM0_1, scM0_2, owns_whole]; try rfl

/-! ## Which case a grid step takes -/

theorem hcond1 : ∀ t : Fin cfg0.N, k0_cond1 (grid0.coords t) = 1#1 ↔ t.val % 12 = 0 :=
  (by decide +kernel : ∀ t : Fin grid0.N, k0_cond1 (grid0.coords t) = 1#1 ↔ t.val % 12 = 0)
theorem hcond2 : ∀ t : Fin cfg0.N, k0_cond2 (grid0.coords t) = 1#1 ↔ t.val % 2 = 1 ∧ t.val % 12 ≠ 11 :=
  (by decide +kernel : ∀ t : Fin grid0.N, k0_cond2 (grid0.coords t) = 1#1 ↔ t.val % 2 = 1 ∧ t.val % 12 ≠ 11)
theorem hcond3 : ∀ t : Fin cfg0.N, k0_cond3 (grid0.coords t) = 1#1 ↔ t.val % 2 = 0 ∧ t.val % 12 ≠ 0 :=
  (by decide +kernel : ∀ t : Fin grid0.N, k0_cond3 (grid0.coords t) = 1#1 ↔ t.val % 2 = 0 ∧ t.val % 12 ≠ 0)
theorem hcond4 : ∀ t : Fin cfg0.N, k0_cond4 (grid0.coords t) = 1#1 ↔ t.val % 12 = 11 :=
  (by decide +kernel : ∀ t : Fin grid0.N, k0_cond4 (grid0.coords t) = 1#1 ↔ t.val % 12 = 11)
theorem hn1 (t : Fin cfg0.N) (h : ¬ t.val % 12 = 0) : ¬ k0_cond1 (grid0.coords t) = 1#1 := fun e => h ((hcond1 t).1 e)
theorem hn2 (t : Fin cfg0.N) (h : ¬ (t.val % 2 = 1 ∧ t.val % 12 ≠ 11)) : ¬ k0_cond2 (grid0.coords t) = 1#1 := fun e => h ((hcond2 t).1 e)
theorem hn3 (t : Fin cfg0.N) (h : ¬ (t.val % 2 = 0 ∧ t.val % 12 ≠ 0)) : ¬ k0_cond3 (grid0.coords t) = 1#1 := fun e => h ((hcond3 t).1 e)
theorem hn4 (t : Fin cfg0.N) (h : ¬ t.val % 12 = 11) : ¬ k0_cond4 (grid0.coords t) = 1#1 := fun e => h ((hcond4 t).1 e)

/-! ## What the buffers hold after each step -/

/-- What a step leaves: the accumulator, the rows projected from, and the slot last stored. -/
structure St (F : FTy → Type) where
  o : Vec F S1x2048x1024 .f32
  h : Vec F S2048x1024 .bf16
  u : Vec F S1x2048x512 .f32

/-- The run of a step of this case at its operands and blocks. -/
def atZ (c : Dev nD) (t : Fin cfg0.N) (h : t.val % 12 = 0) :=
  runZ c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) ((hcond1 t).2 h) (hn2 t (by omega)) (hn3 t (by omega)) (hn4 t (by omega)) (iblk m c 0 t) (iblk m c 1 t) (iblk m c 2 t) (iblk m c 3 t) (iblk m c 4 t) (iblk m c 5 t) (iblk m c 6 t) (iblk m c 7 t) (iblk m c 8 t)

/-- The run of a step of this case at its operands and blocks. -/
def atO (c : Dev nD) (t : Fin cfg0.N) (h : t.val % 2 = 1 ∧ t.val % 12 ≠ 11) (s : St F) :=
  runO c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) (hn1 t (by omega)) ((hcond2 t).2 h) (hn3 t (by omega)) (hn4 t (by omega)) (iblk m c 0 t) (iblk m c 1 t) (iblk m c 2 t) (iblk m c 3 t) (iblk m c 4 t) (iblk m c 5 t) (iblk m c 6 t) (iblk m c 7 t) (iblk m c 8 t) s.o s.h s.u

/-- The run of a step of this case at its operands and blocks. -/
def atE (c : Dev nD) (t : Fin cfg0.N) (h : t.val % 2 = 0 ∧ t.val % 12 ≠ 0) (s : St F) :=
  runE c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) (hn1 t (by omega)) (hn2 t (by omega)) ((hcond3 t).2 h) (hn4 t (by omega)) (iblk m c 0 t) (iblk m c 1 t) (iblk m c 2 t) (iblk m c 3 t) (iblk m c 4 t) (iblk m c 5 t) (iblk m c 6 t) (iblk m c 7 t) (iblk m c 8 t) s.o s.h s.u

/-- The run of a step of this case at its operands and blocks. -/
def atL (c : Dev nD) (t : Fin cfg0.N) (h : t.val % 12 = 11) (s : St F) :=
  runL c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) (hn1 t (by omega)) (hn2 t (by omega)) (hn3 t (by omega)) ((hcond4 t).2 h) (iblk m c 0 t) (iblk m c 1 t) (iblk m c 2 t) (iblk m c 3 t) (iblk m c 4 t) (iblk m c 5 t) (iblk m c 6 t) (iblk m c 7 t) (iblk m c 8 t) s.o s.h s.u

theorem atZ_out (c : Dev nD) (t : Fin cfg0.N) (h : t.val % 12 = 0) (y : S1x2048x1024.Idx) : ∃ p ∈ (atZ m c t h).1, y ∈ p.1.set := by
  unfold atZ; rw [outZ c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) ((hcond1 t).2 h) (hn2 t (by omega)) (hn3 t (by omega)) (hn4 t (by omega)) (iblk m c 0 t) (iblk m c 1 t) (iblk m c 2 t) (iblk m c 3 t) (iblk m c 4 t) (iblk m c 5 t) (iblk m c 6 t) (iblk m c 7 t) (iblk m c 8 t)]; exact cover_whole _ _ (by decide) _ _ y
theorem atZ_rows (c : Dev nD) (t : Fin cfg0.N) (h : t.val % 12 = 0) (y : S2048x1024.Idx) : ∃ p ∈ (atZ m c t h).2.1, y ∈ p.1.set := by
  unfold atZ; rw [rowsZ c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) ((hcond1 t).2 h) (hn2 t (by omega)) (hn3 t (by omega)) (hn4 t (by omega)) (iblk m c 0 t) (iblk m c 1 t) (iblk m c 2 t) (iblk m c 3 t) (iblk m c 4 t) (iblk m c 5 t) (iblk m c 6 t) (iblk m c 7 t) (iblk m c 8 t)]; exact cover_whole _ _ (by decide) _ _ y
theorem atZ_slot (c : Dev nD) (t : Fin cfg0.N) (h : t.val % 12 = 0) (x : S1x2048x512.Idx) : ∃ p ∈ (atZ m c t h).2.2.1, slotA.emb x ∈ p.1.set := by
  unfold atZ; rw [slotZ c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) ((hcond1 t).2 h) (hn2 t (by omega)) (hn3 t (by omega)) (hn4 t (by omega)) (iblk m c 0 t) (iblk m c 1 t) (iblk m c 2 t) (iblk m c 3 t) (iblk m c 4 t) (iblk m c 5 t) (iblk m c 6 t) (iblk m c 7 t) (iblk m c 8 t)]; exact news_cover 0 _ _ x
theorem atO_out (c : Dev nD) (t : Fin cfg0.N) (h : t.val % 2 = 1 ∧ t.val % 12 ≠ 11) (s : St F) (y : S1x2048x1024.Idx) : ∃ p ∈ (atO m c t h s).1, y ∈ p.1.set := by
  unfold atO; rw [outO c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) (hn1 t (by omega)) ((hcond2 t).2 h) (hn3 t (by omega)) (hn4 t (by omega)) (iblk m c 0 t) (iblk m c 1 t) (iblk m c 2 t) (iblk m c 3 t) (iblk m c 4 t) (iblk m c 5 t) (iblk m c 6 t) (iblk m c 7 t) (iblk m c 8 t) s.o s.h s.u]; exact accs_cover _ y
theorem atO_slot (c : Dev nD) (t : Fin cfg0.N) (h : t.val % 2 = 1 ∧ t.val % 12 ≠ 11) (s : St F) (x : S1x2048x512.Idx) : ∃ p ∈ (atO m c t h s).2.1, slotB.emb x ∈ p.1.set := by
  unfold atO; rw [slotO c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) (hn1 t (by omega)) ((hcond2 t).2 h) (hn3 t (by omega)) (hn4 t (by omega)) (iblk m c 0 t) (iblk m c 1 t) (iblk m c 2 t) (iblk m c 3 t) (iblk m c 4 t) (iblk m c 5 t) (iblk m c 6 t) (iblk m c 7 t) (iblk m c 8 t) s.o s.h s.u]; exact news_cover 1 _ _ x
theorem atE_out (c : Dev nD) (t : Fin cfg0.N) (h : t.val % 2 = 0 ∧ t.val % 12 ≠ 0) (s : St F) (y : S1x2048x1024.Idx) : ∃ p ∈ (atE m c t h s).1, y ∈ p.1.set := by
  unfold atE; rw [outE c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) (hn1 t (by omega)) (hn2 t (by omega)) ((hcond3 t).2 h) (hn4 t (by omega)) (iblk m c 0 t) (iblk m c 1 t) (iblk m c 2 t) (iblk m c 3 t) (iblk m c 4 t) (iblk m c 5 t) (iblk m c 6 t) (iblk m c 7 t) (iblk m c 8 t) s.o s.h s.u]; exact accs_cover _ y
theorem atE_slot (c : Dev nD) (t : Fin cfg0.N) (h : t.val % 2 = 0 ∧ t.val % 12 ≠ 0) (s : St F) (x : S1x2048x512.Idx) : ∃ p ∈ (atE m c t h s).2.1, slotA.emb x ∈ p.1.set := by
  unfold atE; rw [slotE c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) (hn1 t (by omega)) (hn2 t (by omega)) ((hcond3 t).2 h) (hn4 t (by omega)) (iblk m c 0 t) (iblk m c 1 t) (iblk m c 2 t) (iblk m c 3 t) (iblk m c 4 t) (iblk m c 5 t) (iblk m c 6 t) (iblk m c 7 t) (iblk m c 8 t) s.o s.h s.u]; exact news_cover 0 _ _ x
theorem atL_out (c : Dev nD) (t : Fin cfg0.N) (h : t.val % 12 = 11) (s : St F) (y : S1x2048x1024.Idx) : ∃ p ∈ (atL m c t h s).1, y ∈ p.1.set := by
  unfold atL; rw [outL c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) (hn1 t (by omega)) (hn2 t (by omega)) (hn3 t (by omega)) ((hcond4 t).2 h) (iblk m c 0 t) (iblk m c 1 t) (iblk m c 2 t) (iblk m c 3 t) (iblk m c 4 t) (iblk m c 5 t) (iblk m c 6 t) (iblk m c 7 t) (iblk m c 8 t) s.o s.h s.u]; exact cover_whole _ _ (by decide) _ _ y
def stZ (c : Dev nD) (t : Fin cfg0.N) (h : t.val % 12 = 0) : St F :=
  ⟨View.canon (atZ m c t h).1, View.canon (atZ m c t h).2.1, fun x => View.canon (atZ m c t h).2.2.1 (slotA.emb x)⟩
def stO (c : Dev nD) (t : Fin cfg0.N) (h : t.val % 2 = 1 ∧ t.val % 12 ≠ 11) (s : St F) : St F :=
  ⟨View.canon (atO m c t h s).1, s.h, fun x => View.canon (atO m c t h s).2.1 (slotB.emb x)⟩
def stE (c : Dev nD) (t : Fin cfg0.N) (h : t.val % 2 = 0 ∧ t.val % 12 ≠ 0) (s : St F) : St F :=
  ⟨View.canon (atE m c t h s).1, s.h, fun x => View.canon (atE m c t h s).2.1 (slotA.emb x)⟩
def stL (c : Dev nD) (t : Fin cfg0.N) (h : t.val % 12 = 11) (s : St F) : St F :=
  ⟨View.canon (atL m c t h s).1, s.h, s.u⟩

/-- One step. -/
def step (c : Dev nD) (t : Fin cfg0.N) (s : St F) : St F :=
  if h0 : t.val % 12 = 0 then stZ m c t h0
  else if h11 : t.val % 12 = 11 then stL m c t h11 s
  else if h1 : t.val % 2 = 1 then stO m c t ⟨h1, h11⟩ s
  else stE m c t ⟨by omega, h0⟩ s

theorem N0 : cfg0.N = 96 := by decide

/-- Grid step `n`. -/
def pt (n : ℕ) : Fin cfg0.N := ⟨n % 96, by rw [N0]; exact Nat.mod_lt _ (by norm_num)⟩

theorem pt_val (t : Fin cfg0.N) : pt t.val = t := Fin.ext (Nat.mod_eq_of_lt (lt_of_lt_of_eq t.isLt N0))

/-- What step `n` leaves. -/
def st (c : Dev nD) : ℕ → St F
  | 0 => step m c (pt 0) ⟨View.canon [], View.canon [], View.canon []⟩
  | n + 1 => step m c (pt (n + 1)) (st c n)

theorem st_Z (c : Dev nD) (t : Fin cfg0.N) (h : t.val % 12 = 0) : st m c t.val = stZ m c t h := by
  have e : ∀ s, step m c t s = stZ m c t h := fun s => by unfold step; rw [dif_pos h]
  have hp := pt_val t
  generalize t.val = n at hp ⊢
  cases n with
  | zero => unfold st; rw [hp]; exact e _
  | succ n => unfold st; rw [hp]; exact e _
theorem st_pos (c : Dev nD) (t : Fin cfg0.N) (h : ¬ t.val = 0) : st m c t.val = step m c t (st m c (t.val - 1)) := by
  have hp := pt_val t
  generalize t.val = n at hp h ⊢
  cases n with
  | zero => exact absurd rfl h
  | succ n => rw [Nat.add_sub_cancel]; conv_lhs => unfold st
              rw [hp]
theorem st_O (c : Dev nD) (t : Fin cfg0.N) (h : t.val % 2 = 1 ∧ t.val % 12 ≠ 11) : st m c t.val = stO m c t h (st m c (t.val - 1)) := by
  rw [st_pos m c t (by omega)]; unfold step; rw [dif_neg (by omega), dif_neg h.2, dif_pos h.1]
theorem st_E (c : Dev nD) (t : Fin cfg0.N) (h : t.val % 2 = 0 ∧ t.val % 12 ≠ 0) : st m c t.val = stE m c t h (st m c (t.val - 1)) := by
  rw [st_pos m c t (by omega)]; unfold step; rw [dif_neg h.2, dif_neg (by omega), dif_neg (by omega)]
theorem st_L (c : Dev nD) (t : Fin cfg0.N) (h : t.val % 12 = 11) : st m c t.val = stL m c t h (st m c (t.val - 1)) := by
  rw [st_pos m c t (by omega)]; unfold step; rw [dif_neg (by omega), dif_pos h]

/-! ## The invariant and the proof data -/

/-- The scratch between two steps, slot `r` holding the projections last stored. -/
def PhiC (c : Dev nD) (r : Rect S2x2048x512) (h : Vec F S2048x1024 .bf16) (u : r.shape.Idx → Elt F .f32) : sProp 𝕄 :=
  iprop((owns (c : Thread nD τ) scM0_0 fullShare h ∗ (∃ f, scM0_1.view.loc (c : Thread nD τ) ↦[scM0_1.view.set]{fullShare} scM0_1.view.writes (Elt F) f [⟨r, u⟩])
    ∗ (∃ d, owns (c : Thread nD τ) scM0_2 fullShare d)) ∗ (∃ r, prngReg c r))

/-- The scratch before step `n`: anything at the first step of a batch element; else the rows, and the slot the step before stored. -/
def PhiN (c : Dev nD) (n : ℕ) : sProp 𝕄 :=
  if n % 12 = 0 then Pipeline.ΦA spec0 c
  else if n % 2 = 1 then PhiC c slotA (st m c (n - 1)).h (st m c (n - 1)).u
  else PhiC c slotB (st m c (n - 1)).h (st m c (n - 1)).u

theorem PhiN_zero (c : Dev nD) (n : ℕ) (h : n % 12 = 0) : PhiN m c n = Pipeline.ΦA spec0 c := by unfold PhiN; rw [if_pos h]
theorem PhiN_odd (c : Dev nD) (n : ℕ) (h : n % 2 = 1) : PhiN m c n = PhiC c slotA (st m c (n - 1)).h (st m c (n - 1)).u := by
  unfold PhiN; rw [if_neg (by omega), if_pos h]
theorem PhiN_even (c : Dev nD) (n : ℕ) (h : n % 2 = 0 ∧ n % 12 ≠ 0) : PhiN m c n = PhiC c slotB (st m c (n - 1)).h (st m c (n - 1)).u := by
  unfold PhiN; rw [if_neg h.2, if_neg (by omega)]

/-- The proof data: each input's buffer at its block, the output's at the accumulator, the scratch at the invariant. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => (st m c t.val).o
  Φ t := PhiN m c t.val
  q w := Pipeline.shareOf spec0 w
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = (st m c t.val).o := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem idle9 : ∀ i : cfg0.grid.Coords, cfg0.idle 9 i = false :=
  (by decide +kernel : ∀ i : grid0.Coords, idle0 9 i = false)

/-- Past the first step of a batch element the output's buffer holds what the step before left. -/
theorem before0_9 (c : Dev nD) (t : Fin cfg0.N) (h : t.val % 12 ≠ 0) (d) : (dats m 0 c).before 9 t d = (st m c (t.val - 1)).o := by
  refine ((dats m 0 c).before_out_kept 9 rfl t (by omega) ?_ idle9 (fun _ _ => rfl) d).trans (after0_9 m c _)
  rw [← Bool.not_eq_true]
  exact fun e => absurd ((flush0_9 _).1 e) (show ¬ (t.val - 1) % 12 = 11 by omega)

/-! ## The body, at each case -/

end Cert.Kernel2Ideal.Gen

end
-- ==== Proof.FfnPay.lean ====
/- What the body of the feed-forward call computes at an index, over the extended reals. -/
module

public import proofs.«01_k».proof.Proof.Gen.Kernel2Ideal.Skeleton
public import Idealize.ShloMosaic.Lib.Pointwise
public import Idealize.ShloMosaic.Lib.KernelVsHost

@[expose] public section

set_option maxRecDepth 16384

noncomputable section

namespace Cert.Kernel2Ideal.Pay

open Cert.Kernel2Ideal Cert.Kernel2Ideal.Gen Idealize.ShloMosaic Idealize.ShloMosaic.TcCoe Idealize.SL.Sem

/-- The 1024 that a mean divides by, and the constant it adds. -/
abbrev n1024 : EReal := Ideal.ofBits .f32 0x44800000#32
abbrev eps : EReal := Ideal.ofBits .f32 0x358637BD#32

/-- The root-mean-square factor of a row. -/
def rms (v : Fin 1024 → EReal) : EReal := Ideal.rsqrt (Ideal.div (∑ k : Fin 1024, v k * v k) n1024 + eps)

/-- The gated activation of a convolved gate and a value. -/
def gated (p z n w0 w1 w2 b v : EReal) : EReal :=
  let g := ((p * w0 + z * w1) + n * w2) + b
  g * Ideal.logistic g * v

/-- The normed, modulated row. -/
theorem entry_apply (x : Vec Ideal S1x2048x1024 .f32) (g : Vec Ideal S1x1024 .f32) (sc sh : Vec Ideal S1x1x1x1024 .f32) (R : Fin 2048) (k : Fin 1024) :
    k0_pay4 x g sc sh (ix2 R k)
      = x (ix3 0 R k) * rms (fun j => x (ix3 0 R j)) * g (ix2 0 k) * (Ideal.ofBits .f32 0x3F800000#32 + sc (ix4 0 0 0 k)) + sh (ix4 0 0 0 k) := by
  unfold rms
  pointwise [k0_pay4]

theorem zeros_apply (R : Fin 2048) (d : Fin 1024) : k0_pay5 (F := Ideal) (ix3 0 R d) = 0 := by
  pointwise [k0_pay5]

/-- A row block's projections. -/
theorem proj_apply (wg wv : Vec Ideal S1x1024x256 .f32) (h : Vec Ideal S512x1024 .bf16) (r c : Fin 512) :
    k0_pay12 wg wv h (ix2 r c) = ∑ k : Fin 1024, h (ix2 r k) * (if hc : c.1 < 256 then wg (ix3 0 k ⟨c, hc⟩) else wv (ix3 0 k ⟨c - 256, by omega⟩)) := by
  pointwise [k0_pay12, k0_pay10]

/-- An accumulated row block. -/
theorem acc_apply (wd : Vec Ideal S1x256x1024 .f32) (o : Vec Ideal S1x512x1024 .f32) (a : Vec Ideal S1x512x256 .bf16) (r : Fin 512) (d : Fin 1024) :
    k0_pay90 (k0_pay11 wd) o a (ix3 0 r d) = o (ix3 0 r d) + ∑ k : Fin 256, a (ix3 0 r k) * wd (ix3 0 k d) := by
  pointwise [k0_pay90, k0_pay11]

/-- The gated residual, and its norm. -/
theorem finish_apply (x : Vec Ideal S1x2048x1024 .f32) (g : Vec Ideal S1x1x1x1024 .f32) (o : Vec Ideal S1x2048x1024 .f32) (f : Vec Ideal S1x1024 .f32) (R : Fin 2048) (d : Fin 1024) :
    k0_pay3 (k0_pay258 (k0_pay255 x) (k0_pay256 g) (k0_pay257 o) f) (ix3 0 R d)
      = (x (ix3 0 R d) + g (ix4 0 0 0 d) * o (ix3 0 R d)) * rms (fun j => x (ix3 0 R j) + g (ix4 0 0 0 j) * o (ix3 0 R j)) * f (ix2 0 d) := by
  unfold rms
  pointwise [k0_pay3, k0_pay258, k0_pay255, k0_pay256, k0_pay257]

/-- The activations of 64 rows between. -/
theorem mid_apply (z : Vec Ideal S80x256 .f32) (w0 w1 w2 : Vec Ideal S1x1x256 .f32) (b : Vec Ideal S1x256 .f32) (v : Vec Ideal S64x256 .f32) (r : Fin 64) (c : Fin 256) :
    k0_pay19 z (k0_pay16 z) (k0_pay17 z) (k0_pay18 w0) w1 w2 b v (ix3 0 r c)
      = gated (z (ix2 ⟨r + 7, by omega⟩ c)) (z (ix2 ⟨r + 8, by omega⟩ c)) (z (ix2 ⟨r + 9, by omega⟩ c)) (w0 (ix3 0 0 c)) (w1 (ix3 0 0 c)) (w2 (ix3 0 0 c)) (b (ix2 0 c)) (v (ix2 r c)) := by
  have hp : ∀ R : Fin 80, (hR : 1 ≤ R.1) → dynamicRotate 0 1#32 none z rotates_S80x256_d0 (ix2 R c) = z (ix2 ⟨R - 1, by omega⟩ c) := fun R hR =>
    dynamicRotate_apply _ _ _ _ _ _ fun a => by
      fin_cases a
      · show R.1 - 1 = (R.1 + 80 - 1) % 80; omega
      · rfl
  have hn : ∀ R : Fin 80, (hR : R.1 < 79) → dynamicRotate 0 79#32 none z rotates_S80x256_d0 (ix2 R c) = z (ix2 ⟨R + 1, by omega⟩ c) := fun R hR =>
    dynamicRotate_apply _ _ _ _ _ _ fun a => by
      fin_cases a
      · show R.1 + 1 = (R.1 + 80 - 79) % 80; omega
      · rfl
  unfold gated k0_pay16 k0_pay17
  generalize dynamicRotate 0 1#32 none z rotates_S80x256_d0 = P at hp ⊢
  generalize dynamicRotate 0 79#32 none z rotates_S80x256_d0 = N at hn ⊢
  have e0 := hp ⟨r + 8, by omega⟩ (by simp)
  have e1 := hn ⟨r + 8, by omega⟩ (by simp; omega)
  simp only [show (r : ℕ) + 8 - 1 = r + 7 by omega, show (r : ℕ) + 8 + 1 = r + 9 by omega] at e0 e1
  rw [← e0, ← e1]
  pointwise [k0_pay19, k0_pay18]
  simp only [Nat.add_comm 8 (r : ℕ)]

/-- The activations of the first 64 rows. -/
theorem first_apply (z : Vec Ideal S72x256 .f32) (w0 w1 w2 : Vec Ideal S1x1x256 .f32) (b : Vec Ideal S1x256 .f32) (v : Vec Ideal S64x256 .f32) (r : Fin 64) (c : Fin 256) :
    k0_pay15 z (k0_pay13 z) (k0_pay14 z w0) w1 w2 b v (ix3 0 r c)
      = gated (if r.1 = 0 then 0 else z (ix2 ⟨r - 1, by omega⟩ c)) (z (ix2 ⟨r, by omega⟩ c)) (z (ix2 ⟨r + 1, by omega⟩ c)) (w0 (ix3 0 0 c)) (w1 (ix3 0 0 c)) (w2 (ix3 0 0 c)) (b (ix2 0 c)) (v (ix2 r c)) := by
  have hp : ∀ R : Fin 72, (hR : 1 ≤ R.1) → dynamicRotate 0 1#32 none z rotates_S72x256_d0 (ix2 R c) = z (ix2 ⟨R - 1, by omega⟩ c) := fun R hR =>
    dynamicRotate_apply _ _ _ _ _ _ fun a => by
      fin_cases a
      · show R.1 - 1 = (R.1 + 72 - 1) % 72; omega
      · rfl
  have hn : ∀ R : Fin 72, (hR : R.1 < 71) → dynamicRotate 0 71#32 none z rotates_S72x256_d0 (ix2 R c) = z (ix2 ⟨R + 1, by omega⟩ c) := fun R hR =>
    dynamicRotate_apply _ _ _ _ _ _ fun a => by
      fin_cases a
      · show R.1 + 1 = (R.1 + 72 - 71) % 72; omega
      · rfl
  unfold gated k0_pay13 k0_pay14
  generalize dynamicRotate 0 1#32 none z rotates_S72x256_d0 = P at hp ⊢
  generalize dynamicRotate 0 71#32 none z rotates_S72x256_d0 = N at hn ⊢
  have e1 := hn ⟨r, by omega⟩ (by simp; omega)
  have e0 : (if r.1 = 0 then 0 else z (ix2 ⟨r - 1, by omega⟩ c)) = Scalar.select (IntOp.cmpi .eq (BitVec.ofNat 32 r) 0#32) (0 : EReal) (P (ix2 ⟨r, by omega⟩ c)) := by
    have hd : ∀ r : Fin 64, IntOp.cmpi .eq (BitVec.ofNat 32 r) 0#32 = if r.1 = 0 then 1#1 else 0#1 := by decide +kernel
    rw [hd]
    by_cases h : r.1 = 0
    · rw [if_pos h, if_pos h]; rfl
    · rw [if_neg h, if_neg h]; exact (hp ⟨r, by omega⟩ (by simp; omega)).symm
  rw [← e1, e0]
  pointwise [k0_pay15]
  try rfl

/-- The activations of the last 64 rows. -/
theorem last_apply (z : Vec Ideal S72x256 .f32) (w0 w1 w2 : Vec Ideal S1x1x256 .f32) (b : Vec Ideal S1x256 .f32) (v : Vec Ideal S64x256 .f32) (r : Fin 64) (c : Fin 256) :
    k0_pay89 (k0_pay86 z) (k0_pay87 z w0) (k0_pay88 z w1) w2 b v (ix3 0 r c)
      = gated (z (ix2 ⟨r + 7, by omega⟩ c)) (z (ix2 ⟨r + 8, by omega⟩ c)) (if h : r.1 = 63 then 0 else z (ix2 ⟨r + 9, by omega⟩ c)) (w0 (ix3 0 0 c)) (w1 (ix3 0 0 c)) (w2 (ix3 0 0 c)) (b (ix2 0 c)) (v (ix2 r c)) := by
  have hp : ∀ R : Fin 72, (hR : 1 ≤ R.1) → dynamicRotate 0 1#32 none z rotates_S72x256_d0 (ix2 R c) = z (ix2 ⟨R - 1, by omega⟩ c) := fun R hR =>
    dynamicRotate_apply _ _ _ _ _ _ fun a => by
      fin_cases a
      · show R.1 - 1 = (R.1 + 72 - 1) % 72; omega
      · rfl
  have hn : ∀ R : Fin 72, (hR : R.1 < 71) → dynamicRotate 0 71#32 none z rotates_S72x256_d0 (ix2 R c) = z (ix2 ⟨R + 1, by omega⟩ c) := fun R hR =>
    dynamicRotate_apply _ _ _ _ _ _ fun a => by
      fin_cases a
      · show R.1 + 1 = (R.1 + 72 - 71) % 72; omega
      · rfl
  unfold gated k0_pay86 k0_pay87 k0_pay88
  generalize dynamicRotate 0 1#32 none z rotates_S72x256_d0 = P at hp ⊢
  generalize dynamicRotate 0 71#32 none z rotates_S72x256_d0 = N at hn ⊢
  have e0 := hp ⟨r + 8, by omega⟩ (by simp)
  simp only [show (r : ℕ) + 8 - 1 = r + 7 by omega] at e0
  have e1 : (if h : r.1 = 63 then 0 else z (ix2 ⟨r + 9, by omega⟩ c)) = Scalar.select (IntOp.cmpi .eq (BitVec.ofNat 32 (r + 8)) 71#32) (0 : EReal) (N (ix2 ⟨r + 8, by omega⟩ c)) := by
    have hd : ∀ r : Fin 64, IntOp.cmpi .eq (BitVec.ofNat 32 (r + 8)) 71#32 = if r.1 = 63 then 1#1 else 0#1 := by decide +kernel
    rw [hd]
    by_cases h : r.1 = 63
    · rw [dif_pos h, if_pos h]; rfl
    · rw [dif_neg h, if_neg h]; exact (hn ⟨r + 8, by omega⟩ (by simp; omega)).symm
  rw [← e0, e1]
  pointwise [k0_pay89]
  simp only [Nat.add_comm 8 (r : ℕ)]

end Cert.Kernel2Ideal.Pay

end
-- ==== Proof.FfnAct.lean ====
/- The activations of one step of the feed-forward call, row by row, and the accumulator they are added to, over the
   extended reals. -/
module

public import proofs.«01_k».proof.Proof.FfnShape
public import proofs.«01_k».proof.Proof.FfnPay

@[expose] public section

set_option maxRecDepth 16384

noncomputable section

namespace Cert.Kernel2Ideal.Act

open Cert.Kernel2Ideal Cert.Kernel2Ideal.Gen Idealize.ShloMosaic Idealize.ShloMosaic.TcCoe Idealize.SL.Sem

/-- A rectangle's placement of an index, by coordinates. -/
theorem place {S : Shape} {off size : Fin S.rank → ℕ} {inb} (x : (Rect.unit (s := S) off size inb).shape.Idx) (y : S.Idx)
    (h : ∀ a, (y a : ℕ) = off a + x a) : (Rect.unit (s := S) off size inb).idx x = y :=
  funext fun a => Fin.ext (by rw [h a]; show off a + 1 * (x a : ℕ) = _; omega)

/-- A box of a slot read: what the stores leave there. -/
theorem ld_apply (arg13 : Memref sig .tc .vmem S2x2048x512 .f32) (L : List (View.Piece (Elt Ideal) S2x2048x512 .f32)) (p : Fin 2) (off sz : Fin 2 → ℕ)
    (inb : ∀ a, off a + sz a ≤ S2048x512.size a) (y : (⟨2, sz⟩ : Shape).Idx) (R : Fin 2048) (C : Fin 512)
    (hR : R.1 = off 0 + (y 0).1) (hC : C.1 = off 1 + (y 1).1) :
    ld arg13 L p off sz inb y = View.canon L (ix3 p R C) := by
  unfold ld LoadRect.valAlong
  rw [View.readCov_eq_canon']
  refine congrArg (View.canon L) ?_
  have hx : Shape.reshapeEquiv (LoadRect.numel_consLift (Rect.unit (s := S2048x512) off sz inb).toLoadRect ![1, 2048, 512] rfl (by decide)) y = Fin.cons ⟨0, Nat.one_pos⟩ y :=
    Shape.reshapeEquiv_cons_one (d := sz) _ _
  rw [hx]
  funext a
  apply Fin.ext
  fin_cases a
  · show (p.1 + 0) + 1 * 0 = p.1; omega
  · show (0 + off 0) + 1 * (y 0).1 = R.1; omega
  · show (0 + off 1) + 1 * (y 1).1 = C.1; omega

/-- The activation of row `R`, lane `c`: the gate's three neighbouring rows convolved, gated by its own logistic, times the value. -/
def act (u : Vec Ideal S1x2048x512 .f32) (w : Vec Ideal S1x3x256 .f32) (b : Vec Ideal S2x256 .f32) (R : Fin 2048) (c : Fin 256) : EReal :=
  Pay.gated (if 0 < R.1 then u (ix3 0 ⟨R - 1, by omega⟩ ⟨c, by omega⟩) else 0) (u (ix3 0 R ⟨c, by omega⟩))
    (if h : R.1 < 2047 then u (ix3 0 ⟨R + 1, by omega⟩ ⟨c, by omega⟩) else 0)
    (w (ix3 0 0 c)) (w (ix3 0 1 c)) (w (ix3 0 2 c)) (b (ix2 1 c)) (u (ix3 0 R ⟨256 + c, by omega⟩))

section
variable (arg7 : Memref sig .tc .vmem S1x3x256 .f32) (harg7 : arg7.IsWhole) (arg8 : Memref sig .tc .vmem S2x256 .f32) (harg8 : arg8.IsWhole)
  (arg13 : Memref sig .tc .vmem S2x2048x512 .f32) (x7 : Vec Ideal S1x3x256 .f32) (x8 : Vec Ideal S2x256 .f32)

theorem tap_apply (k : Fin 3) (c : Fin 256) : tap arg7 harg7 x7 k (ix3 0 0 c) = x7 (ix3 0 k c) := by
  unfold tap
  rw [harg7.readAt_unread]
  exact congrArg x7 (place _ _ fun a => by fin_cases a <;> simp)

theorem bias_apply (c : Fin 256) : bias arg8 harg8 x8 (ix2 0 c) = x8 (ix2 1 c) := by
  unfold bias
  rw [harg8.readAt_unread]
  exact congrArg x8 (place _ _ fun a => by fin_cases a <;> simp)

variable (u : Vec Ideal S1x2048x512 .f32) (p : Fin 2)

theorem first_apply (L : List (View.Piece (Elt Ideal) S2x2048x512 .f32)) (hL : ∀ R C, View.canon L (ix3 p R C) = u (ix3 0 R C)) (r : Fin 64) (c : Fin 256) :
    actFirst arg7 harg7 arg8 harg8 arg13 x7 x8 L p (ix3 0 r c) = act u x7 x8 ⟨r, by omega⟩ c := by
  unfold actFirst
  refine (Pay.first_apply _ _ _ _ _ _ r c).trans ?_
  have hg : ∀ j : Fin 72, ld arg13 L p ![0, 0] S72x256.size (by decide) (ix2 j c) = u (ix3 0 ⟨j, by omega⟩ ⟨c, by omega⟩) := fun j =>
    (ld_apply arg13 L p _ _ _ (ix2 j c) ⟨j, by omega⟩ ⟨c, by omega⟩ (Nat.zero_add _).symm (Nat.zero_add _).symm).trans (hL _ _)
  have hv : ld arg13 L p ![0, 256] S64x256.size (by decide) (ix2 r c) = u (ix3 0 ⟨r, by omega⟩ ⟨256 + c, by omega⟩) :=
    (ld_apply arg13 L p _ _ _ (ix2 r c) ⟨r, by omega⟩ ⟨256 + c, by omega⟩ (Nat.zero_add _).symm rfl).trans (hL _ _)
  rw [hg, hg, hg, hv, tap_apply, tap_apply, tap_apply, bias_apply]
  unfold act
  congr 1
  · by_cases h : r.1 = 0
    · rw [if_pos h, if_neg (by simp [h])]
    · rw [if_neg h, if_pos (by show 0 < r.1; omega)]
  · rw [dif_pos (by show r.1 < 2047; omega)]

theorem mid_apply (L : List (View.Piece (Elt Ideal) S2x2048x512 .f32)) (hL : ∀ R C, View.canon L (ix3 p R C) = u (ix3 0 R C)) (n : ℕ) (h0 : 0 < n) (hn : n < 31)
    (r : Fin 64) (c : Fin 256) :
    actMid arg7 harg7 arg8 harg8 arg13 x7 x8 L p n (ix3 0 r c) = act u x7 x8 ⟨64 * n + r, by omega⟩ c := by
  unfold actMid
  refine (Pay.mid_apply _ _ _ _ _ _ r c).trans ?_
  have hg : ∀ j : Fin 80, ld arg13 L p ![(64 * n - 8) % 1969, 0] S80x256.size (inb80 n) (ix2 j c) = u (ix3 0 ⟨64 * n - 8 + j, by omega⟩ ⟨c, by omega⟩) := fun j =>
    (ld_apply arg13 L p _ _ _ (ix2 j c) ⟨64 * n - 8 + j, by omega⟩ ⟨c, by omega⟩
      (show 64 * n - 8 + j.1 = (64 * n - 8) % 1969 + j.1 by omega) (Nat.zero_add _).symm).trans (hL _ _)
  have hv : ld arg13 L p ![(64 * n) % 1985, 256] S64x256.size (inb64 n) (ix2 r c) = u (ix3 0 ⟨64 * n + r, by omega⟩ ⟨256 + c, by omega⟩) :=
    (ld_apply arg13 L p _ _ _ (ix2 r c) ⟨64 * n + r, by omega⟩ ⟨256 + c, by omega⟩
      (show 64 * n + r.1 = (64 * n) % 1985 + r.1 by omega) rfl).trans (hL _ _)
  rw [hg, hg, hg, hv, tap_apply, tap_apply, tap_apply, bias_apply]
  unfold act
  rw [if_pos (by show 0 < 64 * n + r.1; omega), dif_pos (by show 64 * n + r.1 < 2047; omega)]
  have e1 : 64 * n - 8 + (r.1 + 7) = 64 * n + r.1 - 1 := by omega
  have e2 : 64 * n - 8 + (r.1 + 8) = 64 * n + r.1 := by omega
  have e3 : 64 * n - 8 + (r.1 + 9) = 64 * n + r.1 + 1 := by omega
  simp only [e1, e2, e3]

theorem last_apply (L : List (View.Piece (Elt Ideal) S2x2048x512 .f32)) (hL : ∀ R C, View.canon L (ix3 p R C) = u (ix3 0 R C)) (r : Fin 64) (c : Fin 256) :
    actLast arg7 harg7 arg8 harg8 arg13 x7 x8 L p (ix3 0 r c) = act u x7 x8 ⟨1984 + r, by omega⟩ c := by
  unfold actLast
  refine (Pay.last_apply _ _ _ _ _ _ r c).trans ?_
  have hg : ∀ j : Fin 72, ld arg13 L p ![1976, 0] S72x256.size (by decide) (ix2 j c) = u (ix3 0 ⟨1976 + j, by omega⟩ ⟨c, by omega⟩) := fun j =>
    (ld_apply arg13 L p _ _ _ (ix2 j c) ⟨1976 + j, by omega⟩ ⟨c, by omega⟩ rfl (Nat.zero_add _).symm).trans (hL _ _)
  have hv : ld arg13 L p ![1984, 256] S64x256.size (by decide) (ix2 r c) = u (ix3 0 ⟨1984 + r, by omega⟩ ⟨256 + c, by omega⟩) :=
    (ld_apply arg13 L p _ _ _ (ix2 r c) ⟨1984 + r, by omega⟩ ⟨256 + c, by omega⟩ rfl rfl).trans (hL _ _)
  simp only [hg]
  rw [hv, tap_apply, tap_apply, tap_apply, bias_apply]
  unfold act
  rw [if_pos (by show 0 < 1984 + r.1; omega)]
  have e1 : 1976 + (r.1 + 7) = 1984 + r.1 - 1 := by omega
  have e2 : 1976 + (r.1 + 8) = 1984 + r.1 := by omega
  have e3 : 1976 + (r.1 + 9) = 1984 + r.1 + 1 := by omega
  simp only [e1, e2, e3]
  congr 1
  by_cases h : r.1 = 63
  · rw [dif_pos h, dif_neg (by omega)]
  · rw [dif_neg h, dif_pos (by omega)]

variable (H : ℕ → List (View.Piece (Elt Ideal) S2x2048x512 .f32)) (hH : ∀ n R C, View.canon (H n) (ix3 p R C) = u (ix3 0 R C))
include hH

theorem at_apply (n : ℕ) (hn : n < 32) (r : Fin 64) (c : Fin 256) :
    actAt arg7 harg7 arg8 harg8 arg13 x7 x8 H p n (ix3 0 r c) = act u x7 x8 ⟨64 * n + r, by omega⟩ c := by
  unfold actAt
  by_cases h0 : n = 0
  · subst h0
    rw [if_pos rfl]
    refine (first_apply arg7 harg7 arg8 harg8 arg13 x7 x8 u p _ (hH 1) r c).trans ?_
    congr 1; exact Fin.ext (by show r.1 = 64 * 0 + r.1; omega)
  · rw [if_neg h0]
    by_cases h1 : n = 31
    · subst h1
      rw [if_pos rfl]
      exact last_apply arg7 harg7 arg8 harg8 arg13 x7 x8 u p _ (hH 4) r c
    · rw [if_neg h1]
      exact mid_apply arg7 harg7 arg8 harg8 arg13 x7 x8 u p _ (hH _) n (by omega) (by omega) r c

/-- The stored activations, read back. -/
theorem acts_canon (k : Fin 4) (r : Fin 512) (c : Fin 256) :
    ∀ N ≤ 32, 512 * k.1 + r.1 < 64 * N → View.canon (acts arg7 harg7 arg8 harg8 arg13 x7 x8 H p N) (ix3 k r c) = act u x7 x8 ⟨512 * k + r, by omega⟩ c
  | 0, _, h => by omega
  | N + 1, hN, h => by
    unfold acts
    by_cases hr : 512 * k.1 + r.1 < 64 * N
    · refine Eq.trans ?_ (acts_canon k r c N (by omega) hr)
      by_cases hk : k.1 = N / 8
      · exact canon_miss _ _ _ 1 (64 * (N % 8)) 64 rfl rfl rfl (.inl (by show r.1 < 64 * (N % 8); omega))
      · exact canon_miss _ _ _ 0 (N / 8 % 4) 1 rfl rfl rfl (.inl (by show k.1 < N / 8 % 4; omega))
    · refine (canon_hit _ _ _ (ix3 0 ⟨512 * k.1 + r.1 - 64 * N, by omega⟩ c) _ fun a => by
        fin_cases a
        · show k.1 = N / 8 % 4 + 1 * 0; omega
        · show r.1 = 64 * (N % 8) + 1 * (512 * k.1 + r.1 - 64 * N); omega
        · show c.1 = 0 + 1 * c.1; omega).trans ?_
      refine (at_apply arg7 harg7 arg8 harg8 arg13 x7 x8 u p H hH N (by omega) _ c).trans ?_
      congr 1; exact Fin.ext (by show 64 * N + (512 * k.1 + r.1 - 64 * N) = 512 * k.1 + r.1; omega)

/-- The accumulator's row block `k` after one step. -/
theorem accAt_apply (arg9 : Memref sig .tc .vmem S1x256x1024 .f32) (harg9 : arg9.IsWhole) (arg11 : Memref sig .tc .vmem S1x2048x1024 .f32) (harg11 : arg11.IsWhole)
    (arg14 : Memref sig .tc .vmem S4x512x256 .bf16) (x9 : Vec Ideal S1x256x1024 .f32) (x11 : Vec Ideal S1x2048x1024 .f32) (k : Fin 4) (N : ℕ) (hN : N ≤ 32) (hk : 8 * k.1 + 8 ≤ N)
    (r : Fin 512) (d : Fin 1024) :
    accAt arg9 harg9 arg11 harg11 arg14 x9 x11 (acts arg7 harg7 arg8 harg8 arg13 x7 x8 H p N) k (ix3 0 r d)
      = x11 (ix3 0 ⟨512 * k + r, by omega⟩ d) + ∑ c : Fin 256, act u x7 x8 ⟨512 * k + r, by omega⟩ c * x9 (ix3 0 c d) := by
  unfold accAt
  refine (Pay.acc_apply _ _ _ r d).trans ?_
  congr 1
  · rw [harg11.readAt_unread]
    exact congrArg x11 (place _ _ fun a => by fin_cases a <;> simp)
  · refine Finset.sum_congr rfl fun c _ => ?_
    rw [View.readCov_eq_canon', harg9.readAt_unread, ← acts_canon arg7 harg7 arg8 harg8 arg13 x7 x8 u p H hH k r c N hN (by omega)]
    congr 1
    · exact congrArg (View.canon _) (place _ _ fun a => by fin_cases a <;> simp)
    · exact congrArg x9 (place _ _ fun a => by fin_cases a <;> simp)

end

/-- The accumulator's four row blocks, read back. -/
theorem accs_canon (a : Fin 4 → Vec Ideal S1x512x1024 .f32) (v : Fin 2048 → Fin 1024 → EReal)
    (h : ∀ k r d, a k (ix3 0 r d) = v ⟨512 * k + r, by omega⟩ d) (R : Fin 2048) (d : Fin 1024) : View.canon (accs a) (ix3 0 R d) = v R d := by
  have key : ∀ (k : Fin 4) (hk : 512 * k.1 ≤ R.1 ∧ R.1 < 512 * k.1 + 512) (inb) (L : List (View.Piece (Elt Ideal) S1x2048x1024 .f32)),
      View.canon (⟨Rect.unit (s := S1x2048x1024) ![0, 512 * k.1, 0] S1x512x1024.size inb, a k⟩ :: L) (ix3 0 R d) = v R d := fun k hk inb L => by
    refine (canon_hit _ _ _ (ix3 0 ⟨R.1 - 512 * k.1, by omega⟩ d) _ fun a => by
      fin_cases a
      · rfl
      · show R.1 = 512 * k.1 + 1 * (R.1 - 512 * k.1); omega
      · show d.1 = 0 + 1 * d.1; omega).trans ?_
    rw [h]
    congr 1; exact Fin.ext (by show 512 * k.1 + (R.1 - 512 * k.1) = R.1; omega)
  unfold accs
  by_cases h3 : 1536 ≤ R.1
  · exact key 3 ⟨h3, by show R.1 < 512 * 3 + 512; omega⟩ _ _
  rw [canon_miss _ _ _ 1 1536 512 rfl rfl rfl (.inl (by show R.1 < 1536; omega))]
  by_cases h2 : 1024 ≤ R.1
  · exact key 2 ⟨h2, by show R.1 < 512 * 2 + 512; omega⟩ _ _
  rw [canon_miss _ _ _ 1 1024 512 rfl rfl rfl (.inl (by show R.1 < 1024; omega))]
  by_cases h1 : 512 ≤ R.1
  · exact key 1 ⟨h1, by show R.1 < 512 * 1 + 512; omega⟩ _ _
  rw [canon_miss _ _ _ 1 512 512 rfl rfl rfl (.inl (by show R.1 < 512; omega))]
  exact key 0 ⟨Nat.zero_le _, by show R.1 < 512 * 0 + 512; omega⟩ _ _

/-- The slot being read, while the other one is stored. -/
theorem hist_canon (q p : Fin 2) (hqp : p ≠ q) (w : Fin 4 → Vec Ideal S512x512 .f32) (L : List (View.Piece (Elt Ideal) S2x2048x512 .f32)) (R : Fin 2048) (C : Fin 512) :
    ∀ n, View.canon (hist q w L n) (ix3 p R C) = View.canon L (ix3 p R C)
  | 0 => rfl
  | n + 1 => by unfold hist; exact (rows_other q _ _ _ p C R hqp).trans (hist_canon q p hqp w L R C n)

theorem slotA_canon (u : Vec Ideal S1x2048x512 .f32) (R : Fin 2048) (C : Fin 512) :
    View.canon ([⟨slotA, u⟩] : List (View.Piece (Elt Ideal) S2x2048x512 .f32)) (ix3 0 R C) = u (ix3 0 R C) :=
  canon_hit slotA u _ (ix3 0 R C) _ fun a => by
    fin_cases a
    · rfl
    · show R.1 = 0 + 1 * R.1; omega
    · show C.1 = 0 + 1 * C.1; omega

theorem slotB_canon (u : Vec Ideal S1x2048x512 .f32) (R : Fin 2048) (C : Fin 512) :
    View.canon ([⟨slotB, u⟩] : List (View.Piece (Elt Ideal) S2x2048x512 .f32)) (ix3 1 R C) = u (ix3 0 R C) :=
  canon_hit slotB u _ (ix3 0 R C) _ fun a => by
    fin_cases a
    · rfl
    · show R.1 = 0 + 1 * R.1; omega
    · show C.1 = 0 + 1 * C.1; omega

end Cert.Kernel2Ideal.Act

end
-- ==== Proof.FfnStep.lean ====
/- What one grid step of the feed-forward call leaves, element by element, over the extended reals. -/
module

public import proofs.«01_k».proof.Proof.FfnState
public import proofs.«01_k».proof.Proof.FfnAct
public import Idealize.ShloMosaic.Lib.IdealHost

@[expose] public section

set_option maxRecDepth 16384

noncomputable section

namespace Cert.Kernel2Ideal.Step

open Cert.Kernel2Ideal Cert.Kernel2Ideal.Gen Cert.Kernel2Ideal.Act Idealize.ShloMosaic Idealize.ShloMosaic.TcCoe Idealize.SL.Sem

/-- A box of a whole buffer read. -/
theorem rd {S : Shape} {e : EltTy} (M : Memref sig .tc .vmem S e) (hM : M.IsWhole) (X : Vec Ideal S e) {off size : Fin S.rank → ℕ} {inb}
    (x : (Rect.unit (s := S) off size inb).shape.Idx) (y : S.Idx) (h : ∀ a, (y a : ℕ) = off a + x a) :
    View.readAt (Elt Ideal) M.view (Rect.unit (s := S) off size inb).toLoadRect (hM.unread X) x = X y :=
  (hM.readAt_unread _ _ _).trans (congrArg X (place x y h))

/-- A box of a buffer read after stores. -/
theorem rc {S : Shape} {e : EltTy} (M : Memref sig .tc .vmem S e) (L : List (View.Piece (Elt Ideal) S e)) {off size : Fin S.rank → ℕ} {inb}
    (x : (Rect.unit (s := S) off size inb).shape.Idx) (y : S.Idx) (h : ∀ a, (y a : ℕ) = off a + x a) :
    M.view.readCov L (Rect.unit (s := S) off size inb).toLoadRect x = View.canon L y :=
  (congrFun (View.readCov_eq_canon' _ _ _) x).trans (congrArg (View.canon L) (place x y h))

/-- A row block's projections, of the rows held. -/
theorem proj_val (arg5 : Memref sig .tc .vmem S1x1024x256 .f32) (harg5 : arg5.IsWhole) (arg6 : Memref sig .tc .vmem S1x1024x256 .f32) (harg6 : arg6.IsWhole)
    (arg12 : Memref sig .tc .vmem S2048x1024 .bf16) (harg12 : arg12.IsWhole) (x5 x6 : Vec Ideal S1x1024x256 .f32) (x12 : Vec Ideal S2048x1024 .bf16) (k : Fin 4) (r C : Fin 512) :
    proj arg5 harg5 arg6 harg6 arg12 harg12 x5 x6 x12 k (ix2 r C)
      = ∑ j : Fin 1024, x12 (ix2 ⟨512 * k + r, by omega⟩ j) * (if hc : C.1 < 256 then x5 (ix3 0 j ⟨C, hc⟩) else x6 (ix3 0 j ⟨C - 256, by omega⟩)) := by
  unfold proj
  refine (Pay.proj_apply _ _ _ r C).trans (Finset.sum_congr rfl fun j _ => ?_)
  refine congr (congrArg HMul.hMul (rd arg12 harg12 x12 _ _ fun a => by fin_cases a <;> simp)) ?_
  by_cases hc : C.1 < 256
  · rw [dif_pos hc, dif_pos hc]; exact rd arg5 harg5 x5 _ _ fun a => by fin_cases a <;> simp
  · rw [dif_neg hc, dif_neg hc]; exact rd arg6 harg6 x6 _ _ fun a => by fin_cases a <;> simp

/-- The same at the first step, the rows just stored. -/
theorem proj0_val (arg5 : Memref sig .tc .vmem S1x1024x256 .f32) (harg5 : arg5.IsWhole) (arg6 : Memref sig .tc .vmem S1x1024x256 .f32) (harg6 : arg6.IsWhole)
    (arg12 : Memref sig .tc .vmem S2048x1024 .bf16) (x5 x6 : Vec Ideal S1x1024x256 .f32) (H : List (View.Piece (Elt Ideal) S2048x1024 .bf16))
    (v : Fin 2048 → Fin 1024 → EReal) (hv : ∀ R j, View.canon H (ix2 R j) = v R j) (k : Fin 4) (r C : Fin 512) :
    proj0 arg5 harg5 arg6 harg6 arg12 x5 x6 H k (ix2 r C)
      = ∑ j : Fin 1024, v ⟨512 * k + r, by omega⟩ j * (if hc : C.1 < 256 then x5 (ix3 0 j ⟨C, hc⟩) else x6 (ix3 0 j ⟨C - 256, by omega⟩)) := by
  unfold proj0
  refine (Pay.proj_apply _ _ _ r C).trans (Finset.sum_congr rfl fun j _ => ?_)
  refine congr (congrArg HMul.hMul ((rc arg12 H _ (ix2 ⟨512 * k + r, by omega⟩ j) fun a => by fin_cases a <;> simp).trans (hv _ j))) ?_
  by_cases hc : C.1 < 256
  · rw [dif_pos hc, dif_pos hc]; exact rd arg5 harg5 x5 _ _ fun a => by fin_cases a <;> simp
  · rw [dif_neg hc, dif_neg hc]; exact rd arg6 harg6 x6 _ _ fun a => by fin_cases a <;> simp

/-- A slot's projections after its four row blocks are stored. -/
theorem news_val (p : Fin 2) (w : Fin 4 → Vec Ideal S512x512 .f32) (L : List (View.Piece (Elt Ideal) S2x2048x512 .f32)) (v : Fin 2048 → Fin 512 → EReal)
    (h : ∀ k r C, w k (ix2 r C) = v ⟨512 * k + r, by omega⟩ C) (R : Fin 2048) (C : Fin 512) : View.canon (news p w L) (ix3 p R C) = v R C := by
  have e : R.1 = 512 * (⟨R.1 / 512, by omega⟩ : Fin 4).1 + (⟨R.1 % 512, by omega⟩ : Fin 512).1 := by show R.1 = 512 * (R.1 / 512) + R.1 % 512; omega
  rw [canon_news p w L ⟨R.1 / 512, by omega⟩ ⟨R.1 % 512, by omega⟩ C R e, h]
  congr 1; exact Fin.ext e.symm

/-- A whole store, read back. -/
theorem whole_canon {S : Shape} {e : EltTy} (off : Fin S.rank → ℕ) (inb) (h : ∀ a, off a = 0) (w : Vec Ideal S e) (L : List (View.Piece (Elt Ideal) S e)) (y : S.Idx) :
    View.canon (⟨Rect.unit (s := S) off S.size inb, w⟩ :: L) y = w y :=
  canon_hit (Rect.unit (s := S) off S.size inb) w L y y fun a => by show (y a).val = off a + 1 * (y a).val; rw [h a]; omega

/-- The modulated rows, of the blocks. -/
theorem entry_val (arg2 : Memref sig .tc .vmem S1x2048x1024 .f32) (harg2 : arg2.IsWhole) (arg3 : Memref sig .tc .vmem S1x1x6x1024 .f32) (harg3 : arg3.IsWhole)
    (arg4 : Memref sig .tc .vmem S2x1024 .f32) (harg4 : arg4.IsWhole) (x2 : Vec Ideal S1x2048x1024 .f32) (x3 : Vec Ideal S1x1x6x1024 .f32) (x4 : Vec Ideal S2x1024 .f32)
    (R : Fin 2048) (k : Fin 1024) :
    entry arg2 harg2 arg3 harg3 arg4 harg4 x2 x3 x4 (ix2 R k)
      = x2 (ix3 0 R k) * Pay.rms (fun j => x2 (ix3 0 R j)) * x4 (ix2 1 k) * (1 + x3 (ix4 0 0 4 k)) + x3 (ix4 0 0 3 k) := by
  unfold entry
  refine (Pay.entry_apply _ _ _ _ R k).trans ?_
  have e2 : ∀ j : Fin 1024, View.readAt (Elt Ideal) arg2.view (Rect.unit (s := S1x2048x1024) ![0, 0, 0] S1x2048x1024.size (by decide)).toLoadRect (harg2.unread x2) (ix3 0 R j) = x2 (ix3 0 R j) :=
    fun j => rd arg2 harg2 x2 _ _ fun a => by fin_cases a <;> simp
  refine congr (congrArg HAdd.hAdd (congr (congrArg HMul.hMul (congr (congrArg HMul.hMul (congr (congrArg HMul.hMul (e2 k))
    (congrArg Pay.rms (funext e2)))) (rd arg4 harg4 x4 _ _ ?_))) (congr (congrArg HAdd.hAdd Ideal.ofBits_one_f32) (rd arg3 harg3 x3 _ _ ?_)))) (rd arg3 harg3 x3 _ _ ?_)
  all_goals intro a; fin_cases a <;> simp

/-- The normed residual, of the blocks and the accumulator. -/
theorem finish_val (arg2 : Memref sig .tc .vmem S1x2048x1024 .f32) (harg2 : arg2.IsWhole) (arg3 : Memref sig .tc .vmem S1x1x6x1024 .f32) (harg3 : arg3.IsWhole)
    (arg10 : Memref sig .tc .vmem S1x1024 .f32) (harg10 : arg10.IsWhole) (arg11 : Memref sig .tc .vmem S1x2048x1024 .f32)
    (x2 : Vec Ideal S1x2048x1024 .f32) (x3 : Vec Ideal S1x1x6x1024 .f32) (x10 : Vec Ideal S1x1024 .f32) (O : List (View.Piece (Elt Ideal) S1x2048x1024 .f32))
    (v : Fin 2048 → Fin 1024 → EReal) (hv : ∀ R d, View.canon O (ix3 0 R d) = v R d) (R : Fin 2048) (d : Fin 1024) :
    finish arg2 harg2 arg3 harg3 arg10 harg10 arg11 x2 x3 x10 O (ix3 0 R d)
      = (x2 (ix3 0 R d) + x3 (ix4 0 0 5 d) * v R d) * Pay.rms (fun j => x2 (ix3 0 R j) + x3 (ix4 0 0 5 j) * v R j) * x10 (ix2 0 d) := by
  unfold finish
  refine (Pay.finish_apply _ _ _ _ R d).trans ?_
  have e2 : ∀ j : Fin 1024, View.readAt (Elt Ideal) arg2.view (Rect.unit (s := S1x2048x1024) ![0, 0, 0] S1x2048x1024.size (by decide)).toLoadRect (harg2.unread x2) (ix3 0 R j) = x2 (ix3 0 R j) :=
    fun j => rd arg2 harg2 x2 _ _ fun a => by fin_cases a <;> simp
  have e3 : ∀ j : Fin 1024, View.readAt (Elt Ideal) arg3.view (Rect.unit (s := S1x1x6x1024) ![0, 0, 5, 0] S1x1x1x1024.size (by decide)).toLoadRect (harg3.unread x3) (ix4 0 0 0 j) = x3 (ix4 0 0 5 j) :=
    fun j => rd arg3 harg3 x3 _ _ fun a => by fin_cases a <;> simp
  have eo : ∀ j : Fin 1024, arg11.view.readCov O (Rect.unit (s := S1x2048x1024) ![0, 0, 0] S1x2048x1024.size (by decide)).toLoadRect (ix3 0 R j) = v R j :=
    fun j => (rc arg11 O _ (ix3 0 R j) fun a => by fin_cases a <;> simp).trans (hv R j)
  have er := fun j : Fin 1024 => congr (congrArg HAdd.hAdd (e2 j)) (congr (congrArg HMul.hMul (e3 j)) (eo j))
  refine congr (congrArg HMul.hMul (congr (congrArg HMul.hMul (er d)) (congrArg Pay.rms (funext er)))) (rd arg10 harg10 x10 _ _ ?_)
  intro a; fin_cases a <;> simp

variable (m : (ℓ : Loc nD τ sig) → Buf (Elt Ideal) ℓ)

/-- The blocks a grid step reads. -/
abbrev X0 (c : Dev nD) (t : Fin cfg0.N) : Vec Ideal S1x2048x1024 .f32 := iblk m c 0 t
abbrev X1 (c : Dev nD) (t : Fin cfg0.N) : Vec Ideal S1x1x6x1024 .f32 := iblk m c 1 t
abbrev X2 (c : Dev nD) (t : Fin cfg0.N) : Vec Ideal S2x1024 .f32 := iblk m c 2 t
abbrev X3 (c : Dev nD) (t : Fin cfg0.N) : Vec Ideal S1x1024x256 .f32 := iblk m c 3 t
abbrev X4 (c : Dev nD) (t : Fin cfg0.N) : Vec Ideal S1x1024x256 .f32 := iblk m c 4 t
abbrev X5 (c : Dev nD) (t : Fin cfg0.N) : Vec Ideal S1x3x256 .f32 := iblk m c 5 t
abbrev X6 (c : Dev nD) (t : Fin cfg0.N) : Vec Ideal S2x256 .f32 := iblk m c 6 t
abbrev X7 (c : Dev nD) (t : Fin cfg0.N) : Vec Ideal S1x256x1024 .f32 := iblk m c 7 t
abbrev X8 (c : Dev nD) (t : Fin cfg0.N) : Vec Ideal S1x1024 .f32 := iblk m c 8 t

/-- The accumulator with one chunk's product added. -/
def added (c : Dev nD) (t : Fin cfg0.N) (s : St Ideal) (R : Fin 2048) (d : Fin 1024) : EReal :=
  s.o (ix3 0 R d) + ∑ k : Fin 256, act s.u (X5 m c t) (X6 m c t) R k * X7 m c t (ix3 0 k d)

/-- The projections of the rows held, on the chunk's columns: the gate's, then the value's. -/
def projected (c : Dev nD) (t : Fin cfg0.N) (h : Fin 2048 → Fin 1024 → EReal) (R : Fin 2048) (C : Fin 512) : EReal :=
  ∑ j : Fin 1024, h R j * (if hc : C.1 < 256 then X3 m c t (ix3 0 j ⟨C, hc⟩) else X4 m c t (ix3 0 j ⟨C - 256, by omega⟩))

theorem stO_o (c : Dev nD) (t : Fin cfg0.N) (h : t.val % 2 = 1 ∧ t.val % 12 ≠ 11) (s : St Ideal) (R : Fin 2048) (d : Fin 1024) :
    (stO m c t h s).o (ix3 0 R d) = added m c t s R d := by
  unfold stO atO
  dsimp only
  rw [outO c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) (hn1 t (by omega)) ((hcond2 t).2 h) (hn3 t (by omega)) (hn4 t (by omega)) (iblk m c 0 t) (iblk m c 1 t) (iblk m c 2 t) (iblk m c 3 t) (iblk m c 4 t) (iblk m c 5 t) (iblk m c 6 t) (iblk m c 7 t) (iblk m c 8 t) s.o s.h s.u]
  exact accs_canon _ (added m c t s) (fun k r d => accAt_apply _ _ _ _ _ _ _ s.u 0 _
    (fun n R C => (hist_canon 1 0 (by decide) _ _ R C n).trans (slotA_canon s.u R C)) _ _ _ _ _ _ _ k 32 le_rfl (by omega) r d) R d

theorem stO_u (c : Dev nD) (t : Fin cfg0.N) (h : t.val % 2 = 1 ∧ t.val % 12 ≠ 11) (s : St Ideal) (R : Fin 2048) (C : Fin 512) :
    (stO m c t h s).u (ix3 0 R C) = projected m c t (fun R j => s.h (ix2 R j)) R C := by
  unfold stO atO
  dsimp only
  rw [slotO c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) (hn1 t (by omega)) ((hcond2 t).2 h) (hn3 t (by omega)) (hn4 t (by omega)) (iblk m c 0 t) (iblk m c 1 t) (iblk m c 2 t) (iblk m c 3 t) (iblk m c 4 t) (iblk m c 5 t) (iblk m c 6 t) (iblk m c 7 t) (iblk m c 8 t) s.o s.h s.u]
  refine (congrArg (View.canon _) (slot_emb 1 R C)).trans ?_
  exact news_val 1 _ _ (projected m c t fun R j => s.h (ix2 R j)) (fun k r C => proj_val _ _ _ _ _ _ _ _ _ k r C) R C

theorem stO_h (c : Dev nD) (t : Fin cfg0.N) (h : t.val % 2 = 1 ∧ t.val % 12 ≠ 11) (s : St Ideal) : (stO m c t h s).h = s.h := by
  unfold stO; rfl

theorem stE_o (c : Dev nD) (t : Fin cfg0.N) (h : t.val % 2 = 0 ∧ t.val % 12 ≠ 0) (s : St Ideal) (R : Fin 2048) (d : Fin 1024) :
    (stE m c t h s).o (ix3 0 R d) = added m c t s R d := by
  unfold stE atE
  dsimp only
  rw [outE c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) (hn1 t (by omega)) (hn2 t (by omega)) ((hcond3 t).2 h) (hn4 t (by omega)) (iblk m c 0 t) (iblk m c 1 t) (iblk m c 2 t) (iblk m c 3 t) (iblk m c 4 t) (iblk m c 5 t) (iblk m c 6 t) (iblk m c 7 t) (iblk m c 8 t) s.o s.h s.u]
  exact accs_canon _ (added m c t s) (fun k r d => accAt_apply _ _ _ _ _ _ _ s.u 1 _
    (fun n R C => (hist_canon 0 1 (by decide) _ _ R C n).trans (slotB_canon s.u R C)) _ _ _ _ _ _ _ k 32 le_rfl (by omega) r d) R d

theorem stE_u (c : Dev nD) (t : Fin cfg0.N) (h : t.val % 2 = 0 ∧ t.val % 12 ≠ 0) (s : St Ideal) (R : Fin 2048) (C : Fin 512) :
    (stE m c t h s).u (ix3 0 R C) = projected m c t (fun R j => s.h (ix2 R j)) R C := by
  unfold stE atE
  dsimp only
  rw [slotE c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) (hn1 t (by omega)) (hn2 t (by omega)) ((hcond3 t).2 h) (hn4 t (by omega)) (iblk m c 0 t) (iblk m c 1 t) (iblk m c 2 t) (iblk m c 3 t) (iblk m c 4 t) (iblk m c 5 t) (iblk m c 6 t) (iblk m c 7 t) (iblk m c 8 t) s.o s.h s.u]
  refine (congrArg (View.canon _) (slot_emb 0 R C)).trans ?_
  exact news_val 0 _ _ (projected m c t fun R j => s.h (ix2 R j)) (fun k r C => proj_val _ _ _ _ _ _ _ _ _ k r C) R C

theorem stE_h (c : Dev nD) (t : Fin cfg0.N) (h : t.val % 2 = 0 ∧ t.val % 12 ≠ 0) (s : St Ideal) : (stE m c t h s).h = s.h := by
  unfold stE; rfl

theorem stZ_o (c : Dev nD) (t : Fin cfg0.N) (h : t.val % 12 = 0) (R : Fin 2048) (d : Fin 1024) : (stZ m c t h).o (ix3 0 R d) = 0 := by
  unfold stZ atZ
  dsimp only
  rw [outZ c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) ((hcond1 t).2 h) (hn2 t (by omega)) (hn3 t (by omega)) (hn4 t (by omega)) (iblk m c 0 t) (iblk m c 1 t) (iblk m c 2 t) (iblk m c 3 t) (iblk m c 4 t) (iblk m c 5 t) (iblk m c 6 t) (iblk m c 7 t) (iblk m c 8 t)]
  exact (whole_canon _ _ (by intro a; fin_cases a <;> rfl) _ _ _).trans (Pay.zeros_apply R d)

/-- The rows held through a batch element's steps. -/
def entered (c : Dev nD) (t : Fin cfg0.N) (R : Fin 2048) (k : Fin 1024) : EReal :=
  X0 m c t (ix3 0 R k) * Pay.rms (fun j => X0 m c t (ix3 0 R j)) * X2 m c t (ix2 1 k) * (1 + X1 m c t (ix4 0 0 4 k)) + X1 m c t (ix4 0 0 3 k)

theorem stZ_h (c : Dev nD) (t : Fin cfg0.N) (h : t.val % 12 = 0) (R : Fin 2048) (k : Fin 1024) : (stZ m c t h).h (ix2 R k) = entered m c t R k := by
  unfold stZ atZ
  dsimp only
  rw [rowsZ c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) ((hcond1 t).2 h) (hn2 t (by omega)) (hn3 t (by omega)) (hn4 t (by omega)) (iblk m c 0 t) (iblk m c 1 t) (iblk m c 2 t) (iblk m c 3 t) (iblk m c 4 t) (iblk m c 5 t) (iblk m c 6 t) (iblk m c 7 t) (iblk m c 8 t)]
  exact (whole_canon _ _ (by intro a; fin_cases a <;> rfl) _ _ _).trans (entry_val _ _ _ _ _ _ _ _ _ R k)

theorem stZ_u (c : Dev nD) (t : Fin cfg0.N) (h : t.val % 12 = 0) (R : Fin 2048) (C : Fin 512) :
    (stZ m c t h).u (ix3 0 R C) = projected m c t (entered m c t) R C := by
  unfold stZ atZ
  dsimp only
  rw [slotZ c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) ((hcond1 t).2 h) (hn2 t (by omega)) (hn3 t (by omega)) (hn4 t (by omega)) (iblk m c 0 t) (iblk m c 1 t) (iblk m c 2 t) (iblk m c 3 t) (iblk m c 4 t) (iblk m c 5 t) (iblk m c 6 t) (iblk m c 7 t) (iblk m c 8 t)]
  refine (congrArg (View.canon _) (slot_emb 0 R C)).trans ?_
  exact news_val 0 _ _ (projected m c t (entered m c t)) (fun k r C => proj0_val _ _ _ _ _ _ _ _ (entered m c t)
    (fun R j => (whole_canon _ _ (by intro a; fin_cases a <;> rfl) _ _ _).trans (entry_val _ _ _ _ _ _ _ _ _ R j)) k r C) R C

theorem stL_o (c : Dev nD) (t : Fin cfg0.N) (h : t.val % 12 = 11) (s : St Ideal) (R : Fin 2048) (d : Fin 1024) :
    (stL m c t h s).o (ix3 0 R d)
      = (X0 m c t (ix3 0 R d) + X1 m c t (ix4 0 0 5 d) * added m c t s R d)
        * Pay.rms (fun j => X0 m c t (ix3 0 R j) + X1 m c t (ix4 0 0 5 j) * added m c t s R j) * X8 m c t (ix2 0 d) := by
  unfold stL atL
  dsimp only
  rw [outL c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) (hn1 t (by omega)) (hn2 t (by omega)) (hn3 t (by omega)) ((hcond4 t).2 h) (iblk m c 0 t) (iblk m c 1 t) (iblk m c 2 t) (iblk m c 3 t) (iblk m c 4 t) (iblk m c 5 t) (iblk m c 6 t) (iblk m c 7 t) (iblk m c 8 t) s.o s.h s.u]
  refine (whole_canon _ _ (by intro a; fin_cases a <;> rfl) _ _ _).trans ?_
  exact finish_val _ _ _ _ _ _ _ _ _ _ _ (added m c t s) (fun R d =>
    accs_canon _ (added m c t s) (fun k r d => accAt_apply _ _ _ _ _ _ _ s.u 0 _
      (fun n R C => slotA_canon s.u R C) _ _ _ _ _ _ _ k (8 * k.1 + 8) (by omega) le_rfl r d) R d) R d

end Cert.Kernel2Ideal.Step

end
-- ==== Proof.FfnFrame.lean ====
/- The body of the feed-forward call at each kind of grid step, and the call's run. -/
module

public import proofs.«01_k».proof.Proof.FfnState

@[expose] public section

set_option maxRecDepth 16384

noncomputable section

namespace Cert.Kernel2Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d)))

def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t))

set_option maxHeartbeats 800000 in
theorem sound_Z (c : Dev nD) (t : Fin cfg0.N) (h : t.val % 12 = 0) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8]
  rw [show (dats m 0 c).owesAt () t.succ = (dats m 0 c).owesAt () t.castSucc from rfl, after0_0, after0_1, after0_2, after0_3, after0_4, after0_5, after0_6, after0_7, after0_8, after0_9]
  rw [show (dats m 0 c).Φ t.castSucc = PhiN m c t.val from rfl, show (dats m 0 c).Φ t.succ = PhiN m c (t.val + 1) from rfl,
    PhiN_zero m c t.val h, PhiA0_eq, PhiN_odd m c (t.val + 1) (by omega)]
  rw [Nat.add_sub_cancel]
  rw [st_Z m c t h, stZ]
  unfold PhiC
  have ho := atZ_out m c t h
  have hr := atZ_rows m c t h
  have hs := atZ_slot m c t h
  generalize atZ m c t h = R at ho hr hs ⊢
  dsimp only
  iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (R.2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  isplitl [HS0]; · iexact HS0
  isplitl [HS1]; · iexact HS1
  isplitl [HS2]; · iexact HS2
  iintro ⟨H0, H1, H2, H3, H4, H5, H6, H7, H8, H9, HS0, HS1, HS2⟩
  isplitl [HS0 HS1 HS2 Hg]
  · isplitl [HS0 HS1 HS2]
    · isplitl [HS0]
      · iapply (own_of_writes c scM0_0 R.2.1 hr); iexact HS0
      isplitl [HS1]
      · iapply (slot_of_writes c scM0_1 (Memref.isWhole_whole _) R.2.2.1 slotA hs); iexact HS1
      iexact HS2
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iapply (own_of_writes c (ms0_9 t) R.1 ho); iexact H9

set_option maxHeartbeats 800000 in
theorem sound_O (c : Dev nD) (t : Fin cfg0.N) (h : t.val % 2 = 1 ∧ t.val % 12 ≠ 11) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8]
  simp only [before0_9 m c t (by omega)]
  rw [show (dats m 0 c).owesAt () t.succ = (dats m 0 c).owesAt () t.castSucc from rfl, after0_0, after0_1, after0_2, after0_3, after0_4, after0_5, after0_6, after0_7, after0_8, after0_9]
  rw [show (dats m 0 c).Φ t.castSucc = PhiN m c t.val from rfl, show (dats m 0 c).Φ t.succ = PhiN m c (t.val + 1) from rfl,
    PhiN_odd m c t.val h.1, PhiN_even m c (t.val + 1) (by omega)]
  rw [Nat.add_sub_cancel]
  rw [st_O m c t h, stO]
  unfold PhiC
  have ho := atO_out m c t h (st m c (t.val - 1))
  have hs := atO_slot m c t h (st m c (t.val - 1))
  generalize atO m c t h (st m c (t.val - 1)) = R at ho hs ⊢
  dsimp only
  iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (R.2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [HS0]; · iexact HS0
  isplitl [HS1]; · iexact HS1
  isplitl [HS2]; · iexact HS2
  iintro ⟨H0, H1, H2, H3, H4, H5, H6, H7, H8, H9, HS0, HS1, HS2⟩
  isplitl [HS0 HS1 HS2 Hg]
  · isplitl [HS0 HS1 HS2]
    · isplitl [HS0]
      · iexact HS0
      isplitl [HS1]
      · iapply (slot_of_writes c scM0_1 (Memref.isWhole_whole _) R.2.1 slotB hs); iexact HS1
      iapply (any_of_writes c scM0_2 R.2.2.1); iexact HS2
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iapply (own_of_writes c (ms0_9 t) R.1 ho); iexact H9

set_option maxHeartbeats 800000 in
theorem sound_E (c : Dev nD) (t : Fin cfg0.N) (h : t.val % 2 = 0 ∧ t.val % 12 ≠ 0) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8]
  simp only [before0_9 m c t (by omega)]
  rw [show (dats m 0 c).owesAt () t.succ = (dats m 0 c).owesAt () t.castSucc from rfl, after0_0, after0_1, after0_2, after0_3, after0_4, after0_5, after0_6, after0_7, after0_8, after0_9]
  rw [show (dats m 0 c).Φ t.castSucc = PhiN m c t.val from rfl, show (dats m 0 c).Φ t.succ = PhiN m c (t.val + 1) from rfl,
    PhiN_even m c t.val h, PhiN_odd m c (t.val + 1) (by omega)]
  rw [Nat.add_sub_cancel]
  rw [st_E m c t h, stE]
  unfold PhiC
  have ho := atE_out m c t h (st m c (t.val - 1))
  have hs := atE_slot m c t h (st m c (t.val - 1))
  generalize atE m c t h (st m c (t.val - 1)) = R at ho hs ⊢
  dsimp only
  iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (R.2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [HS0]; · iexact HS0
  isplitl [HS1]; · iexact HS1
  isplitl [HS2]; · iexact HS2
  iintro ⟨H0, H1, H2, H3, H4, H5, H6, H7, H8, H9, HS0, HS1, HS2⟩
  isplitl [HS0 HS1 HS2 Hg]
  · isplitl [HS0 HS1 HS2]
    · isplitl [HS0]
      · iexact HS0
      isplitl [HS1]
      · iapply (slot_of_writes c scM0_1 (Memref.isWhole_whole _) R.2.1 slotA hs); iexact HS1
      iapply (any_of_writes c scM0_2 R.2.2.1); iexact HS2
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iapply (own_of_writes c (ms0_9 t) R.1 ho); iexact H9

set_option maxHeartbeats 800000 in
theorem sound_L (c : Dev nD) (t : Fin cfg0.N) (h : t.val % 12 = 11) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8]
  simp only [before0_9 m c t (by omega)]
  rw [show (dats m 0 c).owesAt () t.succ = (dats m 0 c).owesAt () t.castSucc from rfl, after0_0, after0_1, after0_2, after0_3, after0_4, after0_5, after0_6, after0_7, after0_8, after0_9]
  rw [show (dats m 0 c).Φ t.castSucc = PhiN m c t.val from rfl, show (dats m 0 c).Φ t.succ = PhiN m c (t.val + 1) from rfl,
    PhiN_odd m c t.val (by omega), PhiN_zero m c (t.val + 1) (by omega), PhiA0_eq]
  rw [st_L m c t h, stL]
  unfold PhiC
  have ho := atL_out m c t h (st m c (t.val - 1))
  generalize atL m c t h (st m c (t.val - 1)) = R at ho ⊢
  dsimp only
  iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (R.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [HS0]; · iexact HS0
  isplitl [HS1]; · iexact HS1
  isplitl [HS2]; · iexact HS2
  iintro ⟨H0, H1, H2, H3, H4, H5, H6, H7, H8, H9, HS0, HS1, HS2⟩
  isplitl [HS0 HS1 HS2 Hg]
  · isplitl [HS0 HS1 HS2]
    · isplitl [HS0]
      · iexists _; iexact HS0
      isplitl [HS1]
      · iapply (any_of_writes c scM0_1 _); iexact HS1
      iapply (any_of_writes c scM0_2 R.2.1); iexact HS2
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iapply (own_of_writes c (ms0_9 t) R.1 ho); iexact H9

/-- The body at any step. -/
theorem sound_body (c : Dev nD) (t : Fin cfg0.N) :
    bodyPre m c t ⊢ wp frame (wpE (defs₀ (F := F)) Variants.none c none) Set.univ (bodyAt0 t) (fun _ => bodyPost m c t) := by
  by_cases h0 : t.val % 12 = 0
  · exact sound_Z m c t h0
  by_cases h11 : t.val % 12 = 11
  · exact sound_L m c t h11
  by_cases h1 : t.val % 2 = 1
  · exact sound_O m c t ⟨h1, h11⟩
  · exact sound_E m c t ⟨by omega, h0⟩

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row, show cfg0.idle 9 (cfg0.grid.coords t) = false from idle9 _]
  exact triple_restated (sound_body m c t) rfl .rfl fun _ => .rfl

/-! ## The run and the frame -/

set_option backward.isDefEq.respectTransparency.types false in
/-- Every execution ends, the arrays as the library computes them from the proof data, every counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m)
    (hin := fun c => Eq.le (PhiN_zero m c 0 rfl).symm) (hout := fun c => Eq.le (PhiN_zero m c cfg0.N (by rw [N0])))

theorem run_main : θ_run defs (onTc (τ := τ) (main (F := F))) (s₀ m ρ) (Pipeline.FramePost cfgs (dats m) 0 (V m)) :=
  (θ_run defs _ _).mono (fun _ h => h.1) (run_main_quiescent m ρ)

/-- The frame: every execution ends, the arguments unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  θ_run_and (frame_of m ρ (dats m) (A_eq m) (run_main m ρ)) ((θ_run defs _ _).mono (fun _ h => h.2) (run_main_quiescent m ρ))

end Cert.Kernel2Ideal.Gen

end
-- ==== Proof.FfnModel.lean ====
/- The feed-forward's function, element by element, of the arrays it reads: the modulated rows, their projections, the
   activations, and the gated residual normed. -/
module

public import proofs.«01_k».proof.Proof.FfnPay

@[expose] public section

noncomputable section

namespace Cert.Model

open Idealize.ShloMosaic Cert.Kernel2Ideal.Pay

variable (l : Fin 2) (X : FVec Ideal ⟨3, ![8, 2048, 1024]⟩ .f32) (M : FVec Ideal ⟨4, ![2, 16, 6, 1024]⟩ .f32) (G : FVec Ideal ⟨2, ![2, 1024]⟩ .f32)
  (U : FVec Ideal ⟨3, ![2, 1024, 5632]⟩ .f32) (W : FVec Ideal ⟨3, ![2, 3, 2816]⟩ .f32) (B : FVec Ideal ⟨2, ![2, 2816]⟩ .f32)
  (D : FVec Ideal ⟨3, ![2, 2816, 1024]⟩ .f32) (N : FVec Ideal ⟨1, ![1024]⟩ .f32) (b : Fin 8)

/-- A row, normed and modulated. -/
def row (R : Fin 2048) (k : Fin 1024) : EReal :=
  X (ix3 b R k) * rms (fun j => X (ix3 b R j)) * G (ix2 l k) * (1 + M (ix4 l ⟨b, by omega⟩ 4 k)) + M (ix4 l ⟨b, by omega⟩ 3 k)

/-- A row's projection on column `n`: the gates' columns, then the values'. -/
def up (R : Fin 2048) (n : Fin 5632) : EReal := ∑ k : Fin 1024, row l X M G b R k * U (ix3 l k n)

/-- The activation of row `R` at column `n`. -/
def act (R : Fin 2048) (n : Fin 2816) : EReal :=
  gated (if 0 < R.1 then up l X M G U b ⟨R - 1, by omega⟩ ⟨n, by omega⟩ else 0) (up l X M G U b R ⟨n, by omega⟩)
    (if h : R.1 < 2047 then up l X M G U b ⟨R + 1, by omega⟩ ⟨n, by omega⟩ else 0)
    (W (ix3 l 0 n)) (W (ix3 l 1 n)) (W (ix3 l 2 n)) (B (ix2 l n)) (up l X M G U b R ⟨2816 + n, by omega⟩)

/-- Activations projected down. -/
def down (a : Fin 2048 → Fin 2816 → EReal) (R : Fin 2048) (d : Fin 1024) : EReal := ∑ n : Fin 2816, a R n * D (ix3 l n d)

/-- The gated residual. -/
def res (a : Fin 2048 → Fin 2816 → EReal) (R : Fin 2048) (d : Fin 1024) : EReal := X (ix3 b R d) + M (ix4 l ⟨b, by omega⟩ 5 d) * down l D a R d

/-- The residual, normed. -/
def normed (a : Fin 2048 → Fin 2816 → EReal) (R : Fin 2048) (d : Fin 1024) : EReal :=
  res l X M D b a R d * rms (fun j => res l X M D b a R j) * N (ix1 d)

/-- The last layer's result at one element. -/
def out (R : Fin 2048) (d : Fin 1024) : EReal := normed l X M D N b (act l X M G U W B b) R d

/-- Another layer's result at one element: the residual as it is. -/
def plain (R : Fin 2048) (d : Fin 1024) : EReal := res l X M D b (act l X M G U W B b) R d

/-! ## The same over a padded array -/

/-- An integer zero, as a number. -/
theorem zero_word : (FloatOps.sitofp FTy.f32 0#32 : Ideal FTy.f32) = 0 := Idealize.ShloMosaic.sitofp_zero

/-- The activation of a convolution that reads a padded array. -/
def padded (R : Fin 2048) (n : Fin 2816) : EReal :=
  let g := (if h : 1 ≤ R.1 ∧ R.1 - 1 < 2048 then up l X M G U b ⟨R - 1, h.2⟩ ⟨n, by omega⟩ else FloatOps.sitofp (F := Ideal) FTy.f32 0#32) * W (ix3 l 0 n)
    + up l X M G U b R ⟨n, by omega⟩ * W (ix3 l 1 n)
    + (if h : 1 ≤ 2 + R.1 ∧ 2 + R.1 - 1 < 2048 then up l X M G U b ⟨2 + R - 1, h.2⟩ ⟨n, by omega⟩ else FloatOps.sitofp (F := Ideal) FTy.f32 0#32) * W (ix3 l 2 n)
    + B (ix2 l n)
  g * Ideal.div 1 (1 + Ideal.exp (-g)) * up l X M G U b R ⟨2816 + n, by omega⟩

theorem padded_eq (R : Fin 2048) (n : Fin 2816) : padded l X M G U W B b R n = act l X M G U W B b R n := by
  have hprev : (if h : 1 ≤ R.1 ∧ R.1 - 1 < 2048 then up l X M G U b ⟨R - 1, h.2⟩ ⟨n, by omega⟩ else 0)
      = if 0 < R.1 then up l X M G U b ⟨R - 1, by omega⟩ ⟨n, by omega⟩ else 0 := by
    by_cases h : 0 < R.1
    · rw [dif_pos ⟨h, by omega⟩, if_pos h]
    · rw [dif_neg (by omega), if_neg h]
  have hnext : (if h : 1 ≤ 2 + R.1 ∧ 2 + R.1 - 1 < 2048 then up l X M G U b ⟨2 + R - 1, h.2⟩ ⟨n, by omega⟩ else 0)
      = if h : R.1 < 2047 then up l X M G U b ⟨R + 1, by omega⟩ ⟨n, by omega⟩ else 0 := by
    by_cases h : R.1 < 2047
    · rw [dif_pos ⟨by omega, by omega⟩, dif_pos h]; congr 2; omega
    · rw [dif_neg (by omega), dif_neg h]
  unfold padded act
  rw [zero_word, hprev, hnext]
  rfl

end Cert.Model

end
-- ==== Proof.FfnArray.lean ====
/- What the feed-forward kernel's result array holds after the run: the blocks its grid points read, at coordinates, what the
   accumulator and the scratch hold after each point, and the array that the write-backs leave. -/
module

public import proofs.«01_k».proof.Proof.FfnStep
public import proofs.«01_k».proof.Proof.FfnFrame
public import proofs.«01_k».proof.Proof.FfnModel
public import Idealize.ShloMosaic.Lib.Pipeline.ValueKit
public import Idealize.ShloMosaic.Lib.Pointwise

@[expose] public section

noncomputable section

namespace Cert.Kernel2Ideal.Array

open Cert.Kernel2Ideal Cert.Kernel2Ideal.Gen Cert.Kernel2Ideal.Step Idealize.ShloMosaic Idealize.ShloMosaic.TcCoe Idealize.SL.Sem

variable (m : (ℓ : Loc nD τ sig) → Buf (Elt Ideal) ℓ)

/-- The arrays, as launched. -/
abbrev aX (c : Dev nD) : FVec Ideal S8x2048x1024 .f32 := m ((c : Thread nD τ).loc main_arg0)
abbrev aM (c : Dev nD) : FVec Ideal S2x16x6x1024 .f32 := m ((c : Thread nD τ).loc main_arg1)
abbrev aG (c : Dev nD) : FVec Ideal S2x1024 .f32 := m ((c : Thread nD τ).loc main_arg2)
abbrev aU (c : Dev nD) : FVec Ideal S2x1024x5632 .f32 := m ((c : Thread nD τ).loc main_arg3)
abbrev aW (c : Dev nD) : FVec Ideal S2x3x2816 .f32 := m ((c : Thread nD τ).loc main_arg4)
abbrev aB (c : Dev nD) : FVec Ideal S2x2816 .f32 := m ((c : Thread nD τ).loc main_arg5)
abbrev aD (c : Dev nD) : FVec Ideal S2x2816x1024 .f32 := m ((c : Thread nD τ).loc main_arg6)
abbrev aN (c : Dev nD) : FVec Ideal S1024 .f32 := m ((c : Thread nD τ).loc main_arg7)

/-- The batch that grid point `t` works on. -/
def batch (t : Fin cfg0.N) : Fin 8 := ⟨t.val / 12, by have := lt_of_lt_of_eq t.isLt N0; omega⟩

/-- Column `k` of chunk `i`. -/
def colW (i : ℕ) (k : Fin 256) : Fin 2816 := ⟨256 * min i 10 + k, by omega⟩

/-- Column `C` of chunk `i`'s projections: the gate's columns, then the value's. -/
def colU (i : ℕ) (C : Fin 512) : Fin 5632 := if h : C.1 < 256 then ⟨colW i ⟨C, h⟩, by omega⟩ else ⟨2816 + colW i ⟨C - 256, by omega⟩, by omega⟩

theorem index0 : ∀ t : Fin cfg0.N, win0_0.index t = ![t.val / 12, 0, 0] :=
  (by decide +kernel : ∀ t : Fin grid0.N, win0_0.index t = ![t.val / 12, 0, 0])
theorem index1 : ∀ t : Fin cfg0.N, win0_1.index t = ![1, t.val / 12, 0, 0] :=
  (by decide +kernel : ∀ t : Fin grid0.N, win0_1.index t = ![1, t.val / 12, 0, 0])
theorem index2 : ∀ t : Fin cfg0.N, win0_2.index t = ![0, 0] :=
  (by decide +kernel : ∀ t : Fin grid0.N, win0_2.index t = ![0, 0])
theorem index3 : ∀ t : Fin cfg0.N, win0_3.index t = ![1, 0, min (t.val % 12) 10] :=
  (by decide +kernel : ∀ t : Fin grid0.N, win0_3.index t = ![1, 0, min (t.val % 12) 10])
theorem index4 : ∀ t : Fin cfg0.N, win0_4.index t = ![1, 0, 11 + min (t.val % 12) 10] :=
  (by decide +kernel : ∀ t : Fin grid0.N, win0_4.index t = ![1, 0, 11 + min (t.val % 12) 10])
theorem index5 : ∀ t : Fin cfg0.N, win0_5.index t = ![1, 0, min (t.val % 12 - 1) 10] :=
  (by decide +kernel : ∀ t : Fin grid0.N, win0_5.index t = ![1, 0, min (t.val % 12 - 1) 10])
theorem index6 : ∀ t : Fin cfg0.N, win0_6.index t = ![0, min (t.val % 12 - 1) 10] :=
  (by decide +kernel : ∀ t : Fin grid0.N, win0_6.index t = ![0, min (t.val % 12 - 1) 10])
theorem index7 : ∀ t : Fin cfg0.N, win0_7.index t = ![1, min (t.val % 12 - 1) 10, 0] :=
  (by decide +kernel : ∀ t : Fin grid0.N, win0_7.index t = ![1, min (t.val % 12 - 1) 10, 0])
theorem index8 : ∀ t : Fin cfg0.N, win0_8.index t = ![0, 0] :=
  (by decide +kernel : ∀ t : Fin grid0.N, win0_8.index t = ![0, 0])
theorem index9 : ∀ t : Fin cfg0.N, win0_9.index t = ![t.val / 12, 0, 0] :=
  (by decide +kernel : ∀ t : Fin grid0.N, win0_9.index t = ![t.val / 12, 0, 0])

theorem in0 (c : Dev nD) (t : Fin cfg0.N) (R : Fin 2048) (k : Fin 1024) : X0 m c t (ix3 0 R k) = aX m c (ix3 (batch t) R k) := by
  unfold X0
  blk_simp [iblk]
  refine (congrFun (V_main_arg0 m c) _).trans (congrArg (aX m c) ?_)
  blk_ext [index0, batch]

theorem in1 (c : Dev nD) (t : Fin cfg0.N) (a : Fin 6) (k : Fin 1024) : X1 m c t (ix4 0 0 a k) = aM m c (ix4 1 ⟨batch t, by omega⟩ a k) := by
  unfold X1
  blk_simp [iblk]
  refine (congrFun (V_main_arg1 m c) _).trans (congrArg (aM m c) ?_)
  blk_ext [index1, batch]

theorem in2 (c : Dev nD) (t : Fin cfg0.N) (a : Fin 2) (k : Fin 1024) : X2 m c t (ix2 a k) = aG m c (ix2 a k) := by
  unfold X2
  blk_simp [iblk]
  refine (congrFun (V_main_arg2 m c) _).trans (congrArg (aG m c) ?_)
  blk_ext [index2]

theorem in3 (c : Dev nD) (t : Fin cfg0.N) (j : Fin 1024) (k : Fin 256) :
    X3 m c t (ix3 0 j k) = aU m c (ix3 1 j ⟨colW (t.val % 12) k, by omega⟩) := by
  unfold X3
  blk_simp [iblk]
  refine (congrFun (V_main_arg3 m c) _).trans (congrArg (aU m c) ?_)
  blk_ext [index3, colW]

theorem in4 (c : Dev nD) (t : Fin cfg0.N) (j : Fin 1024) (k : Fin 256) :
    X4 m c t (ix3 0 j k) = aU m c (ix3 1 j ⟨2816 + colW (t.val % 12) k, by omega⟩) := by
  unfold X4
  blk_simp [iblk]
  refine (congrFun (V_main_arg3 m c) _).trans (congrArg (aU m c) ?_)
  blk_ext [index4, colW]

theorem in5 (c : Dev nD) (t : Fin cfg0.N) (a : Fin 3) (k : Fin 256) : X5 m c t (ix3 0 a k) = aW m c (ix3 1 a (colW (t.val % 12 - 1) k)) := by
  unfold X5
  blk_simp [iblk]
  refine (congrFun (V_main_arg4 m c) _).trans (congrArg (aW m c) ?_)
  blk_ext [index5, colW]

theorem in6 (c : Dev nD) (t : Fin cfg0.N) (a : Fin 2) (k : Fin 256) : X6 m c t (ix2 a k) = aB m c (ix2 a (colW (t.val % 12 - 1) k)) := by
  unfold X6
  blk_simp [iblk]
  refine (congrFun (V_main_arg5 m c) _).trans (congrArg (aB m c) ?_)
  blk_ext [index6, colW]

theorem in7 (c : Dev nD) (t : Fin cfg0.N) (k : Fin 256) (d : Fin 1024) : X7 m c t (ix3 0 k d) = aD m c (ix3 1 (colW (t.val % 12 - 1) k) d) := by
  unfold X7
  blk_simp [iblk]
  refine (congrFun (V_main_arg6 m c) _).trans (congrArg (aD m c) ?_)
  blk_ext [index7, colW]

/-- The final weights enter as one row. -/
theorem V_row (c : Dev nD) (d : Fin 1024) : (V m c main_v0 : FVec Ideal S1x1024 .f32) (ix2 0 d) = aN m c (ix1 d) := by
  entry_read
  pointwise

theorem in8 (c : Dev nD) (t : Fin cfg0.N) (d : Fin 1024) : X8 m c t (ix2 0 d) = aN m c (ix1 d) := by
  unfold X8
  blk_simp [iblk]
  refine Eq.trans (congrArg (V m c main_v0 : FVec Ideal S1x1024 .f32) ?_) (V_row m c d)
  blk_ext [index8]

/-! ## What a point leaves -/

/-- One chunk's share of the down projection. -/
def chunk (c : Dev nD) (b : Fin 8) (i : ℕ) (R : Fin 2048) (d : Fin 1024) : EReal :=
  ∑ k : Fin 256, Model.act 1 (aX m c) (aM m c) (aG m c) (aU m c) (aW m c) (aB m c) b R (colW i k) * aD m c (ix3 1 (colW i k) d)

theorem sum_chunks (f : Fin 2816 → EReal) : ∑ i ∈ Finset.range 11, ∑ k : Fin 256, f (colW i k) = ∑ n : Fin 2816, f n := by
  rw [Finset.sum_range]
  refine Eq.trans ?_ ((finProdFinEquiv (m := 11) (n := 256)).sum_comp (f : Fin (11 * 256) → EReal))
  rw [Fintype.sum_prod_type]
  refine Finset.sum_congr rfl fun i _ => Finset.sum_congr rfl fun k _ => congrArg f (Fin.ext ?_)
  show 256 * min i.1 10 + k.1 = k.1 + 256 * i.1
  omega

/-- What holds after point `j` of batch `b`: the rows, the projections of chunk `j`, the chunks before it added up. -/
def Inv (c : Dev nD) (b : Fin 8) (j : ℕ) (s : St Ideal) : Prop :=
  (∀ (R : Fin 2048) (k : Fin 1024), s.h (ix2 R k) = Model.row 1 (aX m c) (aM m c) (aG m c) b R k)
  ∧ (∀ (R : Fin 2048) (C : Fin 512), s.u (ix3 0 R C) = Model.up 1 (aX m c) (aM m c) (aG m c) (aU m c) b R (colU j C))
  ∧ ∀ (R : Fin 2048) (d : Fin 1024), s.o (ix3 0 R d) = ∑ i ∈ Finset.range j, chunk m c b i R d

theorem entered_eq (c : Dev nD) (t : Fin cfg0.N) (R : Fin 2048) (k : Fin 1024) :
    entered m c t R k = Model.row 1 (aX m c) (aM m c) (aG m c) (batch t) R k := by
  unfold entered Model.row
  simp only [in0, in1, in2]

theorem projected_eq (c : Dev nD) (t : Fin cfg0.N) (h : Fin 2048 → Fin 1024 → EReal)
    (hh : ∀ R k, h R k = Model.row 1 (aX m c) (aM m c) (aG m c) (batch t) R k) (R : Fin 2048) (C : Fin 512) :
    projected m c t h R C = Model.up 1 (aX m c) (aM m c) (aG m c) (aU m c) (batch t) R (colU (t.val % 12) C) := by
  unfold projected Model.up colU
  refine Finset.sum_congr rfl fun j _ => ?_
  rw [hh]
  by_cases hc : C.1 < 256
  · rw [dif_pos hc, dif_pos hc, in3]
  · rw [dif_neg hc, dif_neg hc, in4]

theorem colU_gate (i : ℕ) (k : Fin 256) : colU i ⟨k, by omega⟩ = ⟨colW i k, by omega⟩ := by
  unfold colU; rw [dif_pos (show k.1 < 256 from k.2)]

theorem colU_value (i : ℕ) (k : Fin 256) : colU i ⟨256 + k, by omega⟩ = ⟨2816 + colW i k, by omega⟩ := by
  unfold colU; rw [dif_neg (show ¬ 256 + k.1 < 256 by omega)]
  refine Fin.ext ?_
  show 2816 + (256 * min i 10 + (256 + k.1 - 256)) = 2816 + (256 * min i 10 + k.1)
  omega

theorem added_eq (c : Dev nD) (t : Fin cfg0.N) (j : ℕ) (hj : t.val % 12 = j + 1) (s : St Ideal) (H : Inv m c (batch t) j s) (R : Fin 2048) (d : Fin 1024) :
    added m c t s R d = ∑ i ∈ Finset.range (j + 1), chunk m c (batch t) i R d := by
  obtain ⟨-, hu, ho⟩ := H
  have ej : t.val % 12 - 1 = j := by omega
  unfold added
  rw [ho, Finset.sum_range_succ]
  refine congrArg _ ?_
  unfold chunk
  refine Finset.sum_congr rfl fun k _ => ?_
  rw [in7, ej]
  refine congrArg (· * _) ?_
  unfold Act.act Model.act
  simp only [hu, in5, in6, ej, colU_gate, colU_value]

theorem next (c : Dev nD) (t : Fin cfg0.N) (j : ℕ) (hj : t.val % 12 = j + 1) (s s' : St Ideal) (H : Inv m c (batch t) j s)
    (ho : ∀ R d, s'.o (ix3 0 R d) = added m c t s R d) (hu : ∀ R C, s'.u (ix3 0 R C) = projected m c t (fun R k => s.h (ix2 R k)) R C)
    (hh : s'.h = s.h) : Inv m c (batch t) (j + 1) s' :=
  ⟨fun R k => (congrFun hh _).trans (H.1 R k), fun R C => by rw [hu, projected_eq m c t _ H.1, hj],
    fun R d => (ho R d).trans (added_eq m c t j hj s H R d)⟩

theorem inv (c : Dev nD) : ∀ (j : ℕ) (_ : j ≤ 10) (t : Fin cfg0.N) (_ : t.val % 12 = j), Inv m c (batch t) j (st m c t.val) := by
  intro j
  induction j with
  | zero =>
    intro _ t h
    rw [st_Z m c t h]
    refine ⟨fun R k => (stZ_h m c t h R k).trans (entered_eq m c t R k), fun R C => ?_, fun R d => stZ_o m c t h R d⟩
    rw [stZ_u, projected_eq m c t _ (entered_eq m c t), h]
  | succ j ih =>
    intro hj t h
    have H := ih (by omega) ⟨t.val - 1, by have := t.isLt; omega⟩ (by show (t.val - 1) % 12 = j; omega)
    have eb : batch ⟨t.val - 1, by have := t.isLt; omega⟩ = batch t := Fin.ext (by show (t.val - 1) / 12 = t.val / 12; omega)
    rw [eb] at H
    by_cases p : t.val % 2 = 1
    · have hc : t.val % 2 = 1 ∧ t.val % 12 ≠ 11 := ⟨p, by omega⟩
      rw [st_O m c t hc]
      exact next m c t j h _ _ H (stO_o m c t hc _) (stO_u m c t hc _) (stO_h m c t hc _)
    · have hc : t.val % 2 = 0 ∧ t.val % 12 ≠ 0 := ⟨by omega, by omega⟩
      rw [st_E m c t hc]
      exact next m c t j h _ _ H (stE_o m c t hc _) (stE_u m c t hc _) (stE_h m c t hc _)

/-- The last point of a batch leaves the batch's result. -/
theorem last (c : Dev nD) (t : Fin cfg0.N) (h : t.val % 12 = 11) (R : Fin 2048) (d : Fin 1024) :
    (st m c t.val).o (ix3 0 R d) = Model.out 1 (aX m c) (aM m c) (aG m c) (aU m c) (aW m c) (aB m c) (aD m c) (aN m c) (batch t) R d := by
  have H := inv m c 10 le_rfl ⟨t.val - 1, by have := t.isLt; omega⟩ (by show (t.val - 1) % 12 = 10; omega)
  have eb : batch ⟨t.val - 1, by have := t.isLt; omega⟩ = batch t := Fin.ext (by show (t.val - 1) / 12 = t.val / 12; omega)
  rw [eb] at H
  have ea : ∀ R d, added m c t (st m c (t.val - 1)) R d
      = Model.down 1 (aD m c) (Model.act 1 (aX m c) (aM m c) (aG m c) (aU m c) (aW m c) (aB m c) (batch t)) R d := fun R d =>
    (added_eq m c t 10 h _ H R d).trans
      (sum_chunks fun n => Model.act 1 (aX m c) (aM m c) (aG m c) (aU m c) (aW m c) (aB m c) (batch t) R n * aD m c (ix3 1 n d))
  rw [st_L m c t h, stL_o]
  unfold Model.out Model.normed Model.res
  simp only [ea, in0, in1, in8]

/-! ## The result array -/

/-- The result array. -/
def result (c : Dev nD) : FVec Ideal S8x2048x1024 .f32 :=
  fun i => Model.out 1 (aX m c) (aM m c) (aG m c) (aU m c) (aW m c) (aB m c) (aD m c) (aN m c) (i 0) (i 1) (i 2)

/-- After the run the result array holds every batch's result: the last point of each batch writes it back. -/
theorem final (c : Dev nD) : (dats m 0 c).arrAt 9 cfg0.N = result m c := by
  refine (dats m 0 c).arrAt_eq_of_covers 9 _ (by decide +kernel) fun t hf y => ?_
  blk_simp
  rw [after0_9]
  obtain ⟨R, d, rfl⟩ : ∃ (R : Fin 2048) (d : Fin 1024), y = (ix3 0 R d : S1x2048x1024.Idx) :=
    ⟨y 1, y 2, (eq_ix3 (y : S1x2048x1024.Idx)).trans
      (congrArg (fun a : Fin 1 => (ix3 a (y 1) (y 2) : S1x2048x1024.Idx)) (Subsingleton.elim (α := Fin 1) _ _))⟩
  refine (last m c t ((flush0_9 t).1 hf) R d).trans ?_
  have e : (win0_9.blk t).view.emb (ix3 0 R d : S1x2048x1024.Idx) = (ix3 (batch t) R d : S8x2048x1024.Idx) := by
    blk_ext [index9, batch]
  rw [e]
  rfl

/-- The kernel's run: it ends with the result array holding every batch's result and the arguments as launched. -/
theorem run (ρ : Dev nD → PrngReg) :
    θ_run defs (onTc (τ := τ) (main (F := Ideal))) ⟨m, fun _ => 0, ρ⟩ fun r => ∀ c : Dev nD,
      r.2.mem ((c : Thread nD τ).loc main_v1) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun _ h c => ⟨((h.1 c).1 9).trans (final m c), h.2 c⟩)
    (θ_run_and (run_main m ρ) (frame_of m ρ (dats m) (A_eq m) (run_main m ρ)))

end Cert.Kernel2Ideal.Array

end
-- ==== Proof.FfnRef.lean ====
/- What the feed-forward's reference computes, read at one element of its result. -/
module

public import proofs.«01_k».proof.Proof.Gen.Reference2Ideal.Run
public import Idealize.ShloMosaic.Lib.Pointwise
public import Idealize.ShloMosaic.Lib.IdealHost
public import Idealize.ShloMosaic.Lib.KernelVsHost
public import proofs.«01_k».proof.Proof.FfnModel

@[expose] public section

noncomputable section

namespace Cert.Reference2Ideal.Ref

open Cert.Reference2Ideal Cert.Reference2Ideal.Gen Idealize.ShloMosaic Idealize.ShloMosaic.TcCoe Idealize.SL.Sem

variable (m : (ℓ : Loc nD τ sig) → Buf (Elt Ideal) ℓ)

/-- The reference's composed operations, of the arrays it reads. -/
def term (X : FVec Ideal S8x2048x1024 .f32) (M : FVec Ideal S2x16x6x1024 .f32) (G : FVec Ideal S2x1024 .f32) (U : FVec Ideal S2x1024x5632 .f32) (W : FVec Ideal S2x3x2816 .f32) (B : FVec Ideal S2x2816 .f32) (D : FVec Ideal S2x2816x1024 .f32) (N : FVec Ideal S1024 .f32) : FVec Ideal S8x2048x1024 .f32 :=
  mulf (mulf (addf X (mulf (broadcastInDim S8x2048x1024 ![0, 1, 2] bcast_S8x1x1024_S8x2048x1024_0_1_2 (shapeCast _ (extractStridedSlice S1x8x1x1024 ![1, 0, 5, 0] M slices_S2x16x6x1024_S1x8x1x1024_1_0_5_0) shapeCasts_S1x8x1x1024_S8x1x1024)) (Host.dotGeneral dot_S8x2048x2816_S2816x1024_S8x2048x1024_2_0_01_1_n_n none (mulf (mulf (addf (addf (addf (mulf (extractStridedSlice S8x2048x2816 ![0, 0, 0] (pad S8x2050x2816 ![0, 1, 0] ![0, 1, 0] ![0, 0, 0] (extractStridedSlice S8x2048x2816 ![0, 0, 0] (Host.dotGeneral dot_S8x2048x1024_S1024x5632_S8x2048x5632_2_0_01_1_n_n none (addf (mulf (mulf (mulf X (broadcastInDim S8x2048x1024 ![0, 1, 2] bcast_S8x2048x1_S8x2048x1024_0_1_2 (Host.rsqrt (addf (Host.divf (broadcastInDim S8x2048x1 ![0, 1] bcast_S8x2048_S8x2048x1_0_1 (Host.reduceAdd (mulf X X) (constant S_ .f32 0x00000000#32) reducesTo_S8x2048x1024_S8x2048_d2 h_S_)) (broadcastInDim S8x2048x1 ![] bcast_S_S8x2048x1 (constant S_ .f32 0x44800000#32))) (broadcastInDim S8x2048x1 ![] bcast_S_S8x2048x1 (constant S_ .f32 0x358637BD#32)))))) (broadcastInDim S8x2048x1024 ![0, 1, 2] bcast_S1x1x1024_S8x2048x1024_0_1_2 (broadcastInDim S1x1x1024 ![2] bcast_S1024_S1x1x1024_2 (shapeCast _ (extractStridedSlice S1x1024 ![1, 0] G slices_S2x1024_S1x1024_1_0) shapeCasts_S1x1024_S1024)))) (broadcastInDim S8x2048x1024 ![0, 1, 2] bcast_S8x1x1024_S8x2048x1024_0_1_2 (addf (broadcastInDim S8x1x1024 ![] bcast_S_S8x1x1024 (constant S_ .f32 0x3F800000#32)) (shapeCast _ (extractStridedSlice S1x8x1x1024 ![1, 0, 4, 0] M slices_S2x16x6x1024_S1x8x1x1024_1_0_4_0) shapeCasts_S1x8x1x1024_S8x1x1024)))) (broadcastInDim S8x2048x1024 ![0, 1, 2] bcast_S8x1x1024_S8x2048x1024_0_1_2 (shapeCast _ (extractStridedSlice S1x8x1x1024 ![1, 0, 3, 0] M slices_S2x16x6x1024_S1x8x1x1024_1_0_3_0) shapeCasts_S1x8x1x1024_S8x1x1024))) (shapeCast _ (extractStridedSlice S1x1024x5632 ![1, 0, 0] U slices_S2x1024x5632_S1x1024x5632_1_0_0) shapeCasts_S1x1024x5632_S1024x5632)) slices_S8x2048x5632_S8x2048x2816_0_0_0) (sitofp .f32 (constantI S_ 32 0#32)) pads_S8x2048x2816_S8x2050x2816_000_110_000 h_S_) slices_S8x2050x2816_S8x2048x2816_0_0_0) (broadcastInDim S8x2048x2816 ![0, 1, 2] bcast_S1x1x2816_S8x2048x2816_0_1_2 (broadcastInDim S1x1x2816 ![2] bcast_S2816_S1x1x2816_2 (shapeCast _ (extractStridedSlice S1x2816 ![0, 0] (shapeCast _ (extractStridedSlice S1x3x2816 ![1, 0, 0] W slices_S2x3x2816_S1x3x2816_1_0_0) shapeCasts_S1x3x2816_S3x2816) slices_S3x2816_S1x2816_0_0) shapeCasts_S1x2816_S2816)))) (mulf (extractStridedSlice S8x2048x2816 ![0, 1, 0] (pad S8x2050x2816 ![0, 1, 0] ![0, 1, 0] ![0, 0, 0] (extractStridedSlice S8x2048x2816 ![0, 0, 0] (Host.dotGeneral dot_S8x2048x1024_S1024x5632_S8x2048x5632_2_0_01_1_n_n none (addf (mulf (mulf (mulf X (broadcastInDim S8x2048x1024 ![0, 1, 2] bcast_S8x2048x1_S8x2048x1024_0_1_2 (Host.rsqrt (addf (Host.divf (broadcastInDim S8x2048x1 ![0, 1] bcast_S8x2048_S8x2048x1_0_1 (Host.reduceAdd (mulf X X) (constant S_ .f32 0x00000000#32) reducesTo_S8x2048x1024_S8x2048_d2 h_S_)) (broadcastInDim S8x2048x1 ![] bcast_S_S8x2048x1 (constant S_ .f32 0x44800000#32))) (broadcastInDim S8x2048x1 ![] bcast_S_S8x2048x1 (constant S_ .f32 0x358637BD#32)))))) (broadcastInDim S8x2048x1024 ![0, 1, 2] bcast_S1x1x1024_S8x2048x1024_0_1_2 (broadcastInDim S1x1x1024 ![2] bcast_S1024_S1x1x1024_2 (shapeCast _ (extractStridedSlice S1x1024 ![1, 0] G slices_S2x1024_S1x1024_1_0) shapeCasts_S1x1024_S1024)))) (broadcastInDim S8x2048x1024 ![0, 1, 2] bcast_S8x1x1024_S8x2048x1024_0_1_2 (addf (broadcastInDim S8x1x1024 ![] bcast_S_S8x1x1024 (constant S_ .f32 0x3F800000#32)) (shapeCast _ (extractStridedSlice S1x8x1x1024 ![1, 0, 4, 0] M slices_S2x16x6x1024_S1x8x1x1024_1_0_4_0) shapeCasts_S1x8x1x1024_S8x1x1024)))) (broadcastInDim S8x2048x1024 ![0, 1, 2] bcast_S8x1x1024_S8x2048x1024_0_1_2 (shapeCast _ (extractStridedSlice S1x8x1x1024 ![1, 0, 3, 0] M slices_S2x16x6x1024_S1x8x1x1024_1_0_3_0) shapeCasts_S1x8x1x1024_S8x1x1024))) (shapeCast _ (extractStridedSlice S1x1024x5632 ![1, 0, 0] U slices_S2x1024x5632_S1x1024x5632_1_0_0) shapeCasts_S1x1024x5632_S1024x5632)) slices_S8x2048x5632_S8x2048x2816_0_0_0) (sitofp .f32 (constantI S_ 32 0#32)) pads_S8x2048x2816_S8x2050x2816_000_110_000 h_S_) slices_S8x2050x2816_S8x2048x2816_0_1_0) (broadcastInDim S8x2048x2816 ![0, 1, 2] bcast_S1x1x2816_S8x2048x2816_0_1_2 (broadcastInDim S1x1x2816 ![2] bcast_S2816_S1x1x2816_2 (shapeCast _ (extractStridedSlice S1x2816 ![1, 0] (shapeCast _ (extractStridedSlice S1x3x2816 ![1, 0, 0] W slices_S2x3x2816_S1x3x2816_1_0_0) shapeCasts_S1x3x2816_S3x2816) slices_S3x2816_S1x2816_1_0) shapeCasts_S1x2816_S2816))))) (mulf (extractStridedSlice S8x2048x2816 ![0, 2, 0] (pad S8x2050x2816 ![0, 1, 0] ![0, 1, 0] ![0, 0, 0] (extractStridedSlice S8x2048x2816 ![0, 0, 0] (Host.dotGeneral dot_S8x2048x1024_S1024x5632_S8x2048x5632_2_0_01_1_n_n none (addf (mulf (mulf (mulf X (broadcastInDim S8x2048x1024 ![0, 1, 2] bcast_S8x2048x1_S8x2048x1024_0_1_2 (Host.rsqrt (addf (Host.divf (broadcastInDim S8x2048x1 ![0, 1] bcast_S8x2048_S8x2048x1_0_1 (Host.reduceAdd (mulf X X) (constant S_ .f32 0x00000000#32) reducesTo_S8x2048x1024_S8x2048_d2 h_S_)) (broadcastInDim S8x2048x1 ![] bcast_S_S8x2048x1 (constant S_ .f32 0x44800000#32))) (broadcastInDim S8x2048x1 ![] bcast_S_S8x2048x1 (constant S_ .f32 0x358637BD#32)))))) (broadcastInDim S8x2048x1024 ![0, 1, 2] bcast_S1x1x1024_S8x2048x1024_0_1_2 (broadcastInDim S1x1x1024 ![2] bcast_S1024_S1x1x1024_2 (shapeCast _ (extractStridedSlice S1x1024 ![1, 0] G slices_S2x1024_S1x1024_1_0) shapeCasts_S1x1024_S1024)))) (broadcastInDim S8x2048x1024 ![0, 1, 2] bcast_S8x1x1024_S8x2048x1024_0_1_2 (addf (broadcastInDim S8x1x1024 ![] bcast_S_S8x1x1024 (constant S_ .f32 0x3F800000#32)) (shapeCast _ (extractStridedSlice S1x8x1x1024 ![1, 0, 4, 0] M slices_S2x16x6x1024_S1x8x1x1024_1_0_4_0) shapeCasts_S1x8x1x1024_S8x1x1024)))) (broadcastInDim S8x2048x1024 ![0, 1, 2] bcast_S8x1x1024_S8x2048x1024_0_1_2 (shapeCast _ (extractStridedSlice S1x8x1x1024 ![1, 0, 3, 0] M slices_S2x16x6x1024_S1x8x1x1024_1_0_3_0) shapeCasts_S1x8x1x1024_S8x1x1024))) (shapeCast _ (extractStridedSlice S1x1024x5632 ![1, 0, 0] U slices_S2x1024x5632_S1x1024x5632_1_0_0) shapeCasts_S1x1024x5632_S1024x5632)) slices_S8x2048x5632_S8x2048x2816_0_0_0) (sitofp .f32 (constantI S_ 32 0#32)) pads_S8x2048x2816_S8x2050x2816_000_110_000 h_S_) slices_S8x2050x2816_S8x2048x2816_0_2_0) (broadcastInDim S8x2048x2816 ![0, 1, 2] bcast_S1x1x2816_S8x2048x2816_0_1_2 (broadcastInDim S1x1x2816 ![2] bcast_S2816_S1x1x2816_2 (shapeCast _ (extractStridedSlice S1x2816 ![2, 0] (shapeCast _ (extractStridedSlice S1x3x2816 ![1, 0, 0] W slices_S2x3x2816_S1x3x2816_1_0_0) shapeCasts_S1x3x2816_S3x2816) slices_S3x2816_S1x2816_2_0) shapeCasts_S1x2816_S2816))))) (broadcastInDim S8x2048x2816 ![0, 1, 2] bcast_S1x1x2816_S8x2048x2816_0_1_2 (broadcastInDim S1x1x2816 ![2] bcast_S2816_S1x1x2816_2 (shapeCast _ (extractStridedSlice S1x2816 ![1, 0] B slices_S2x2816_S1x2816_1_0) shapeCasts_S1x2816_S2816)))) (Host.divf (broadcastInDim S8x2048x2816 ![] bcast_S_S8x2048x2816 (constant S_ .f32 0x3F800000#32)) (addf (broadcastInDim S8x2048x2816 ![] bcast_S_S8x2048x2816 (constant S_ .f32 0x3F800000#32)) (Host.exp (Host.negf (addf (addf (addf (mulf (extractStridedSlice S8x2048x2816 ![0, 0, 0] (pad S8x2050x2816 ![0, 1, 0] ![0, 1, 0] ![0, 0, 0] (extractStridedSlice S8x2048x2816 ![0, 0, 0] (Host.dotGeneral dot_S8x2048x1024_S1024x5632_S8x2048x5632_2_0_01_1_n_n none (addf (mulf (mulf (mulf X (broadcastInDim S8x2048x1024 ![0, 1, 2] bcast_S8x2048x1_S8x2048x1024_0_1_2 (Host.rsqrt (addf (Host.divf (broadcastInDim S8x2048x1 ![0, 1] bcast_S8x2048_S8x2048x1_0_1 (Host.reduceAdd (mulf X X) (constant S_ .f32 0x00000000#32) reducesTo_S8x2048x1024_S8x2048_d2 h_S_)) (broadcastInDim S8x2048x1 ![] bcast_S_S8x2048x1 (constant S_ .f32 0x44800000#32))) (broadcastInDim S8x2048x1 ![] bcast_S_S8x2048x1 (constant S_ .f32 0x358637BD#32)))))) (broadcastInDim S8x2048x1024 ![0, 1, 2] bcast_S1x1x1024_S8x2048x1024_0_1_2 (broadcastInDim S1x1x1024 ![2] bcast_S1024_S1x1x1024_2 (shapeCast _ (extractStridedSlice S1x1024 ![1, 0] G slices_S2x1024_S1x1024_1_0) shapeCasts_S1x1024_S1024)))) (broadcastInDim S8x2048x1024 ![0, 1, 2] bcast_S8x1x1024_S8x2048x1024_0_1_2 (addf (broadcastInDim S8x1x1024 ![] bcast_S_S8x1x1024 (constant S_ .f32 0x3F800000#32)) (shapeCast _ (extractStridedSlice S1x8x1x1024 ![1, 0, 4, 0] M slices_S2x16x6x1024_S1x8x1x1024_1_0_4_0) shapeCasts_S1x8x1x1024_S8x1x1024)))) (broadcastInDim S8x2048x1024 ![0, 1, 2] bcast_S8x1x1024_S8x2048x1024_0_1_2 (shapeCast _ (extractStridedSlice S1x8x1x1024 ![1, 0, 3, 0] M slices_S2x16x6x1024_S1x8x1x1024_1_0_3_0) shapeCasts_S1x8x1x1024_S8x1x1024))) (shapeCast _ (extractStridedSlice S1x1024x5632 ![1, 0, 0] U slices_S2x1024x5632_S1x1024x5632_1_0_0) shapeCasts_S1x1024x5632_S1024x5632)) slices_S8x2048x5632_S8x2048x2816_0_0_0) (sitofp .f32 (constantI S_ 32 0#32)) pads_S8x2048x2816_S8x2050x2816_000_110_000 h_S_) slices_S8x2050x2816_S8x2048x2816_0_0_0) (broadcastInDim S8x2048x2816 ![0, 1, 2] bcast_S1x1x2816_S8x2048x2816_0_1_2 (broadcastInDim S1x1x2816 ![2] bcast_S2816_S1x1x2816_2 (shapeCast _ (extractStridedSlice S1x2816 ![0, 0] (shapeCast _ (extractStridedSlice S1x3x2816 ![1, 0, 0] W slices_S2x3x2816_S1x3x2816_1_0_0) shapeCasts_S1x3x2816_S3x2816) slices_S3x2816_S1x2816_0_0) shapeCasts_S1x2816_S2816)))) (mulf (extractStridedSlice S8x2048x2816 ![0, 1, 0] (pad S8x2050x2816 ![0, 1, 0] ![0, 1, 0] ![0, 0, 0] (extractStridedSlice S8x2048x2816 ![0, 0, 0] (Host.dotGeneral dot_S8x2048x1024_S1024x5632_S8x2048x5632_2_0_01_1_n_n none (addf (mulf (mulf (mulf X (broadcastInDim S8x2048x1024 ![0, 1, 2] bcast_S8x2048x1_S8x2048x1024_0_1_2 (Host.rsqrt (addf (Host.divf (broadcastInDim S8x2048x1 ![0, 1] bcast_S8x2048_S8x2048x1_0_1 (Host.reduceAdd (mulf X X) (constant S_ .f32 0x00000000#32) reducesTo_S8x2048x1024_S8x2048_d2 h_S_)) (broadcastInDim S8x2048x1 ![] bcast_S_S8x2048x1 (constant S_ .f32 0x44800000#32))) (broadcastInDim S8x2048x1 ![] bcast_S_S8x2048x1 (constant S_ .f32 0x358637BD#32)))))) (broadcastInDim S8x2048x1024 ![0, 1, 2] bcast_S1x1x1024_S8x2048x1024_0_1_2 (broadcastInDim S1x1x1024 ![2] bcast_S1024_S1x1x1024_2 (shapeCast _ (extractStridedSlice S1x1024 ![1, 0] G slices_S2x1024_S1x1024_1_0) shapeCasts_S1x1024_S1024)))) (broadcastInDim S8x2048x1024 ![0, 1, 2] bcast_S8x1x1024_S8x2048x1024_0_1_2 (addf (broadcastInDim S8x1x1024 ![] bcast_S_S8x1x1024 (constant S_ .f32 0x3F800000#32)) (shapeCast _ (extractStridedSlice S1x8x1x1024 ![1, 0, 4, 0] M slices_S2x16x6x1024_S1x8x1x1024_1_0_4_0) shapeCasts_S1x8x1x1024_S8x1x1024)))) (broadcastInDim S8x2048x1024 ![0, 1, 2] bcast_S8x1x1024_S8x2048x1024_0_1_2 (shapeCast _ (extractStridedSlice S1x8x1x1024 ![1, 0, 3, 0] M slices_S2x16x6x1024_S1x8x1x1024_1_0_3_0) shapeCasts_S1x8x1x1024_S8x1x1024))) (shapeCast _ (extractStridedSlice S1x1024x5632 ![1, 0, 0] U slices_S2x1024x5632_S1x1024x5632_1_0_0) shapeCasts_S1x1024x5632_S1024x5632)) slices_S8x2048x5632_S8x2048x2816_0_0_0) (sitofp .f32 (constantI S_ 32 0#32)) pads_S8x2048x2816_S8x2050x2816_000_110_000 h_S_) slices_S8x2050x2816_S8x2048x2816_0_1_0) (broadcastInDim S8x2048x2816 ![0, 1, 2] bcast_S1x1x2816_S8x2048x2816_0_1_2 (broadcastInDim S1x1x2816 ![2] bcast_S2816_S1x1x2816_2 (shapeCast _ (extractStridedSlice S1x2816 ![1, 0] (shapeCast _ (extractStridedSlice S1x3x2816 ![1, 0, 0] W slices_S2x3x2816_S1x3x2816_1_0_0) shapeCasts_S1x3x2816_S3x2816) slices_S3x2816_S1x2816_1_0) shapeCasts_S1x2816_S2816))))) (mulf (extractStridedSlice S8x2048x2816 ![0, 2, 0] (pad S8x2050x2816 ![0, 1, 0] ![0, 1, 0] ![0, 0, 0] (extractStridedSlice S8x2048x2816 ![0, 0, 0] (Host.dotGeneral dot_S8x2048x1024_S1024x5632_S8x2048x5632_2_0_01_1_n_n none (addf (mulf (mulf (mulf X (broadcastInDim S8x2048x1024 ![0, 1, 2] bcast_S8x2048x1_S8x2048x1024_0_1_2 (Host.rsqrt (addf (Host.divf (broadcastInDim S8x2048x1 ![0, 1] bcast_S8x2048_S8x2048x1_0_1 (Host.reduceAdd (mulf X X) (constant S_ .f32 0x00000000#32) reducesTo_S8x2048x1024_S8x2048_d2 h_S_)) (broadcastInDim S8x2048x1 ![] bcast_S_S8x2048x1 (constant S_ .f32 0x44800000#32))) (broadcastInDim S8x2048x1 ![] bcast_S_S8x2048x1 (constant S_ .f32 0x358637BD#32)))))) (broadcastInDim S8x2048x1024 ![0, 1, 2] bcast_S1x1x1024_S8x2048x1024_0_1_2 (broadcastInDim S1x1x1024 ![2] bcast_S1024_S1x1x1024_2 (shapeCast _ (extractStridedSlice S1x1024 ![1, 0] G slices_S2x1024_S1x1024_1_0) shapeCasts_S1x1024_S1024)))) (broadcastInDim S8x2048x1024 ![0, 1, 2] bcast_S8x1x1024_S8x2048x1024_0_1_2 (addf (broadcastInDim S8x1x1024 ![] bcast_S_S8x1x1024 (constant S_ .f32 0x3F800000#32)) (shapeCast _ (extractStridedSlice S1x8x1x1024 ![1, 0, 4, 0] M slices_S2x16x6x1024_S1x8x1x1024_1_0_4_0) shapeCasts_S1x8x1x1024_S8x1x1024)))) (broadcastInDim S8x2048x1024 ![0, 1, 2] bcast_S8x1x1024_S8x2048x1024_0_1_2 (shapeCast _ (extractStridedSlice S1x8x1x1024 ![1, 0, 3, 0] M slices_S2x16x6x1024_S1x8x1x1024_1_0_3_0) shapeCasts_S1x8x1x1024_S8x1x1024))) (shapeCast _ (extractStridedSlice S1x1024x5632 ![1, 0, 0] U slices_S2x1024x5632_S1x1024x5632_1_0_0) shapeCasts_S1x1024x5632_S1024x5632)) slices_S8x2048x5632_S8x2048x2816_0_0_0) (sitofp .f32 (constantI S_ 32 0#32)) pads_S8x2048x2816_S8x2050x2816_000_110_000 h_S_) slices_S8x2050x2816_S8x2048x2816_0_2_0) (broadcastInDim S8x2048x2816 ![0, 1, 2] bcast_S1x1x2816_S8x2048x2816_0_1_2 (broadcastInDim S1x1x2816 ![2] bcast_S2816_S1x1x2816_2 (shapeCast _ (extractStridedSlice S1x2816 ![2, 0] (shapeCast _ (extractStridedSlice S1x3x2816 ![1, 0, 0] W slices_S2x3x2816_S1x3x2816_1_0_0) shapeCasts_S1x3x2816_S3x2816) slices_S3x2816_S1x2816_2_0) shapeCasts_S1x2816_S2816))))) (broadcastInDim S8x2048x2816 ![0, 1, 2] bcast_S1x1x2816_S8x2048x2816_0_1_2 (broadcastInDim S1x1x2816 ![2] bcast_S2816_S1x1x2816_2 (shapeCast _ (extractStridedSlice S1x2816 ![1, 0] B slices_S2x2816_S1x2816_1_0) shapeCasts_S1x2816_S2816))))))))) (extractStridedSlice S8x2048x2816 ![0, 0, 2816] (Host.dotGeneral dot_S8x2048x1024_S1024x5632_S8x2048x5632_2_0_01_1_n_n none (addf (mulf (mulf (mulf X (broadcastInDim S8x2048x1024 ![0, 1, 2] bcast_S8x2048x1_S8x2048x1024_0_1_2 (Host.rsqrt (addf (Host.divf (broadcastInDim S8x2048x1 ![0, 1] bcast_S8x2048_S8x2048x1_0_1 (Host.reduceAdd (mulf X X) (constant S_ .f32 0x00000000#32) reducesTo_S8x2048x1024_S8x2048_d2 h_S_)) (broadcastInDim S8x2048x1 ![] bcast_S_S8x2048x1 (constant S_ .f32 0x44800000#32))) (broadcastInDim S8x2048x1 ![] bcast_S_S8x2048x1 (constant S_ .f32 0x358637BD#32)))))) (broadcastInDim S8x2048x1024 ![0, 1, 2] bcast_S1x1x1024_S8x2048x1024_0_1_2 (broadcastInDim S1x1x1024 ![2] bcast_S1024_S1x1x1024_2 (shapeCast _ (extractStridedSlice S1x1024 ![1, 0] G slices_S2x1024_S1x1024_1_0) shapeCasts_S1x1024_S1024)))) (broadcastInDim S8x2048x1024 ![0, 1, 2] bcast_S8x1x1024_S8x2048x1024_0_1_2 (addf (broadcastInDim S8x1x1024 ![] bcast_S_S8x1x1024 (constant S_ .f32 0x3F800000#32)) (shapeCast _ (extractStridedSlice S1x8x1x1024 ![1, 0, 4, 0] M slices_S2x16x6x1024_S1x8x1x1024_1_0_4_0) shapeCasts_S1x8x1x1024_S8x1x1024)))) (broadcastInDim S8x2048x1024 ![0, 1, 2] bcast_S8x1x1024_S8x2048x1024_0_1_2 (shapeCast _ (extractStridedSlice S1x8x1x1024 ![1, 0, 3, 0] M slices_S2x16x6x1024_S1x8x1x1024_1_0_3_0) shapeCasts_S1x8x1x1024_S8x1x1024))) (shapeCast _ (extractStridedSlice S1x1024x5632 ![1, 0, 0] U slices_S2x1024x5632_S1x1024x5632_1_0_0) shapeCasts_S1x1024x5632_S1024x5632)) slices_S8x2048x5632_S8x2048x2816_0_0_2816)) (shapeCast _ (extractStridedSlice S1x2816x1024 ![1, 0, 0] D slices_S2x2816x1024_S1x2816x1024_1_0_0) shapeCasts_S1x2816x1024_S2816x1024)))) (broadcastInDim S8x2048x1024 ![0, 1, 2] bcast_S8x2048x1_S8x2048x1024_0_1_2 (Host.rsqrt (addf (Host.divf (broadcastInDim S8x2048x1 ![0, 1] bcast_S8x2048_S8x2048x1_0_1 (Host.reduceAdd (mulf (addf X (mulf (broadcastInDim S8x2048x1024 ![0, 1, 2] bcast_S8x1x1024_S8x2048x1024_0_1_2 (shapeCast _ (extractStridedSlice S1x8x1x1024 ![1, 0, 5, 0] M slices_S2x16x6x1024_S1x8x1x1024_1_0_5_0) shapeCasts_S1x8x1x1024_S8x1x1024)) (Host.dotGeneral dot_S8x2048x2816_S2816x1024_S8x2048x1024_2_0_01_1_n_n none (mulf (mulf (addf (addf (addf (mulf (extractStridedSlice S8x2048x2816 ![0, 0, 0] (pad S8x2050x2816 ![0, 1, 0] ![0, 1, 0] ![0, 0, 0] (extractStridedSlice S8x2048x2816 ![0, 0, 0] (Host.dotGeneral dot_S8x2048x1024_S1024x5632_S8x2048x5632_2_0_01_1_n_n none (addf (mulf (mulf (mulf X (broadcastInDim S8x2048x1024 ![0, 1, 2] bcast_S8x2048x1_S8x2048x1024_0_1_2 (Host.rsqrt (addf (Host.divf (broadcastInDim S8x2048x1 ![0, 1] bcast_S8x2048_S8x2048x1_0_1 (Host.reduceAdd (mulf X X) (constant S_ .f32 0x00000000#32) reducesTo_S8x2048x1024_S8x2048_d2 h_S_)) (broadcastInDim S8x2048x1 ![] bcast_S_S8x2048x1 (constant S_ .f32 0x44800000#32))) (broadcastInDim S8x2048x1 ![] bcast_S_S8x2048x1 (constant S_ .f32 0x358637BD#32)))))) (broadcastInDim S8x2048x1024 ![0, 1, 2] bcast_S1x1x1024_S8x2048x1024_0_1_2 (broadcastInDim S1x1x1024 ![2] bcast_S1024_S1x1x1024_2 (shapeCast _ (extractStridedSlice S1x1024 ![1, 0] G slices_S2x1024_S1x1024_1_0) shapeCasts_S1x1024_S1024)))) (broadcastInDim S8x2048x1024 ![0, 1, 2] bcast_S8x1x1024_S8x2048x1024_0_1_2 (addf (broadcastInDim S8x1x1024 ![] bcast_S_S8x1x1024 (constant S_ .f32 0x3F800000#32)) (shapeCast _ (extractStridedSlice S1x8x1x1024 ![1, 0, 4, 0] M slices_S2x16x6x1024_S1x8x1x1024_1_0_4_0) shapeCasts_S1x8x1x1024_S8x1x1024)))) (broadcastInDim S8x2048x1024 ![0, 1, 2] bcast_S8x1x1024_S8x2048x1024_0_1_2 (shapeCast _ (extractStridedSlice S1x8x1x1024 ![1, 0, 3, 0] M slices_S2x16x6x1024_S1x8x1x1024_1_0_3_0) shapeCasts_S1x8x1x1024_S8x1x1024))) (shapeCast _ (extractStridedSlice S1x1024x5632 ![1, 0, 0] U slices_S2x1024x5632_S1x1024x5632_1_0_0) shapeCasts_S1x1024x5632_S1024x5632)) slices_S8x2048x5632_S8x2048x2816_0_0_0) (sitofp .f32 (constantI S_ 32 0#32)) pads_S8x2048x2816_S8x2050x2816_000_110_000 h_S_) slices_S8x2050x2816_S8x2048x2816_0_0_0) (broadcastInDim S8x2048x2816 ![0, 1, 2] bcast_S1x1x2816_S8x2048x2816_0_1_2 (broadcastInDim S1x1x2816 ![2] bcast_S2816_S1x1x2816_2 (shapeCast _ (extractStridedSlice S1x2816 ![0, 0] (shapeCast _ (extractStridedSlice S1x3x2816 ![1, 0, 0] W slices_S2x3x2816_S1x3x2816_1_0_0) shapeCasts_S1x3x2816_S3x2816) slices_S3x2816_S1x2816_0_0) shapeCasts_S1x2816_S2816)))) (mulf (extractStridedSlice S8x2048x2816 ![0, 1, 0] (pad S8x2050x2816 ![0, 1, 0] ![0, 1, 0] ![0, 0, 0] (extractStridedSlice S8x2048x2816 ![0, 0, 0] (Host.dotGeneral dot_S8x2048x1024_S1024x5632_S8x2048x5632_2_0_01_1_n_n none (addf (mulf (mulf (mulf X (broadcastInDim S8x2048x1024 ![0, 1, 2] bcast_S8x2048x1_S8x2048x1024_0_1_2 (Host.rsqrt (addf (Host.divf (broadcastInDim S8x2048x1 ![0, 1] bcast_S8x2048_S8x2048x1_0_1 (Host.reduceAdd (mulf X X) (constant S_ .f32 0x00000000#32) reducesTo_S8x2048x1024_S8x2048_d2 h_S_)) (broadcastInDim S8x2048x1 ![] bcast_S_S8x2048x1 (constant S_ .f32 0x44800000#32))) (broadcastInDim S8x2048x1 ![] bcast_S_S8x2048x1 (constant S_ .f32 0x358637BD#32)))))) (broadcastInDim S8x2048x1024 ![0, 1, 2] bcast_S1x1x1024_S8x2048x1024_0_1_2 (broadcastInDim S1x1x1024 ![2] bcast_S1024_S1x1x1024_2 (shapeCast _ (extractStridedSlice S1x1024 ![1, 0] G slices_S2x1024_S1x1024_1_0) shapeCasts_S1x1024_S1024)))) (broadcastInDim S8x2048x1024 ![0, 1, 2] bcast_S8x1x1024_S8x2048x1024_0_1_2 (addf (broadcastInDim S8x1x1024 ![] bcast_S_S8x1x1024 (constant S_ .f32 0x3F800000#32)) (shapeCast _ (extractStridedSlice S1x8x1x1024 ![1, 0, 4, 0] M slices_S2x16x6x1024_S1x8x1x1024_1_0_4_0) shapeCasts_S1x8x1x1024_S8x1x1024)))) (broadcastInDim S8x2048x1024 ![0, 1, 2] bcast_S8x1x1024_S8x2048x1024_0_1_2 (shapeCast _ (extractStridedSlice S1x8x1x1024 ![1, 0, 3, 0] M slices_S2x16x6x1024_S1x8x1x1024_1_0_3_0) shapeCasts_S1x8x1x1024_S8x1x1024))) (shapeCast _ (extractStridedSlice S1x1024x5632 ![1, 0, 0] U slices_S2x1024x5632_S1x1024x5632_1_0_0) shapeCasts_S1x1024x5632_S1024x5632)) slices_S8x2048x5632_S8x2048x2816_0_0_0) (sitofp .f32 (constantI S_ 32 0#32)) pads_S8x2048x2816_S8x2050x2816_000_110_000 h_S_) slices_S8x2050x2816_S8x2048x2816_0_1_0) (broadcastInDim S8x2048x2816 ![0, 1, 2] bcast_S1x1x2816_S8x2048x2816_0_1_2 (broadcastInDim S1x1x2816 ![2] bcast_S2816_S1x1x2816_2 (shapeCast _ (extractStridedSlice S1x2816 ![1, 0] (shapeCast _ (extractStridedSlice S1x3x2816 ![1, 0, 0] W slices_S2x3x2816_S1x3x2816_1_0_0) shapeCasts_S1x3x2816_S3x2816) slices_S3x2816_S1x2816_1_0) shapeCasts_S1x2816_S2816))))) (mulf (extractStridedSlice S8x2048x2816 ![0, 2, 0] (pad S8x2050x2816 ![0, 1, 0] ![0, 1, 0] ![0, 0, 0] (extractStridedSlice S8x2048x2816 ![0, 0, 0] (Host.dotGeneral dot_S8x2048x1024_S1024x5632_S8x2048x5632_2_0_01_1_n_n none (addf (mulf (mulf (mulf X (broadcastInDim S8x2048x1024 ![0, 1, 2] bcast_S8x2048x1_S8x2048x1024_0_1_2 (Host.rsqrt (addf (Host.divf (broadcastInDim S8x2048x1 ![0, 1] bcast_S8x2048_S8x2048x1_0_1 (Host.reduceAdd (mulf X X) (constant S_ .f32 0x00000000#32) reducesTo_S8x2048x1024_S8x2048_d2 h_S_)) (broadcastInDim S8x2048x1 ![] bcast_S_S8x2048x1 (constant S_ .f32 0x44800000#32))) (broadcastInDim S8x2048x1 ![] bcast_S_S8x2048x1 (constant S_ .f32 0x358637BD#32)))))) (broadcastInDim S8x2048x1024 ![0, 1, 2] bcast_S1x1x1024_S8x2048x1024_0_1_2 (broadcastInDim S1x1x1024 ![2] bcast_S1024_S1x1x1024_2 (shapeCast _ (extractStridedSlice S1x1024 ![1, 0] G slices_S2x1024_S1x1024_1_0) shapeCasts_S1x1024_S1024)))) (broadcastInDim S8x2048x1024 ![0, 1, 2] bcast_S8x1x1024_S8x2048x1024_0_1_2 (addf (broadcastInDim S8x1x1024 ![] bcast_S_S8x1x1024 (constant S_ .f32 0x3F800000#32)) (shapeCast _ (extractStridedSlice S1x8x1x1024 ![1, 0, 4, 0] M slices_S2x16x6x1024_S1x8x1x1024_1_0_4_0) shapeCasts_S1x8x1x1024_S8x1x1024)))) (broadcastInDim S8x2048x1024 ![0, 1, 2] bcast_S8x1x1024_S8x2048x1024_0_1_2 (shapeCast _ (extractStridedSlice S1x8x1x1024 ![1, 0, 3, 0] M slices_S2x16x6x1024_S1x8x1x1024_1_0_3_0) shapeCasts_S1x8x1x1024_S8x1x1024))) (shapeCast _ (extractStridedSlice S1x1024x5632 ![1, 0, 0] U slices_S2x1024x5632_S1x1024x5632_1_0_0) shapeCasts_S1x1024x5632_S1024x5632)) slices_S8x2048x5632_S8x2048x2816_0_0_0) (sitofp .f32 (constantI S_ 32 0#32)) pads_S8x2048x2816_S8x2050x2816_000_110_000 h_S_) slices_S8x2050x2816_S8x2048x2816_0_2_0) (broadcastInDim S8x2048x2816 ![0, 1, 2] bcast_S1x1x2816_S8x2048x2816_0_1_2 (broadcastInDim S1x1x2816 ![2] bcast_S2816_S1x1x2816_2 (shapeCast _ (extractStridedSlice S1x2816 ![2, 0] (shapeCast _ (extractStridedSlice S1x3x2816 ![1, 0, 0] W slices_S2x3x2816_S1x3x2816_1_0_0) shapeCasts_S1x3x2816_S3x2816) slices_S3x2816_S1x2816_2_0) shapeCasts_S1x2816_S2816))))) (broadcastInDim S8x2048x2816 ![0, 1, 2] bcast_S1x1x2816_S8x2048x2816_0_1_2 (broadcastInDim S1x1x2816 ![2] bcast_S2816_S1x1x2816_2 (shapeCast _ (extractStridedSlice S1x2816 ![1, 0] B slices_S2x2816_S1x2816_1_0) shapeCasts_S1x2816_S2816)))) (Host.divf (broadcastInDim S8x2048x2816 ![] bcast_S_S8x2048x2816 (constant S_ .f32 0x3F800000#32)) (addf (broadcastInDim S8x2048x2816 ![] bcast_S_S8x2048x2816 (constant S_ .f32 0x3F800000#32)) (Host.exp (Host.negf (addf (addf (addf (mulf (extractStridedSlice S8x2048x2816 ![0, 0, 0] (pad S8x2050x2816 ![0, 1, 0] ![0, 1, 0] ![0, 0, 0] (extractStridedSlice S8x2048x2816 ![0, 0, 0] (Host.dotGeneral dot_S8x2048x1024_S1024x5632_S8x2048x5632_2_0_01_1_n_n none (addf (mulf (mulf (mulf X (broadcastInDim S8x2048x1024 ![0, 1, 2] bcast_S8x2048x1_S8x2048x1024_0_1_2 (Host.rsqrt (addf (Host.divf (broadcastInDim S8x2048x1 ![0, 1] bcast_S8x2048_S8x2048x1_0_1 (Host.reduceAdd (mulf X X) (constant S_ .f32 0x00000000#32) reducesTo_S8x2048x1024_S8x2048_d2 h_S_)) (broadcastInDim S8x2048x1 ![] bcast_S_S8x2048x1 (constant S_ .f32 0x44800000#32))) (broadcastInDim S8x2048x1 ![] bcast_S_S8x2048x1 (constant S_ .f32 0x358637BD#32)))))) (broadcastInDim S8x2048x1024 ![0, 1, 2] bcast_S1x1x1024_S8x2048x1024_0_1_2 (broadcastInDim S1x1x1024 ![2] bcast_S1024_S1x1x1024_2 (shapeCast _ (extractStridedSlice S1x1024 ![1, 0] G slices_S2x1024_S1x1024_1_0) shapeCasts_S1x1024_S1024)))) (broadcastInDim S8x2048x1024 ![0, 1, 2] bcast_S8x1x1024_S8x2048x1024_0_1_2 (addf (broadcastInDim S8x1x1024 ![] bcast_S_S8x1x1024 (constant S_ .f32 0x3F800000#32)) (shapeCast _ (extractStridedSlice S1x8x1x1024 ![1, 0, 4, 0] M slices_S2x16x6x1024_S1x8x1x1024_1_0_4_0) shapeCasts_S1x8x1x1024_S8x1x1024)))) (broadcastInDim S8x2048x1024 ![0, 1, 2] bcast_S8x1x1024_S8x2048x1024_0_1_2 (shapeCast _ (extractStridedSlice S1x8x1x1024 ![1, 0, 3, 0] M slices_S2x16x6x1024_S1x8x1x1024_1_0_3_0) shapeCasts_S1x8x1x1024_S8x1x1024))) (shapeCast _ (extractStridedSlice S1x1024x5632 ![1, 0, 0] U slices_S2x1024x5632_S1x1024x5632_1_0_0) shapeCasts_S1x1024x5632_S1024x5632)) slices_S8x2048x5632_S8x2048x2816_0_0_0) (sitofp .f32 (constantI S_ 32 0#32)) pads_S8x2048x2816_S8x2050x2816_000_110_000 h_S_) slices_S8x2050x2816_S8x2048x2816_0_0_0) (broadcastInDim S8x2048x2816 ![0, 1, 2] bcast_S1x1x2816_S8x2048x2816_0_1_2 (broadcastInDim S1x1x2816 ![2] bcast_S2816_S1x1x2816_2 (shapeCast _ (extractStridedSlice S1x2816 ![0, 0] (shapeCast _ (extractStridedSlice S1x3x2816 ![1, 0, 0] W slices_S2x3x2816_S1x3x2816_1_0_0) shapeCasts_S1x3x2816_S3x2816) slices_S3x2816_S1x2816_0_0) shapeCasts_S1x2816_S2816)))) (mulf (extractStridedSlice S8x2048x2816 ![0, 1, 0] (pad S8x2050x2816 ![0, 1, 0] ![0, 1, 0] ![0, 0, 0] (extractStridedSlice S8x2048x2816 ![0, 0, 0] (Host.dotGeneral dot_S8x2048x1024_S1024x5632_S8x2048x5632_2_0_01_1_n_n none (addf (mulf (mulf (mulf X (broadcastInDim S8x2048x1024 ![0, 1, 2] bcast_S8x2048x1_S8x2048x1024_0_1_2 (Host.rsqrt (addf (Host.divf (broadcastInDim S8x2048x1 ![0, 1] bcast_S8x2048_S8x2048x1_0_1 (Host.reduceAdd (mulf X X) (constant S_ .f32 0x00000000#32) reducesTo_S8x2048x1024_S8x2048_d2 h_S_)) (broadcastInDim S8x2048x1 ![] bcast_S_S8x2048x1 (constant S_ .f32 0x44800000#32))) (broadcastInDim S8x2048x1 ![] bcast_S_S8x2048x1 (constant S_ .f32 0x358637BD#32)))))) (broadcastInDim S8x2048x1024 ![0, 1, 2] bcast_S1x1x1024_S8x2048x1024_0_1_2 (broadcastInDim S1x1x1024 ![2] bcast_S1024_S1x1x1024_2 (shapeCast _ (extractStridedSlice S1x1024 ![1, 0] G slices_S2x1024_S1x1024_1_0) shapeCasts_S1x1024_S1024)))) (broadcastInDim S8x2048x1024 ![0, 1, 2] bcast_S8x1x1024_S8x2048x1024_0_1_2 (addf (broadcastInDim S8x1x1024 ![] bcast_S_S8x1x1024 (constant S_ .f32 0x3F800000#32)) (shapeCast _ (extractStridedSlice S1x8x1x1024 ![1, 0, 4, 0] M slices_S2x16x6x1024_S1x8x1x1024_1_0_4_0) shapeCasts_S1x8x1x1024_S8x1x1024)))) (broadcastInDim S8x2048x1024 ![0, 1, 2] bcast_S8x1x1024_S8x2048x1024_0_1_2 (shapeCast _ (extractStridedSlice S1x8x1x1024 ![1, 0, 3, 0] M slices_S2x16x6x1024_S1x8x1x1024_1_0_3_0) shapeCasts_S1x8x1x1024_S8x1x1024))) (shapeCast _ (extractStridedSlice S1x1024x5632 ![1, 0, 0] U slices_S2x1024x5632_S1x1024x5632_1_0_0) shapeCasts_S1x1024x5632_S1024x5632)) slices_S8x2048x5632_S8x2048x2816_0_0_0) (sitofp .f32 (constantI S_ 32 0#32)) pads_S8x2048x2816_S8x2050x2816_000_110_000 h_S_) slices_S8x2050x2816_S8x2048x2816_0_1_0) (broadcastInDim S8x2048x2816 ![0, 1, 2] bcast_S1x1x2816_S8x2048x2816_0_1_2 (broadcastInDim S1x1x2816 ![2] bcast_S2816_S1x1x2816_2 (shapeCast _ (extractStridedSlice S1x2816 ![1, 0] (shapeCast _ (extractStridedSlice S1x3x2816 ![1, 0, 0] W slices_S2x3x2816_S1x3x2816_1_0_0) shapeCasts_S1x3x2816_S3x2816) slices_S3x2816_S1x2816_1_0) shapeCasts_S1x2816_S2816))))) (mulf (extractStridedSlice S8x2048x2816 ![0, 2, 0] (pad S8x2050x2816 ![0, 1, 0] ![0, 1, 0] ![0, 0, 0] (extractStridedSlice S8x2048x2816 ![0, 0, 0] (Host.dotGeneral dot_S8x2048x1024_S1024x5632_S8x2048x5632_2_0_01_1_n_n none (addf (mulf (mulf (mulf X (broadcastInDim S8x2048x1024 ![0, 1, 2] bcast_S8x2048x1_S8x2048x1024_0_1_2 (Host.rsqrt (addf (Host.divf (broadcastInDim S8x2048x1 ![0, 1] bcast_S8x2048_S8x2048x1_0_1 (Host.reduceAdd (mulf X X) (constant S_ .f32 0x00000000#32) reducesTo_S8x2048x1024_S8x2048_d2 h_S_)) (broadcastInDim S8x2048x1 ![] bcast_S_S8x2048x1 (constant S_ .f32 0x44800000#32))) (broadcastInDim S8x2048x1 ![] bcast_S_S8x2048x1 (constant S_ .f32 0x358637BD#32)))))) (broadcastInDim S8x2048x1024 ![0, 1, 2] bcast_S1x1x1024_S8x2048x1024_0_1_2 (broadcastInDim S1x1x1024 ![2] bcast_S1024_S1x1x1024_2 (shapeCast _ (extractStridedSlice S1x1024 ![1, 0] G slices_S2x1024_S1x1024_1_0) shapeCasts_S1x1024_S1024)))) (broadcastInDim S8x2048x1024 ![0, 1, 2] bcast_S8x1x1024_S8x2048x1024_0_1_2 (addf (broadcastInDim S8x1x1024 ![] bcast_S_S8x1x1024 (constant S_ .f32 0x3F800000#32)) (shapeCast _ (extractStridedSlice S1x8x1x1024 ![1, 0, 4, 0] M slices_S2x16x6x1024_S1x8x1x1024_1_0_4_0) shapeCasts_S1x8x1x1024_S8x1x1024)))) (broadcastInDim S8x2048x1024 ![0, 1, 2] bcast_S8x1x1024_S8x2048x1024_0_1_2 (shapeCast _ (extractStridedSlice S1x8x1x1024 ![1, 0, 3, 0] M slices_S2x16x6x1024_S1x8x1x1024_1_0_3_0) shapeCasts_S1x8x1x1024_S8x1x1024))) (shapeCast _ (extractStridedSlice S1x1024x5632 ![1, 0, 0] U slices_S2x1024x5632_S1x1024x5632_1_0_0) shapeCasts_S1x1024x5632_S1024x5632)) slices_S8x2048x5632_S8x2048x2816_0_0_0) (sitofp .f32 (constantI S_ 32 0#32)) pads_S8x2048x2816_S8x2050x2816_000_110_000 h_S_) slices_S8x2050x2816_S8x2048x2816_0_2_0) (broadcastInDim S8x2048x2816 ![0, 1, 2] bcast_S1x1x2816_S8x2048x2816_0_1_2 (broadcastInDim S1x1x2816 ![2] bcast_S2816_S1x1x2816_2 (shapeCast _ (extractStridedSlice S1x2816 ![2, 0] (shapeCast _ (extractStridedSlice S1x3x2816 ![1, 0, 0] W slices_S2x3x2816_S1x3x2816_1_0_0) shapeCasts_S1x3x2816_S3x2816) slices_S3x2816_S1x2816_2_0) shapeCasts_S1x2816_S2816))))) (broadcastInDim S8x2048x2816 ![0, 1, 2] bcast_S1x1x2816_S8x2048x2816_0_1_2 (broadcastInDim S1x1x2816 ![2] bcast_S2816_S1x1x2816_2 (shapeCast _ (extractStridedSlice S1x2816 ![1, 0] B slices_S2x2816_S1x2816_1_0) shapeCasts_S1x2816_S2816))))))))) (extractStridedSlice S8x2048x2816 ![0, 0, 2816] (Host.dotGeneral dot_S8x2048x1024_S1024x5632_S8x2048x5632_2_0_01_1_n_n none (addf (mulf (mulf (mulf X (broadcastInDim S8x2048x1024 ![0, 1, 2] bcast_S8x2048x1_S8x2048x1024_0_1_2 (Host.rsqrt (addf (Host.divf (broadcastInDim S8x2048x1 ![0, 1] bcast_S8x2048_S8x2048x1_0_1 (Host.reduceAdd (mulf X X) (constant S_ .f32 0x00000000#32) reducesTo_S8x2048x1024_S8x2048_d2 h_S_)) (broadcastInDim S8x2048x1 ![] bcast_S_S8x2048x1 (constant S_ .f32 0x44800000#32))) (broadcastInDim S8x2048x1 ![] bcast_S_S8x2048x1 (constant S_ .f32 0x358637BD#32)))))) (broadcastInDim S8x2048x1024 ![0, 1, 2] bcast_S1x1x1024_S8x2048x1024_0_1_2 (broadcastInDim S1x1x1024 ![2] bcast_S1024_S1x1x1024_2 (shapeCast _ (extractStridedSlice S1x1024 ![1, 0] G slices_S2x1024_S1x1024_1_0) shapeCasts_S1x1024_S1024)))) (broadcastInDim S8x2048x1024 ![0, 1, 2] bcast_S8x1x1024_S8x2048x1024_0_1_2 (addf (broadcastInDim S8x1x1024 ![] bcast_S_S8x1x1024 (constant S_ .f32 0x3F800000#32)) (shapeCast _ (extractStridedSlice S1x8x1x1024 ![1, 0, 4, 0] M slices_S2x16x6x1024_S1x8x1x1024_1_0_4_0) shapeCasts_S1x8x1x1024_S8x1x1024)))) (broadcastInDim S8x2048x1024 ![0, 1, 2] bcast_S8x1x1024_S8x2048x1024_0_1_2 (shapeCast _ (extractStridedSlice S1x8x1x1024 ![1, 0, 3, 0] M slices_S2x16x6x1024_S1x8x1x1024_1_0_3_0) shapeCasts_S1x8x1x1024_S8x1x1024))) (shapeCast _ (extractStridedSlice S1x1024x5632 ![1, 0, 0] U slices_S2x1024x5632_S1x1024x5632_1_0_0) shapeCasts_S1x1024x5632_S1024x5632)) slices_S8x2048x5632_S8x2048x2816_0_0_2816)) (shapeCast _ (extractStridedSlice S1x2816x1024 ![1, 0, 0] D slices_S2x2816x1024_S1x2816x1024_1_0_0) shapeCasts_S1x2816x1024_S2816x1024)))) (addf X (mulf (broadcastInDim S8x2048x1024 ![0, 1, 2] bcast_S8x1x1024_S8x2048x1024_0_1_2 (shapeCast _ (extractStridedSlice S1x8x1x1024 ![1, 0, 5, 0] M slices_S2x16x6x1024_S1x8x1x1024_1_0_5_0) shapeCasts_S1x8x1x1024_S8x1x1024)) (Host.dotGeneral dot_S8x2048x2816_S2816x1024_S8x2048x1024_2_0_01_1_n_n none (mulf (mulf (addf (addf (addf (mulf (extractStridedSlice S8x2048x2816 ![0, 0, 0] (pad S8x2050x2816 ![0, 1, 0] ![0, 1, 0] ![0, 0, 0] (extractStridedSlice S8x2048x2816 ![0, 0, 0] (Host.dotGeneral dot_S8x2048x1024_S1024x5632_S8x2048x5632_2_0_01_1_n_n none (addf (mulf (mulf (mulf X (broadcastInDim S8x2048x1024 ![0, 1, 2] bcast_S8x2048x1_S8x2048x1024_0_1_2 (Host.rsqrt (addf (Host.divf (broadcastInDim S8x2048x1 ![0, 1] bcast_S8x2048_S8x2048x1_0_1 (Host.reduceAdd (mulf X X) (constant S_ .f32 0x00000000#32) reducesTo_S8x2048x1024_S8x2048_d2 h_S_)) (broadcastInDim S8x2048x1 ![] bcast_S_S8x2048x1 (constant S_ .f32 0x44800000#32))) (broadcastInDim S8x2048x1 ![] bcast_S_S8x2048x1 (constant S_ .f32 0x358637BD#32)))))) (broadcastInDim S8x2048x1024 ![0, 1, 2] bcast_S1x1x1024_S8x2048x1024_0_1_2 (broadcastInDim S1x1x1024 ![2] bcast_S1024_S1x1x1024_2 (shapeCast _ (extractStridedSlice S1x1024 ![1, 0] G slices_S2x1024_S1x1024_1_0) shapeCasts_S1x1024_S1024)))) (broadcastInDim S8x2048x1024 ![0, 1, 2] bcast_S8x1x1024_S8x2048x1024_0_1_2 (addf (broadcastInDim S8x1x1024 ![] bcast_S_S8x1x1024 (constant S_ .f32 0x3F800000#32)) (shapeCast _ (extractStridedSlice S1x8x1x1024 ![1, 0, 4, 0] M slices_S2x16x6x1024_S1x8x1x1024_1_0_4_0) shapeCasts_S1x8x1x1024_S8x1x1024)))) (broadcastInDim S8x2048x1024 ![0, 1, 2] bcast_S8x1x1024_S8x2048x1024_0_1_2 (shapeCast _ (extractStridedSlice S1x8x1x1024 ![1, 0, 3, 0] M slices_S2x16x6x1024_S1x8x1x1024_1_0_3_0) shapeCasts_S1x8x1x1024_S8x1x1024))) (shapeCast _ (extractStridedSlice S1x1024x5632 ![1, 0, 0] U slices_S2x1024x5632_S1x1024x5632_1_0_0) shapeCasts_S1x1024x5632_S1024x5632)) slices_S8x2048x5632_S8x2048x2816_0_0_0) (sitofp .f32 (constantI S_ 32 0#32)) pads_S8x2048x2816_S8x2050x2816_000_110_000 h_S_) slices_S8x2050x2816_S8x2048x2816_0_0_0) (broadcastInDim S8x2048x2816 ![0, 1, 2] bcast_S1x1x2816_S8x2048x2816_0_1_2 (broadcastInDim S1x1x2816 ![2] bcast_S2816_S1x1x2816_2 (shapeCast _ (extractStridedSlice S1x2816 ![0, 0] (shapeCast _ (extractStridedSlice S1x3x2816 ![1, 0, 0] W slices_S2x3x2816_S1x3x2816_1_0_0) shapeCasts_S1x3x2816_S3x2816) slices_S3x2816_S1x2816_0_0) shapeCasts_S1x2816_S2816)))) (mulf (extractStridedSlice S8x2048x2816 ![0, 1, 0] (pad S8x2050x2816 ![0, 1, 0] ![0, 1, 0] ![0, 0, 0] (extractStridedSlice S8x2048x2816 ![0, 0, 0] (Host.dotGeneral dot_S8x2048x1024_S1024x5632_S8x2048x5632_2_0_01_1_n_n none (addf (mulf (mulf (mulf X (broadcastInDim S8x2048x1024 ![0, 1, 2] bcast_S8x2048x1_S8x2048x1024_0_1_2 (Host.rsqrt (addf (Host.divf (broadcastInDim S8x2048x1 ![0, 1] bcast_S8x2048_S8x2048x1_0_1 (Host.reduceAdd (mulf X X) (constant S_ .f32 0x00000000#32) reducesTo_S8x2048x1024_S8x2048_d2 h_S_)) (broadcastInDim S8x2048x1 ![] bcast_S_S8x2048x1 (constant S_ .f32 0x44800000#32))) (broadcastInDim S8x2048x1 ![] bcast_S_S8x2048x1 (constant S_ .f32 0x358637BD#32)))))) (broadcastInDim S8x2048x1024 ![0, 1, 2] bcast_S1x1x1024_S8x2048x1024_0_1_2 (broadcastInDim S1x1x1024 ![2] bcast_S1024_S1x1x1024_2 (shapeCast _ (extractStridedSlice S1x1024 ![1, 0] G slices_S2x1024_S1x1024_1_0) shapeCasts_S1x1024_S1024)))) (broadcastInDim S8x2048x1024 ![0, 1, 2] bcast_S8x1x1024_S8x2048x1024_0_1_2 (addf (broadcastInDim S8x1x1024 ![] bcast_S_S8x1x1024 (constant S_ .f32 0x3F800000#32)) (shapeCast _ (extractStridedSlice S1x8x1x1024 ![1, 0, 4, 0] M slices_S2x16x6x1024_S1x8x1x1024_1_0_4_0) shapeCasts_S1x8x1x1024_S8x1x1024)))) (broadcastInDim S8x2048x1024 ![0, 1, 2] bcast_S8x1x1024_S8x2048x1024_0_1_2 (shapeCast _ (extractStridedSlice S1x8x1x1024 ![1, 0, 3, 0] M slices_S2x16x6x1024_S1x8x1x1024_1_0_3_0) shapeCasts_S1x8x1x1024_S8x1x1024))) (shapeCast _ (extractStridedSlice S1x1024x5632 ![1, 0, 0] U slices_S2x1024x5632_S1x1024x5632_1_0_0) shapeCasts_S1x1024x5632_S1024x5632)) slices_S8x2048x5632_S8x2048x2816_0_0_0) (sitofp .f32 (constantI S_ 32 0#32)) pads_S8x2048x2816_S8x2050x2816_000_110_000 h_S_) slices_S8x2050x2816_S8x2048x2816_0_1_0) (broadcastInDim S8x2048x2816 ![0, 1, 2] bcast_S1x1x2816_S8x2048x2816_0_1_2 (broadcastInDim S1x1x2816 ![2] bcast_S2816_S1x1x2816_2 (shapeCast _ (extractStridedSlice S1x2816 ![1, 0] (shapeCast _ (extractStridedSlice S1x3x2816 ![1, 0, 0] W slices_S2x3x2816_S1x3x2816_1_0_0) shapeCasts_S1x3x2816_S3x2816) slices_S3x2816_S1x2816_1_0) shapeCasts_S1x2816_S2816))))) (mulf (extractStridedSlice S8x2048x2816 ![0, 2, 0] (pad S8x2050x2816 ![0, 1, 0] ![0, 1, 0] ![0, 0, 0] (extractStridedSlice S8x2048x2816 ![0, 0, 0] (Host.dotGeneral dot_S8x2048x1024_S1024x5632_S8x2048x5632_2_0_01_1_n_n none (addf (mulf (mulf (mulf X (broadcastInDim S8x2048x1024 ![0, 1, 2] bcast_S8x2048x1_S8x2048x1024_0_1_2 (Host.rsqrt (addf (Host.divf (broadcastInDim S8x2048x1 ![0, 1] bcast_S8x2048_S8x2048x1_0_1 (Host.reduceAdd (mulf X X) (constant S_ .f32 0x00000000#32) reducesTo_S8x2048x1024_S8x2048_d2 h_S_)) (broadcastInDim S8x2048x1 ![] bcast_S_S8x2048x1 (constant S_ .f32 0x44800000#32))) (broadcastInDim S8x2048x1 ![] bcast_S_S8x2048x1 (constant S_ .f32 0x358637BD#32)))))) (broadcastInDim S8x2048x1024 ![0, 1, 2] bcast_S1x1x1024_S8x2048x1024_0_1_2 (broadcastInDim S1x1x1024 ![2] bcast_S1024_S1x1x1024_2 (shapeCast _ (extractStridedSlice S1x1024 ![1, 0] G slices_S2x1024_S1x1024_1_0) shapeCasts_S1x1024_S1024)))) (broadcastInDim S8x2048x1024 ![0, 1, 2] bcast_S8x1x1024_S8x2048x1024_0_1_2 (addf (broadcastInDim S8x1x1024 ![] bcast_S_S8x1x1024 (constant S_ .f32 0x3F800000#32)) (shapeCast _ (extractStridedSlice S1x8x1x1024 ![1, 0, 4, 0] M slices_S2x16x6x1024_S1x8x1x1024_1_0_4_0) shapeCasts_S1x8x1x1024_S8x1x1024)))) (broadcastInDim S8x2048x1024 ![0, 1, 2] bcast_S8x1x1024_S8x2048x1024_0_1_2 (shapeCast _ (extractStridedSlice S1x8x1x1024 ![1, 0, 3, 0] M slices_S2x16x6x1024_S1x8x1x1024_1_0_3_0) shapeCasts_S1x8x1x1024_S8x1x1024))) (shapeCast _ (extractStridedSlice S1x1024x5632 ![1, 0, 0] U slices_S2x1024x5632_S1x1024x5632_1_0_0) shapeCasts_S1x1024x5632_S1024x5632)) slices_S8x2048x5632_S8x2048x2816_0_0_0) (sitofp .f32 (constantI S_ 32 0#32)) pads_S8x2048x2816_S8x2050x2816_000_110_000 h_S_) slices_S8x2050x2816_S8x2048x2816_0_2_0) (broadcastInDim S8x2048x2816 ![0, 1, 2] bcast_S1x1x2816_S8x2048x2816_0_1_2 (broadcastInDim S1x1x2816 ![2] bcast_S2816_S1x1x2816_2 (shapeCast _ (extractStridedSlice S1x2816 ![2, 0] (shapeCast _ (extractStridedSlice S1x3x2816 ![1, 0, 0] W slices_S2x3x2816_S1x3x2816_1_0_0) shapeCasts_S1x3x2816_S3x2816) slices_S3x2816_S1x2816_2_0) shapeCasts_S1x2816_S2816))))) (broadcastInDim S8x2048x2816 ![0, 1, 2] bcast_S1x1x2816_S8x2048x2816_0_1_2 (broadcastInDim S1x1x2816 ![2] bcast_S2816_S1x1x2816_2 (shapeCast _ (extractStridedSlice S1x2816 ![1, 0] B slices_S2x2816_S1x2816_1_0) shapeCasts_S1x2816_S2816)))) (Host.divf (broadcastInDim S8x2048x2816 ![] bcast_S_S8x2048x2816 (constant S_ .f32 0x3F800000#32)) (addf (broadcastInDim S8x2048x2816 ![] bcast_S_S8x2048x2816 (constant S_ .f32 0x3F800000#32)) (Host.exp (Host.negf (addf (addf (addf (mulf (extractStridedSlice S8x2048x2816 ![0, 0, 0] (pad S8x2050x2816 ![0, 1, 0] ![0, 1, 0] ![0, 0, 0] (extractStridedSlice S8x2048x2816 ![0, 0, 0] (Host.dotGeneral dot_S8x2048x1024_S1024x5632_S8x2048x5632_2_0_01_1_n_n none (addf (mulf (mulf (mulf X (broadcastInDim S8x2048x1024 ![0, 1, 2] bcast_S8x2048x1_S8x2048x1024_0_1_2 (Host.rsqrt (addf (Host.divf (broadcastInDim S8x2048x1 ![0, 1] bcast_S8x2048_S8x2048x1_0_1 (Host.reduceAdd (mulf X X) (constant S_ .f32 0x00000000#32) reducesTo_S8x2048x1024_S8x2048_d2 h_S_)) (broadcastInDim S8x2048x1 ![] bcast_S_S8x2048x1 (constant S_ .f32 0x44800000#32))) (broadcastInDim S8x2048x1 ![] bcast_S_S8x2048x1 (constant S_ .f32 0x358637BD#32)))))) (broadcastInDim S8x2048x1024 ![0, 1, 2] bcast_S1x1x1024_S8x2048x1024_0_1_2 (broadcastInDim S1x1x1024 ![2] bcast_S1024_S1x1x1024_2 (shapeCast _ (extractStridedSlice S1x1024 ![1, 0] G slices_S2x1024_S1x1024_1_0) shapeCasts_S1x1024_S1024)))) (broadcastInDim S8x2048x1024 ![0, 1, 2] bcast_S8x1x1024_S8x2048x1024_0_1_2 (addf (broadcastInDim S8x1x1024 ![] bcast_S_S8x1x1024 (constant S_ .f32 0x3F800000#32)) (shapeCast _ (extractStridedSlice S1x8x1x1024 ![1, 0, 4, 0] M slices_S2x16x6x1024_S1x8x1x1024_1_0_4_0) shapeCasts_S1x8x1x1024_S8x1x1024)))) (broadcastInDim S8x2048x1024 ![0, 1, 2] bcast_S8x1x1024_S8x2048x1024_0_1_2 (shapeCast _ (extractStridedSlice S1x8x1x1024 ![1, 0, 3, 0] M slices_S2x16x6x1024_S1x8x1x1024_1_0_3_0) shapeCasts_S1x8x1x1024_S8x1x1024))) (shapeCast _ (extractStridedSlice S1x1024x5632 ![1, 0, 0] U slices_S2x1024x5632_S1x1024x5632_1_0_0) shapeCasts_S1x1024x5632_S1024x5632)) slices_S8x2048x5632_S8x2048x2816_0_0_0) (sitofp .f32 (constantI S_ 32 0#32)) pads_S8x2048x2816_S8x2050x2816_000_110_000 h_S_) slices_S8x2050x2816_S8x2048x2816_0_0_0) (broadcastInDim S8x2048x2816 ![0, 1, 2] bcast_S1x1x2816_S8x2048x2816_0_1_2 (broadcastInDim S1x1x2816 ![2] bcast_S2816_S1x1x2816_2 (shapeCast _ (extractStridedSlice S1x2816 ![0, 0] (shapeCast _ (extractStridedSlice S1x3x2816 ![1, 0, 0] W slices_S2x3x2816_S1x3x2816_1_0_0) shapeCasts_S1x3x2816_S3x2816) slices_S3x2816_S1x2816_0_0) shapeCasts_S1x2816_S2816)))) (mulf (extractStridedSlice S8x2048x2816 ![0, 1, 0] (pad S8x2050x2816 ![0, 1, 0] ![0, 1, 0] ![0, 0, 0] (extractStridedSlice S8x2048x2816 ![0, 0, 0] (Host.dotGeneral dot_S8x2048x1024_S1024x5632_S8x2048x5632_2_0_01_1_n_n none (addf (mulf (mulf (mulf X (broadcastInDim S8x2048x1024 ![0, 1, 2] bcast_S8x2048x1_S8x2048x1024_0_1_2 (Host.rsqrt (addf (Host.divf (broadcastInDim S8x2048x1 ![0, 1] bcast_S8x2048_S8x2048x1_0_1 (Host.reduceAdd (mulf X X) (constant S_ .f32 0x00000000#32) reducesTo_S8x2048x1024_S8x2048_d2 h_S_)) (broadcastInDim S8x2048x1 ![] bcast_S_S8x2048x1 (constant S_ .f32 0x44800000#32))) (broadcastInDim S8x2048x1 ![] bcast_S_S8x2048x1 (constant S_ .f32 0x358637BD#32)))))) (broadcastInDim S8x2048x1024 ![0, 1, 2] bcast_S1x1x1024_S8x2048x1024_0_1_2 (broadcastInDim S1x1x1024 ![2] bcast_S1024_S1x1x1024_2 (shapeCast _ (extractStridedSlice S1x1024 ![1, 0] G slices_S2x1024_S1x1024_1_0) shapeCasts_S1x1024_S1024)))) (broadcastInDim S8x2048x1024 ![0, 1, 2] bcast_S8x1x1024_S8x2048x1024_0_1_2 (addf (broadcastInDim S8x1x1024 ![] bcast_S_S8x1x1024 (constant S_ .f32 0x3F800000#32)) (shapeCast _ (extractStridedSlice S1x8x1x1024 ![1, 0, 4, 0] M slices_S2x16x6x1024_S1x8x1x1024_1_0_4_0) shapeCasts_S1x8x1x1024_S8x1x1024)))) (broadcastInDim S8x2048x1024 ![0, 1, 2] bcast_S8x1x1024_S8x2048x1024_0_1_2 (shapeCast _ (extractStridedSlice S1x8x1x1024 ![1, 0, 3, 0] M slices_S2x16x6x1024_S1x8x1x1024_1_0_3_0) shapeCasts_S1x8x1x1024_S8x1x1024))) (shapeCast _ (extractStridedSlice S1x1024x5632 ![1, 0, 0] U slices_S2x1024x5632_S1x1024x5632_1_0_0) shapeCasts_S1x1024x5632_S1024x5632)) slices_S8x2048x5632_S8x2048x2816_0_0_0) (sitofp .f32 (constantI S_ 32 0#32)) pads_S8x2048x2816_S8x2050x2816_000_110_000 h_S_) slices_S8x2050x2816_S8x2048x2816_0_1_0) (broadcastInDim S8x2048x2816 ![0, 1, 2] bcast_S1x1x2816_S8x2048x2816_0_1_2 (broadcastInDim S1x1x2816 ![2] bcast_S2816_S1x1x2816_2 (shapeCast _ (extractStridedSlice S1x2816 ![1, 0] (shapeCast _ (extractStridedSlice S1x3x2816 ![1, 0, 0] W slices_S2x3x2816_S1x3x2816_1_0_0) shapeCasts_S1x3x2816_S3x2816) slices_S3x2816_S1x2816_1_0) shapeCasts_S1x2816_S2816))))) (mulf (extractStridedSlice S8x2048x2816 ![0, 2, 0] (pad S8x2050x2816 ![0, 1, 0] ![0, 1, 0] ![0, 0, 0] (extractStridedSlice S8x2048x2816 ![0, 0, 0] (Host.dotGeneral dot_S8x2048x1024_S1024x5632_S8x2048x5632_2_0_01_1_n_n none (addf (mulf (mulf (mulf X (broadcastInDim S8x2048x1024 ![0, 1, 2] bcast_S8x2048x1_S8x2048x1024_0_1_2 (Host.rsqrt (addf (Host.divf (broadcastInDim S8x2048x1 ![0, 1] bcast_S8x2048_S8x2048x1_0_1 (Host.reduceAdd (mulf X X) (constant S_ .f32 0x00000000#32) reducesTo_S8x2048x1024_S8x2048_d2 h_S_)) (broadcastInDim S8x2048x1 ![] bcast_S_S8x2048x1 (constant S_ .f32 0x44800000#32))) (broadcastInDim S8x2048x1 ![] bcast_S_S8x2048x1 (constant S_ .f32 0x358637BD#32)))))) (broadcastInDim S8x2048x1024 ![0, 1, 2] bcast_S1x1x1024_S8x2048x1024_0_1_2 (broadcastInDim S1x1x1024 ![2] bcast_S1024_S1x1x1024_2 (shapeCast _ (extractStridedSlice S1x1024 ![1, 0] G slices_S2x1024_S1x1024_1_0) shapeCasts_S1x1024_S1024)))) (broadcastInDim S8x2048x1024 ![0, 1, 2] bcast_S8x1x1024_S8x2048x1024_0_1_2 (addf (broadcastInDim S8x1x1024 ![] bcast_S_S8x1x1024 (constant S_ .f32 0x3F800000#32)) (shapeCast _ (extractStridedSlice S1x8x1x1024 ![1, 0, 4, 0] M slices_S2x16x6x1024_S1x8x1x1024_1_0_4_0) shapeCasts_S1x8x1x1024_S8x1x1024)))) (broadcastInDim S8x2048x1024 ![0, 1, 2] bcast_S8x1x1024_S8x2048x1024_0_1_2 (shapeCast _ (extractStridedSlice S1x8x1x1024 ![1, 0, 3, 0] M slices_S2x16x6x1024_S1x8x1x1024_1_0_3_0) shapeCasts_S1x8x1x1024_S8x1x1024))) (shapeCast _ (extractStridedSlice S1x1024x5632 ![1, 0, 0] U slices_S2x1024x5632_S1x1024x5632_1_0_0) shapeCasts_S1x1024x5632_S1024x5632)) slices_S8x2048x5632_S8x2048x2816_0_0_0) (sitofp .f32 (constantI S_ 32 0#32)) pads_S8x2048x2816_S8x2050x2816_000_110_000 h_S_) slices_S8x2050x2816_S8x2048x2816_0_2_0) (broadcastInDim S8x2048x2816 ![0, 1, 2] bcast_S1x1x2816_S8x2048x2816_0_1_2 (broadcastInDim S1x1x2816 ![2] bcast_S2816_S1x1x2816_2 (shapeCast _ (extractStridedSlice S1x2816 ![2, 0] (shapeCast _ (extractStridedSlice S1x3x2816 ![1, 0, 0] W slices_S2x3x2816_S1x3x2816_1_0_0) shapeCasts_S1x3x2816_S3x2816) slices_S3x2816_S1x2816_2_0) shapeCasts_S1x2816_S2816))))) (broadcastInDim S8x2048x2816 ![0, 1, 2] bcast_S1x1x2816_S8x2048x2816_0_1_2 (broadcastInDim S1x1x2816 ![2] bcast_S2816_S1x1x2816_2 (shapeCast _ (extractStridedSlice S1x2816 ![1, 0] B slices_S2x2816_S1x2816_1_0) shapeCasts_S1x2816_S2816))))))))) (extractStridedSlice S8x2048x2816 ![0, 0, 2816] (Host.dotGeneral dot_S8x2048x1024_S1024x5632_S8x2048x5632_2_0_01_1_n_n none (addf (mulf (mulf (mulf X (broadcastInDim S8x2048x1024 ![0, 1, 2] bcast_S8x2048x1_S8x2048x1024_0_1_2 (Host.rsqrt (addf (Host.divf (broadcastInDim S8x2048x1 ![0, 1] bcast_S8x2048_S8x2048x1_0_1 (Host.reduceAdd (mulf X X) (constant S_ .f32 0x00000000#32) reducesTo_S8x2048x1024_S8x2048_d2 h_S_)) (broadcastInDim S8x2048x1 ![] bcast_S_S8x2048x1 (constant S_ .f32 0x44800000#32))) (broadcastInDim S8x2048x1 ![] bcast_S_S8x2048x1 (constant S_ .f32 0x358637BD#32)))))) (broadcastInDim S8x2048x1024 ![0, 1, 2] bcast_S1x1x1024_S8x2048x1024_0_1_2 (broadcastInDim S1x1x1024 ![2] bcast_S1024_S1x1x1024_2 (shapeCast _ (extractStridedSlice S1x1024 ![1, 0] G slices_S2x1024_S1x1024_1_0) shapeCasts_S1x1024_S1024)))) (broadcastInDim S8x2048x1024 ![0, 1, 2] bcast_S8x1x1024_S8x2048x1024_0_1_2 (addf (broadcastInDim S8x1x1024 ![] bcast_S_S8x1x1024 (constant S_ .f32 0x3F800000#32)) (shapeCast _ (extractStridedSlice S1x8x1x1024 ![1, 0, 4, 0] M slices_S2x16x6x1024_S1x8x1x1024_1_0_4_0) shapeCasts_S1x8x1x1024_S8x1x1024)))) (broadcastInDim S8x2048x1024 ![0, 1, 2] bcast_S8x1x1024_S8x2048x1024_0_1_2 (shapeCast _ (extractStridedSlice S1x8x1x1024 ![1, 0, 3, 0] M slices_S2x16x6x1024_S1x8x1x1024_1_0_3_0) shapeCasts_S1x8x1x1024_S8x1x1024))) (shapeCast _ (extractStridedSlice S1x1024x5632 ![1, 0, 0] U slices_S2x1024x5632_S1x1024x5632_1_0_0) shapeCasts_S1x1024x5632_S1024x5632)) slices_S8x2048x5632_S8x2048x2816_0_0_2816)) (shapeCast _ (extractStridedSlice S1x2816x1024 ![1, 0, 0] D slices_S2x2816x1024_S1x2816x1024_1_0_0) shapeCasts_S1x2816x1024_S2816x1024))))) (constant S_ .f32 0x00000000#32) reducesTo_S8x2048x1024_S8x2048_d2 h_S_)) (broadcastInDim S8x2048x1 ![] bcast_S_S8x2048x1 (constant S_ .f32 0x44800000#32))) (broadcastInDim S8x2048x1 ![] bcast_S_S8x2048x1 (constant S_ .f32 0x358637BD#32)))))) (broadcastInDim S8x2048x1024 ![0, 1, 2] bcast_S1x1x1024_S8x2048x1024_0_1_2 (broadcastInDim S1x1x1024 ![2] bcast_S1024_S1x1x1024_2 N))

set_option maxRecDepth 8192 in
theorem term_apply (X : FVec Ideal S8x2048x1024 .f32) (M : FVec Ideal S2x16x6x1024 .f32) (G : FVec Ideal S2x1024 .f32) (U : FVec Ideal S2x1024x5632 .f32) (W : FVec Ideal S2x3x2816 .f32) (B : FVec Ideal S2x2816 .f32) (D : FVec Ideal S2x2816x1024 .f32) (N : FVec Ideal S1024 .f32) (b : Fin 8) (R : Fin 2048) (d : Fin 1024) :
    term X M G U W B D N (ix3 b R d) = Model.normed 1 X M D N b (Model.padded 1 X M G U W B b) R d := by
  unfold term
  pointwise
  rfl

/-- The reference's result at one element. -/
theorem res_apply (c : Dev nD) (b : Fin 8) (R : Fin 2048) (d : Fin 1024) :
    Value.res_main_v86 m c (ix3 b R d) = Model.out 1 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) b R d :=
  (term_apply (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) b R d).trans
    (congrArg (fun a => Model.normed 1 (m ((c.tc : Thread nD τ).loc main_arg0)) (m ((c.tc : Thread nD τ).loc main_arg1)) (m ((c.tc : Thread nD τ).loc main_arg6)) (m ((c.tc : Thread nD τ).loc main_arg7)) b a R d)
      (funext fun R => funext fun n => Model.padded_eq 1 _ _ _ _ _ _ b R n))

end Cert.Reference2Ideal.Ref

end
-- ==== Proof.FfnACommon.lean ====
/- What the runs of the first layer's feed-forward call's steps share. -/
module

public import proofs.«01_k».proof.Proof.Gen.Kernel3Ideal.Frame
public import proofs.«01_k».proof.Proof.Gen.Kernel3Ideal.Skeleton

@[expose] public section

set_option maxRecDepth 16384

noncomputable section

namespace Cert.Kernel3Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The first slot of the projection scratch: rows of one chunk's two halves. -/
abbrev slotA : Rect S2x2048x512 := Rect.unit (s := S2x2048x512) ![0, 0, 0] S1x2048x512.size (by decide)
/-- Its second slot. -/
abbrev slotB : Rect S2x2048x512 := Rect.unit (s := S2x2048x512) ![1, 0, 0] S1x2048x512.size (by decide)

end Cert.Kernel3Ideal.Gen

end
-- ==== Proof.FfnASlot.lean ====
/- The pieces the first layer's feed-forward kernel's runs leave in its buffers, read back: the two slots of the projection scratch. -/
module

public import proofs.«01_k».proof.Proof.FfnACommon
public import Idealize.ShloMosaic.Lib.Pointwise
public import Idealize.ShloMosaic.Lib.WholeRead

@[expose] public section

set_option maxRecDepth 16384

noncomputable section

namespace Cert.Kernel3Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## Reading the pieces a run leaves -/

section
variable {S : Shape} {e : EltTy} {Val : EltTy → Type} [∀ e, Nonempty (Val e)]

/-- The newest piece, at an index told by its coordinates. -/
theorem canon_hit (r : Rect S) (w : r.shape.Idx → Val e) (L : List (View.Piece Val S e)) (x : r.shape.Idx) (y : S.Idx)
    (hx : ∀ a, (y a).val = r.off a + r.stride a * (x a).val) : View.canon (⟨r, w⟩ :: L) y = w x := by
  rw [← r.emb_eq_of_coords x y hx]; exact View.canon_cons_emb r w L x

/-- A newer piece that misses an index on one axis is read past. -/
theorem canon_miss (p : View.Piece Val S e) (L : List (View.Piece Val S e)) (y : S.Idx) (a : Fin S.rank) (o n : ℕ)
    (ho : p.1.off a = o) (hst : p.1.stride a = 1) (hn : p.1.size a = n) (h : (y a).val < o ∨ o + n ≤ (y a).val) :
    View.canon (p :: L) y = View.canon L y :=
  View.canon_cons_of_not_mem _ _ (p.1.not_mem_set_of_axis y a o n ho hst hn h)

end

/-! ## The slots of the projection scratch -/

/-- Slot `p`. -/
abbrev slot (p : Fin 2) : Rect S2x2048x512 := Rect.unit (s := S2x2048x512) ![p.1, 0, 0] S1x2048x512.size (by revert p; decide)

/-- Row block `k` of slot `p`. -/
abbrev rows2 (k : Fin 4) : Rect S2048x512 := Rect.unit (s := S2048x512) ![512 * k.1, 0] S512x512.size (by revert k; decide)
/-- The same as a block of one slot. -/
abbrev rows3 (k : Fin 4) : Rect S1x2048x512 := (rows2 k).consLift ![1, 2048, 512] rfl (by decide)
/-- The same as a block of the buffer. -/
abbrev rows (p : Fin 2) (k : Fin 4) : Rect S2x2048x512 := (slot p).within (rows3 k) (fun _ => rfl)
/-- A row block as a payload of the buffer's. -/
abbrev pay (k : Fin 4) (w : Vec F S512x512 .f32) : (rows3 k).shape.Idx → Elt F .f32 :=
  Rect.payAlong (r := rows2 k) (R := rows3 k) ((rows2 k).numel_consLift ![1, 2048, 512] rfl (by decide)) w

/-- A row block stored. -/
def block (p : Fin 2) (k : Fin 4) (w : Vec F S512x512 .f32) : View.Piece (Elt F) S2x2048x512 .f32 := ⟨rows p k, pay k w⟩

/-- The four row blocks of slot `p` stored over `L`. -/
def news (p : Fin 2) (w : Fin 4 → Vec F S512x512 .f32) (L : List (View.Piece (Elt F) S2x2048x512 .f32)) :
    List (View.Piece (Elt F) S2x2048x512 .f32) :=
  block p 3 (w 3) :: block p 2 (w 2)
    :: block p 1 (w 1) :: block p 0 (w 0) :: L

theorem rows_hit (p : Fin 2) (k : Fin 4) (w : Vec F S512x512 .f32) (L : List (View.Piece (Elt F) S2x2048x512 .f32)) (r : Fin 512) (c : Fin 512)
    (R : Fin 2048) (h : R.1 = 512 * k.1 + r.1) :
    View.canon (block p k w :: L) (ix3 p R c) = w (ix2 r c) := by
  refine (canon_hit (rows p k) (pay k w) L (ix3 0 r c) _ (by
    intro a; fin_cases a
    · show p.1 = (p.1 + 0) + 1 * 0; omega
    · show R.1 = (0 + 512 * k.1) + 1 * r.1; omega
    · show c.1 = (0 + 0) + 1 * c.1; omega)).trans ?_
  exact Rect.payAlong_consLift (rows2 k) ![1, 2048, 512] rfl (by decide) w _ (ix3 0 r c) (ix2 r c) (by intro i; fin_cases i <;> rfl)

theorem rows_miss (p : Fin 2) (k : Fin 4) (w : Vec F S512x512 .f32) (L : List (View.Piece (Elt F) S2x2048x512 .f32)) (q : Fin 2) (c : Fin 512)
    (R : Fin 2048) (h : R.1 < 512 * k.1 ∨ 512 * k.1 + 512 ≤ R.1) :
    View.canon (block p k w :: L) (ix3 q R c) = View.canon L (ix3 q R c) :=
  canon_miss _ _ _ 1 (512 * k.1) 512 (show 0 + 512 * k.1 = _ by omega) rfl rfl h

theorem rows_other (p : Fin 2) (k : Fin 4) (w : Vec F S512x512 .f32) (L : List (View.Piece (Elt F) S2x2048x512 .f32)) (q : Fin 2) (c : Fin 512)
    (R : Fin 2048) (h : q ≠ p) :
    View.canon (block p k w :: L) (ix3 q R c) = View.canon L (ix3 q R c) :=
  canon_miss _ _ _ 0 p.1 1 (show p.1 + 0 = _ by omega) rfl rfl (by show q.1 < p.1 ∨ p.1 + 1 ≤ q.1; omega)

/-- Slot `p` after its four row blocks are stored. -/
theorem canon_news (p : Fin 2) (w : Fin 4 → Vec F S512x512 .f32) (L : List (View.Piece (Elt F) S2x2048x512 .f32)) (k : Fin 4) (r : Fin 512)
    (c : Fin 512) (R : Fin 2048) (h : R.1 = 512 * k.1 + r.1) : View.canon (news p w L) (ix3 p R c) = w k (ix2 r c) := by
  unfold news
  fin_cases k
  · rw [rows_miss p 3 _ _ _ _ _ (.inl (by have := r.2; simp at h ⊢; omega)), rows_miss p 2 _ _ _ _ _ (.inl (by have := r.2; simp at h ⊢; omega)), rows_miss p 1 _ _ _ _ _ (.inl (by have := r.2; simp at h ⊢; omega))]
    exact rows_hit p 0 (w 0) L r c R h
  · rw [rows_miss p 3 _ _ _ _ _ (.inl (by have := r.2; simp at h ⊢; omega)), rows_miss p 2 _ _ _ _ _ (.inl (by have := r.2; simp at h ⊢; omega))]
    exact rows_hit p 1 (w 1) _ r c R h
  · rw [rows_miss p 3 _ _ _ _ _ (.inl (by have := r.2; simp at h ⊢; omega))]
    exact rows_hit p 2 (w 2) _ r c R h
  · exact rows_hit p 3 (w 3) _ r c R h

theorem slot_emb (p : Fin 2) (R : Fin 2048) (c : Fin 512) : (slot p).emb (ix3 0 R c) = ix3 p R c :=
  Rect.emb_eq_of_coords _ _ _ (by
    intro a; fin_cases a
    · show p.1 = p.1 + 1 * 0; omega
    · show R.1 = 0 + 1 * R.1; omega
    · show c.1 = 0 + 1 * c.1; omega)

theorem mem_rows (p : Fin 2) (k : Fin 4) (R : Fin 2048) (c : Fin 512) (h : 512 * k.1 ≤ R.1 ∧ R.1 < 512 * k.1 + 512) : ix3 p R c ∈ (rows p k).set := by
  have e : (rows p k).emb (ix3 0 ⟨R.1 - 512 * k.1, by omega⟩ c) = ix3 p R c := Rect.emb_eq_of_coords _ _ _ (by
    intro a; fin_cases a
    · show p.1 = (p.1 + 0) + 1 * 0; omega
    · show R.1 = (0 + 512 * k.1) + 1 * (R.1 - 512 * k.1); omega
    · show c.1 = (0 + 0) + 1 * c.1; omega)
  rw [← e]; exact (rows p k).toLoadRect.idx_mem _

/-- The four row blocks cover their slot. -/
theorem news_cover (p : Fin 2) (w : Fin 4 → Vec F S512x512 .f32) (L : List (View.Piece (Elt F) S2x2048x512 .f32)) (x : S1x2048x512.Idx) :
    ∃ q ∈ news p w L, (slot p).emb x ∈ q.1.set := by
  obtain ⟨x1, x2, rfl⟩ : ∃ (R : Fin 2048) (c : Fin 512), x = ix3 0 R c := ⟨x 1, x 2, funext fun a => by
    fin_cases a
    · exact Subsingleton.elim (α := Fin 1) _ _
    · rfl
    · rfl⟩
  rw [slot_emb p x1 x2]
  unfold news
  by_cases h3 : 1536 ≤ x1.1
  · exact ⟨_, List.mem_cons_self, mem_rows p 3 x1 x2 (by show 512 * 3 ≤ _ ∧ _ < 512 * 3 + 512; omega)⟩
  by_cases h2 : 1024 ≤ x1.1
  · exact ⟨_, List.mem_cons_of_mem _ List.mem_cons_self, mem_rows p 2 x1 x2 (by show 512 * 2 ≤ _ ∧ _ < 512 * 2 + 512; omega)⟩
  by_cases h1 : 512 ≤ x1.1
  · exact ⟨_, List.mem_cons_of_mem _ (List.mem_cons_of_mem _ List.mem_cons_self), mem_rows p 1 x1 x2 (by show 512 * 1 ≤ _ ∧ _ < 512 * 1 + 512; omega)⟩
  · exact ⟨_, List.mem_cons_of_mem _ (List.mem_cons_of_mem _ (List.mem_cons_of_mem _ List.mem_cons_self)), mem_rows p 0 x1 x2 (by show 512 * 0 ≤ _ ∧ _ < 512 * 0 + 512; omega)⟩

/-- What a buffer holds, as one store of what it holds in a rectangle. -/
theorem restate {S : Shape} {e : EltTy} (M : Memref sig .tc .vmem S e) (hM : M.IsWhole) (f : M.view.ty.Contents (Elt F)) (L : List (View.Piece (Elt F) S e))
    (r : Rect S) (h : ∀ x : r.shape.Idx, ∃ q ∈ L, r.emb x ∈ q.1.set) :
    M.view.writes (Elt F) f L = M.view.writes (Elt F) (M.view.writes (Elt F) f L) [⟨r, fun x => View.canon L (r.emb x)⟩] := by
  refine (hM.eq_unread (X := M.view.read (Elt F) (M.view.writes (Elt F) f L)) rfl).trans (hM.eq_unread ?_).symm
  funext y
  by_cases hy : y ∈ r.set
  · obtain ⟨x, rfl⟩ := r.exists_idx_of_mem hy
    exact (View.read_writes_cons_emb _ _ r _ [] x).trans (View.read_writes_apply_eq_canon _ _ _ _ (h x)).symm
  · exact View.read_writes_cons_miss _ _ _ _ _ hy

end Cert.Kernel3Ideal.Gen

end
-- ==== Proof.FfnARunZ.lean ====
/- The run of the first layer's feed-forward call's first step of a batch element. -/
module

public import proofs.«01_k».proof.Proof.FfnACommon

@[expose] public section

set_option maxRecDepth 16384

noncomputable section

namespace Cert.Kernel3Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option sl_exec.squeezeSlice true in
set_option maxHeartbeats 13104000 in
/-- What the body leaves at the first step of a batch element: the pieces its stores leave in each buffer it stores into (last first), with the
    proof that the body runs to the continuation, which holds the inputs as they were. -/
noncomputable def runZ (c : Dev nD) (i : grid0.Coords) (arg2 : Memref sig .tc .vmem S1x2048x1024 .f32) (harg2 : arg2.IsWhole) (arg3 : Memref sig .tc .vmem S1x1x6x1024 .f32) (harg3 : arg3.IsWhole) (arg4 : Memref sig .tc .vmem S2x1024 .f32) (harg4 : arg4.IsWhole) (arg5 : Memref sig .tc .vmem S1x1024x256 .f32) (harg5 : arg5.IsWhole) (arg6 : Memref sig .tc .vmem S1x1024x256 .f32) (harg6 : arg6.IsWhole) (arg7 : Memref sig .tc .vmem S1x3x256 .f32) (harg7 : arg7.IsWhole) (arg8 : Memref sig .tc .vmem S2x256 .f32) (harg8 : arg8.IsWhole) (arg9 : Memref sig .tc .vmem S1x256x1024 .f32) (harg9 : arg9.IsWhole) (arg10 : Memref sig .tc .vmem S1x2048x1024 .f32) (harg10 : arg10.IsWhole) (arg11 : Memref sig .tc .vmem S2048x1024 .bf16) (harg11 : arg11.IsWhole) (arg12 : Memref sig .tc .vmem S2x2048x512 .f32) (harg12 : arg12.IsWhole) (arg13 : Memref sig .tc .vmem S4x512x256 .bf16) (harg13 : arg13.IsWhole)
    (hc1 : k0_cond1 i = 1#1) (hc2 : ¬ k0_cond2 i = 1#1) (hc3 : ¬ k0_cond3 i = 1#1) (hc4 : ¬ k0_cond4 i = 1#1)
    (x2 : Vec F S1x2048x1024 .f32) (x3 : Vec F S1x1x6x1024 .f32) (x4 : Vec F S2x1024 .f32) (x5 : Vec F S1x1024x256 .f32) (x6 : Vec F S1x1024x256 .f32) (x7 : Vec F S1x3x256 .f32) (x8 : Vec F S2x256 .f32) (x9 : Vec F S1x256x1024 .f32)  :
    Σ' (L10 : List (View.Piece (Elt F) S1x2048x1024 .f32)), Σ' (L11 : List (View.Piece (Elt F) S2048x1024 .bf16)), { L12 : List (View.Piece (Elt F) S2x2048x512 .f32) //
      ∀ (E : Set ℕ) (K : PUnit → sProp 𝕄),
        iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d)
            ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ (∃ f, arg10.view.loc (c : Thread nD τ) ↦[arg10.view.set]{fullShare} arg10.view.writes (Elt F) f L10) ∗ (∃ f, arg11.view.loc (c : Thread nD τ) ↦[arg11.view.set]{fullShare} arg11.view.writes (Elt F) f L11) ∗ (∃ f, arg12.view.loc (c : Thread nD τ) ↦[arg12.view.set]{fullShare} arg12.view.writes (Elt F) f L12) ∗ (∃ d, owns (c : Thread nD τ) arg13 fullShare d)) -∗ K ⟨⟩))
          ⊢ wp frame (wpE (defs₀ (F := F)) Variants.none c none) E (cc0_ffn_2048 i arg2 harg2 arg3 harg3 arg4 harg4 arg5 harg5 arg6 harg6 arg7 harg7 arg8 harg8 arg9 harg9 arg10 harg10 arg11 harg11 arg12 harg12 arg13 harg13) K } := by
  refine ⟨?_, ?_, ?_, fun E K => ?run⟩
  case run =>
    simp only [cc0_ffn_2048_eq_skeleton]; unfold cc0_ffn_2048_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton, k0_part98_eq_skeleton, k0_part99_eq_skeleton, k0_part100_eq_skeleton, k0_part101_eq_skeleton, k0_part102_eq_skeleton, k0_part103_eq_skeleton, k0_part104_eq_skeleton, k0_part105_eq_skeleton, k0_part106_eq_skeleton, k0_part107_eq_skeleton, k0_part108_eq_skeleton, k0_part109_eq_skeleton, k0_part110_eq_skeleton]
    unfold owns
    iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%d11, %f11, -, H11⟩, ⟨%d12, %f12, -, H12⟩, ⟨%d13, %f13, %hf13, H13⟩, Hk⟩
    obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9
    sl_exec (disch := first | exact hc1 | exact hc2 | exact hc3 | exact hc4)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexists _; iexact H10
    isplitl [H11]
    · iexists _; iexact H11
    isplitl [H12]
    · iexists _; iexact H12
    iexists d13; iexists f13; isplitr; · ipureintro; exact hf13
    iexact H13

end Cert.Kernel3Ideal.Gen

end
-- ==== Proof.FfnARunO.lean ====
/- The run of the first layer's feed-forward call's odd steps. -/
module

public import proofs.«01_k».proof.Proof.FfnACommon

@[expose] public section

set_option maxRecDepth 16384

noncomputable section

namespace Cert.Kernel3Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option sl_exec.squeezeSlice true in
set_option maxHeartbeats 13104000 in
/-- What the body leaves at an odd step: the pieces its stores leave in each buffer it stores into (last first), with the
    proof that the body runs to the continuation, which holds the inputs as they were. -/
noncomputable def runO (c : Dev nD) (i : grid0.Coords) (arg2 : Memref sig .tc .vmem S1x2048x1024 .f32) (harg2 : arg2.IsWhole) (arg3 : Memref sig .tc .vmem S1x1x6x1024 .f32) (harg3 : arg3.IsWhole) (arg4 : Memref sig .tc .vmem S2x1024 .f32) (harg4 : arg4.IsWhole) (arg5 : Memref sig .tc .vmem S1x1024x256 .f32) (harg5 : arg5.IsWhole) (arg6 : Memref sig .tc .vmem S1x1024x256 .f32) (harg6 : arg6.IsWhole) (arg7 : Memref sig .tc .vmem S1x3x256 .f32) (harg7 : arg7.IsWhole) (arg8 : Memref sig .tc .vmem S2x256 .f32) (harg8 : arg8.IsWhole) (arg9 : Memref sig .tc .vmem S1x256x1024 .f32) (harg9 : arg9.IsWhole) (arg10 : Memref sig .tc .vmem S1x2048x1024 .f32) (harg10 : arg10.IsWhole) (arg11 : Memref sig .tc .vmem S2048x1024 .bf16) (harg11 : arg11.IsWhole) (arg12 : Memref sig .tc .vmem S2x2048x512 .f32) (harg12 : arg12.IsWhole) (arg13 : Memref sig .tc .vmem S4x512x256 .bf16) (harg13 : arg13.IsWhole)
    (hc1 : ¬ k0_cond1 i = 1#1) (hc2 : k0_cond2 i = 1#1) (hc3 : ¬ k0_cond3 i = 1#1) (hc4 : ¬ k0_cond4 i = 1#1)
    (x2 : Vec F S1x2048x1024 .f32) (x3 : Vec F S1x1x6x1024 .f32) (x4 : Vec F S2x1024 .f32) (x5 : Vec F S1x1024x256 .f32) (x6 : Vec F S1x1024x256 .f32) (x7 : Vec F S1x3x256 .f32) (x8 : Vec F S2x256 .f32) (x9 : Vec F S1x256x1024 .f32) (x10 : Vec F S1x2048x1024 .f32) (x11 : Vec F S2048x1024 .bf16) (x12 : Vec F S1x2048x512 .f32) :
    Σ' (L10 : List (View.Piece (Elt F) S1x2048x1024 .f32)), Σ' (L12 : List (View.Piece (Elt F) S2x2048x512 .f32)), { L13 : List (View.Piece (Elt F) S4x512x256 .bf16) //
      ∀ (E : Set ℕ) (K : PUnit → sProp 𝕄),
        iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ (∃ f, arg12.view.loc (c : Thread nD τ) ↦[arg12.view.set]{fullShare} arg12.view.writes (Elt F) f [⟨slotA, x12⟩]) ∗ (∃ d, owns (c : Thread nD τ) arg13 fullShare d)
            ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ (∃ f, arg10.view.loc (c : Thread nD τ) ↦[arg10.view.set]{fullShare} arg10.view.writes (Elt F) f L10) ∗ owns (c : Thread nD τ) arg11 fullShare x11 ∗ (∃ f, arg12.view.loc (c : Thread nD τ) ↦[arg12.view.set]{fullShare} arg12.view.writes (Elt F) f L12) ∗ (∃ f, arg13.view.loc (c : Thread nD τ) ↦[arg13.view.set]{fullShare} arg13.view.writes (Elt F) f L13)) -∗ K ⟨⟩))
          ⊢ wp frame (wpE (defs₀ (F := F)) Variants.none c none) E (cc0_ffn_2048 i arg2 harg2 arg3 harg3 arg4 harg4 arg5 harg5 arg6 harg6 arg7 harg7 arg8 harg8 arg9 harg9 arg10 harg10 arg11 harg11 arg12 harg12 arg13 harg13) K } := by
  refine ⟨?_, ?_, ?_, fun E K => ?run⟩
  case run =>
    simp only [cc0_ffn_2048_eq_skeleton]; unfold cc0_ffn_2048_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton, k0_part98_eq_skeleton, k0_part99_eq_skeleton, k0_part100_eq_skeleton, k0_part101_eq_skeleton, k0_part102_eq_skeleton, k0_part103_eq_skeleton, k0_part104_eq_skeleton, k0_part105_eq_skeleton, k0_part106_eq_skeleton, k0_part107_eq_skeleton, k0_part108_eq_skeleton, k0_part109_eq_skeleton, k0_part110_eq_skeleton]
    unfold owns
    iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, H12⟩, ⟨%d13, %f13, -, H13⟩, Hk⟩
    obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11
    sl_exec (disch := first | exact hc1 | exact hc2 | exact hc3 | exact hc4)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexists _; iexact H10
    isplitl [H11]
    · iexists _; isplitr; · ipureintro; exact harg11.read_unread _
      iexact H11
    isplitl [H12]
    · iexists _; iexact H12
    iexists _; iexact H13

end Cert.Kernel3Ideal.Gen

end
-- ==== Proof.FfnARunE.lean ====
/- The run of the first layer's feed-forward call's even steps. -/
module

public import proofs.«01_k».proof.Proof.FfnACommon

@[expose] public section

set_option maxRecDepth 16384

noncomputable section

namespace Cert.Kernel3Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option sl_exec.squeezeSlice true in
set_option maxHeartbeats 13104000 in
/-- What the body leaves at an even step: the pieces its stores leave in each buffer it stores into (last first), with the
    proof that the body runs to the continuation, which holds the inputs as they were. -/
noncomputable def runE (c : Dev nD) (i : grid0.Coords) (arg2 : Memref sig .tc .vmem S1x2048x1024 .f32) (harg2 : arg2.IsWhole) (arg3 : Memref sig .tc .vmem S1x1x6x1024 .f32) (harg3 : arg3.IsWhole) (arg4 : Memref sig .tc .vmem S2x1024 .f32) (harg4 : arg4.IsWhole) (arg5 : Memref sig .tc .vmem S1x1024x256 .f32) (harg5 : arg5.IsWhole) (arg6 : Memref sig .tc .vmem S1x1024x256 .f32) (harg6 : arg6.IsWhole) (arg7 : Memref sig .tc .vmem S1x3x256 .f32) (harg7 : arg7.IsWhole) (arg8 : Memref sig .tc .vmem S2x256 .f32) (harg8 : arg8.IsWhole) (arg9 : Memref sig .tc .vmem S1x256x1024 .f32) (harg9 : arg9.IsWhole) (arg10 : Memref sig .tc .vmem S1x2048x1024 .f32) (harg10 : arg10.IsWhole) (arg11 : Memref sig .tc .vmem S2048x1024 .bf16) (harg11 : arg11.IsWhole) (arg12 : Memref sig .tc .vmem S2x2048x512 .f32) (harg12 : arg12.IsWhole) (arg13 : Memref sig .tc .vmem S4x512x256 .bf16) (harg13 : arg13.IsWhole)
    (hc1 : ¬ k0_cond1 i = 1#1) (hc2 : ¬ k0_cond2 i = 1#1) (hc3 : k0_cond3 i = 1#1) (hc4 : ¬ k0_cond4 i = 1#1)
    (x2 : Vec F S1x2048x1024 .f32) (x3 : Vec F S1x1x6x1024 .f32) (x4 : Vec F S2x1024 .f32) (x5 : Vec F S1x1024x256 .f32) (x6 : Vec F S1x1024x256 .f32) (x7 : Vec F S1x3x256 .f32) (x8 : Vec F S2x256 .f32) (x9 : Vec F S1x256x1024 .f32) (x10 : Vec F S1x2048x1024 .f32) (x11 : Vec F S2048x1024 .bf16) (x12 : Vec F S1x2048x512 .f32) :
    Σ' (L10 : List (View.Piece (Elt F) S1x2048x1024 .f32)), Σ' (L12 : List (View.Piece (Elt F) S2x2048x512 .f32)), { L13 : List (View.Piece (Elt F) S4x512x256 .bf16) //
      ∀ (E : Set ℕ) (K : PUnit → sProp 𝕄),
        iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ (∃ f, arg12.view.loc (c : Thread nD τ) ↦[arg12.view.set]{fullShare} arg12.view.writes (Elt F) f [⟨slotB, x12⟩]) ∗ (∃ d, owns (c : Thread nD τ) arg13 fullShare d)
            ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ (∃ f, arg10.view.loc (c : Thread nD τ) ↦[arg10.view.set]{fullShare} arg10.view.writes (Elt F) f L10) ∗ owns (c : Thread nD τ) arg11 fullShare x11 ∗ (∃ f, arg12.view.loc (c : Thread nD τ) ↦[arg12.view.set]{fullShare} arg12.view.writes (Elt F) f L12) ∗ (∃ f, arg13.view.loc (c : Thread nD τ) ↦[arg13.view.set]{fullShare} arg13.view.writes (Elt F) f L13)) -∗ K ⟨⟩))
          ⊢ wp frame (wpE (defs₀ (F := F)) Variants.none c none) E (cc0_ffn_2048 i arg2 harg2 arg3 harg3 arg4 harg4 arg5 harg5 arg6 harg6 arg7 harg7 arg8 harg8 arg9 harg9 arg10 harg10 arg11 harg11 arg12 harg12 arg13 harg13) K } := by
  refine ⟨?_, ?_, ?_, fun E K => ?run⟩
  case run =>
    simp only [cc0_ffn_2048_eq_skeleton]; unfold cc0_ffn_2048_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton, k0_part98_eq_skeleton, k0_part99_eq_skeleton, k0_part100_eq_skeleton, k0_part101_eq_skeleton, k0_part102_eq_skeleton, k0_part103_eq_skeleton, k0_part104_eq_skeleton, k0_part105_eq_skeleton, k0_part106_eq_skeleton, k0_part107_eq_skeleton, k0_part108_eq_skeleton, k0_part109_eq_skeleton, k0_part110_eq_skeleton]
    unfold owns
    iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, H12⟩, ⟨%d13, %f13, -, H13⟩, Hk⟩
    obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11
    sl_exec (disch := first | exact hc1 | exact hc2 | exact hc3 | exact hc4)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexists _; iexact H10
    isplitl [H11]
    · iexists _; isplitr; · ipureintro; exact harg11.read_unread _
      iexact H11
    isplitl [H12]
    · iexists _; iexact H12
    iexists _; iexact H13

end Cert.Kernel3Ideal.Gen

end
-- ==== Proof.FfnARunL.lean ====
/- The run of the first layer's feed-forward call's last step of a batch element. -/
module

public import proofs.«01_k».proof.Proof.FfnACommon

@[expose] public section

set_option maxRecDepth 16384

noncomputable section

namespace Cert.Kernel3Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option sl_exec.squeezeSlice true in
set_option maxHeartbeats 13104000 in
/-- What the body leaves at the last step of a batch element: the pieces its stores leave in each buffer it stores into (last first), with the
    proof that the body runs to the continuation, which holds the inputs as they were. -/
noncomputable def runL (c : Dev nD) (i : grid0.Coords) (arg2 : Memref sig .tc .vmem S1x2048x1024 .f32) (harg2 : arg2.IsWhole) (arg3 : Memref sig .tc .vmem S1x1x6x1024 .f32) (harg3 : arg3.IsWhole) (arg4 : Memref sig .tc .vmem S2x1024 .f32) (harg4 : arg4.IsWhole) (arg5 : Memref sig .tc .vmem S1x1024x256 .f32) (harg5 : arg5.IsWhole) (arg6 : Memref sig .tc .vmem S1x1024x256 .f32) (harg6 : arg6.IsWhole) (arg7 : Memref sig .tc .vmem S1x3x256 .f32) (harg7 : arg7.IsWhole) (arg8 : Memref sig .tc .vmem S2x256 .f32) (harg8 : arg8.IsWhole) (arg9 : Memref sig .tc .vmem S1x256x1024 .f32) (harg9 : arg9.IsWhole) (arg10 : Memref sig .tc .vmem S1x2048x1024 .f32) (harg10 : arg10.IsWhole) (arg11 : Memref sig .tc .vmem S2048x1024 .bf16) (harg11 : arg11.IsWhole) (arg12 : Memref sig .tc .vmem S2x2048x512 .f32) (harg12 : arg12.IsWhole) (arg13 : Memref sig .tc .vmem S4x512x256 .bf16) (harg13 : arg13.IsWhole)
    (hc1 : ¬ k0_cond1 i = 1#1) (hc2 : ¬ k0_cond2 i = 1#1) (hc3 : ¬ k0_cond3 i = 1#1) (hc4 : k0_cond4 i = 1#1)
    (x2 : Vec F S1x2048x1024 .f32) (x3 : Vec F S1x1x6x1024 .f32) (x4 : Vec F S2x1024 .f32) (x5 : Vec F S1x1024x256 .f32) (x6 : Vec F S1x1024x256 .f32) (x7 : Vec F S1x3x256 .f32) (x8 : Vec F S2x256 .f32) (x9 : Vec F S1x256x1024 .f32) (x10 : Vec F S1x2048x1024 .f32) (x11 : Vec F S2048x1024 .bf16) (x12 : Vec F S1x2048x512 .f32) :
    Σ' (L10 : List (View.Piece (Elt F) S1x2048x1024 .f32)), { L13 : List (View.Piece (Elt F) S4x512x256 .bf16) //
      ∀ (E : Set ℕ) (K : PUnit → sProp 𝕄),
        iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ (∃ f, arg12.view.loc (c : Thread nD τ) ↦[arg12.view.set]{fullShare} arg12.view.writes (Elt F) f [⟨slotA, x12⟩]) ∗ (∃ d, owns (c : Thread nD τ) arg13 fullShare d)
            ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ (∃ f, arg10.view.loc (c : Thread nD τ) ↦[arg10.view.set]{fullShare} arg10.view.writes (Elt F) f L10) ∗ owns (c : Thread nD τ) arg11 fullShare x11 ∗ (∃ f, arg12.view.loc (c : Thread nD τ) ↦[arg12.view.set]{fullShare} arg12.view.writes (Elt F) f [⟨slotA, x12⟩]) ∗ (∃ f, arg13.view.loc (c : Thread nD τ) ↦[arg13.view.set]{fullShare} arg13.view.writes (Elt F) f L13)) -∗ K ⟨⟩))
          ⊢ wp frame (wpE (defs₀ (F := F)) Variants.none c none) E (cc0_ffn_2048 i arg2 harg2 arg3 harg3 arg4 harg4 arg5 harg5 arg6 harg6 arg7 harg7 arg8 harg8 arg9 harg9 arg10 harg10 arg11 harg11 arg12 harg12 arg13 harg13) K } := by
  refine ⟨?_, ?_, fun E K => ?run⟩
  case run =>
    simp only [cc0_ffn_2048_eq_skeleton]; unfold cc0_ffn_2048_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton, k0_part98_eq_skeleton, k0_part99_eq_skeleton, k0_part100_eq_skeleton, k0_part101_eq_skeleton, k0_part102_eq_skeleton, k0_part103_eq_skeleton, k0_part104_eq_skeleton, k0_part105_eq_skeleton, k0_part106_eq_skeleton, k0_part107_eq_skeleton, k0_part108_eq_skeleton, k0_part109_eq_skeleton, k0_part110_eq_skeleton]
    unfold owns
    iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, H12⟩, ⟨%d13, %f13, -, H13⟩, Hk⟩
    obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11
    sl_exec (disch := first | exact hc1 | exact hc2 | exact hc3 | exact hc4)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexists _; iexact H10
    isplitl [H11]
    · iexists _; isplitr; · ipureintro; exact harg11.read_unread _
      iexact H11
    isplitl [H12]
    · iexists _; iexact H12
    iexists _; iexact H13

end Cert.Kernel3Ideal.Gen

end
-- ==== Proof.FfnAShape.lean ====
/- What each case of one step leaves in the buffers, the activations as one family over the row groups. -/
module

public import proofs.«01_k».proof.Proof.FfnASlot
public import proofs.«01_k».proof.Proof.FfnARunZ
public import proofs.«01_k».proof.Proof.FfnARunO
public import proofs.«01_k».proof.Proof.FfnARunE
public import proofs.«01_k».proof.Proof.FfnARunL

@[expose] public section

set_option maxRecDepth 16384

noncomputable section

namespace Cert.Kernel3Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The blocks of one step, in the order the body computes them -/

/-- A box of a slot of the projection scratch, read after the stores `L`. -/
def ld (arg12 : Memref sig .tc .vmem S2x2048x512 .f32) (L : List (View.Piece (Elt F) S2x2048x512 .f32)) (p : Fin 2) (off sz : Fin 2 → ℕ)
    (inb : ∀ a, off a + sz a ≤ S2048x512.size a) : (⟨2, sz⟩ : Shape).Idx → Elt F .f32 :=
  LoadRect.valAlong (lr := (Rect.unit (s := S2048x512) off sz inb).toLoadRect)
    (LoadRect.numel_consLift (Rect.unit (s := S2048x512) off sz inb).toLoadRect ![1, 2048, 512] rfl (by decide))
    (arg12.view.readCov L ((slot p).withinL ((Rect.unit (s := S2048x512) off sz inb).toLoadRect.consLift ![1, 2048, 512] rfl (by decide)) (fun _ => rfl)))

section
variable (arg7 : Memref sig .tc .vmem S1x3x256 .f32) (harg7 : arg7.IsWhole) (arg8 : Memref sig .tc .vmem S2x256 .f32) (harg8 : arg8.IsWhole) (arg12 : Memref sig .tc .vmem S2x2048x512 .f32) (x7 : Vec F S1x3x256 .f32) (x8 : Vec F S2x256 .f32)

/-- A row of the convolution's weights. -/
abbrev tap (k : Fin 3) : Vec F S1x1x256 .f32 :=
  View.readAt (Elt F) arg7.view (Rect.unit (s := S1x3x256) ![0, k.1, 0] S1x1x256.size (by revert k; decide)).toLoadRect (harg7.unread x7)
/-- The convolution's bias. -/
abbrev bias : Vec F S1x256 .f32 :=
  View.readAt (Elt F) arg8.view (Rect.unit (s := S2x256) ![0, 0] S1x256.size (by decide)).toLoadRect (harg8.unread x8)

/-- The activations of the first 64 rows. -/
def actFirst (L : List (View.Piece (Elt F) S2x2048x512 .f32)) (p : Fin 2) : Vec F S1x64x256 .bf16 :=
  k0_pay15 (ld arg12 L p ![0, 0] S72x256.size (by decide)) (k0_pay13 (ld arg12 L p ![0, 0] S72x256.size (by decide)))
    (k0_pay14 (ld arg12 L p ![0, 0] S72x256.size (by decide)) (tap arg7 harg7 x7 0)) (tap arg7 harg7 x7 1) (tap arg7 harg7 x7 2) (bias arg8 harg8 x8)
    (ld arg12 L p ![0, 256] S64x256.size (by decide))

theorem inb80 (n : ℕ) : ∀ a, ![(64 * n - 8) % 1969, 0] a + S80x256.size a ≤ S2048x512.size a := by
  intro a; fin_cases a
  · show (64 * n - 8) % 1969 + 80 ≤ 2048; omega
  · show 0 + 256 ≤ 512; omega

theorem inb64 (n : ℕ) : ∀ a, ![(64 * n) % 1985, 256] a + S64x256.size a ≤ S2048x512.size a := by
  intro a; fin_cases a
  · show (64 * n) % 1985 + 64 ≤ 2048; omega
  · show 256 + 256 ≤ 512; omega

/-- The activations of 64 rows between. -/
def actMid (L : List (View.Piece (Elt F) S2x2048x512 .f32)) (p : Fin 2) (n : ℕ) : Vec F S1x64x256 .bf16 :=
  k0_pay19 (ld arg12 L p ![(64 * n - 8) % 1969, 0] S80x256.size (inb80 n)) (k0_pay16 (ld arg12 L p ![(64 * n - 8) % 1969, 0] S80x256.size (inb80 n)))
    (k0_pay17 (ld arg12 L p ![(64 * n - 8) % 1969, 0] S80x256.size (inb80 n))) (k0_pay18 (tap arg7 harg7 x7 0)) (tap arg7 harg7 x7 1) (tap arg7 harg7 x7 2)
    (bias arg8 harg8 x8) (ld arg12 L p ![(64 * n) % 1985, 256] S64x256.size (inb64 n))

/-- The activations of the last 64 rows. -/
def actLast (L : List (View.Piece (Elt F) S2x2048x512 .f32)) (p : Fin 2) : Vec F S1x64x256 .bf16 :=
  k0_pay89 (k0_pay86 (ld arg12 L p ![1976, 0] S72x256.size (by decide))) (k0_pay87 (ld arg12 L p ![1976, 0] S72x256.size (by decide)) (tap arg7 harg7 x7 0))
    (k0_pay88 (ld arg12 L p ![1976, 0] S72x256.size (by decide)) (tap arg7 harg7 x7 1)) (tap arg7 harg7 x7 2) (bias arg8 harg8 x8)
    (ld arg12 L p ![1984, 256] S64x256.size (by decide))

/-- The activations of row group `n`, the scratch having been stored `H` then. -/
def actAt (H : ℕ → List (View.Piece (Elt F) S2x2048x512 .f32)) (p : Fin 2) (n : ℕ) : Vec F S1x64x256 .bf16 :=
  if n = 0 then actFirst arg7 harg7 arg8 harg8 arg12 x7 x8 (H 1) p
  else if n = 31 then actLast arg7 harg7 arg8 harg8 arg12 x7 x8 (H 4) p
  else actMid arg7 harg7 arg8 harg8 arg12 x7 x8 (H (n / 8 + 1)) p n

theorem inbAct (n : ℕ) : ∀ a, ![n / 8 % 4, 64 * (n % 8), 0] a + S1x64x256.size a ≤ S4x512x256.size a := by
  intro a; fin_cases a
  · show n / 8 % 4 + 1 ≤ 4; omega
  · show 64 * (n % 8) + 64 ≤ 512; omega
  · show 0 + 256 ≤ 256; omega

/-- The first `n` row groups' activations stored, last first. -/
def acts (H : ℕ → List (View.Piece (Elt F) S2x2048x512 .f32)) (p : Fin 2) : ℕ → List (View.Piece (Elt F) S4x512x256 .bf16)
  | 0 => []
  | n + 1 => ⟨Rect.unit (s := S4x512x256) ![n / 8 % 4, 64 * (n % 8), 0] S1x64x256.size (inbAct n), actAt arg7 harg7 arg8 harg8 arg12 x7 x8 H p n⟩ :: acts H p n

end

/-- The projections of a row block. -/
abbrev proj (arg5 : Memref sig .tc .vmem S1x1024x256 .f32) (harg5 : arg5.IsWhole) (arg6 : Memref sig .tc .vmem S1x1024x256 .f32) (harg6 : arg6.IsWhole) (arg11 : Memref sig .tc .vmem S2048x1024 .bf16) (harg11 : arg11.IsWhole) (x5 : Vec F S1x1024x256 .f32) (x6 : Vec F S1x1024x256 .f32) (x11 : Vec F S2048x1024 .bf16) (k : Fin 4) : Vec F S512x512 .f32 :=
  k0_pay12 (View.readAt (Elt F) arg5.view (Rect.unit (s := S1x1024x256) ![0, 0, 0] S1x1024x256.size (by decide)).toLoadRect (harg5.unread x5))
    (View.readAt (Elt F) arg6.view (Rect.unit (s := S1x1024x256) ![0, 0, 0] S1x1024x256.size (by decide)).toLoadRect (harg6.unread x6))
    (View.readAt (Elt F) arg11.view (Rect.unit (s := S2048x1024) ![512 * k.1, 0] S512x1024.size (by revert k; decide)).toLoadRect (harg11.unread x11))

/-- The scratch after the first `n` row blocks of slot `p` are stored. -/
def hist (p : Fin 2) (w : Fin 4 → Vec F S512x512 .f32) (L : List (View.Piece (Elt F) S2x2048x512 .f32)) : ℕ → List (View.Piece (Elt F) S2x2048x512 .f32)
  | 0 => L
  | n + 1 => block p (Fin.ofNat 4 n) (w (Fin.ofNat 4 n)) :: hist p w L n

/-! ## What each run leaves -/

/-- The accumulator's row block `k` after one step, the activations stored by then being the first `n` row groups'. -/
def accAt (arg9 : Memref sig .tc .vmem S1x256x1024 .f32) (harg9 : arg9.IsWhole) (arg10 : Memref sig .tc .vmem S1x2048x1024 .f32) (harg10 : arg10.IsWhole) (arg13 : Memref sig .tc .vmem S4x512x256 .bf16) (x9 : Vec F S1x256x1024 .f32) (x10 : Vec F S1x2048x1024 .f32) (A : List (View.Piece (Elt F) S4x512x256 .bf16)) (k : Fin 4) :
    Vec F S1x512x1024 .f32 :=
  k0_pay90 (k0_pay11 (View.readAt (Elt F) arg9.view (Rect.unit (s := S1x256x1024) ![0, 0, 0] S1x256x1024.size (by decide)).toLoadRect (harg9.unread x9)))
    (View.readAt (Elt F) arg10.view (Rect.unit (s := S1x2048x1024) ![0, 512 * k.1, 0] S1x512x1024.size (by revert k; decide)).toLoadRect (harg10.unread x10))
    (arg13.view.readCov A (Rect.unit (s := S4x512x256) ![k.1, 0, 0] S1x512x256.size (by revert k; decide)).toLoadRect)

/-- The four row blocks of the accumulator. -/
def accs (a : Fin 4 → Vec F S1x512x1024 .f32) : List (View.Piece (Elt F) S1x2048x1024 .f32) :=
  [⟨Rect.unit (s := S1x2048x1024) ![0, 1536, 0] S1x512x1024.size (by decide), a 3⟩, ⟨Rect.unit (s := S1x2048x1024) ![0, 1024, 0] S1x512x1024.size (by decide), a 2⟩,
   ⟨Rect.unit (s := S1x2048x1024) ![0, 512, 0] S1x512x1024.size (by decide), a 1⟩, ⟨Rect.unit (s := S1x2048x1024) ![0, 0, 0] S1x512x1024.size (by decide), a 0⟩]

theorem outO (c : Dev nD) (i : grid0.Coords) (arg2 : Memref sig .tc .vmem S1x2048x1024 .f32) (harg2 : arg2.IsWhole) (arg3 : Memref sig .tc .vmem S1x1x6x1024 .f32) (harg3 : arg3.IsWhole) (arg4 : Memref sig .tc .vmem S2x1024 .f32) (harg4 : arg4.IsWhole) (arg5 : Memref sig .tc .vmem S1x1024x256 .f32) (harg5 : arg5.IsWhole) (arg6 : Memref sig .tc .vmem S1x1024x256 .f32) (harg6 : arg6.IsWhole) (arg7 : Memref sig .tc .vmem S1x3x256 .f32) (harg7 : arg7.IsWhole) (arg8 : Memref sig .tc .vmem S2x256 .f32) (harg8 : arg8.IsWhole) (arg9 : Memref sig .tc .vmem S1x256x1024 .f32) (harg9 : arg9.IsWhole) (arg10 : Memref sig .tc .vmem S1x2048x1024 .f32) (harg10 : arg10.IsWhole) (arg11 : Memref sig .tc .vmem S2048x1024 .bf16) (harg11 : arg11.IsWhole) (arg12 : Memref sig .tc .vmem S2x2048x512 .f32) (harg12 : arg12.IsWhole) (arg13 : Memref sig .tc .vmem S4x512x256 .bf16) (harg13 : arg13.IsWhole) (hc1 : ¬ k0_cond1 i = 1#1) (hc2 : k0_cond2 i = 1#1) (hc3 : ¬ k0_cond3 i = 1#1) (hc4 : ¬ k0_cond4 i = 1#1) (x2 : Vec F S1x2048x1024 .f32) (x3 : Vec F S1x1x6x1024 .f32) (x4 : Vec F S2x1024 .f32) (x5 : Vec F S1x1024x256 .f32) (x6 : Vec F S1x1024x256 .f32) (x7 : Vec F S1x3x256 .f32) (x8 : Vec F S2x256 .f32) (x9 : Vec F S1x256x1024 .f32) (x10 : Vec F S1x2048x1024 .f32) (x11 : Vec F S2048x1024 .bf16) (x12 : Vec F S1x2048x512 .f32) :
    (runO c i arg2 harg2 arg3 harg3 arg4 harg4 arg5 harg5 arg6 harg6 arg7 harg7 arg8 harg8 arg9 harg9 arg10 harg10 arg11 harg11 arg12 harg12 arg13 harg13 hc1 hc2 hc3 hc4 x2 x3 x4 x5 x6 x7 x8 x9 x10 x11 x12).1 = accs (accAt arg9 harg9 arg10 harg10 arg13 x9 x10
      (acts arg7 harg7 arg8 harg8 arg12 x7 x8 (hist 1 (proj arg5 harg5 arg6 harg6 arg11 harg11 x5 x6 x11) [⟨slotA, x12⟩]) 0 32)) := rfl

theorem slotO (c : Dev nD) (i : grid0.Coords) (arg2 : Memref sig .tc .vmem S1x2048x1024 .f32) (harg2 : arg2.IsWhole) (arg3 : Memref sig .tc .vmem S1x1x6x1024 .f32) (harg3 : arg3.IsWhole) (arg4 : Memref sig .tc .vmem S2x1024 .f32) (harg4 : arg4.IsWhole) (arg5 : Memref sig .tc .vmem S1x1024x256 .f32) (harg5 : arg5.IsWhole) (arg6 : Memref sig .tc .vmem S1x1024x256 .f32) (harg6 : arg6.IsWhole) (arg7 : Memref sig .tc .vmem S1x3x256 .f32) (harg7 : arg7.IsWhole) (arg8 : Memref sig .tc .vmem S2x256 .f32) (harg8 : arg8.IsWhole) (arg9 : Memref sig .tc .vmem S1x256x1024 .f32) (harg9 : arg9.IsWhole) (arg10 : Memref sig .tc .vmem S1x2048x1024 .f32) (harg10 : arg10.IsWhole) (arg11 : Memref sig .tc .vmem S2048x1024 .bf16) (harg11 : arg11.IsWhole) (arg12 : Memref sig .tc .vmem S2x2048x512 .f32) (harg12 : arg12.IsWhole) (arg13 : Memref sig .tc .vmem S4x512x256 .bf16) (harg13 : arg13.IsWhole) (hc1 : ¬ k0_cond1 i = 1#1) (hc2 : k0_cond2 i = 1#1) (hc3 : ¬ k0_cond3 i = 1#1) (hc4 : ¬ k0_cond4 i = 1#1) (x2 : Vec F S1x2048x1024 .f32) (x3 : Vec F S1x1x6x1024 .f32) (x4 : Vec F S2x1024 .f32) (x5 : Vec F S1x1024x256 .f32) (x6 : Vec F S1x1024x256 .f32) (x7 : Vec F S1x3x256 .f32) (x8 : Vec F S2x256 .f32) (x9 : Vec F S1x256x1024 .f32) (x10 : Vec F S1x2048x1024 .f32) (x11 : Vec F S2048x1024 .bf16) (x12 : Vec F S1x2048x512 .f32) :
    (runO c i arg2 harg2 arg3 harg3 arg4 harg4 arg5 harg5 arg6 harg6 arg7 harg7 arg8 harg8 arg9 harg9 arg10 harg10 arg11 harg11 arg12 harg12 arg13 harg13 hc1 hc2 hc3 hc4 x2 x3 x4 x5 x6 x7 x8 x9 x10 x11 x12).2.1 = news 1 (proj arg5 harg5 arg6 harg6 arg11 harg11 x5 x6 x11) [⟨slotA, x12⟩] := rfl

theorem outE (c : Dev nD) (i : grid0.Coords) (arg2 : Memref sig .tc .vmem S1x2048x1024 .f32) (harg2 : arg2.IsWhole) (arg3 : Memref sig .tc .vmem S1x1x6x1024 .f32) (harg3 : arg3.IsWhole) (arg4 : Memref sig .tc .vmem S2x1024 .f32) (harg4 : arg4.IsWhole) (arg5 : Memref sig .tc .vmem S1x1024x256 .f32) (harg5 : arg5.IsWhole) (arg6 : Memref sig .tc .vmem S1x1024x256 .f32) (harg6 : arg6.IsWhole) (arg7 : Memref sig .tc .vmem S1x3x256 .f32) (harg7 : arg7.IsWhole) (arg8 : Memref sig .tc .vmem S2x256 .f32) (harg8 : arg8.IsWhole) (arg9 : Memref sig .tc .vmem S1x256x1024 .f32) (harg9 : arg9.IsWhole) (arg10 : Memref sig .tc .vmem S1x2048x1024 .f32) (harg10 : arg10.IsWhole) (arg11 : Memref sig .tc .vmem S2048x1024 .bf16) (harg11 : arg11.IsWhole) (arg12 : Memref sig .tc .vmem S2x2048x512 .f32) (harg12 : arg12.IsWhole) (arg13 : Memref sig .tc .vmem S4x512x256 .bf16) (harg13 : arg13.IsWhole) (hc1 : ¬ k0_cond1 i = 1#1) (hc2 : ¬ k0_cond2 i = 1#1) (hc3 : k0_cond3 i = 1#1) (hc4 : ¬ k0_cond4 i = 1#1) (x2 : Vec F S1x2048x1024 .f32) (x3 : Vec F S1x1x6x1024 .f32) (x4 : Vec F S2x1024 .f32) (x5 : Vec F S1x1024x256 .f32) (x6 : Vec F S1x1024x256 .f32) (x7 : Vec F S1x3x256 .f32) (x8 : Vec F S2x256 .f32) (x9 : Vec F S1x256x1024 .f32) (x10 : Vec F S1x2048x1024 .f32) (x11 : Vec F S2048x1024 .bf16) (x12 : Vec F S1x2048x512 .f32) :
    (runE c i arg2 harg2 arg3 harg3 arg4 harg4 arg5 harg5 arg6 harg6 arg7 harg7 arg8 harg8 arg9 harg9 arg10 harg10 arg11 harg11 arg12 harg12 arg13 harg13 hc1 hc2 hc3 hc4 x2 x3 x4 x5 x6 x7 x8 x9 x10 x11 x12).1 = accs (accAt arg9 harg9 arg10 harg10 arg13 x9 x10
      (acts arg7 harg7 arg8 harg8 arg12 x7 x8 (hist 0 (proj arg5 harg5 arg6 harg6 arg11 harg11 x5 x6 x11) [⟨slotB, x12⟩]) 1 32)) := rfl

theorem slotE (c : Dev nD) (i : grid0.Coords) (arg2 : Memref sig .tc .vmem S1x2048x1024 .f32) (harg2 : arg2.IsWhole) (arg3 : Memref sig .tc .vmem S1x1x6x1024 .f32) (harg3 : arg3.IsWhole) (arg4 : Memref sig .tc .vmem S2x1024 .f32) (harg4 : arg4.IsWhole) (arg5 : Memref sig .tc .vmem S1x1024x256 .f32) (harg5 : arg5.IsWhole) (arg6 : Memref sig .tc .vmem S1x1024x256 .f32) (harg6 : arg6.IsWhole) (arg7 : Memref sig .tc .vmem S1x3x256 .f32) (harg7 : arg7.IsWhole) (arg8 : Memref sig .tc .vmem S2x256 .f32) (harg8 : arg8.IsWhole) (arg9 : Memref sig .tc .vmem S1x256x1024 .f32) (harg9 : arg9.IsWhole) (arg10 : Memref sig .tc .vmem S1x2048x1024 .f32) (harg10 : arg10.IsWhole) (arg11 : Memref sig .tc .vmem S2048x1024 .bf16) (harg11 : arg11.IsWhole) (arg12 : Memref sig .tc .vmem S2x2048x512 .f32) (harg12 : arg12.IsWhole) (arg13 : Memref sig .tc .vmem S4x512x256 .bf16) (harg13 : arg13.IsWhole) (hc1 : ¬ k0_cond1 i = 1#1) (hc2 : ¬ k0_cond2 i = 1#1) (hc3 : k0_cond3 i = 1#1) (hc4 : ¬ k0_cond4 i = 1#1) (x2 : Vec F S1x2048x1024 .f32) (x3 : Vec F S1x1x6x1024 .f32) (x4 : Vec F S2x1024 .f32) (x5 : Vec F S1x1024x256 .f32) (x6 : Vec F S1x1024x256 .f32) (x7 : Vec F S1x3x256 .f32) (x8 : Vec F S2x256 .f32) (x9 : Vec F S1x256x1024 .f32) (x10 : Vec F S1x2048x1024 .f32) (x11 : Vec F S2048x1024 .bf16) (x12 : Vec F S1x2048x512 .f32) :
    (runE c i arg2 harg2 arg3 harg3 arg4 harg4 arg5 harg5 arg6 harg6 arg7 harg7 arg8 harg8 arg9 harg9 arg10 harg10 arg11 harg11 arg12 harg12 arg13 harg13 hc1 hc2 hc3 hc4 x2 x3 x4 x5 x6 x7 x8 x9 x10 x11 x12).2.1 = news 0 (proj arg5 harg5 arg6 harg6 arg11 harg11 x5 x6 x11) [⟨slotB, x12⟩] := rfl

/-- The gated residual at the last step. -/
abbrev finish (arg2 : Memref sig .tc .vmem S1x2048x1024 .f32) (harg2 : arg2.IsWhole) (arg3 : Memref sig .tc .vmem S1x1x6x1024 .f32) (harg3 : arg3.IsWhole) (arg10 : Memref sig .tc .vmem S1x2048x1024 .f32) (x2 : Vec F S1x2048x1024 .f32) (x3 : Vec F S1x1x6x1024 .f32) (O : List (View.Piece (Elt F) S1x2048x1024 .f32)) : Vec F S1x2048x1024 .f32 :=
  k0_pay3 (k0_pay255 (View.readAt (Elt F) arg2.view (Rect.unit (s := S1x2048x1024) ![0, 0, 0] S1x2048x1024.size (by decide)).toLoadRect (harg2.unread x2)))
    (k0_pay256 (View.readAt (Elt F) arg3.view (Rect.unit (s := S1x1x6x1024) ![0, 0, 5, 0] S1x1x1x1024.size (by decide)).toLoadRect (harg3.unread x3)))
    (k0_pay257 (arg10.view.readCov O (Rect.unit (s := S1x2048x1024) ![0, 0, 0] S1x2048x1024.size (by decide)).toLoadRect))

theorem outL (c : Dev nD) (i : grid0.Coords) (arg2 : Memref sig .tc .vmem S1x2048x1024 .f32) (harg2 : arg2.IsWhole) (arg3 : Memref sig .tc .vmem S1x1x6x1024 .f32) (harg3 : arg3.IsWhole) (arg4 : Memref sig .tc .vmem S2x1024 .f32) (harg4 : arg4.IsWhole) (arg5 : Memref sig .tc .vmem S1x1024x256 .f32) (harg5 : arg5.IsWhole) (arg6 : Memref sig .tc .vmem S1x1024x256 .f32) (harg6 : arg6.IsWhole) (arg7 : Memref sig .tc .vmem S1x3x256 .f32) (harg7 : arg7.IsWhole) (arg8 : Memref sig .tc .vmem S2x256 .f32) (harg8 : arg8.IsWhole) (arg9 : Memref sig .tc .vmem S1x256x1024 .f32) (harg9 : arg9.IsWhole) (arg10 : Memref sig .tc .vmem S1x2048x1024 .f32) (harg10 : arg10.IsWhole) (arg11 : Memref sig .tc .vmem S2048x1024 .bf16) (harg11 : arg11.IsWhole) (arg12 : Memref sig .tc .vmem S2x2048x512 .f32) (harg12 : arg12.IsWhole) (arg13 : Memref sig .tc .vmem S4x512x256 .bf16) (harg13 : arg13.IsWhole) (hc1 : ¬ k0_cond1 i = 1#1) (hc2 : ¬ k0_cond2 i = 1#1) (hc3 : ¬ k0_cond3 i = 1#1) (hc4 : k0_cond4 i = 1#1) (x2 : Vec F S1x2048x1024 .f32) (x3 : Vec F S1x1x6x1024 .f32) (x4 : Vec F S2x1024 .f32) (x5 : Vec F S1x1024x256 .f32) (x6 : Vec F S1x1024x256 .f32) (x7 : Vec F S1x3x256 .f32) (x8 : Vec F S2x256 .f32) (x9 : Vec F S1x256x1024 .f32) (x10 : Vec F S1x2048x1024 .f32) (x11 : Vec F S2048x1024 .bf16) (x12 : Vec F S1x2048x512 .f32) :
    (runL c i arg2 harg2 arg3 harg3 arg4 harg4 arg5 harg5 arg6 harg6 arg7 harg7 arg8 harg8 arg9 harg9 arg10 harg10 arg11 harg11 arg12 harg12 arg13 harg13 hc1 hc2 hc3 hc4 x2 x3 x4 x5 x6 x7 x8 x9 x10 x11 x12).1 = ⟨Rect.unit (s := S1x2048x1024) ![0, 0, 0] S1x2048x1024.size (by decide), finish arg2 harg2 arg3 harg3 arg10 x2 x3
        (accs fun k => accAt arg9 harg9 arg10 harg10 arg13 x9 x10 (acts arg7 harg7 arg8 harg8 arg12 x7 x8 (fun _ => [⟨slotA, x12⟩]) 0 (8 * k.1 + 8)) k)⟩
      :: accs fun k => accAt arg9 harg9 arg10 harg10 arg13 x9 x10 (acts arg7 harg7 arg8 harg8 arg12 x7 x8 (fun _ => [⟨slotA, x12⟩]) 0 (8 * k.1 + 8)) k := rfl

theorem outZ (c : Dev nD) (i : grid0.Coords) (arg2 : Memref sig .tc .vmem S1x2048x1024 .f32) (harg2 : arg2.IsWhole) (arg3 : Memref sig .tc .vmem S1x1x6x1024 .f32) (harg3 : arg3.IsWhole) (arg4 : Memref sig .tc .vmem S2x1024 .f32) (harg4 : arg4.IsWhole) (arg5 : Memref sig .tc .vmem S1x1024x256 .f32) (harg5 : arg5.IsWhole) (arg6 : Memref sig .tc .vmem S1x1024x256 .f32) (harg6 : arg6.IsWhole) (arg7 : Memref sig .tc .vmem S1x3x256 .f32) (harg7 : arg7.IsWhole) (arg8 : Memref sig .tc .vmem S2x256 .f32) (harg8 : arg8.IsWhole) (arg9 : Memref sig .tc .vmem S1x256x1024 .f32) (harg9 : arg9.IsWhole) (arg10 : Memref sig .tc .vmem S1x2048x1024 .f32) (harg10 : arg10.IsWhole) (arg11 : Memref sig .tc .vmem S2048x1024 .bf16) (harg11 : arg11.IsWhole) (arg12 : Memref sig .tc .vmem S2x2048x512 .f32) (harg12 : arg12.IsWhole) (arg13 : Memref sig .tc .vmem S4x512x256 .bf16) (harg13 : arg13.IsWhole) (hc1 : k0_cond1 i = 1#1) (hc2 : ¬ k0_cond2 i = 1#1) (hc3 : ¬ k0_cond3 i = 1#1) (hc4 : ¬ k0_cond4 i = 1#1) (x2 : Vec F S1x2048x1024 .f32) (x3 : Vec F S1x1x6x1024 .f32) (x4 : Vec F S2x1024 .f32) (x5 : Vec F S1x1024x256 .f32) (x6 : Vec F S1x1024x256 .f32) (x7 : Vec F S1x3x256 .f32) (x8 : Vec F S2x256 .f32) (x9 : Vec F S1x256x1024 .f32) :
    (runZ c i arg2 harg2 arg3 harg3 arg4 harg4 arg5 harg5 arg6 harg6 arg7 harg7 arg8 harg8 arg9 harg9 arg10 harg10 arg11 harg11 arg12 harg12 arg13 harg13 hc1 hc2 hc3 hc4 x2 x3 x4 x5 x6 x7 x8 x9).1 = [⟨Rect.unit (s := S1x2048x1024) ![0, 0, 0] S1x2048x1024.size (by decide), k0_pay5⟩] := rfl

/-- The modulated rows of a batch element. -/
abbrev entry (arg2 : Memref sig .tc .vmem S1x2048x1024 .f32) (harg2 : arg2.IsWhole) (arg3 : Memref sig .tc .vmem S1x1x6x1024 .f32) (harg3 : arg3.IsWhole) (arg4 : Memref sig .tc .vmem S2x1024 .f32) (harg4 : arg4.IsWhole) (x2 : Vec F S1x2048x1024 .f32) (x3 : Vec F S1x1x6x1024 .f32) (x4 : Vec F S2x1024 .f32) : Vec F S2048x1024 .bf16 :=
  k0_pay4 (View.readAt (Elt F) arg2.view (Rect.unit (s := S1x2048x1024) ![0, 0, 0] S1x2048x1024.size (by decide)).toLoadRect (harg2.unread x2))
    (View.readAt (Elt F) arg4.view (Rect.unit (s := S2x1024) ![0, 0] S1x1024.size (by decide)).toLoadRect (harg4.unread x4))
    (View.readAt (Elt F) arg3.view (Rect.unit (s := S1x1x6x1024) ![0, 0, 4, 0] S1x1x1x1024.size (by decide)).toLoadRect (harg3.unread x3))
    (View.readAt (Elt F) arg3.view (Rect.unit (s := S1x1x6x1024) ![0, 0, 3, 0] S1x1x1x1024.size (by decide)).toLoadRect (harg3.unread x3))

theorem rowsZ (c : Dev nD) (i : grid0.Coords) (arg2 : Memref sig .tc .vmem S1x2048x1024 .f32) (harg2 : arg2.IsWhole) (arg3 : Memref sig .tc .vmem S1x1x6x1024 .f32) (harg3 : arg3.IsWhole) (arg4 : Memref sig .tc .vmem S2x1024 .f32) (harg4 : arg4.IsWhole) (arg5 : Memref sig .tc .vmem S1x1024x256 .f32) (harg5 : arg5.IsWhole) (arg6 : Memref sig .tc .vmem S1x1024x256 .f32) (harg6 : arg6.IsWhole) (arg7 : Memref sig .tc .vmem S1x3x256 .f32) (harg7 : arg7.IsWhole) (arg8 : Memref sig .tc .vmem S2x256 .f32) (harg8 : arg8.IsWhole) (arg9 : Memref sig .tc .vmem S1x256x1024 .f32) (harg9 : arg9.IsWhole) (arg10 : Memref sig .tc .vmem S1x2048x1024 .f32) (harg10 : arg10.IsWhole) (arg11 : Memref sig .tc .vmem S2048x1024 .bf16) (harg11 : arg11.IsWhole) (arg12 : Memref sig .tc .vmem S2x2048x512 .f32) (harg12 : arg12.IsWhole) (arg13 : Memref sig .tc .vmem S4x512x256 .bf16) (harg13 : arg13.IsWhole) (hc1 : k0_cond1 i = 1#1) (hc2 : ¬ k0_cond2 i = 1#1) (hc3 : ¬ k0_cond3 i = 1#1) (hc4 : ¬ k0_cond4 i = 1#1) (x2 : Vec F S1x2048x1024 .f32) (x3 : Vec F S1x1x6x1024 .f32) (x4 : Vec F S2x1024 .f32) (x5 : Vec F S1x1024x256 .f32) (x6 : Vec F S1x1024x256 .f32) (x7 : Vec F S1x3x256 .f32) (x8 : Vec F S2x256 .f32) (x9 : Vec F S1x256x1024 .f32) :
    (runZ c i arg2 harg2 arg3 harg3 arg4 harg4 arg5 harg5 arg6 harg6 arg7 harg7 arg8 harg8 arg9 harg9 arg10 harg10 arg11 harg11 arg12 harg12 arg13 harg13 hc1 hc2 hc3 hc4 x2 x3 x4 x5 x6 x7 x8 x9).2.1 = [⟨Rect.unit (s := S2048x1024) ![0, 0] S2048x1024.size (by decide), entry arg2 harg2 arg3 harg3 arg4 harg4 x2 x3 x4⟩] := rfl

/-- The projections of a row block at the first step. -/
abbrev proj0 (arg5 : Memref sig .tc .vmem S1x1024x256 .f32) (harg5 : arg5.IsWhole) (arg6 : Memref sig .tc .vmem S1x1024x256 .f32) (harg6 : arg6.IsWhole) (arg11 : Memref sig .tc .vmem S2048x1024 .bf16) (x5 : Vec F S1x1024x256 .f32) (x6 : Vec F S1x1024x256 .f32) (H : List (View.Piece (Elt F) S2048x1024 .bf16)) (k : Fin 4) : Vec F S512x512 .f32 :=
  k0_pay12 (View.readAt (Elt F) arg5.view (Rect.unit (s := S1x1024x256) ![0, 0, 0] S1x1024x256.size (by decide)).toLoadRect (harg5.unread x5))
    (View.readAt (Elt F) arg6.view (Rect.unit (s := S1x1024x256) ![0, 0, 0] S1x1024x256.size (by decide)).toLoadRect (harg6.unread x6))
    (arg11.view.readCov H (Rect.unit (s := S2048x1024) ![512 * k.1, 0] S512x1024.size (by revert k; decide)).toLoadRect)

theorem slotZ (c : Dev nD) (i : grid0.Coords) (arg2 : Memref sig .tc .vmem S1x2048x1024 .f32) (harg2 : arg2.IsWhole) (arg3 : Memref sig .tc .vmem S1x1x6x1024 .f32) (harg3 : arg3.IsWhole) (arg4 : Memref sig .tc .vmem S2x1024 .f32) (harg4 : arg4.IsWhole) (arg5 : Memref sig .tc .vmem S1x1024x256 .f32) (harg5 : arg5.IsWhole) (arg6 : Memref sig .tc .vmem S1x1024x256 .f32) (harg6 : arg6.IsWhole) (arg7 : Memref sig .tc .vmem S1x3x256 .f32) (harg7 : arg7.IsWhole) (arg8 : Memref sig .tc .vmem S2x256 .f32) (harg8 : arg8.IsWhole) (arg9 : Memref sig .tc .vmem S1x256x1024 .f32) (harg9 : arg9.IsWhole) (arg10 : Memref sig .tc .vmem S1x2048x1024 .f32) (harg10 : arg10.IsWhole) (arg11 : Memref sig .tc .vmem S2048x1024 .bf16) (harg11 : arg11.IsWhole) (arg12 : Memref sig .tc .vmem S2x2048x512 .f32) (harg12 : arg12.IsWhole) (arg13 : Memref sig .tc .vmem S4x512x256 .bf16) (harg13 : arg13.IsWhole) (hc1 : k0_cond1 i = 1#1) (hc2 : ¬ k0_cond2 i = 1#1) (hc3 : ¬ k0_cond3 i = 1#1) (hc4 : ¬ k0_cond4 i = 1#1) (x2 : Vec F S1x2048x1024 .f32) (x3 : Vec F S1x1x6x1024 .f32) (x4 : Vec F S2x1024 .f32) (x5 : Vec F S1x1024x256 .f32) (x6 : Vec F S1x1024x256 .f32) (x7 : Vec F S1x3x256 .f32) (x8 : Vec F S2x256 .f32) (x9 : Vec F S1x256x1024 .f32) :
    (runZ c i arg2 harg2 arg3 harg3 arg4 harg4 arg5 harg5 arg6 harg6 arg7 harg7 arg8 harg8 arg9 harg9 arg10 harg10 arg11 harg11 arg12 harg12 arg13 harg13 hc1 hc2 hc3 hc4 x2 x3 x4 x5 x6 x7 x8 x9).2.2.1 = news 0 (proj0 arg5 harg5 arg6 harg6 arg11 x5 x6
      [⟨Rect.unit (s := S2048x1024) ![0, 0] S2048x1024.size (by decide), entry arg2 harg2 arg3 harg3 arg4 harg4 x2 x3 x4⟩]) [] := rfl

/-- The accumulator's row blocks cover it. -/
theorem accs_cover (a : Fin 4 → Vec F S1x512x1024 .f32) (y : S1x2048x1024.Idx) : ∃ p ∈ accs a, y ∈ p.1.set :=
  View.cover_of_tiledL (accs a) S1x512x1024.size (by sl_kernel_rfl) y

theorem cover_whole {S : Shape} {e : EltTy} (off : Fin S.rank → ℕ) (inb) (h : ∀ a, off a = 0) (w) (L : List (View.Piece (Elt F) S e)) (y : S.Idx) :
    ∃ p ∈ (⟨Rect.unit (s := S) off S.size inb, w⟩ :: L : List (View.Piece (Elt F) S e)), y ∈ p.1.set :=
  ⟨_, List.mem_cons_self, by
    rw [Rect.set_eq_univ_of_whole _ (fun a => ⟨h a, rfl, rfl⟩)]; exact Finset.mem_univ _⟩

end Cert.Kernel3Ideal.Gen

end
-- ==== Proof.FfnAState.lean ====
/- The grid steps of the first layer's feed-forward call: the scratch is carried from one step to the next, so the invariant between two steps
   says what it holds. -/
module

public import proofs.«01_k».proof.Proof.FfnAShape
public import Idealize.ShloMosaic.Lib.Claim

@[expose] public section

set_option maxRecDepth 16384

noncomputable section

namespace Cert.Kernel3Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## Stores as ownership -/

theorem own_of_writes {S : Shape} {e : EltTy} (c : Dev nD) (M : Memref sig .tc .vmem S e) (L : List (View.Piece (Elt F) S e)) (h : ∀ y, ∃ p ∈ L, y ∈ p.1.set) :
    (iprop(∃ f, M.view.loc (c : Thread nD τ) ↦[M.view.set]{fullShare} M.view.writes (Elt F) f L) : sProp 𝕄) ⊢ owns (c : Thread nD τ) M fullShare (View.canon L) := by
  iintro ⟨%f, H⟩
  unfold owns; iexists _; isplitr
  swap; · iexact H
  ipureintro; exact View.read_writes_eq_canon _ _ _ h

theorem any_of_writes {S : Shape} {e : EltTy} (c : Dev nD) (M : Memref sig .tc .vmem S e) (L : List (View.Piece (Elt F) S e)) :
    (iprop(∃ f, M.view.loc (c : Thread nD τ) ↦[M.view.set]{fullShare} M.view.writes (Elt F) f L) : sProp 𝕄) ⊢ iprop(∃ d, owns (c : Thread nD τ) M fullShare d) := by
  iintro ⟨%f, H⟩
  iexists _; unfold owns; iexists _; isplitr
  swap; · iexact H
  ipureintro; rfl

theorem slot_of_writes {S : Shape} {e : EltTy} (c : Dev nD) (M : Memref sig .tc .vmem S e) (hM : M.IsWhole) (L : List (View.Piece (Elt F) S e)) (r : Rect S)
    (h : ∀ x : r.shape.Idx, ∃ q ∈ L, r.emb x ∈ q.1.set) :
    (iprop(∃ f, M.view.loc (c : Thread nD τ) ↦[M.view.set]{fullShare} M.view.writes (Elt F) f L) : sProp 𝕄)
      ⊢ iprop(∃ f, M.view.loc (c : Thread nD τ) ↦[M.view.set]{fullShare} M.view.writes (Elt F) f [⟨r, fun x => View.canon L (r.emb x)⟩]) := by
  iintro ⟨%f, H⟩
  iexists M.view.writes (Elt F) f L
  rw [← restate M hM f L r h]
  iexact H

/-! ## The operands -/

abbrev ms0_0 (t : Fin cfg0.N) : Memref sig .tc .vmem S1x2048x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x1x6x1024 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S2x1024 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x1024x256 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x1024x256 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x3x256 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S2x256 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x256x1024 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1x2048x1024 .f32 := win0_8.stage (cfg0.slots t 8)
abbrev hs0_8 (t : Fin cfg0.N) : (ms0_8 t).IsWhole := hstage0_8 ((cfg0.slots t 8).cast nbuf0_8)
abbrev scM0_0 : Memref sig .tc .vmem S2048x1024 .bf16 := Memref.whole cc0_scratch0
abbrev scM0_1 : Memref sig .tc .vmem S2x2048x512 .f32 := Memref.whole cc0_scratch1
abbrev scM0_2 : Memref sig .tc .vmem S4x512x256 .bf16 := Memref.whole cc0_scratch2

/-- The scratch at some contents, and the generator register. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d)) ∗ (∃ r, prngReg c r)) := by
  unfold Pipeline.ΦA; rw [scopedRest0_eq]; simp only [scM0_0, scM0_1, scM0_2, owns_whole]; try rfl

/-! ## Which case a grid step takes -/

theorem hcond1 : ∀ t : Fin cfg0.N, k0_cond1 (grid0.coords t) = 1#1 ↔ t.val % 12 = 0 :=
  (by decide +kernel : ∀ t : Fin grid0.N, k0_cond1 (grid0.coords t) = 1#1 ↔ t.val % 12 = 0)
theorem hcond2 : ∀ t : Fin cfg0.N, k0_cond2 (grid0.coords t) = 1#1 ↔ t.val % 2 = 1 ∧ t.val % 12 ≠ 11 :=
  (by decide +kernel : ∀ t : Fin grid0.N, k0_cond2 (grid0.coords t) = 1#1 ↔ t.val % 2 = 1 ∧ t.val % 12 ≠ 11)
theorem hcond3 : ∀ t : Fin cfg0.N, k0_cond3 (grid0.coords t) = 1#1 ↔ t.val % 2 = 0 ∧ t.val % 12 ≠ 0 :=
  (by decide +kernel : ∀ t : Fin grid0.N, k0_cond3 (grid0.coords t) = 1#1 ↔ t.val % 2 = 0 ∧ t.val % 12 ≠ 0)
theorem hcond4 : ∀ t : Fin cfg0.N, k0_cond4 (grid0.coords t) = 1#1 ↔ t.val % 12 = 11 :=
  (by decide +kernel : ∀ t : Fin grid0.N, k0_cond4 (grid0.coords t) = 1#1 ↔ t.val % 12 = 11)
theorem hn1 (t : Fin cfg0.N) (h : ¬ t.val % 12 = 0) : ¬ k0_cond1 (grid0.coords t) = 1#1 := fun e => h ((hcond1 t).1 e)
theorem hn2 (t : Fin cfg0.N) (h : ¬ (t.val % 2 = 1 ∧ t.val % 12 ≠ 11)) : ¬ k0_cond2 (grid0.coords t) = 1#1 := fun e => h ((hcond2 t).1 e)
theorem hn3 (t : Fin cfg0.N) (h : ¬ (t.val % 2 = 0 ∧ t.val % 12 ≠ 0)) : ¬ k0_cond3 (grid0.coords t) = 1#1 := fun e => h ((hcond3 t).1 e)
theorem hn4 (t : Fin cfg0.N) (h : ¬ t.val % 12 = 11) : ¬ k0_cond4 (grid0.coords t) = 1#1 := fun e => h ((hcond4 t).1 e)

/-! ## What the buffers hold after each step -/

/-- What a step leaves: the accumulator, the rows projected from, and the slot last stored. -/
structure St (F : FTy → Type) where
  o : Vec F S1x2048x1024 .f32
  h : Vec F S2048x1024 .bf16
  u : Vec F S1x2048x512 .f32

/-- The run of a step of this case at its operands and blocks. -/
def atZ (c : Dev nD) (t : Fin cfg0.N) (h : t.val % 12 = 0) :=
  runZ c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) ((hcond1 t).2 h) (hn2 t (by omega)) (hn3 t (by omega)) (hn4 t (by omega)) (iblk m c 0 t) (iblk m c 1 t) (iblk m c 2 t) (iblk m c 3 t) (iblk m c 4 t) (iblk m c 5 t) (iblk m c 6 t) (iblk m c 7 t)

/-- The run of a step of this case at its operands and blocks. -/
def atO (c : Dev nD) (t : Fin cfg0.N) (h : t.val % 2 = 1 ∧ t.val % 12 ≠ 11) (s : St F) :=
  runO c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) (hn1 t (by omega)) ((hcond2 t).2 h) (hn3 t (by omega)) (hn4 t (by omega)) (iblk m c 0 t) (iblk m c 1 t) (iblk m c 2 t) (iblk m c 3 t) (iblk m c 4 t) (iblk m c 5 t) (iblk m c 6 t) (iblk m c 7 t) s.o s.h s.u

/-- The run of a step of this case at its operands and blocks. -/
def atE (c : Dev nD) (t : Fin cfg0.N) (h : t.val % 2 = 0 ∧ t.val % 12 ≠ 0) (s : St F) :=
  runE c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) (hn1 t (by omega)) (hn2 t (by omega)) ((hcond3 t).2 h) (hn4 t (by omega)) (iblk m c 0 t) (iblk m c 1 t) (iblk m c 2 t) (iblk m c 3 t) (iblk m c 4 t) (iblk m c 5 t) (iblk m c 6 t) (iblk m c 7 t) s.o s.h s.u

/-- The run of a step of this case at its operands and blocks. -/
def atL (c : Dev nD) (t : Fin cfg0.N) (h : t.val % 12 = 11) (s : St F) :=
  runL c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) (hn1 t (by omega)) (hn2 t (by omega)) (hn3 t (by omega)) ((hcond4 t).2 h) (iblk m c 0 t) (iblk m c 1 t) (iblk m c 2 t) (iblk m c 3 t) (iblk m c 4 t) (iblk m c 5 t) (iblk m c 6 t) (iblk m c 7 t) s.o s.h s.u

theorem atZ_out (c : Dev nD) (t : Fin cfg0.N) (h : t.val % 12 = 0) (y : S1x2048x1024.Idx) : ∃ p ∈ (atZ m c t h).1, y ∈ p.1.set := by
  unfold atZ; rw [outZ c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) ((hcond1 t).2 h) (hn2 t (by omega)) (hn3 t (by omega)) (hn4 t (by omega)) (iblk m c 0 t) (iblk m c 1 t) (iblk m c 2 t) (iblk m c 3 t) (iblk m c 4 t) (iblk m c 5 t) (iblk m c 6 t) (iblk m c 7 t)]; exact cover_whole _ _ (by decide) _ _ y
theorem atZ_rows (c : Dev nD) (t : Fin cfg0.N) (h : t.val % 12 = 0) (y : S2048x1024.Idx) : ∃ p ∈ (atZ m c t h).2.1, y ∈ p.1.set := by
  unfold atZ; rw [rowsZ c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) ((hcond1 t).2 h) (hn2 t (by omega)) (hn3 t (by omega)) (hn4 t (by omega)) (iblk m c 0 t) (iblk m c 1 t) (iblk m c 2 t) (iblk m c 3 t) (iblk m c 4 t) (iblk m c 5 t) (iblk m c 6 t) (iblk m c 7 t)]; exact cover_whole _ _ (by decide) _ _ y
theorem atZ_slot (c : Dev nD) (t : Fin cfg0.N) (h : t.val % 12 = 0) (x : S1x2048x512.Idx) : ∃ p ∈ (atZ m c t h).2.2.1, slotA.emb x ∈ p.1.set := by
  unfold atZ; rw [slotZ c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) ((hcond1 t).2 h) (hn2 t (by omega)) (hn3 t (by omega)) (hn4 t (by omega)) (iblk m c 0 t) (iblk m c 1 t) (iblk m c 2 t) (iblk m c 3 t) (iblk m c 4 t) (iblk m c 5 t) (iblk m c 6 t) (iblk m c 7 t)]; exact news_cover 0 _ _ x
theorem atO_out (c : Dev nD) (t : Fin cfg0.N) (h : t.val % 2 = 1 ∧ t.val % 12 ≠ 11) (s : St F) (y : S1x2048x1024.Idx) : ∃ p ∈ (atO m c t h s).1, y ∈ p.1.set := by
  unfold atO; rw [outO c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) (hn1 t (by omega)) ((hcond2 t).2 h) (hn3 t (by omega)) (hn4 t (by omega)) (iblk m c 0 t) (iblk m c 1 t) (iblk m c 2 t) (iblk m c 3 t) (iblk m c 4 t) (iblk m c 5 t) (iblk m c 6 t) (iblk m c 7 t) s.o s.h s.u]; exact accs_cover _ y
theorem atO_slot (c : Dev nD) (t : Fin cfg0.N) (h : t.val % 2 = 1 ∧ t.val % 12 ≠ 11) (s : St F) (x : S1x2048x512.Idx) : ∃ p ∈ (atO m c t h s).2.1, slotB.emb x ∈ p.1.set := by
  unfold atO; rw [slotO c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) (hn1 t (by omega)) ((hcond2 t).2 h) (hn3 t (by omega)) (hn4 t (by omega)) (iblk m c 0 t) (iblk m c 1 t) (iblk m c 2 t) (iblk m c 3 t) (iblk m c 4 t) (iblk m c 5 t) (iblk m c 6 t) (iblk m c 7 t) s.o s.h s.u]; exact news_cover 1 _ _ x
theorem atE_out (c : Dev nD) (t : Fin cfg0.N) (h : t.val % 2 = 0 ∧ t.val % 12 ≠ 0) (s : St F) (y : S1x2048x1024.Idx) : ∃ p ∈ (atE m c t h s).1, y ∈ p.1.set := by
  unfold atE; rw [outE c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) (hn1 t (by omega)) (hn2 t (by omega)) ((hcond3 t).2 h) (hn4 t (by omega)) (iblk m c 0 t) (iblk m c 1 t) (iblk m c 2 t) (iblk m c 3 t) (iblk m c 4 t) (iblk m c 5 t) (iblk m c 6 t) (iblk m c 7 t) s.o s.h s.u]; exact accs_cover _ y
theorem atE_slot (c : Dev nD) (t : Fin cfg0.N) (h : t.val % 2 = 0 ∧ t.val % 12 ≠ 0) (s : St F) (x : S1x2048x512.Idx) : ∃ p ∈ (atE m c t h s).2.1, slotA.emb x ∈ p.1.set := by
  unfold atE; rw [slotE c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) (hn1 t (by omega)) (hn2 t (by omega)) ((hcond3 t).2 h) (hn4 t (by omega)) (iblk m c 0 t) (iblk m c 1 t) (iblk m c 2 t) (iblk m c 3 t) (iblk m c 4 t) (iblk m c 5 t) (iblk m c 6 t) (iblk m c 7 t) s.o s.h s.u]; exact news_cover 0 _ _ x
theorem atL_out (c : Dev nD) (t : Fin cfg0.N) (h : t.val % 12 = 11) (s : St F) (y : S1x2048x1024.Idx) : ∃ p ∈ (atL m c t h s).1, y ∈ p.1.set := by
  unfold atL; rw [outL c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) (hn1 t (by omega)) (hn2 t (by omega)) (hn3 t (by omega)) ((hcond4 t).2 h) (iblk m c 0 t) (iblk m c 1 t) (iblk m c 2 t) (iblk m c 3 t) (iblk m c 4 t) (iblk m c 5 t) (iblk m c 6 t) (iblk m c 7 t) s.o s.h s.u]; exact cover_whole _ _ (by decide) _ _ y
def stZ (c : Dev nD) (t : Fin cfg0.N) (h : t.val % 12 = 0) : St F :=
  ⟨View.canon (atZ m c t h).1, View.canon (atZ m c t h).2.1, fun x => View.canon (atZ m c t h).2.2.1 (slotA.emb x)⟩
def stO (c : Dev nD) (t : Fin cfg0.N) (h : t.val % 2 = 1 ∧ t.val % 12 ≠ 11) (s : St F) : St F :=
  ⟨View.canon (atO m c t h s).1, s.h, fun x => View.canon (atO m c t h s).2.1 (slotB.emb x)⟩
def stE (c : Dev nD) (t : Fin cfg0.N) (h : t.val % 2 = 0 ∧ t.val % 12 ≠ 0) (s : St F) : St F :=
  ⟨View.canon (atE m c t h s).1, s.h, fun x => View.canon (atE m c t h s).2.1 (slotA.emb x)⟩
def stL (c : Dev nD) (t : Fin cfg0.N) (h : t.val % 12 = 11) (s : St F) : St F :=
  ⟨View.canon (atL m c t h s).1, s.h, s.u⟩

/-- One step. -/
def step (c : Dev nD) (t : Fin cfg0.N) (s : St F) : St F :=
  if h0 : t.val % 12 = 0 then stZ m c t h0
  else if h11 : t.val % 12 = 11 then stL m c t h11 s
  else if h1 : t.val % 2 = 1 then stO m c t ⟨h1, h11⟩ s
  else stE m c t ⟨by omega, h0⟩ s

theorem N0 : cfg0.N = 96 := by decide

/-- Grid step `n`. -/
def pt (n : ℕ) : Fin cfg0.N := ⟨n % 96, by rw [N0]; exact Nat.mod_lt _ (by norm_num)⟩

theorem pt_val (t : Fin cfg0.N) : pt t.val = t := Fin.ext (Nat.mod_eq_of_lt (lt_of_lt_of_eq t.isLt N0))

/-- What step `n` leaves. -/
def st (c : Dev nD) : ℕ → St F
  | 0 => step m c (pt 0) ⟨View.canon [], View.canon [], View.canon []⟩
  | n + 1 => step m c (pt (n + 1)) (st c n)

theorem st_Z (c : Dev nD) (t : Fin cfg0.N) (h : t.val % 12 = 0) : st m c t.val = stZ m c t h := by
  have e : ∀ s, step m c t s = stZ m c t h := fun s => by unfold step; rw [dif_pos h]
  have hp := pt_val t
  generalize t.val = n at hp ⊢
  cases n with
  | zero => unfold st; rw [hp]; exact e _
  | succ n => unfold st; rw [hp]; exact e _
theorem st_pos (c : Dev nD) (t : Fin cfg0.N) (h : ¬ t.val = 0) : st m c t.val = step m c t (st m c (t.val - 1)) := by
  have hp := pt_val t
  generalize t.val = n at hp h ⊢
  cases n with
  | zero => exact absurd rfl h
  | succ n => rw [Nat.add_sub_cancel]; conv_lhs => unfold st
              rw [hp]
theorem st_O (c : Dev nD) (t : Fin cfg0.N) (h : t.val % 2 = 1 ∧ t.val % 12 ≠ 11) : st m c t.val = stO m c t h (st m c (t.val - 1)) := by
  rw [st_pos m c t (by omega)]; unfold step; rw [dif_neg (by omega), dif_neg h.2, dif_pos h.1]
theorem st_E (c : Dev nD) (t : Fin cfg0.N) (h : t.val % 2 = 0 ∧ t.val % 12 ≠ 0) : st m c t.val = stE m c t h (st m c (t.val - 1)) := by
  rw [st_pos m c t (by omega)]; unfold step; rw [dif_neg h.2, dif_neg (by omega), dif_neg (by omega)]
theorem st_L (c : Dev nD) (t : Fin cfg0.N) (h : t.val % 12 = 11) : st m c t.val = stL m c t h (st m c (t.val - 1)) := by
  rw [st_pos m c t (by omega)]; unfold step; rw [dif_neg (by omega), dif_pos h]

/-! ## The invariant and the proof data -/

/-- The scratch between two steps, slot `r` holding the projections last stored. -/
def PhiC (c : Dev nD) (r : Rect S2x2048x512) (h : Vec F S2048x1024 .bf16) (u : r.shape.Idx → Elt F .f32) : sProp 𝕄 :=
  iprop((owns (c : Thread nD τ) scM0_0 fullShare h ∗ (∃ f, scM0_1.view.loc (c : Thread nD τ) ↦[scM0_1.view.set]{fullShare} scM0_1.view.writes (Elt F) f [⟨r, u⟩])
    ∗ (∃ d, owns (c : Thread nD τ) scM0_2 fullShare d)) ∗ (∃ r, prngReg c r))

/-- The scratch before step `n`: anything at the first step of a batch element; else the rows, and the slot the step before stored. -/
def PhiN (c : Dev nD) (n : ℕ) : sProp 𝕄 :=
  if n % 12 = 0 then Pipeline.ΦA spec0 c
  else if n % 2 = 1 then PhiC c slotA (st m c (n - 1)).h (st m c (n - 1)).u
  else PhiC c slotB (st m c (n - 1)).h (st m c (n - 1)).u

theorem PhiN_zero (c : Dev nD) (n : ℕ) (h : n % 12 = 0) : PhiN m c n = Pipeline.ΦA spec0 c := by unfold PhiN; rw [if_pos h]
theorem PhiN_odd (c : Dev nD) (n : ℕ) (h : n % 2 = 1) : PhiN m c n = PhiC c slotA (st m c (n - 1)).h (st m c (n - 1)).u := by
  unfold PhiN; rw [if_neg (by omega), if_pos h]
theorem PhiN_even (c : Dev nD) (n : ℕ) (h : n % 2 = 0 ∧ n % 12 ≠ 0) : PhiN m c n = PhiC c slotB (st m c (n - 1)).h (st m c (n - 1)).u := by
  unfold PhiN; rw [if_neg h.2, if_neg (by omega)]

/-- The proof data: each input's buffer at its block, the output's at the accumulator, the scratch at the invariant. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => (st m c t.val).o
  Φ t := PhiN m c t.val
  q w := Pipeline.shareOf spec0 w
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = (st m c t.val).o := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem idle8 : ∀ i : cfg0.grid.Coords, cfg0.idle 8 i = false :=
  (by decide +kernel : ∀ i : grid0.Coords, idle0 8 i = false)

/-- Past the first step of a batch element the output's buffer holds what the step before left. -/
theorem before0_8 (c : Dev nD) (t : Fin cfg0.N) (h : t.val % 12 ≠ 0) (d) : (dats m 0 c).before 8 t d = (st m c (t.val - 1)).o := by
  refine ((dats m 0 c).before_out_kept 8 rfl t (by omega) ?_ idle8 (fun _ _ => rfl) d).trans (after0_8 m c _)
  rw [← Bool.not_eq_true]
  exact fun e => absurd ((flush0_8 _).1 e) (show ¬ (t.val - 1) % 12 = 11 by omega)

/-! ## The body, at each case -/

end Cert.Kernel3Ideal.Gen

end
-- ==== Proof.FfnAPay.lean ====
/- What the body of the first layer's feed-forward call computes at an index, over the extended reals. -/
module

public import proofs.«01_k».proof.Proof.Gen.Kernel3Ideal.Skeleton
public import proofs.«01_k».proof.Proof.FfnPay
public import Idealize.ShloMosaic.Lib.Pointwise
public import Idealize.ShloMosaic.Lib.KernelVsHost

@[expose] public section

set_option maxRecDepth 16384

noncomputable section

namespace Cert.Kernel3Ideal.Pay

open Cert.Kernel3Ideal Cert.Kernel3Ideal.Gen Idealize.ShloMosaic Idealize.ShloMosaic.TcCoe Idealize.SL.Sem

/-- The normed, modulated row. -/
theorem entry_apply (x : Vec Ideal S1x2048x1024 .f32) (g : Vec Ideal S1x1024 .f32) (sc sh : Vec Ideal S1x1x1x1024 .f32) (R : Fin 2048) (k : Fin 1024) :
    k0_pay4 x g sc sh (ix2 R k)
      = x (ix3 0 R k) * Cert.Kernel2Ideal.Pay.rms (fun j => x (ix3 0 R j)) * g (ix2 0 k) * (Ideal.ofBits .f32 0x3F800000#32 + sc (ix4 0 0 0 k)) + sh (ix4 0 0 0 k) :=
  Cert.Kernel2Ideal.Pay.entry_apply x g sc sh R k

theorem zeros_apply (R : Fin 2048) (d : Fin 1024) : k0_pay5 (F := Ideal) (ix3 0 R d) = 0 :=
  Cert.Kernel2Ideal.Pay.zeros_apply R d

/-- A row block's projections. -/
theorem proj_apply (wg wv : Vec Ideal S1x1024x256 .f32) (h : Vec Ideal S512x1024 .bf16) (r c : Fin 512) :
    k0_pay12 wg wv h (ix2 r c) = ∑ k : Fin 1024, h (ix2 r k) * (if hc : c.1 < 256 then wg (ix3 0 k ⟨c, hc⟩) else wv (ix3 0 k ⟨c - 256, by omega⟩)) :=
  Cert.Kernel2Ideal.Pay.proj_apply wg wv h r c

/-- An accumulated row block. -/
theorem acc_apply (wd : Vec Ideal S1x256x1024 .f32) (o : Vec Ideal S1x512x1024 .f32) (a : Vec Ideal S1x512x256 .bf16) (r : Fin 512) (d : Fin 1024) :
    k0_pay90 (k0_pay11 wd) o a (ix3 0 r d) = o (ix3 0 r d) + ∑ k : Fin 256, a (ix3 0 r k) * wd (ix3 0 k d) :=
  Cert.Kernel2Ideal.Pay.acc_apply wd o a r d

/-- The gated residual. -/
theorem finish_apply (x : Vec Ideal S1x2048x1024 .f32) (g : Vec Ideal S1x1x1x1024 .f32) (o : Vec Ideal S1x2048x1024 .f32) (R : Fin 2048) (d : Fin 1024) :
    k0_pay3 (k0_pay255 x) (k0_pay256 g) (k0_pay257 o) (ix3 0 R d) = x (ix3 0 R d) + g (ix4 0 0 0 d) * o (ix3 0 R d) := by
  pointwise [k0_pay3, k0_pay255, k0_pay256, k0_pay257]

/-- The activations of 64 rows between. -/
theorem mid_apply (z : Vec Ideal S80x256 .f32) (w0 w1 w2 : Vec Ideal S1x1x256 .f32) (b : Vec Ideal S1x256 .f32) (v : Vec Ideal S64x256 .f32) (r : Fin 64) (c : Fin 256) :
    k0_pay19 z (k0_pay16 z) (k0_pay17 z) (k0_pay18 w0) w1 w2 b v (ix3 0 r c)
      = Cert.Kernel2Ideal.Pay.gated (z (ix2 ⟨r + 7, by omega⟩ c)) (z (ix2 ⟨r + 8, by omega⟩ c)) (z (ix2 ⟨r + 9, by omega⟩ c)) (w0 (ix3 0 0 c)) (w1 (ix3 0 0 c)) (w2 (ix3 0 0 c)) (b (ix2 0 c)) (v (ix2 r c)) :=
  Cert.Kernel2Ideal.Pay.mid_apply z w0 w1 w2 b v r c

/-- The activations of the first 64 rows. -/
theorem first_apply (z : Vec Ideal S72x256 .f32) (w0 w1 w2 : Vec Ideal S1x1x256 .f32) (b : Vec Ideal S1x256 .f32) (v : Vec Ideal S64x256 .f32) (r : Fin 64) (c : Fin 256) :
    k0_pay15 z (k0_pay13 z) (k0_pay14 z w0) w1 w2 b v (ix3 0 r c)
      = Cert.Kernel2Ideal.Pay.gated (if r.1 = 0 then 0 else z (ix2 ⟨r - 1, by omega⟩ c)) (z (ix2 ⟨r, by omega⟩ c)) (z (ix2 ⟨r + 1, by omega⟩ c)) (w0 (ix3 0 0 c)) (w1 (ix3 0 0 c)) (w2 (ix3 0 0 c)) (b (ix2 0 c)) (v (ix2 r c)) :=
  Cert.Kernel2Ideal.Pay.first_apply z w0 w1 w2 b v r c

/-- The activations of the last 64 rows. -/
theorem last_apply (z : Vec Ideal S72x256 .f32) (w0 w1 w2 : Vec Ideal S1x1x256 .f32) (b : Vec Ideal S1x256 .f32) (v : Vec Ideal S64x256 .f32) (r : Fin 64) (c : Fin 256) :
    k0_pay89 (k0_pay86 z) (k0_pay87 z w0) (k0_pay88 z w1) w2 b v (ix3 0 r c)
      = Cert.Kernel2Ideal.Pay.gated (z (ix2 ⟨r + 7, by omega⟩ c)) (z (ix2 ⟨r + 8, by omega⟩ c)) (if h : r.1 = 63 then 0 else z (ix2 ⟨r + 9, by omega⟩ c)) (w0 (ix3 0 0 c)) (w1 (ix3 0 0 c)) (w2 (ix3 0 0 c)) (b (ix2 0 c)) (v (ix2 r c)) :=
  Cert.Kernel2Ideal.Pay.last_apply z w0 w1 w2 b v r c

end Cert.Kernel3Ideal.Pay

end
-- ==== Proof.FfnAAct.lean ====
/- The activations of one step of the first layer's feed-forward call, row by row, and the accumulator they are added to, over the
   extended reals. -/
module

public import proofs.«01_k».proof.Proof.FfnAShape
public import proofs.«01_k».proof.Proof.FfnAPay

@[expose] public section

set_option maxRecDepth 16384

noncomputable section

namespace Cert.Kernel3Ideal.Act

open Cert.Kernel3Ideal Cert.Kernel3Ideal.Gen Idealize.ShloMosaic Idealize.ShloMosaic.TcCoe Idealize.SL.Sem

/-- A rectangle's placement of an index, by coordinates. -/
theorem place {S : Shape} {off size : Fin S.rank → ℕ} {inb} (x : (Rect.unit (s := S) off size inb).shape.Idx) (y : S.Idx)
    (h : ∀ a, (y a : ℕ) = off a + x a) : (Rect.unit (s := S) off size inb).idx x = y :=
  funext fun a => Fin.ext (by rw [h a]; show off a + 1 * (x a : ℕ) = _; omega)

/-- A box of a slot read: what the stores leave there. -/
theorem ld_apply (arg12 : Memref sig .tc .vmem S2x2048x512 .f32) (L : List (View.Piece (Elt Ideal) S2x2048x512 .f32)) (p : Fin 2) (off sz : Fin 2 → ℕ)
    (inb : ∀ a, off a + sz a ≤ S2048x512.size a) (y : (⟨2, sz⟩ : Shape).Idx) (R : Fin 2048) (C : Fin 512)
    (hR : R.1 = off 0 + (y 0).1) (hC : C.1 = off 1 + (y 1).1) :
    ld arg12 L p off sz inb y = View.canon L (ix3 p R C) := by
  unfold ld LoadRect.valAlong
  rw [View.readCov_eq_canon']
  refine congrArg (View.canon L) ?_
  have hx : Shape.reshapeEquiv (LoadRect.numel_consLift (Rect.unit (s := S2048x512) off sz inb).toLoadRect ![1, 2048, 512] rfl (by decide)) y = Fin.cons ⟨0, Nat.one_pos⟩ y :=
    Shape.reshapeEquiv_cons_one (d := sz) _ _
  rw [hx]
  funext a
  apply Fin.ext
  fin_cases a
  · show (p.1 + 0) + 1 * 0 = p.1; omega
  · show (0 + off 0) + 1 * (y 0).1 = R.1; omega
  · show (0 + off 1) + 1 * (y 1).1 = C.1; omega

/-- The activation of row `R`, lane `c`: the gate's three neighbouring rows convolved, gated by its own logistic, times the value. -/
def act (u : Vec Ideal S1x2048x512 .f32) (w : Vec Ideal S1x3x256 .f32) (b : Vec Ideal S2x256 .f32) (R : Fin 2048) (c : Fin 256) : EReal :=
  Kernel2Ideal.Pay.gated (if 0 < R.1 then u (ix3 0 ⟨R - 1, by omega⟩ ⟨c, by omega⟩) else 0) (u (ix3 0 R ⟨c, by omega⟩))
    (if h : R.1 < 2047 then u (ix3 0 ⟨R + 1, by omega⟩ ⟨c, by omega⟩) else 0)
    (w (ix3 0 0 c)) (w (ix3 0 1 c)) (w (ix3 0 2 c)) (b (ix2 0 c)) (u (ix3 0 R ⟨256 + c, by omega⟩))

section
variable (arg7 : Memref sig .tc .vmem S1x3x256 .f32) (harg7 : arg7.IsWhole) (arg8 : Memref sig .tc .vmem S2x256 .f32) (harg8 : arg8.IsWhole)
  (arg12 : Memref sig .tc .vmem S2x2048x512 .f32) (x7 : Vec Ideal S1x3x256 .f32) (x8 : Vec Ideal S2x256 .f32)

theorem tap_apply (k : Fin 3) (c : Fin 256) : tap arg7 harg7 x7 k (ix3 0 0 c) = x7 (ix3 0 k c) := by
  unfold tap
  rw [harg7.readAt_unread]
  exact congrArg x7 (place _ _ fun a => by fin_cases a <;> simp)

theorem bias_apply (c : Fin 256) : bias arg8 harg8 x8 (ix2 0 c) = x8 (ix2 0 c) := by
  unfold bias
  rw [harg8.readAt_unread]
  exact congrArg x8 (place _ _ fun a => by fin_cases a <;> simp)

variable (u : Vec Ideal S1x2048x512 .f32) (p : Fin 2)

theorem first_apply (L : List (View.Piece (Elt Ideal) S2x2048x512 .f32)) (hL : ∀ R C, View.canon L (ix3 p R C) = u (ix3 0 R C)) (r : Fin 64) (c : Fin 256) :
    actFirst arg7 harg7 arg8 harg8 arg12 x7 x8 L p (ix3 0 r c) = act u x7 x8 ⟨r, by omega⟩ c := by
  unfold actFirst
  refine (Pay.first_apply _ _ _ _ _ _ r c).trans ?_
  have hg : ∀ j : Fin 72, ld arg12 L p ![0, 0] S72x256.size (by decide) (ix2 j c) = u (ix3 0 ⟨j, by omega⟩ ⟨c, by omega⟩) := fun j =>
    (ld_apply arg12 L p _ _ _ (ix2 j c) ⟨j, by omega⟩ ⟨c, by omega⟩ (Nat.zero_add _).symm (Nat.zero_add _).symm).trans (hL _ _)
  have hv : ld arg12 L p ![0, 256] S64x256.size (by decide) (ix2 r c) = u (ix3 0 ⟨r, by omega⟩ ⟨256 + c, by omega⟩) :=
    (ld_apply arg12 L p _ _ _ (ix2 r c) ⟨r, by omega⟩ ⟨256 + c, by omega⟩ (Nat.zero_add _).symm rfl).trans (hL _ _)
  rw [hg, hg, hg, hv, tap_apply, tap_apply, tap_apply, bias_apply]
  unfold act
  congr 1
  · by_cases h : r.1 = 0
    · rw [if_pos h, if_neg (by simp [h])]
    · rw [if_neg h, if_pos (by show 0 < r.1; omega)]
  · rw [dif_pos (by show r.1 < 2047; omega)]

theorem mid_apply (L : List (View.Piece (Elt Ideal) S2x2048x512 .f32)) (hL : ∀ R C, View.canon L (ix3 p R C) = u (ix3 0 R C)) (n : ℕ) (h0 : 0 < n) (hn : n < 31)
    (r : Fin 64) (c : Fin 256) :
    actMid arg7 harg7 arg8 harg8 arg12 x7 x8 L p n (ix3 0 r c) = act u x7 x8 ⟨64 * n + r, by omega⟩ c := by
  unfold actMid
  refine (Pay.mid_apply _ _ _ _ _ _ r c).trans ?_
  have hg : ∀ j : Fin 80, ld arg12 L p ![(64 * n - 8) % 1969, 0] S80x256.size (inb80 n) (ix2 j c) = u (ix3 0 ⟨64 * n - 8 + j, by omega⟩ ⟨c, by omega⟩) := fun j =>
    (ld_apply arg12 L p _ _ _ (ix2 j c) ⟨64 * n - 8 + j, by omega⟩ ⟨c, by omega⟩
      (show 64 * n - 8 + j.1 = (64 * n - 8) % 1969 + j.1 by omega) (Nat.zero_add _).symm).trans (hL _ _)
  have hv : ld arg12 L p ![(64 * n) % 1985, 256] S64x256.size (inb64 n) (ix2 r c) = u (ix3 0 ⟨64 * n + r, by omega⟩ ⟨256 + c, by omega⟩) :=
    (ld_apply arg12 L p _ _ _ (ix2 r c) ⟨64 * n + r, by omega⟩ ⟨256 + c, by omega⟩
      (show 64 * n + r.1 = (64 * n) % 1985 + r.1 by omega) rfl).trans (hL _ _)
  rw [hg, hg, hg, hv, tap_apply, tap_apply, tap_apply, bias_apply]
  unfold act
  rw [if_pos (by show 0 < 64 * n + r.1; omega), dif_pos (by show 64 * n + r.1 < 2047; omega)]
  have e1 : 64 * n - 8 + (r.1 + 7) = 64 * n + r.1 - 1 := by omega
  have e2 : 64 * n - 8 + (r.1 + 8) = 64 * n + r.1 := by omega
  have e3 : 64 * n - 8 + (r.1 + 9) = 64 * n + r.1 + 1 := by omega
  simp only [e1, e2, e3]

theorem last_apply (L : List (View.Piece (Elt Ideal) S2x2048x512 .f32)) (hL : ∀ R C, View.canon L (ix3 p R C) = u (ix3 0 R C)) (r : Fin 64) (c : Fin 256) :
    actLast arg7 harg7 arg8 harg8 arg12 x7 x8 L p (ix3 0 r c) = act u x7 x8 ⟨1984 + r, by omega⟩ c := by
  unfold actLast
  refine (Pay.last_apply _ _ _ _ _ _ r c).trans ?_
  have hg : ∀ j : Fin 72, ld arg12 L p ![1976, 0] S72x256.size (by decide) (ix2 j c) = u (ix3 0 ⟨1976 + j, by omega⟩ ⟨c, by omega⟩) := fun j =>
    (ld_apply arg12 L p _ _ _ (ix2 j c) ⟨1976 + j, by omega⟩ ⟨c, by omega⟩ rfl (Nat.zero_add _).symm).trans (hL _ _)
  have hv : ld arg12 L p ![1984, 256] S64x256.size (by decide) (ix2 r c) = u (ix3 0 ⟨1984 + r, by omega⟩ ⟨256 + c, by omega⟩) :=
    (ld_apply arg12 L p _ _ _ (ix2 r c) ⟨1984 + r, by omega⟩ ⟨256 + c, by omega⟩ rfl rfl).trans (hL _ _)
  simp only [hg]
  rw [hv, tap_apply, tap_apply, tap_apply, bias_apply]
  unfold act
  rw [if_pos (by show 0 < 1984 + r.1; omega)]
  have e1 : 1976 + (r.1 + 7) = 1984 + r.1 - 1 := by omega
  have e2 : 1976 + (r.1 + 8) = 1984 + r.1 := by omega
  have e3 : 1976 + (r.1 + 9) = 1984 + r.1 + 1 := by omega
  simp only [e1, e2, e3]
  congr 1
  by_cases h : r.1 = 63
  · rw [dif_pos h, dif_neg (by omega)]
  · rw [dif_neg h, dif_pos (by omega)]

variable (H : ℕ → List (View.Piece (Elt Ideal) S2x2048x512 .f32)) (hH : ∀ n R C, View.canon (H n) (ix3 p R C) = u (ix3 0 R C))
include hH

theorem at_apply (n : ℕ) (hn : n < 32) (r : Fin 64) (c : Fin 256) :
    actAt arg7 harg7 arg8 harg8 arg12 x7 x8 H p n (ix3 0 r c) = act u x7 x8 ⟨64 * n + r, by omega⟩ c := by
  unfold actAt
  by_cases h0 : n = 0
  · subst h0
    rw [if_pos rfl]
    refine (first_apply arg7 harg7 arg8 harg8 arg12 x7 x8 u p _ (hH 1) r c).trans ?_
    congr 1; exact Fin.ext (by show r.1 = 64 * 0 + r.1; omega)
  · rw [if_neg h0]
    by_cases h1 : n = 31
    · subst h1
      rw [if_pos rfl]
      exact last_apply arg7 harg7 arg8 harg8 arg12 x7 x8 u p _ (hH 4) r c
    · rw [if_neg h1]
      exact mid_apply arg7 harg7 arg8 harg8 arg12 x7 x8 u p _ (hH _) n (by omega) (by omega) r c

/-- The stored activations, read back. -/
theorem acts_canon (k : Fin 4) (r : Fin 512) (c : Fin 256) :
    ∀ N ≤ 32, 512 * k.1 + r.1 < 64 * N → View.canon (acts arg7 harg7 arg8 harg8 arg12 x7 x8 H p N) (ix3 k r c) = act u x7 x8 ⟨512 * k + r, by omega⟩ c
  | 0, _, h => by omega
  | N + 1, hN, h => by
    unfold acts
    by_cases hr : 512 * k.1 + r.1 < 64 * N
    · refine Eq.trans ?_ (acts_canon k r c N (by omega) hr)
      by_cases hk : k.1 = N / 8
      · exact canon_miss _ _ _ 1 (64 * (N % 8)) 64 rfl rfl rfl (.inl (by show r.1 < 64 * (N % 8); omega))
      · exact canon_miss _ _ _ 0 (N / 8 % 4) 1 rfl rfl rfl (.inl (by show k.1 < N / 8 % 4; omega))
    · refine (canon_hit _ _ _ (ix3 0 ⟨512 * k.1 + r.1 - 64 * N, by omega⟩ c) _ fun a => by
        fin_cases a
        · show k.1 = N / 8 % 4 + 1 * 0; omega
        · show r.1 = 64 * (N % 8) + 1 * (512 * k.1 + r.1 - 64 * N); omega
        · show c.1 = 0 + 1 * c.1; omega).trans ?_
      refine (at_apply arg7 harg7 arg8 harg8 arg12 x7 x8 u p H hH N (by omega) _ c).trans ?_
      congr 1; exact Fin.ext (by show 64 * N + (512 * k.1 + r.1 - 64 * N) = 512 * k.1 + r.1; omega)

/-- The accumulator's row block `k` after one step. -/
theorem accAt_apply (arg9 : Memref sig .tc .vmem S1x256x1024 .f32) (harg9 : arg9.IsWhole) (arg10 : Memref sig .tc .vmem S1x2048x1024 .f32) (harg10 : arg10.IsWhole)
    (arg13 : Memref sig .tc .vmem S4x512x256 .bf16) (x9 : Vec Ideal S1x256x1024 .f32) (x10 : Vec Ideal S1x2048x1024 .f32) (k : Fin 4) (N : ℕ) (hN : N ≤ 32) (hk : 8 * k.1 + 8 ≤ N)
    (r : Fin 512) (d : Fin 1024) :
    accAt arg9 harg9 arg10 harg10 arg13 x9 x10 (acts arg7 harg7 arg8 harg8 arg12 x7 x8 H p N) k (ix3 0 r d)
      = x10 (ix3 0 ⟨512 * k + r, by omega⟩ d) + ∑ c : Fin 256, act u x7 x8 ⟨512 * k + r, by omega⟩ c * x9 (ix3 0 c d) := by
  unfold accAt
  refine (Pay.acc_apply _ _ _ r d).trans ?_
  congr 1
  · rw [harg10.readAt_unread]
    exact congrArg x10 (place _ _ fun a => by fin_cases a <;> simp)
  · refine Finset.sum_congr rfl fun c _ => ?_
    rw [View.readCov_eq_canon', harg9.readAt_unread, ← acts_canon arg7 harg7 arg8 harg8 arg12 x7 x8 u p H hH k r c N hN (by omega)]
    congr 1
    · exact congrArg (View.canon _) (place _ _ fun a => by fin_cases a <;> simp)
    · exact congrArg x9 (place _ _ fun a => by fin_cases a <;> simp)

end

/-- The accumulator's four row blocks, read back. -/
theorem accs_canon (a : Fin 4 → Vec Ideal S1x512x1024 .f32) (v : Fin 2048 → Fin 1024 → EReal)
    (h : ∀ k r d, a k (ix3 0 r d) = v ⟨512 * k + r, by omega⟩ d) (R : Fin 2048) (d : Fin 1024) : View.canon (accs a) (ix3 0 R d) = v R d := by
  have key : ∀ (k : Fin 4) (hk : 512 * k.1 ≤ R.1 ∧ R.1 < 512 * k.1 + 512) (inb) (L : List (View.Piece (Elt Ideal) S1x2048x1024 .f32)),
      View.canon (⟨Rect.unit (s := S1x2048x1024) ![0, 512 * k.1, 0] S1x512x1024.size inb, a k⟩ :: L) (ix3 0 R d) = v R d := fun k hk inb L => by
    refine (canon_hit _ _ _ (ix3 0 ⟨R.1 - 512 * k.1, by omega⟩ d) _ fun a => by
      fin_cases a
      · rfl
      · show R.1 = 512 * k.1 + 1 * (R.1 - 512 * k.1); omega
      · show d.1 = 0 + 1 * d.1; omega).trans ?_
    rw [h]
    congr 1; exact Fin.ext (by show 512 * k.1 + (R.1 - 512 * k.1) = R.1; omega)
  unfold accs
  by_cases h3 : 1536 ≤ R.1
  · exact key 3 ⟨h3, by show R.1 < 512 * 3 + 512; omega⟩ _ _
  rw [canon_miss _ _ _ 1 1536 512 rfl rfl rfl (.inl (by show R.1 < 1536; omega))]
  by_cases h2 : 1024 ≤ R.1
  · exact key 2 ⟨h2, by show R.1 < 512 * 2 + 512; omega⟩ _ _
  rw [canon_miss _ _ _ 1 1024 512 rfl rfl rfl (.inl (by show R.1 < 1024; omega))]
  by_cases h1 : 512 ≤ R.1
  · exact key 1 ⟨h1, by show R.1 < 512 * 1 + 512; omega⟩ _ _
  rw [canon_miss _ _ _ 1 512 512 rfl rfl rfl (.inl (by show R.1 < 512; omega))]
  exact key 0 ⟨Nat.zero_le _, by show R.1 < 512 * 0 + 512; omega⟩ _ _

/-- The slot being read, while the other one is stored. -/
theorem hist_canon (q p : Fin 2) (hqp : p ≠ q) (w : Fin 4 → Vec Ideal S512x512 .f32) (L : List (View.Piece (Elt Ideal) S2x2048x512 .f32)) (R : Fin 2048) (C : Fin 512) :
    ∀ n, View.canon (hist q w L n) (ix3 p R C) = View.canon L (ix3 p R C)
  | 0 => rfl
  | n + 1 => by unfold hist; exact (rows_other q _ _ _ p C R hqp).trans (hist_canon q p hqp w L R C n)

theorem slotA_canon (u : Vec Ideal S1x2048x512 .f32) (R : Fin 2048) (C : Fin 512) :
    View.canon ([⟨slotA, u⟩] : List (View.Piece (Elt Ideal) S2x2048x512 .f32)) (ix3 0 R C) = u (ix3 0 R C) :=
  canon_hit slotA u _ (ix3 0 R C) _ fun a => by
    fin_cases a
    · rfl
    · show R.1 = 0 + 1 * R.1; omega
    · show C.1 = 0 + 1 * C.1; omega

theorem slotB_canon (u : Vec Ideal S1x2048x512 .f32) (R : Fin 2048) (C : Fin 512) :
    View.canon ([⟨slotB, u⟩] : List (View.Piece (Elt Ideal) S2x2048x512 .f32)) (ix3 1 R C) = u (ix3 0 R C) :=
  canon_hit slotB u _ (ix3 0 R C) _ fun a => by
    fin_cases a
    · rfl
    · show R.1 = 0 + 1 * R.1; omega
    · show C.1 = 0 + 1 * C.1; omega

end Cert.Kernel3Ideal.Act

end
-- ==== Proof.FfnAStep.lean ====
/- What one grid step of the first layer's feed-forward call leaves, element by element, over the extended reals. -/
module

public import proofs.«01_k».proof.Proof.FfnAState
public import proofs.«01_k».proof.Proof.FfnAAct
public import Idealize.ShloMosaic.Lib.IdealHost

@[expose] public section

set_option maxRecDepth 16384

noncomputable section

namespace Cert.Kernel3Ideal.Step

open Cert.Kernel3Ideal Cert.Kernel3Ideal.Gen Cert.Kernel3Ideal.Act Idealize.ShloMosaic Idealize.ShloMosaic.TcCoe Idealize.SL.Sem

/-- A box of a whole buffer read. -/
theorem rd {S : Shape} {e : EltTy} (M : Memref sig .tc .vmem S e) (hM : M.IsWhole) (X : Vec Ideal S e) {off size : Fin S.rank → ℕ} {inb}
    (x : (Rect.unit (s := S) off size inb).shape.Idx) (y : S.Idx) (h : ∀ a, (y a : ℕ) = off a + x a) :
    View.readAt (Elt Ideal) M.view (Rect.unit (s := S) off size inb).toLoadRect (hM.unread X) x = X y :=
  (hM.readAt_unread _ _ _).trans (congrArg X (place x y h))

/-- A box of a buffer read after stores. -/
theorem rc {S : Shape} {e : EltTy} (M : Memref sig .tc .vmem S e) (L : List (View.Piece (Elt Ideal) S e)) {off size : Fin S.rank → ℕ} {inb}
    (x : (Rect.unit (s := S) off size inb).shape.Idx) (y : S.Idx) (h : ∀ a, (y a : ℕ) = off a + x a) :
    M.view.readCov L (Rect.unit (s := S) off size inb).toLoadRect x = View.canon L y :=
  (congrFun (View.readCov_eq_canon' _ _ _) x).trans (congrArg (View.canon L) (place x y h))

/-- A row block's projections, of the rows held. -/
theorem proj_val (arg5 : Memref sig .tc .vmem S1x1024x256 .f32) (harg5 : arg5.IsWhole) (arg6 : Memref sig .tc .vmem S1x1024x256 .f32) (harg6 : arg6.IsWhole)
    (arg11 : Memref sig .tc .vmem S2048x1024 .bf16) (harg11 : arg11.IsWhole) (x5 x6 : Vec Ideal S1x1024x256 .f32) (x11 : Vec Ideal S2048x1024 .bf16) (k : Fin 4) (r C : Fin 512) :
    proj arg5 harg5 arg6 harg6 arg11 harg11 x5 x6 x11 k (ix2 r C)
      = ∑ j : Fin 1024, x11 (ix2 ⟨512 * k + r, by omega⟩ j) * (if hc : C.1 < 256 then x5 (ix3 0 j ⟨C, hc⟩) else x6 (ix3 0 j ⟨C - 256, by omega⟩)) := by
  unfold proj
  refine (Pay.proj_apply _ _ _ r C).trans (Finset.sum_congr rfl fun j _ => ?_)
  refine congr (congrArg HMul.hMul (rd arg11 harg11 x11 _ _ fun a => by fin_cases a <;> simp)) ?_
  by_cases hc : C.1 < 256
  · rw [dif_pos hc, dif_pos hc]; exact rd arg5 harg5 x5 _ _ fun a => by fin_cases a <;> simp
  · rw [dif_neg hc, dif_neg hc]; exact rd arg6 harg6 x6 _ _ fun a => by fin_cases a <;> simp

/-- The same at the first step, the rows just stored. -/
theorem proj0_val (arg5 : Memref sig .tc .vmem S1x1024x256 .f32) (harg5 : arg5.IsWhole) (arg6 : Memref sig .tc .vmem S1x1024x256 .f32) (harg6 : arg6.IsWhole)
    (arg11 : Memref sig .tc .vmem S2048x1024 .bf16) (x5 x6 : Vec Ideal S1x1024x256 .f32) (H : List (View.Piece (Elt Ideal) S2048x1024 .bf16))
    (v : Fin 2048 → Fin 1024 → EReal) (hv : ∀ R j, View.canon H (ix2 R j) = v R j) (k : Fin 4) (r C : Fin 512) :
    proj0 arg5 harg5 arg6 harg6 arg11 x5 x6 H k (ix2 r C)
      = ∑ j : Fin 1024, v ⟨512 * k + r, by omega⟩ j * (if hc : C.1 < 256 then x5 (ix3 0 j ⟨C, hc⟩) else x6 (ix3 0 j ⟨C - 256, by omega⟩)) := by
  unfold proj0
  refine (Pay.proj_apply _ _ _ r C).trans (Finset.sum_congr rfl fun j _ => ?_)
  refine congr (congrArg HMul.hMul ((rc arg11 H _ (ix2 ⟨512 * k + r, by omega⟩ j) fun a => by fin_cases a <;> simp).trans (hv _ j))) ?_
  by_cases hc : C.1 < 256
  · rw [dif_pos hc, dif_pos hc]; exact rd arg5 harg5 x5 _ _ fun a => by fin_cases a <;> simp
  · rw [dif_neg hc, dif_neg hc]; exact rd arg6 harg6 x6 _ _ fun a => by fin_cases a <;> simp

/-- A slot's projections after its four row blocks are stored. -/
theorem news_val (p : Fin 2) (w : Fin 4 → Vec Ideal S512x512 .f32) (L : List (View.Piece (Elt Ideal) S2x2048x512 .f32)) (v : Fin 2048 → Fin 512 → EReal)
    (h : ∀ k r C, w k (ix2 r C) = v ⟨512 * k + r, by omega⟩ C) (R : Fin 2048) (C : Fin 512) : View.canon (news p w L) (ix3 p R C) = v R C := by
  have e : R.1 = 512 * (⟨R.1 / 512, by omega⟩ : Fin 4).1 + (⟨R.1 % 512, by omega⟩ : Fin 512).1 := by show R.1 = 512 * (R.1 / 512) + R.1 % 512; omega
  rw [canon_news p w L ⟨R.1 / 512, by omega⟩ ⟨R.1 % 512, by omega⟩ C R e, h]
  congr 1; exact Fin.ext e.symm

/-- A whole store, read back. -/
theorem whole_canon {S : Shape} {e : EltTy} (off : Fin S.rank → ℕ) (inb) (h : ∀ a, off a = 0) (w : Vec Ideal S e) (L : List (View.Piece (Elt Ideal) S e)) (y : S.Idx) :
    View.canon (⟨Rect.unit (s := S) off S.size inb, w⟩ :: L) y = w y :=
  canon_hit (Rect.unit (s := S) off S.size inb) w L y y fun a => by show (y a).val = off a + 1 * (y a).val; rw [h a]; omega

/-- The modulated rows, of the blocks. -/
theorem entry_val (arg2 : Memref sig .tc .vmem S1x2048x1024 .f32) (harg2 : arg2.IsWhole) (arg3 : Memref sig .tc .vmem S1x1x6x1024 .f32) (harg3 : arg3.IsWhole)
    (arg4 : Memref sig .tc .vmem S2x1024 .f32) (harg4 : arg4.IsWhole) (x2 : Vec Ideal S1x2048x1024 .f32) (x3 : Vec Ideal S1x1x6x1024 .f32) (x4 : Vec Ideal S2x1024 .f32)
    (R : Fin 2048) (k : Fin 1024) :
    entry arg2 harg2 arg3 harg3 arg4 harg4 x2 x3 x4 (ix2 R k)
      = x2 (ix3 0 R k) * Kernel2Ideal.Pay.rms (fun j => x2 (ix3 0 R j)) * x4 (ix2 0 k) * (1 + x3 (ix4 0 0 4 k)) + x3 (ix4 0 0 3 k) := by
  unfold entry
  refine (Pay.entry_apply _ _ _ _ R k).trans ?_
  have e2 : ∀ j : Fin 1024, View.readAt (Elt Ideal) arg2.view (Rect.unit (s := S1x2048x1024) ![0, 0, 0] S1x2048x1024.size (by decide)).toLoadRect (harg2.unread x2) (ix3 0 R j) = x2 (ix3 0 R j) :=
    fun j => rd arg2 harg2 x2 _ _ fun a => by fin_cases a <;> simp
  refine congr (congrArg HAdd.hAdd (congr (congrArg HMul.hMul (congr (congrArg HMul.hMul (congr (congrArg HMul.hMul (e2 k))
    (congrArg Kernel2Ideal.Pay.rms (funext e2)))) (rd arg4 harg4 x4 _ _ ?_))) (congr (congrArg HAdd.hAdd Ideal.ofBits_one_f32) (rd arg3 harg3 x3 _ _ ?_)))) (rd arg3 harg3 x3 _ _ ?_)
  all_goals intro a; fin_cases a <;> simp

/-- The gated residual, of the blocks and the accumulator. -/
theorem finish_val (arg2 : Memref sig .tc .vmem S1x2048x1024 .f32) (harg2 : arg2.IsWhole) (arg3 : Memref sig .tc .vmem S1x1x6x1024 .f32) (harg3 : arg3.IsWhole)
    (arg10 : Memref sig .tc .vmem S1x2048x1024 .f32)
    (x2 : Vec Ideal S1x2048x1024 .f32) (x3 : Vec Ideal S1x1x6x1024 .f32) (O : List (View.Piece (Elt Ideal) S1x2048x1024 .f32))
    (v : Fin 2048 → Fin 1024 → EReal) (hv : ∀ R d, View.canon O (ix3 0 R d) = v R d) (R : Fin 2048) (d : Fin 1024) :
    finish arg2 harg2 arg3 harg3 arg10 x2 x3 O (ix3 0 R d)
      = x2 (ix3 0 R d) + x3 (ix4 0 0 5 d) * v R d := by
  unfold finish
  refine (Pay.finish_apply _ _ _ R d).trans ?_
  have e2 : ∀ j : Fin 1024, View.readAt (Elt Ideal) arg2.view (Rect.unit (s := S1x2048x1024) ![0, 0, 0] S1x2048x1024.size (by decide)).toLoadRect (harg2.unread x2) (ix3 0 R j) = x2 (ix3 0 R j) :=
    fun j => rd arg2 harg2 x2 _ _ fun a => by fin_cases a <;> simp
  have e3 : ∀ j : Fin 1024, View.readAt (Elt Ideal) arg3.view (Rect.unit (s := S1x1x6x1024) ![0, 0, 5, 0] S1x1x1x1024.size (by decide)).toLoadRect (harg3.unread x3) (ix4 0 0 0 j) = x3 (ix4 0 0 5 j) :=
    fun j => rd arg3 harg3 x3 _ _ fun a => by fin_cases a <;> simp
  have eo : ∀ j : Fin 1024, arg10.view.readCov O (Rect.unit (s := S1x2048x1024) ![0, 0, 0] S1x2048x1024.size (by decide)).toLoadRect (ix3 0 R j) = v R j :=
    fun j => (rc arg10 O _ (ix3 0 R j) fun a => by fin_cases a <;> simp).trans (hv R j)
  exact congr (congrArg HAdd.hAdd (e2 d)) (congr (congrArg HMul.hMul (e3 d)) (eo d))

variable (m : (ℓ : Loc nD τ sig) → Buf (Elt Ideal) ℓ)

/-- The blocks a grid step reads. -/
abbrev X0 (c : Dev nD) (t : Fin cfg0.N) : Vec Ideal S1x2048x1024 .f32 := iblk m c 0 t
abbrev X1 (c : Dev nD) (t : Fin cfg0.N) : Vec Ideal S1x1x6x1024 .f32 := iblk m c 1 t
abbrev X2 (c : Dev nD) (t : Fin cfg0.N) : Vec Ideal S2x1024 .f32 := iblk m c 2 t
abbrev X3 (c : Dev nD) (t : Fin cfg0.N) : Vec Ideal S1x1024x256 .f32 := iblk m c 3 t
abbrev X4 (c : Dev nD) (t : Fin cfg0.N) : Vec Ideal S1x1024x256 .f32 := iblk m c 4 t
abbrev X5 (c : Dev nD) (t : Fin cfg0.N) : Vec Ideal S1x3x256 .f32 := iblk m c 5 t
abbrev X6 (c : Dev nD) (t : Fin cfg0.N) : Vec Ideal S2x256 .f32 := iblk m c 6 t
abbrev X7 (c : Dev nD) (t : Fin cfg0.N) : Vec Ideal S1x256x1024 .f32 := iblk m c 7 t

/-- The accumulator with one chunk's product added. -/
def added (c : Dev nD) (t : Fin cfg0.N) (s : St Ideal) (R : Fin 2048) (d : Fin 1024) : EReal :=
  s.o (ix3 0 R d) + ∑ k : Fin 256, act s.u (X5 m c t) (X6 m c t) R k * X7 m c t (ix3 0 k d)

/-- The projections of the rows held, on the chunk's columns: the gate's, then the value's. -/
def projected (c : Dev nD) (t : Fin cfg0.N) (h : Fin 2048 → Fin 1024 → EReal) (R : Fin 2048) (C : Fin 512) : EReal :=
  ∑ j : Fin 1024, h R j * (if hc : C.1 < 256 then X3 m c t (ix3 0 j ⟨C, hc⟩) else X4 m c t (ix3 0 j ⟨C - 256, by omega⟩))

theorem stO_o (c : Dev nD) (t : Fin cfg0.N) (h : t.val % 2 = 1 ∧ t.val % 12 ≠ 11) (s : St Ideal) (R : Fin 2048) (d : Fin 1024) :
    (stO m c t h s).o (ix3 0 R d) = added m c t s R d := by
  unfold stO atO
  dsimp only
  rw [outO c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) (hn1 t (by omega)) ((hcond2 t).2 h) (hn3 t (by omega)) (hn4 t (by omega)) (iblk m c 0 t) (iblk m c 1 t) (iblk m c 2 t) (iblk m c 3 t) (iblk m c 4 t) (iblk m c 5 t) (iblk m c 6 t) (iblk m c 7 t) s.o s.h s.u]
  exact accs_canon _ (added m c t s) (fun k r d => accAt_apply _ _ _ _ _ _ _ s.u 0 _
    (fun n R C => (hist_canon 1 0 (by decide) _ _ R C n).trans (slotA_canon s.u R C)) _ _ _ _ _ _ _ k 32 le_rfl (by omega) r d) R d

theorem stO_u (c : Dev nD) (t : Fin cfg0.N) (h : t.val % 2 = 1 ∧ t.val % 12 ≠ 11) (s : St Ideal) (R : Fin 2048) (C : Fin 512) :
    (stO m c t h s).u (ix3 0 R C) = projected m c t (fun R j => s.h (ix2 R j)) R C := by
  unfold stO atO
  dsimp only
  rw [slotO c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) (hn1 t (by omega)) ((hcond2 t).2 h) (hn3 t (by omega)) (hn4 t (by omega)) (iblk m c 0 t) (iblk m c 1 t) (iblk m c 2 t) (iblk m c 3 t) (iblk m c 4 t) (iblk m c 5 t) (iblk m c 6 t) (iblk m c 7 t) s.o s.h s.u]
  refine (congrArg (View.canon _) (slot_emb 1 R C)).trans ?_
  exact news_val 1 _ _ (projected m c t fun R j => s.h (ix2 R j)) (fun k r C => proj_val _ _ _ _ _ _ _ _ _ k r C) R C

theorem stO_h (c : Dev nD) (t : Fin cfg0.N) (h : t.val % 2 = 1 ∧ t.val % 12 ≠ 11) (s : St Ideal) : (stO m c t h s).h = s.h := by
  unfold stO; rfl

theorem stE_o (c : Dev nD) (t : Fin cfg0.N) (h : t.val % 2 = 0 ∧ t.val % 12 ≠ 0) (s : St Ideal) (R : Fin 2048) (d : Fin 1024) :
    (stE m c t h s).o (ix3 0 R d) = added m c t s R d := by
  unfold stE atE
  dsimp only
  rw [outE c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) (hn1 t (by omega)) (hn2 t (by omega)) ((hcond3 t).2 h) (hn4 t (by omega)) (iblk m c 0 t) (iblk m c 1 t) (iblk m c 2 t) (iblk m c 3 t) (iblk m c 4 t) (iblk m c 5 t) (iblk m c 6 t) (iblk m c 7 t) s.o s.h s.u]
  exact accs_canon _ (added m c t s) (fun k r d => accAt_apply _ _ _ _ _ _ _ s.u 1 _
    (fun n R C => (hist_canon 0 1 (by decide) _ _ R C n).trans (slotB_canon s.u R C)) _ _ _ _ _ _ _ k 32 le_rfl (by omega) r d) R d

theorem stE_u (c : Dev nD) (t : Fin cfg0.N) (h : t.val % 2 = 0 ∧ t.val % 12 ≠ 0) (s : St Ideal) (R : Fin 2048) (C : Fin 512) :
    (stE m c t h s).u (ix3 0 R C) = projected m c t (fun R j => s.h (ix2 R j)) R C := by
  unfold stE atE
  dsimp only
  rw [slotE c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) (hn1 t (by omega)) (hn2 t (by omega)) ((hcond3 t).2 h) (hn4 t (by omega)) (iblk m c 0 t) (iblk m c 1 t) (iblk m c 2 t) (iblk m c 3 t) (iblk m c 4 t) (iblk m c 5 t) (iblk m c 6 t) (iblk m c 7 t) s.o s.h s.u]
  refine (congrArg (View.canon _) (slot_emb 0 R C)).trans ?_
  exact news_val 0 _ _ (projected m c t fun R j => s.h (ix2 R j)) (fun k r C => proj_val _ _ _ _ _ _ _ _ _ k r C) R C

theorem stE_h (c : Dev nD) (t : Fin cfg0.N) (h : t.val % 2 = 0 ∧ t.val % 12 ≠ 0) (s : St Ideal) : (stE m c t h s).h = s.h := by
  unfold stE; rfl

theorem stZ_o (c : Dev nD) (t : Fin cfg0.N) (h : t.val % 12 = 0) (R : Fin 2048) (d : Fin 1024) : (stZ m c t h).o (ix3 0 R d) = 0 := by
  unfold stZ atZ
  dsimp only
  rw [outZ c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) ((hcond1 t).2 h) (hn2 t (by omega)) (hn3 t (by omega)) (hn4 t (by omega)) (iblk m c 0 t) (iblk m c 1 t) (iblk m c 2 t) (iblk m c 3 t) (iblk m c 4 t) (iblk m c 5 t) (iblk m c 6 t) (iblk m c 7 t)]
  exact (whole_canon _ _ (by intro a; fin_cases a <;> rfl) _ _ _).trans (Pay.zeros_apply R d)

/-- The rows held through a batch element's steps. -/
def entered (c : Dev nD) (t : Fin cfg0.N) (R : Fin 2048) (k : Fin 1024) : EReal :=
  X0 m c t (ix3 0 R k) * Kernel2Ideal.Pay.rms (fun j => X0 m c t (ix3 0 R j)) * X2 m c t (ix2 0 k) * (1 + X1 m c t (ix4 0 0 4 k)) + X1 m c t (ix4 0 0 3 k)

theorem stZ_h (c : Dev nD) (t : Fin cfg0.N) (h : t.val % 12 = 0) (R : Fin 2048) (k : Fin 1024) : (stZ m c t h).h (ix2 R k) = entered m c t R k := by
  unfold stZ atZ
  dsimp only
  rw [rowsZ c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) ((hcond1 t).2 h) (hn2 t (by omega)) (hn3 t (by omega)) (hn4 t (by omega)) (iblk m c 0 t) (iblk m c 1 t) (iblk m c 2 t) (iblk m c 3 t) (iblk m c 4 t) (iblk m c 5 t) (iblk m c 6 t) (iblk m c 7 t)]
  exact (whole_canon _ _ (by intro a; fin_cases a <;> rfl) _ _ _).trans (entry_val _ _ _ _ _ _ _ _ _ R k)

theorem stZ_u (c : Dev nD) (t : Fin cfg0.N) (h : t.val % 12 = 0) (R : Fin 2048) (C : Fin 512) :
    (stZ m c t h).u (ix3 0 R C) = projected m c t (entered m c t) R C := by
  unfold stZ atZ
  dsimp only
  rw [slotZ c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) ((hcond1 t).2 h) (hn2 t (by omega)) (hn3 t (by omega)) (hn4 t (by omega)) (iblk m c 0 t) (iblk m c 1 t) (iblk m c 2 t) (iblk m c 3 t) (iblk m c 4 t) (iblk m c 5 t) (iblk m c 6 t) (iblk m c 7 t)]
  refine (congrArg (View.canon _) (slot_emb 0 R C)).trans ?_
  exact news_val 0 _ _ (projected m c t (entered m c t)) (fun k r C => proj0_val _ _ _ _ _ _ _ _ (entered m c t)
    (fun R j => (whole_canon _ _ (by intro a; fin_cases a <;> rfl) _ _ _).trans (entry_val _ _ _ _ _ _ _ _ _ R j)) k r C) R C

theorem stL_o (c : Dev nD) (t : Fin cfg0.N) (h : t.val % 12 = 11) (s : St Ideal) (R : Fin 2048) (d : Fin 1024) :
    (stL m c t h s).o (ix3 0 R d)
      = X0 m c t (ix3 0 R d) + X1 m c t (ix4 0 0 5 d) * added m c t s R d := by
  unfold stL atL
  dsimp only
  rw [outL c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) (hn1 t (by omega)) (hn2 t (by omega)) (hn3 t (by omega)) ((hcond4 t).2 h) (iblk m c 0 t) (iblk m c 1 t) (iblk m c 2 t) (iblk m c 3 t) (iblk m c 4 t) (iblk m c 5 t) (iblk m c 6 t) (iblk m c 7 t) s.o s.h s.u]
  refine (whole_canon _ _ (by intro a; fin_cases a <;> rfl) _ _ _).trans ?_
  exact finish_val _ _ _ _ _ _ _ _ (added m c t s) (fun R d =>
    accs_canon _ (added m c t s) (fun k r d => accAt_apply _ _ _ _ _ _ _ s.u 0 _
      (fun n R C => slotA_canon s.u R C) _ _ _ _ _ _ _ k (8 * k.1 + 8) (by omega) le_rfl r d) R d) R d

end Cert.Kernel3Ideal.Step

end
-- ==== Proof.FfnAFrame.lean ====
/- The body of the first layer's feed-forward call at each kind of grid step, and the call's run. -/
module

public import proofs.«01_k».proof.Proof.FfnAState

@[expose] public section

set_option maxRecDepth 16384

noncomputable section

namespace Cert.Kernel3Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d)))

def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t))

set_option maxHeartbeats 800000 in
theorem sound_Z (c : Dev nD) (t : Fin cfg0.N) (h : t.val % 12 = 0) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7]
  rw [show (dats m 0 c).owesAt () t.succ = (dats m 0 c).owesAt () t.castSucc from rfl, after0_0, after0_1, after0_2, after0_3, after0_4, after0_5, after0_6, after0_7, after0_8]
  rw [show (dats m 0 c).Φ t.castSucc = PhiN m c t.val from rfl, show (dats m 0 c).Φ t.succ = PhiN m c (t.val + 1) from rfl,
    PhiN_zero m c t.val h, PhiA0_eq, PhiN_odd m c (t.val + 1) (by omega)]
  rw [Nat.add_sub_cancel]
  rw [st_Z m c t h, stZ]
  unfold PhiC
  have ho := atZ_out m c t h
  have hr := atZ_rows m c t h
  have hs := atZ_slot m c t h
  generalize atZ m c t h = R at ho hr hs ⊢
  dsimp only
  iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (R.2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [HS0]; · iexact HS0
  isplitl [HS1]; · iexact HS1
  isplitl [HS2]; · iexact HS2
  iintro ⟨H0, H1, H2, H3, H4, H5, H6, H7, H8, HS0, HS1, HS2⟩
  isplitl [HS0 HS1 HS2 Hg]
  · isplitl [HS0 HS1 HS2]
    · isplitl [HS0]
      · iapply (own_of_writes c scM0_0 R.2.1 hr); iexact HS0
      isplitl [HS1]
      · iapply (slot_of_writes c scM0_1 (Memref.isWhole_whole _) R.2.2.1 slotA hs); iexact HS1
      iexact HS2
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iapply (own_of_writes c (ms0_8 t) R.1 ho); iexact H8

set_option maxHeartbeats 800000 in
theorem sound_O (c : Dev nD) (t : Fin cfg0.N) (h : t.val % 2 = 1 ∧ t.val % 12 ≠ 11) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7]
  simp only [before0_8 m c t (by omega)]
  rw [show (dats m 0 c).owesAt () t.succ = (dats m 0 c).owesAt () t.castSucc from rfl, after0_0, after0_1, after0_2, after0_3, after0_4, after0_5, after0_6, after0_7, after0_8]
  rw [show (dats m 0 c).Φ t.castSucc = PhiN m c t.val from rfl, show (dats m 0 c).Φ t.succ = PhiN m c (t.val + 1) from rfl,
    PhiN_odd m c t.val h.1, PhiN_even m c (t.val + 1) (by omega)]
  rw [Nat.add_sub_cancel]
  rw [st_O m c t h, stO]
  unfold PhiC
  have ho := atO_out m c t h (st m c (t.val - 1))
  have hs := atO_slot m c t h (st m c (t.val - 1))
  generalize atO m c t h (st m c (t.val - 1)) = R at ho hs ⊢
  dsimp only
  iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (R.2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [HS0]; · iexact HS0
  isplitl [HS1]; · iexact HS1
  isplitl [HS2]; · iexact HS2
  iintro ⟨H0, H1, H2, H3, H4, H5, H6, H7, H8, HS0, HS1, HS2⟩
  isplitl [HS0 HS1 HS2 Hg]
  · isplitl [HS0 HS1 HS2]
    · isplitl [HS0]
      · iexact HS0
      isplitl [HS1]
      · iapply (slot_of_writes c scM0_1 (Memref.isWhole_whole _) R.2.1 slotB hs); iexact HS1
      iapply (any_of_writes c scM0_2 R.2.2.1); iexact HS2
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iapply (own_of_writes c (ms0_8 t) R.1 ho); iexact H8

set_option maxHeartbeats 800000 in
theorem sound_E (c : Dev nD) (t : Fin cfg0.N) (h : t.val % 2 = 0 ∧ t.val % 12 ≠ 0) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7]
  simp only [before0_8 m c t (by omega)]
  rw [show (dats m 0 c).owesAt () t.succ = (dats m 0 c).owesAt () t.castSucc from rfl, after0_0, after0_1, after0_2, after0_3, after0_4, after0_5, after0_6, after0_7, after0_8]
  rw [show (dats m 0 c).Φ t.castSucc = PhiN m c t.val from rfl, show (dats m 0 c).Φ t.succ = PhiN m c (t.val + 1) from rfl,
    PhiN_even m c t.val h, PhiN_odd m c (t.val + 1) (by omega)]
  rw [Nat.add_sub_cancel]
  rw [st_E m c t h, stE]
  unfold PhiC
  have ho := atE_out m c t h (st m c (t.val - 1))
  have hs := atE_slot m c t h (st m c (t.val - 1))
  generalize atE m c t h (st m c (t.val - 1)) = R at ho hs ⊢
  dsimp only
  iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (R.2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [HS0]; · iexact HS0
  isplitl [HS1]; · iexact HS1
  isplitl [HS2]; · iexact HS2
  iintro ⟨H0, H1, H2, H3, H4, H5, H6, H7, H8, HS0, HS1, HS2⟩
  isplitl [HS0 HS1 HS2 Hg]
  · isplitl [HS0 HS1 HS2]
    · isplitl [HS0]
      · iexact HS0
      isplitl [HS1]
      · iapply (slot_of_writes c scM0_1 (Memref.isWhole_whole _) R.2.1 slotA hs); iexact HS1
      iapply (any_of_writes c scM0_2 R.2.2.1); iexact HS2
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iapply (own_of_writes c (ms0_8 t) R.1 ho); iexact H8

set_option maxHeartbeats 800000 in
theorem sound_L (c : Dev nD) (t : Fin cfg0.N) (h : t.val % 12 = 11) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7]
  simp only [before0_8 m c t (by omega)]
  rw [show (dats m 0 c).owesAt () t.succ = (dats m 0 c).owesAt () t.castSucc from rfl, after0_0, after0_1, after0_2, after0_3, after0_4, after0_5, after0_6, after0_7, after0_8]
  rw [show (dats m 0 c).Φ t.castSucc = PhiN m c t.val from rfl, show (dats m 0 c).Φ t.succ = PhiN m c (t.val + 1) from rfl,
    PhiN_odd m c t.val (by omega), PhiN_zero m c (t.val + 1) (by omega), PhiA0_eq]
  rw [st_L m c t h, stL]
  unfold PhiC
  have ho := atL_out m c t h (st m c (t.val - 1))
  generalize atL m c t h (st m c (t.val - 1)) = R at ho ⊢
  dsimp only
  iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (R.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [HS0]; · iexact HS0
  isplitl [HS1]; · iexact HS1
  isplitl [HS2]; · iexact HS2
  iintro ⟨H0, H1, H2, H3, H4, H5, H6, H7, H8, HS0, HS1, HS2⟩
  isplitl [HS0 HS1 HS2 Hg]
  · isplitl [HS0 HS1 HS2]
    · isplitl [HS0]
      · iexists _; iexact HS0
      isplitl [HS1]
      · iapply (any_of_writes c scM0_1 _); iexact HS1
      iapply (any_of_writes c scM0_2 R.2.1); iexact HS2
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iapply (own_of_writes c (ms0_8 t) R.1 ho); iexact H8

/-- The body at any step. -/
theorem sound_body (c : Dev nD) (t : Fin cfg0.N) :
    bodyPre m c t ⊢ wp frame (wpE (defs₀ (F := F)) Variants.none c none) Set.univ (bodyAt0 t) (fun _ => bodyPost m c t) := by
  by_cases h0 : t.val % 12 = 0
  · exact sound_Z m c t h0
  by_cases h11 : t.val % 12 = 11
  · exact sound_L m c t h11
  by_cases h1 : t.val % 2 = 1
  · exact sound_O m c t ⟨h1, h11⟩
  · exact sound_E m c t ⟨by omega, h0⟩

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row, show cfg0.idle 8 (cfg0.grid.coords t) = false from idle8 _]
  exact triple_restated (sound_body m c t) rfl .rfl fun _ => .rfl

/-! ## The run and the frame -/

set_option backward.isDefEq.respectTransparency.types false in
/-- Every execution ends, the arrays as the library computes them from the proof data, every counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m)
    (hin := fun c => Eq.le (PhiN_zero m c 0 rfl).symm) (hout := fun c => Eq.le (PhiN_zero m c cfg0.N (by rw [N0])))

theorem run_main : θ_run defs (onTc (τ := τ) (main (F := F))) (s₀ m ρ) (Pipeline.FramePost cfgs (dats m) 0 (V m)) :=
  (θ_run defs _ _).mono (fun _ h => h.1) (run_main_quiescent m ρ)

/-- The frame: every execution ends, the arguments unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  θ_run_and (frame_of m ρ (dats m) (A_eq m) (run_main m ρ)) ((θ_run defs _ _).mono (fun _ h => h.2) (run_main_quiescent m ρ))

end Cert.Kernel3Ideal.Gen

end
-- ==== Proof.FfnAArray.lean ====
/- What the first layer's feed-forward kernel's result array holds after the run: the blocks its grid points read, at coordinates, what the
   accumulator and the scratch hold after each point, and the array that the write-backs leave. -/
module

public import proofs.«01_k».proof.Proof.FfnAStep
public import proofs.«01_k».proof.Proof.FfnAFrame
public import proofs.«01_k».proof.Proof.FfnModel
public import Idealize.ShloMosaic.Lib.Pipeline.ValueKit
public import Idealize.ShloMosaic.Lib.Pointwise

@[expose] public section

noncomputable section

namespace Cert.Kernel3Ideal.Array

open Cert.Kernel3Ideal Cert.Kernel3Ideal.Gen Cert.Kernel3Ideal.Step Idealize.ShloMosaic Idealize.ShloMosaic.TcCoe Idealize.SL.Sem

variable (m : (ℓ : Loc nD τ sig) → Buf (Elt Ideal) ℓ)

/-- The arrays, as launched. -/
abbrev aX (c : Dev nD) : FVec Ideal S8x2048x1024 .f32 := m ((c : Thread nD τ).loc main_arg0)
abbrev aM (c : Dev nD) : FVec Ideal S2x16x6x1024 .f32 := m ((c : Thread nD τ).loc main_arg1)
abbrev aG (c : Dev nD) : FVec Ideal S2x1024 .f32 := m ((c : Thread nD τ).loc main_arg2)
abbrev aU (c : Dev nD) : FVec Ideal S2x1024x5632 .f32 := m ((c : Thread nD τ).loc main_arg3)
abbrev aW (c : Dev nD) : FVec Ideal S2x3x2816 .f32 := m ((c : Thread nD τ).loc main_arg4)
abbrev aB (c : Dev nD) : FVec Ideal S2x2816 .f32 := m ((c : Thread nD τ).loc main_arg5)
abbrev aD (c : Dev nD) : FVec Ideal S2x2816x1024 .f32 := m ((c : Thread nD τ).loc main_arg6)

/-- The batch that grid point `t` works on. -/
def batch (t : Fin cfg0.N) : Fin 8 := ⟨t.val / 12, by have := lt_of_lt_of_eq t.isLt N0; omega⟩

/-- Column `k` of chunk `i`. -/
def colW (i : ℕ) (k : Fin 256) : Fin 2816 := ⟨256 * min i 10 + k, by omega⟩

/-- Column `C` of chunk `i`'s projections: the gate's columns, then the value's. -/
def colU (i : ℕ) (C : Fin 512) : Fin 5632 := if h : C.1 < 256 then ⟨colW i ⟨C, h⟩, by omega⟩ else ⟨2816 + colW i ⟨C - 256, by omega⟩, by omega⟩

theorem index0 : ∀ t : Fin cfg0.N, win0_0.index t = ![t.val / 12, 0, 0] :=
  (by decide +kernel : ∀ t : Fin grid0.N, win0_0.index t = ![t.val / 12, 0, 0])
theorem index1 : ∀ t : Fin cfg0.N, win0_1.index t = ![0, t.val / 12, 0, 0] :=
  (by decide +kernel : ∀ t : Fin grid0.N, win0_1.index t = ![0, t.val / 12, 0, 0])
theorem index2 : ∀ t : Fin cfg0.N, win0_2.index t = ![0, 0] :=
  (by decide +kernel : ∀ t : Fin grid0.N, win0_2.index t = ![0, 0])
theorem index3 : ∀ t : Fin cfg0.N, win0_3.index t = ![0, 0, min (t.val % 12) 10] :=
  (by decide +kernel : ∀ t : Fin grid0.N, win0_3.index t = ![0, 0, min (t.val % 12) 10])
theorem index4 : ∀ t : Fin cfg0.N, win0_4.index t = ![0, 0, 11 + min (t.val % 12) 10] :=
  (by decide +kernel : ∀ t : Fin grid0.N, win0_4.index t = ![0, 0, 11 + min (t.val % 12) 10])
theorem index5 : ∀ t : Fin cfg0.N, win0_5.index t = ![0, 0, min (t.val % 12 - 1) 10] :=
  (by decide +kernel : ∀ t : Fin grid0.N, win0_5.index t = ![0, 0, min (t.val % 12 - 1) 10])
theorem index6 : ∀ t : Fin cfg0.N, win0_6.index t = ![0, min (t.val % 12 - 1) 10] :=
  (by decide +kernel : ∀ t : Fin grid0.N, win0_6.index t = ![0, min (t.val % 12 - 1) 10])
theorem index7 : ∀ t : Fin cfg0.N, win0_7.index t = ![0, min (t.val % 12 - 1) 10, 0] :=
  (by decide +kernel : ∀ t : Fin grid0.N, win0_7.index t = ![0, min (t.val % 12 - 1) 10, 0])
theorem index8 : ∀ t : Fin cfg0.N, win0_8.index t = ![t.val / 12, 0, 0] :=
  (by decide +kernel : ∀ t : Fin grid0.N, win0_8.index t = ![t.val / 12, 0, 0])

theorem in0 (c : Dev nD) (t : Fin cfg0.N) (R : Fin 2048) (k : Fin 1024) : X0 m c t (ix3 0 R k) = aX m c (ix3 (batch t) R k) := by
  unfold X0
  blk_simp [iblk]
  refine (congrFun (V_main_arg0 m c) _).trans (congrArg (aX m c) ?_)
  blk_ext [index0, batch]

theorem in1 (c : Dev nD) (t : Fin cfg0.N) (a : Fin 6) (k : Fin 1024) : X1 m c t (ix4 0 0 a k) = aM m c (ix4 0 ⟨batch t, by omega⟩ a k) := by
  unfold X1
  blk_simp [iblk]
  refine (congrFun (V_main_arg1 m c) _).trans (congrArg (aM m c) ?_)
  blk_ext [index1, batch]

theorem in2 (c : Dev nD) (t : Fin cfg0.N) (a : Fin 2) (k : Fin 1024) : X2 m c t (ix2 a k) = aG m c (ix2 a k) := by
  unfold X2
  blk_simp [iblk]
  refine (congrFun (V_main_arg2 m c) _).trans (congrArg (aG m c) ?_)
  blk_ext [index2]

theorem in3 (c : Dev nD) (t : Fin cfg0.N) (j : Fin 1024) (k : Fin 256) :
    X3 m c t (ix3 0 j k) = aU m c (ix3 0 j ⟨colW (t.val % 12) k, by omega⟩) := by
  unfold X3
  blk_simp [iblk]
  refine (congrFun (V_main_arg3 m c) _).trans (congrArg (aU m c) ?_)
  blk_ext [index3, colW]

theorem in4 (c : Dev nD) (t : Fin cfg0.N) (j : Fin 1024) (k : Fin 256) :
    X4 m c t (ix3 0 j k) = aU m c (ix3 0 j ⟨2816 + colW (t.val % 12) k, by omega⟩) := by
  unfold X4
  blk_simp [iblk]
  refine (congrFun (V_main_arg3 m c) _).trans (congrArg (aU m c) ?_)
  blk_ext [index4, colW]

theorem in5 (c : Dev nD) (t : Fin cfg0.N) (a : Fin 3) (k : Fin 256) : X5 m c t (ix3 0 a k) = aW m c (ix3 0 a (colW (t.val % 12 - 1) k)) := by
  unfold X5
  blk_simp [iblk]
  refine (congrFun (V_main_arg4 m c) _).trans (congrArg (aW m c) ?_)
  blk_ext [index5, colW]

theorem in6 (c : Dev nD) (t : Fin cfg0.N) (a : Fin 2) (k : Fin 256) : X6 m c t (ix2 a k) = aB m c (ix2 a (colW (t.val % 12 - 1) k)) := by
  unfold X6
  blk_simp [iblk]
  refine (congrFun (V_main_arg5 m c) _).trans (congrArg (aB m c) ?_)
  blk_ext [index6, colW]

theorem in7 (c : Dev nD) (t : Fin cfg0.N) (k : Fin 256) (d : Fin 1024) : X7 m c t (ix3 0 k d) = aD m c (ix3 0 (colW (t.val % 12 - 1) k) d) := by
  unfold X7
  blk_simp [iblk]
  refine (congrFun (V_main_arg6 m c) _).trans (congrArg (aD m c) ?_)
  blk_ext [index7, colW]

/-! ## What a point leaves -/

/-- One chunk's share of the down projection. -/
def chunk (c : Dev nD) (b : Fin 8) (i : ℕ) (R : Fin 2048) (d : Fin 1024) : EReal :=
  ∑ k : Fin 256, Model.act 0 (aX m c) (aM m c) (aG m c) (aU m c) (aW m c) (aB m c) b R (colW i k) * aD m c (ix3 0 (colW i k) d)

theorem sum_chunks (f : Fin 2816 → EReal) : ∑ i ∈ Finset.range 11, ∑ k : Fin 256, f (colW i k) = ∑ n : Fin 2816, f n := by
  rw [Finset.sum_range]
  refine Eq.trans ?_ ((finProdFinEquiv (m := 11) (n := 256)).sum_comp (f : Fin (11 * 256) → EReal))
  rw [Fintype.sum_prod_type]
  refine Finset.sum_congr rfl fun i _ => Finset.sum_congr rfl fun k _ => congrArg f (Fin.ext ?_)
  show 256 * min i.1 10 + k.1 = k.1 + 256 * i.1
  omega

/-- What holds after point `j` of batch `b`: the rows, the projections of chunk `j`, the chunks before it added up. -/
def Inv (c : Dev nD) (b : Fin 8) (j : ℕ) (s : St Ideal) : Prop :=
  (∀ (R : Fin 2048) (k : Fin 1024), s.h (ix2 R k) = Model.row 0 (aX m c) (aM m c) (aG m c) b R k)
  ∧ (∀ (R : Fin 2048) (C : Fin 512), s.u (ix3 0 R C) = Model.up 0 (aX m c) (aM m c) (aG m c) (aU m c) b R (colU j C))
  ∧ ∀ (R : Fin 2048) (d : Fin 1024), s.o (ix3 0 R d) = ∑ i ∈ Finset.range j, chunk m c b i R d

theorem entered_eq (c : Dev nD) (t : Fin cfg0.N) (R : Fin 2048) (k : Fin 1024) :
    entered m c t R k = Model.row 0 (aX m c) (aM m c) (aG m c) (batch t) R k := by
  unfold entered Model.row
  simp only [in0, in1, in2]

theorem projected_eq (c : Dev nD) (t : Fin cfg0.N) (h : Fin 2048 → Fin 1024 → EReal)
    (hh : ∀ R k, h R k = Model.row 0 (aX m c) (aM m c) (aG m c) (batch t) R k) (R : Fin 2048) (C : Fin 512) :
    projected m c t h R C = Model.up 0 (aX m c) (aM m c) (aG m c) (aU m c) (batch t) R (colU (t.val % 12) C) := by
  unfold projected Model.up colU
  refine Finset.sum_congr rfl fun j _ => ?_
  rw [hh]
  by_cases hc : C.1 < 256
  · rw [dif_pos hc, dif_pos hc, in3]
  · rw [dif_neg hc, dif_neg hc, in4]

theorem colU_gate (i : ℕ) (k : Fin 256) : colU i ⟨k, by omega⟩ = ⟨colW i k, by omega⟩ := by
  unfold colU; rw [dif_pos (show k.1 < 256 from k.2)]

theorem colU_value (i : ℕ) (k : Fin 256) : colU i ⟨256 + k, by omega⟩ = ⟨2816 + colW i k, by omega⟩ := by
  unfold colU; rw [dif_neg (show ¬ 256 + k.1 < 256 by omega)]
  refine Fin.ext ?_
  show 2816 + (256 * min i 10 + (256 + k.1 - 256)) = 2816 + (256 * min i 10 + k.1)
  omega

theorem added_eq (c : Dev nD) (t : Fin cfg0.N) (j : ℕ) (hj : t.val % 12 = j + 1) (s : St Ideal) (H : Inv m c (batch t) j s) (R : Fin 2048) (d : Fin 1024) :
    added m c t s R d = ∑ i ∈ Finset.range (j + 1), chunk m c (batch t) i R d := by
  obtain ⟨-, hu, ho⟩ := H
  have ej : t.val % 12 - 1 = j := by omega
  unfold added
  rw [ho, Finset.sum_range_succ]
  refine congrArg _ ?_
  unfold chunk
  refine Finset.sum_congr rfl fun k _ => ?_
  rw [in7, ej]
  refine congrArg (· * _) ?_
  unfold Act.act Model.act
  simp only [hu, in5, in6, ej, colU_gate, colU_value]

theorem next (c : Dev nD) (t : Fin cfg0.N) (j : ℕ) (hj : t.val % 12 = j + 1) (s s' : St Ideal) (H : Inv m c (batch t) j s)
    (ho : ∀ R d, s'.o (ix3 0 R d) = added m c t s R d) (hu : ∀ R C, s'.u (ix3 0 R C) = projected m c t (fun R k => s.h (ix2 R k)) R C)
    (hh : s'.h = s.h) : Inv m c (batch t) (j + 1) s' :=
  ⟨fun R k => (congrFun hh _).trans (H.1 R k), fun R C => by rw [hu, projected_eq m c t _ H.1, hj],
    fun R d => (ho R d).trans (added_eq m c t j hj s H R d)⟩

theorem inv (c : Dev nD) : ∀ (j : ℕ) (_ : j ≤ 10) (t : Fin cfg0.N) (_ : t.val % 12 = j), Inv m c (batch t) j (st m c t.val) := by
  intro j
  induction j with
  | zero =>
    intro _ t h
    rw [st_Z m c t h]
    refine ⟨fun R k => (stZ_h m c t h R k).trans (entered_eq m c t R k), fun R C => ?_, fun R d => stZ_o m c t h R d⟩
    rw [stZ_u, projected_eq m c t _ (entered_eq m c t), h]
  | succ j ih =>
    intro hj t h
    have H := ih (by omega) ⟨t.val - 1, by have := t.isLt; omega⟩ (by show (t.val - 1) % 12 = j; omega)
    have eb : batch ⟨t.val - 1, by have := t.isLt; omega⟩ = batch t := Fin.ext (by show (t.val - 1) / 12 = t.val / 12; omega)
    rw [eb] at H
    by_cases p : t.val % 2 = 1
    · have hc : t.val % 2 = 1 ∧ t.val % 12 ≠ 11 := ⟨p, by omega⟩
      rw [st_O m c t hc]
      exact next m c t j h _ _ H (stO_o m c t hc _) (stO_u m c t hc _) (stO_h m c t hc _)
    · have hc : t.val % 2 = 0 ∧ t.val % 12 ≠ 0 := ⟨by omega, by omega⟩
      rw [st_E m c t hc]
      exact next m c t j h _ _ H (stE_o m c t hc _) (stE_u m c t hc _) (stE_h m c t hc _)

/-- The last point of a batch leaves the batch's result. -/
theorem last (c : Dev nD) (t : Fin cfg0.N) (h : t.val % 12 = 11) (R : Fin 2048) (d : Fin 1024) :
    (st m c t.val).o (ix3 0 R d) = Model.plain 0 (aX m c) (aM m c) (aG m c) (aU m c) (aW m c) (aB m c) (aD m c) (batch t) R d := by
  have H := inv m c 10 le_rfl ⟨t.val - 1, by have := t.isLt; omega⟩ (by show (t.val - 1) % 12 = 10; omega)
  have eb : batch ⟨t.val - 1, by have := t.isLt; omega⟩ = batch t := Fin.ext (by show (t.val - 1) / 12 = t.val / 12; omega)
  rw [eb] at H
  have ea : ∀ R d, added m c t (st m c (t.val - 1)) R d
      = Model.down 0 (aD m c) (Model.act 0 (aX m c) (aM m c) (aG m c) (aU m c) (aW m c) (aB m c) (batch t)) R d := fun R d =>
    (added_eq m c t 10 h _ H R d).trans
      (sum_chunks fun n => Model.act 0 (aX m c) (aM m c) (aG m c) (aU m c) (aW m c) (aB m c) (batch t) R n * aD m c (ix3 0 n d))
  rw [st_L m c t h, stL_o]
  unfold Model.plain Model.res
  simp only [ea, in0, in1]

/-! ## The result array -/

/-- The result array. -/
def result (c : Dev nD) : FVec Ideal S8x2048x1024 .f32 :=
  fun i => Model.plain 0 (aX m c) (aM m c) (aG m c) (aU m c) (aW m c) (aB m c) (aD m c) (i 0) (i 1) (i 2)

/-- After the run the result array holds every batch's result: the last point of each batch writes it back. -/
theorem final (c : Dev nD) : (dats m 0 c).arrAt 8 cfg0.N = result m c := by
  refine (dats m 0 c).arrAt_eq_of_covers 8 _ (by decide +kernel) fun t hf y => ?_
  blk_simp
  rw [after0_8]
  obtain ⟨R, d, rfl⟩ : ∃ (R : Fin 2048) (d : Fin 1024), y = (ix3 0 R d : S1x2048x1024.Idx) :=
    ⟨y 1, y 2, (eq_ix3 (y : S1x2048x1024.Idx)).trans
      (congrArg (fun a : Fin 1 => (ix3 a (y 1) (y 2) : S1x2048x1024.Idx)) (Subsingleton.elim (α := Fin 1) _ _))⟩
  refine (last m c t ((flush0_8 t).1 hf) R d).trans ?_
  have e : (win0_8.blk t).view.emb (ix3 0 R d : S1x2048x1024.Idx) = (ix3 (batch t) R d : S8x2048x1024.Idx) := by
    blk_ext [index8, batch]
  rw [e]
  rfl

/-- The kernel's run: it ends with the result array holding every batch's result and the arguments as launched. -/
theorem run (ρ : Dev nD → PrngReg) :
    θ_run defs (onTc (τ := τ) (main (F := Ideal))) ⟨m, fun _ => 0, ρ⟩ fun r => ∀ c : Dev nD,
      r.2.mem ((c : Thread nD τ).loc main_v0) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun _ h c => ⟨((h.1 c).1 8).trans (final m c), h.2 c⟩)
    (θ_run_and (run_main m ρ) (frame_of m ρ (dats m) (A_eq m) (run_main m ρ)))

end Cert.Kernel3Ideal.Array

end
-- ==== Proof.FfnARef.lean ====
/- What the first layer's feed-forward's reference computes, read at one element of its result. -/
module

public import proofs.«01_k».proof.Proof.Gen.Reference3Ideal.Run
public import Idealize.ShloMosaic.Lib.Pointwise
public import Idealize.ShloMosaic.Lib.IdealHost
public import Idealize.ShloMosaic.Lib.KernelVsHost
public import proofs.«01_k».proof.Proof.FfnModel

@[expose] public section

noncomputable section

namespace Cert.Reference3Ideal.Ref

open Cert.Reference3Ideal Cert.Reference3Ideal.Gen Idealize.ShloMosaic Idealize.ShloMosaic.TcCoe Idealize.SL.Sem

variable (m : (ℓ : Loc nD τ sig) → Buf (Elt Ideal) ℓ)

/-- The reference's composed operations, of the arrays it reads. -/
def term (X : FVec Ideal S8x2048x1024 .f32) (M : FVec Ideal S2x16x6x1024 .f32) (G : FVec Ideal S2x1024 .f32) (U : FVec Ideal S2x1024x5632 .f32) (W : FVec Ideal S2x3x2816 .f32) (B : FVec Ideal S2x2816 .f32) (D : FVec Ideal S2x2816x1024 .f32) : FVec Ideal S8x2048x1024 .f32 :=
  addf X (mulf (broadcastInDim S8x2048x1024 ![0, 1, 2] bcast_S8x1x1024_S8x2048x1024_0_1_2 (shapeCast _ (extractStridedSlice S1x8x1x1024 ![0, 0, 5, 0] M slices_S2x16x6x1024_S1x8x1x1024_0_0_5_0) shapeCasts_S1x8x1x1024_S8x1x1024)) (Host.dotGeneral dot_S8x2048x2816_S2816x1024_S8x2048x1024_2_0_01_1_n_n none (mulf (mulf (addf (addf (addf (mulf (extractStridedSlice S8x2048x2816 ![0, 0, 0] (pad S8x2050x2816 ![0, 1, 0] ![0, 1, 0] ![0, 0, 0] (extractStridedSlice S8x2048x2816 ![0, 0, 0] (Host.dotGeneral dot_S8x2048x1024_S1024x5632_S8x2048x5632_2_0_01_1_n_n none (addf (mulf (mulf (mulf X (broadcastInDim S8x2048x1024 ![0, 1, 2] bcast_S8x2048x1_S8x2048x1024_0_1_2 (Host.rsqrt (addf (Host.divf (broadcastInDim S8x2048x1 ![0, 1] bcast_S8x2048_S8x2048x1_0_1 (Host.reduceAdd (mulf X X) (constant S_ .f32 0x00000000#32) reducesTo_S8x2048x1024_S8x2048_d2 h_S_)) (broadcastInDim S8x2048x1 ![] bcast_S_S8x2048x1 (constant S_ .f32 0x44800000#32))) (broadcastInDim S8x2048x1 ![] bcast_S_S8x2048x1 (constant S_ .f32 0x358637BD#32)))))) (broadcastInDim S8x2048x1024 ![0, 1, 2] bcast_S1x1x1024_S8x2048x1024_0_1_2 (broadcastInDim S1x1x1024 ![2] bcast_S1024_S1x1x1024_2 (shapeCast _ (extractStridedSlice S1x1024 ![0, 0] G slices_S2x1024_S1x1024_0_0) shapeCasts_S1x1024_S1024)))) (broadcastInDim S8x2048x1024 ![0, 1, 2] bcast_S8x1x1024_S8x2048x1024_0_1_2 (addf (broadcastInDim S8x1x1024 ![] bcast_S_S8x1x1024 (constant S_ .f32 0x3F800000#32)) (shapeCast _ (extractStridedSlice S1x8x1x1024 ![0, 0, 4, 0] M slices_S2x16x6x1024_S1x8x1x1024_0_0_4_0) shapeCasts_S1x8x1x1024_S8x1x1024)))) (broadcastInDim S8x2048x1024 ![0, 1, 2] bcast_S8x1x1024_S8x2048x1024_0_1_2 (shapeCast _ (extractStridedSlice S1x8x1x1024 ![0, 0, 3, 0] M slices_S2x16x6x1024_S1x8x1x1024_0_0_3_0) shapeCasts_S1x8x1x1024_S8x1x1024))) (shapeCast _ (extractStridedSlice S1x1024x5632 ![0, 0, 0] U slices_S2x1024x5632_S1x1024x5632_0_0_0) shapeCasts_S1x1024x5632_S1024x5632)) slices_S8x2048x5632_S8x2048x2816_0_0_0) (sitofp .f32 (constantI S_ 32 0#32)) pads_S8x2048x2816_S8x2050x2816_000_110_000 h_S_) slices_S8x2050x2816_S8x2048x2816_0_0_0) (broadcastInDim S8x2048x2816 ![0, 1, 2] bcast_S1x1x2816_S8x2048x2816_0_1_2 (broadcastInDim S1x1x2816 ![2] bcast_S2816_S1x1x2816_2 (shapeCast _ (extractStridedSlice S1x2816 ![0, 0] (shapeCast _ (extractStridedSlice S1x3x2816 ![0, 0, 0] W slices_S2x3x2816_S1x3x2816_0_0_0) shapeCasts_S1x3x2816_S3x2816) slices_S3x2816_S1x2816_0_0) shapeCasts_S1x2816_S2816)))) (mulf (extractStridedSlice S8x2048x2816 ![0, 1, 0] (pad S8x2050x2816 ![0, 1, 0] ![0, 1, 0] ![0, 0, 0] (extractStridedSlice S8x2048x2816 ![0, 0, 0] (Host.dotGeneral dot_S8x2048x1024_S1024x5632_S8x2048x5632_2_0_01_1_n_n none (addf (mulf (mulf (mulf X (broadcastInDim S8x2048x1024 ![0, 1, 2] bcast_S8x2048x1_S8x2048x1024_0_1_2 (Host.rsqrt (addf (Host.divf (broadcastInDim S8x2048x1 ![0, 1] bcast_S8x2048_S8x2048x1_0_1 (Host.reduceAdd (mulf X X) (constant S_ .f32 0x00000000#32) reducesTo_S8x2048x1024_S8x2048_d2 h_S_)) (broadcastInDim S8x2048x1 ![] bcast_S_S8x2048x1 (constant S_ .f32 0x44800000#32))) (broadcastInDim S8x2048x1 ![] bcast_S_S8x2048x1 (constant S_ .f32 0x358637BD#32)))))) (broadcastInDim S8x2048x1024 ![0, 1, 2] bcast_S1x1x1024_S8x2048x1024_0_1_2 (broadcastInDim S1x1x1024 ![2] bcast_S1024_S1x1x1024_2 (shapeCast _ (extractStridedSlice S1x1024 ![0, 0] G slices_S2x1024_S1x1024_0_0) shapeCasts_S1x1024_S1024)))) (broadcastInDim S8x2048x1024 ![0, 1, 2] bcast_S8x1x1024_S8x2048x1024_0_1_2 (addf (broadcastInDim S8x1x1024 ![] bcast_S_S8x1x1024 (constant S_ .f32 0x3F800000#32)) (shapeCast _ (extractStridedSlice S1x8x1x1024 ![0, 0, 4, 0] M slices_S2x16x6x1024_S1x8x1x1024_0_0_4_0) shapeCasts_S1x8x1x1024_S8x1x1024)))) (broadcastInDim S8x2048x1024 ![0, 1, 2] bcast_S8x1x1024_S8x2048x1024_0_1_2 (shapeCast _ (extractStridedSlice S1x8x1x1024 ![0, 0, 3, 0] M slices_S2x16x6x1024_S1x8x1x1024_0_0_3_0) shapeCasts_S1x8x1x1024_S8x1x1024))) (shapeCast _ (extractStridedSlice S1x1024x5632 ![0, 0, 0] U slices_S2x1024x5632_S1x1024x5632_0_0_0) shapeCasts_S1x1024x5632_S1024x5632)) slices_S8x2048x5632_S8x2048x2816_0_0_0) (sitofp .f32 (constantI S_ 32 0#32)) pads_S8x2048x2816_S8x2050x2816_000_110_000 h_S_) slices_S8x2050x2816_S8x2048x2816_0_1_0) (broadcastInDim S8x2048x2816 ![0, 1, 2] bcast_S1x1x2816_S8x2048x2816_0_1_2 (broadcastInDim S1x1x2816 ![2] bcast_S2816_S1x1x2816_2 (shapeCast _ (extractStridedSlice S1x2816 ![1, 0] (shapeCast _ (extractStridedSlice S1x3x2816 ![0, 0, 0] W slices_S2x3x2816_S1x3x2816_0_0_0) shapeCasts_S1x3x2816_S3x2816) slices_S3x2816_S1x2816_1_0) shapeCasts_S1x2816_S2816))))) (mulf (extractStridedSlice S8x2048x2816 ![0, 2, 0] (pad S8x2050x2816 ![0, 1, 0] ![0, 1, 0] ![0, 0, 0] (extractStridedSlice S8x2048x2816 ![0, 0, 0] (Host.dotGeneral dot_S8x2048x1024_S1024x5632_S8x2048x5632_2_0_01_1_n_n none (addf (mulf (mulf (mulf X (broadcastInDim S8x2048x1024 ![0, 1, 2] bcast_S8x2048x1_S8x2048x1024_0_1_2 (Host.rsqrt (addf (Host.divf (broadcastInDim S8x2048x1 ![0, 1] bcast_S8x2048_S8x2048x1_0_1 (Host.reduceAdd (mulf X X) (constant S_ .f32 0x00000000#32) reducesTo_S8x2048x1024_S8x2048_d2 h_S_)) (broadcastInDim S8x2048x1 ![] bcast_S_S8x2048x1 (constant S_ .f32 0x44800000#32))) (broadcastInDim S8x2048x1 ![] bcast_S_S8x2048x1 (constant S_ .f32 0x358637BD#32)))))) (broadcastInDim S8x2048x1024 ![0, 1, 2] bcast_S1x1x1024_S8x2048x1024_0_1_2 (broadcastInDim S1x1x1024 ![2] bcast_S1024_S1x1x1024_2 (shapeCast _ (extractStridedSlice S1x1024 ![0, 0] G slices_S2x1024_S1x1024_0_0) shapeCasts_S1x1024_S1024)))) (broadcastInDim S8x2048x1024 ![0, 1, 2] bcast_S8x1x1024_S8x2048x1024_0_1_2 (addf (broadcastInDim S8x1x1024 ![] bcast_S_S8x1x1024 (constant S_ .f32 0x3F800000#32)) (shapeCast _ (extractStridedSlice S1x8x1x1024 ![0, 0, 4, 0] M slices_S2x16x6x1024_S1x8x1x1024_0_0_4_0) shapeCasts_S1x8x1x1024_S8x1x1024)))) (broadcastInDim S8x2048x1024 ![0, 1, 2] bcast_S8x1x1024_S8x2048x1024_0_1_2 (shapeCast _ (extractStridedSlice S1x8x1x1024 ![0, 0, 3, 0] M slices_S2x16x6x1024_S1x8x1x1024_0_0_3_0) shapeCasts_S1x8x1x1024_S8x1x1024))) (shapeCast _ (extractStridedSlice S1x1024x5632 ![0, 0, 0] U slices_S2x1024x5632_S1x1024x5632_0_0_0) shapeCasts_S1x1024x5632_S1024x5632)) slices_S8x2048x5632_S8x2048x2816_0_0_0) (sitofp .f32 (constantI S_ 32 0#32)) pads_S8x2048x2816_S8x2050x2816_000_110_000 h_S_) slices_S8x2050x2816_S8x2048x2816_0_2_0) (broadcastInDim S8x2048x2816 ![0, 1, 2] bcast_S1x1x2816_S8x2048x2816_0_1_2 (broadcastInDim S1x1x2816 ![2] bcast_S2816_S1x1x2816_2 (shapeCast _ (extractStridedSlice S1x2816 ![2, 0] (shapeCast _ (extractStridedSlice S1x3x2816 ![0, 0, 0] W slices_S2x3x2816_S1x3x2816_0_0_0) shapeCasts_S1x3x2816_S3x2816) slices_S3x2816_S1x2816_2_0) shapeCasts_S1x2816_S2816))))) (broadcastInDim S8x2048x2816 ![0, 1, 2] bcast_S1x1x2816_S8x2048x2816_0_1_2 (broadcastInDim S1x1x2816 ![2] bcast_S2816_S1x1x2816_2 (shapeCast _ (extractStridedSlice S1x2816 ![0, 0] B slices_S2x2816_S1x2816_0_0) shapeCasts_S1x2816_S2816)))) (Host.divf (broadcastInDim S8x2048x2816 ![] bcast_S_S8x2048x2816 (constant S_ .f32 0x3F800000#32)) (addf (broadcastInDim S8x2048x2816 ![] bcast_S_S8x2048x2816 (constant S_ .f32 0x3F800000#32)) (Host.exp (Host.negf (addf (addf (addf (mulf (extractStridedSlice S8x2048x2816 ![0, 0, 0] (pad S8x2050x2816 ![0, 1, 0] ![0, 1, 0] ![0, 0, 0] (extractStridedSlice S8x2048x2816 ![0, 0, 0] (Host.dotGeneral dot_S8x2048x1024_S1024x5632_S8x2048x5632_2_0_01_1_n_n none (addf (mulf (mulf (mulf X (broadcastInDim S8x2048x1024 ![0, 1, 2] bcast_S8x2048x1_S8x2048x1024_0_1_2 (Host.rsqrt (addf (Host.divf (broadcastInDim S8x2048x1 ![0, 1] bcast_S8x2048_S8x2048x1_0_1 (Host.reduceAdd (mulf X X) (constant S_ .f32 0x00000000#32) reducesTo_S8x2048x1024_S8x2048_d2 h_S_)) (broadcastInDim S8x2048x1 ![] bcast_S_S8x2048x1 (constant S_ .f32 0x44800000#32))) (broadcastInDim S8x2048x1 ![] bcast_S_S8x2048x1 (constant S_ .f32 0x358637BD#32)))))) (broadcastInDim S8x2048x1024 ![0, 1, 2] bcast_S1x1x1024_S8x2048x1024_0_1_2 (broadcastInDim S1x1x1024 ![2] bcast_S1024_S1x1x1024_2 (shapeCast _ (extractStridedSlice S1x1024 ![0, 0] G slices_S2x1024_S1x1024_0_0) shapeCasts_S1x1024_S1024)))) (broadcastInDim S8x2048x1024 ![0, 1, 2] bcast_S8x1x1024_S8x2048x1024_0_1_2 (addf (broadcastInDim S8x1x1024 ![] bcast_S_S8x1x1024 (constant S_ .f32 0x3F800000#32)) (shapeCast _ (extractStridedSlice S1x8x1x1024 ![0, 0, 4, 0] M slices_S2x16x6x1024_S1x8x1x1024_0_0_4_0) shapeCasts_S1x8x1x1024_S8x1x1024)))) (broadcastInDim S8x2048x1024 ![0, 1, 2] bcast_S8x1x1024_S8x2048x1024_0_1_2 (shapeCast _ (extractStridedSlice S1x8x1x1024 ![0, 0, 3, 0] M slices_S2x16x6x1024_S1x8x1x1024_0_0_3_0) shapeCasts_S1x8x1x1024_S8x1x1024))) (shapeCast _ (extractStridedSlice S1x1024x5632 ![0, 0, 0] U slices_S2x1024x5632_S1x1024x5632_0_0_0) shapeCasts_S1x1024x5632_S1024x5632)) slices_S8x2048x5632_S8x2048x2816_0_0_0) (sitofp .f32 (constantI S_ 32 0#32)) pads_S8x2048x2816_S8x2050x2816_000_110_000 h_S_) slices_S8x2050x2816_S8x2048x2816_0_0_0) (broadcastInDim S8x2048x2816 ![0, 1, 2] bcast_S1x1x2816_S8x2048x2816_0_1_2 (broadcastInDim S1x1x2816 ![2] bcast_S2816_S1x1x2816_2 (shapeCast _ (extractStridedSlice S1x2816 ![0, 0] (shapeCast _ (extractStridedSlice S1x3x2816 ![0, 0, 0] W slices_S2x3x2816_S1x3x2816_0_0_0) shapeCasts_S1x3x2816_S3x2816) slices_S3x2816_S1x2816_0_0) shapeCasts_S1x2816_S2816)))) (mulf (extractStridedSlice S8x2048x2816 ![0, 1, 0] (pad S8x2050x2816 ![0, 1, 0] ![0, 1, 0] ![0, 0, 0] (extractStridedSlice S8x2048x2816 ![0, 0, 0] (Host.dotGeneral dot_S8x2048x1024_S1024x5632_S8x2048x5632_2_0_01_1_n_n none (addf (mulf (mulf (mulf X (broadcastInDim S8x2048x1024 ![0, 1, 2] bcast_S8x2048x1_S8x2048x1024_0_1_2 (Host.rsqrt (addf (Host.divf (broadcastInDim S8x2048x1 ![0, 1] bcast_S8x2048_S8x2048x1_0_1 (Host.reduceAdd (mulf X X) (constant S_ .f32 0x00000000#32) reducesTo_S8x2048x1024_S8x2048_d2 h_S_)) (broadcastInDim S8x2048x1 ![] bcast_S_S8x2048x1 (constant S_ .f32 0x44800000#32))) (broadcastInDim S8x2048x1 ![] bcast_S_S8x2048x1 (constant S_ .f32 0x358637BD#32)))))) (broadcastInDim S8x2048x1024 ![0, 1, 2] bcast_S1x1x1024_S8x2048x1024_0_1_2 (broadcastInDim S1x1x1024 ![2] bcast_S1024_S1x1x1024_2 (shapeCast _ (extractStridedSlice S1x1024 ![0, 0] G slices_S2x1024_S1x1024_0_0) shapeCasts_S1x1024_S1024)))) (broadcastInDim S8x2048x1024 ![0, 1, 2] bcast_S8x1x1024_S8x2048x1024_0_1_2 (addf (broadcastInDim S8x1x1024 ![] bcast_S_S8x1x1024 (constant S_ .f32 0x3F800000#32)) (shapeCast _ (extractStridedSlice S1x8x1x1024 ![0, 0, 4, 0] M slices_S2x16x6x1024_S1x8x1x1024_0_0_4_0) shapeCasts_S1x8x1x1024_S8x1x1024)))) (broadcastInDim S8x2048x1024 ![0, 1, 2] bcast_S8x1x1024_S8x2048x1024_0_1_2 (shapeCast _ (extractStridedSlice S1x8x1x1024 ![0, 0, 3, 0] M slices_S2x16x6x1024_S1x8x1x1024_0_0_3_0) shapeCasts_S1x8x1x1024_S8x1x1024))) (shapeCast _ (extractStridedSlice S1x1024x5632 ![0, 0, 0] U slices_S2x1024x5632_S1x1024x5632_0_0_0) shapeCasts_S1x1024x5632_S1024x5632)) slices_S8x2048x5632_S8x2048x2816_0_0_0) (sitofp .f32 (constantI S_ 32 0#32)) pads_S8x2048x2816_S8x2050x2816_000_110_000 h_S_) slices_S8x2050x2816_S8x2048x2816_0_1_0) (broadcastInDim S8x2048x2816 ![0, 1, 2] bcast_S1x1x2816_S8x2048x2816_0_1_2 (broadcastInDim S1x1x2816 ![2] bcast_S2816_S1x1x2816_2 (shapeCast _ (extractStridedSlice S1x2816 ![1, 0] (shapeCast _ (extractStridedSlice S1x3x2816 ![0, 0, 0] W slices_S2x3x2816_S1x3x2816_0_0_0) shapeCasts_S1x3x2816_S3x2816) slices_S3x2816_S1x2816_1_0) shapeCasts_S1x2816_S2816))))) (mulf (extractStridedSlice S8x2048x2816 ![0, 2, 0] (pad S8x2050x2816 ![0, 1, 0] ![0, 1, 0] ![0, 0, 0] (extractStridedSlice S8x2048x2816 ![0, 0, 0] (Host.dotGeneral dot_S8x2048x1024_S1024x5632_S8x2048x5632_2_0_01_1_n_n none (addf (mulf (mulf (mulf X (broadcastInDim S8x2048x1024 ![0, 1, 2] bcast_S8x2048x1_S8x2048x1024_0_1_2 (Host.rsqrt (addf (Host.divf (broadcastInDim S8x2048x1 ![0, 1] bcast_S8x2048_S8x2048x1_0_1 (Host.reduceAdd (mulf X X) (constant S_ .f32 0x00000000#32) reducesTo_S8x2048x1024_S8x2048_d2 h_S_)) (broadcastInDim S8x2048x1 ![] bcast_S_S8x2048x1 (constant S_ .f32 0x44800000#32))) (broadcastInDim S8x2048x1 ![] bcast_S_S8x2048x1 (constant S_ .f32 0x358637BD#32)))))) (broadcastInDim S8x2048x1024 ![0, 1, 2] bcast_S1x1x1024_S8x2048x1024_0_1_2 (broadcastInDim S1x1x1024 ![2] bcast_S1024_S1x1x1024_2 (shapeCast _ (extractStridedSlice S1x1024 ![0, 0] G slices_S2x1024_S1x1024_0_0) shapeCasts_S1x1024_S1024)))) (broadcastInDim S8x2048x1024 ![0, 1, 2] bcast_S8x1x1024_S8x2048x1024_0_1_2 (addf (broadcastInDim S8x1x1024 ![] bcast_S_S8x1x1024 (constant S_ .f32 0x3F800000#32)) (shapeCast _ (extractStridedSlice S1x8x1x1024 ![0, 0, 4, 0] M slices_S2x16x6x1024_S1x8x1x1024_0_0_4_0) shapeCasts_S1x8x1x1024_S8x1x1024)))) (broadcastInDim S8x2048x1024 ![0, 1, 2] bcast_S8x1x1024_S8x2048x1024_0_1_2 (shapeCast _ (extractStridedSlice S1x8x1x1024 ![0, 0, 3, 0] M slices_S2x16x6x1024_S1x8x1x1024_0_0_3_0) shapeCasts_S1x8x1x1024_S8x1x1024))) (shapeCast _ (extractStridedSlice S1x1024x5632 ![0, 0, 0] U slices_S2x1024x5632_S1x1024x5632_0_0_0) shapeCasts_S1x1024x5632_S1024x5632)) slices_S8x2048x5632_S8x2048x2816_0_0_0) (sitofp .f32 (constantI S_ 32 0#32)) pads_S8x2048x2816_S8x2050x2816_000_110_000 h_S_) slices_S8x2050x2816_S8x2048x2816_0_2_0) (broadcastInDim S8x2048x2816 ![0, 1, 2] bcast_S1x1x2816_S8x2048x2816_0_1_2 (broadcastInDim S1x1x2816 ![2] bcast_S2816_S1x1x2816_2 (shapeCast _ (extractStridedSlice S1x2816 ![2, 0] (shapeCast _ (extractStridedSlice S1x3x2816 ![0, 0, 0] W slices_S2x3x2816_S1x3x2816_0_0_0) shapeCasts_S1x3x2816_S3x2816) slices_S3x2816_S1x2816_2_0) shapeCasts_S1x2816_S2816))))) (broadcastInDim S8x2048x2816 ![0, 1, 2] bcast_S1x1x2816_S8x2048x2816_0_1_2 (broadcastInDim S1x1x2816 ![2] bcast_S2816_S1x1x2816_2 (shapeCast _ (extractStridedSlice S1x2816 ![0, 0] B slices_S2x2816_S1x2816_0_0) shapeCasts_S1x2816_S2816))))))))) (extractStridedSlice S8x2048x2816 ![0, 0, 2816] (Host.dotGeneral dot_S8x2048x1024_S1024x5632_S8x2048x5632_2_0_01_1_n_n none (addf (mulf (mulf (mulf X (broadcastInDim S8x2048x1024 ![0, 1, 2] bcast_S8x2048x1_S8x2048x1024_0_1_2 (Host.rsqrt (addf (Host.divf (broadcastInDim S8x2048x1 ![0, 1] bcast_S8x2048_S8x2048x1_0_1 (Host.reduceAdd (mulf X X) (constant S_ .f32 0x00000000#32) reducesTo_S8x2048x1024_S8x2048_d2 h_S_)) (broadcastInDim S8x2048x1 ![] bcast_S_S8x2048x1 (constant S_ .f32 0x44800000#32))) (broadcastInDim S8x2048x1 ![] bcast_S_S8x2048x1 (constant S_ .f32 0x358637BD#32)))))) (broadcastInDim S8x2048x1024 ![0, 1, 2] bcast_S1x1x1024_S8x2048x1024_0_1_2 (broadcastInDim S1x1x1024 ![2] bcast_S1024_S1x1x1024_2 (shapeCast _ (extractStridedSlice S1x1024 ![0, 0] G slices_S2x1024_S1x1024_0_0) shapeCasts_S1x1024_S1024)))) (broadcastInDim S8x2048x1024 ![0, 1, 2] bcast_S8x1x1024_S8x2048x1024_0_1_2 (addf (broadcastInDim S8x1x1024 ![] bcast_S_S8x1x1024 (constant S_ .f32 0x3F800000#32)) (shapeCast _ (extractStridedSlice S1x8x1x1024 ![0, 0, 4, 0] M slices_S2x16x6x1024_S1x8x1x1024_0_0_4_0) shapeCasts_S1x8x1x1024_S8x1x1024)))) (broadcastInDim S8x2048x1024 ![0, 1, 2] bcast_S8x1x1024_S8x2048x1024_0_1_2 (shapeCast _ (extractStridedSlice S1x8x1x1024 ![0, 0, 3, 0] M slices_S2x16x6x1024_S1x8x1x1024_0_0_3_0) shapeCasts_S1x8x1x1024_S8x1x1024))) (shapeCast _ (extractStridedSlice S1x1024x5632 ![0, 0, 0] U slices_S2x1024x5632_S1x1024x5632_0_0_0) shapeCasts_S1x1024x5632_S1024x5632)) slices_S8x2048x5632_S8x2048x2816_0_0_2816)) (shapeCast _ (extractStridedSlice S1x2816x1024 ![0, 0, 0] D slices_S2x2816x1024_S1x2816x1024_0_0_0) shapeCasts_S1x2816x1024_S2816x1024)))

set_option maxRecDepth 8192 in
theorem term_apply (X : FVec Ideal S8x2048x1024 .f32) (M : FVec Ideal S2x16x6x1024 .f32) (G : FVec Ideal S2x1024 .f32) (U : FVec Ideal S2x1024x5632 .f32) (W : FVec Ideal S2x3x2816 .f32) (B : FVec Ideal S2x2816 .f32) (D : FVec Ideal S2x2816x1024 .f32) (b : Fin 8) (R : Fin 2048) (d : Fin 1024) :
    term X M G U W B D (ix3 b R d) = Model.res 0 X M D b (Model.padded 0 X M G U W B b) R d := by
  unfold term
  pointwise
  rfl

/-- The reference's result at one element. -/
theorem res_apply (c : Dev nD) (b : Fin 8) (R : Fin 2048) (d : Fin 1024) :
    Value.res_main_v73 m c (ix3 b R d) = Model.plain 0 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) b R d :=
  (term_apply (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) b R d).trans
    (congrArg (fun a => Model.res 0 (m ((c.tc : Thread nD τ).loc main_arg0)) (m ((c.tc : Thread nD τ).loc main_arg1)) (m ((c.tc : Thread nD τ).loc main_arg6)) b a R d)
      (funext fun R => funext fun n => Model.padded_eq 0 _ _ _ _ _ _ b R n))

end Cert.Reference3Ideal.Ref

end
-- ==== Proof.Ffn.lean ====
/- The feed-forward's claims, proved: the programs' frames, and that kernel and reference compute one function. -/
module

public import proofs.«01_k».proof.Defs
public import proofs.«01_k».proof.Proof.FfnArray
public import proofs.«01_k».proof.Proof.FfnRef
public import proofs.«01_k».proof.Proof.FfnAArray
public import proofs.«01_k».proof.Proof.FfnARef
public import proofs.«01_k».proof.Proof.Gen.Kernel2
public import proofs.«01_k».proof.Proof.Gen.Kernel3
public import Idealize.ShloMosaic.Lib.Quiescent

@[expose] public section

noncomputable section

namespace Cert.Ffn

open Idealize.ShloMosaic Idealize.ShloMosaic.TcCoe Idealize.SL.Sem

/-! ## The last layer's -/

namespace Last

section
variable {F : FTy → Type} [FloatOps F]

set_option maxRecDepth 100000 in
/-- The two printed bodies are the same. -/
theorem same₀ : Cert.Kernel2.defs₀ (F := F) = Cert.Kernel2Ideal.defs₀ (F := F) := by
  unfold Cert.Kernel2.defs₀ Cert.Kernel2Ideal.defs₀
  refine congrArg Defs.onTc (funext fun l => funext fun x => ?_)
  match l, x with
  | ⟨0, _⟩, (t, s) => rfl
  | ⟨n + 1, h⟩, _ => exact absurd h (Nat.not_lt.2 (Nat.le_add_left _ _))

theorem same : Cert.Kernel2.defs (F := F) = Cert.Kernel2Ideal.defs (F := F) :=
  congrArg (Pipeline.defs Cert.Kernel2.pcfgs) same₀

end

set_option maxRecDepth 100000 in
/-- The frame holds for any float values, so for the machine's. -/
theorem kernel_frame : Cert.quiescent_Kernel2 := fun m ρ _ => by
  rw [same]; exact Cert.Kernel2Ideal.Gen.frame (F := Bits) m ρ

theorem ideal_frame : Cert.quiescent_Kernel2Ideal := fun m ρ _ => Cert.Kernel2Ideal.Gen.frame m ρ

/-- The reference is host code: it leaves its arguments, and it has no semaphore. -/
theorem reference_frame : Cert.quiescent_Reference2Ideal := fun m ρ _ =>
  (θ_run Cert.Reference2Ideal.defs _ _).mono (fun r h => ⟨fun c => (h c).2, sem_eq_zero_of_no_sems (by decide) r.2⟩)
    (Cert.Reference2Ideal.Value.run (F := Ideal) m ρ)

/-- Kernel and reference end with the same result. -/
theorem algebraic : Cert.algebraic_Kernel2Ideal_Reference2Ideal := by
  intro m ρ m' ρ' _ hagree
  refine ⟨fun c => Cert.Kernel2Ideal.Array.result m c, Cert.Kernel2Ideal.Array.run m ρ, ?_⟩
  refine (θ_run Cert.Reference2Ideal.defs _ _).mono (fun _ h c => ⟨(h c).1.trans ?_, (h c).2⟩)
    (Cert.Reference2Ideal.Value.run (F := Ideal) m' ρ')
  funext i
  obtain ⟨b, R, d, rfl⟩ : ∃ b R d, i = (ix3 b R d : Cert.Kernel2Ideal.S8x2048x1024.Idx) :=
    ⟨i 0, i 1, i 2, eq_ix3 (i : Cert.Kernel2Ideal.S8x2048x1024.Idx)⟩
  obtain ⟨h0, h1, h2, h3, h4, h5, h6, h7⟩ := hagree c
  refine (Cert.Reference2Ideal.Ref.res_apply m' c b R d).trans ?_
  rw [h0, h1, h2, h3, h4, h5, h6, h7]
  rfl

end Last

/-! ## The first layer's -/

namespace First

section
variable {F : FTy → Type} [FloatOps F]

set_option maxRecDepth 100000 in
/-- The two printed bodies are the same. -/
theorem same₀ : Cert.Kernel3.defs₀ (F := F) = Cert.Kernel3Ideal.defs₀ (F := F) := by
  unfold Cert.Kernel3.defs₀ Cert.Kernel3Ideal.defs₀
  refine congrArg Defs.onTc (funext fun l => funext fun x => ?_)
  match l, x with
  | ⟨0, _⟩, (t, s) => rfl
  | ⟨n + 1, h⟩, _ => exact absurd h (Nat.not_lt.2 (Nat.le_add_left _ _))

theorem same : Cert.Kernel3.defs (F := F) = Cert.Kernel3Ideal.defs (F := F) :=
  congrArg (Pipeline.defs Cert.Kernel3.pcfgs) same₀

end

set_option maxRecDepth 100000 in
/-- The frame holds for any float values, so for the machine's. -/
theorem kernel_frame : Cert.quiescent_Kernel3 := fun m ρ _ => by
  rw [same]; exact Cert.Kernel3Ideal.Gen.frame (F := Bits) m ρ

theorem ideal_frame : Cert.quiescent_Kernel3Ideal := fun m ρ _ => Cert.Kernel3Ideal.Gen.frame m ρ

/-- The reference is host code: it leaves its arguments, and it has no semaphore. -/
theorem reference_frame : Cert.quiescent_Reference3Ideal := fun m ρ _ =>
  (θ_run Cert.Reference3Ideal.defs _ _).mono (fun r h => ⟨fun c => (h c).2, sem_eq_zero_of_no_sems (by decide) r.2⟩)
    (Cert.Reference3Ideal.Value.run (F := Ideal) m ρ)

/-- Kernel and reference end with the same result. -/
theorem algebraic : Cert.algebraic_Kernel3Ideal_Reference3Ideal := by
  intro m ρ m' ρ' _ hagree
  refine ⟨fun c => Cert.Kernel3Ideal.Array.result m c, Cert.Kernel3Ideal.Array.run m ρ, ?_⟩
  refine (θ_run Cert.Reference3Ideal.defs _ _).mono (fun _ h c => ⟨(h c).1.trans ?_, (h c).2⟩)
    (Cert.Reference3Ideal.Value.run (F := Ideal) m' ρ')
  funext i
  obtain ⟨b, R, d, rfl⟩ : ∃ b R d, i = (ix3 b R d : Cert.Kernel3Ideal.S8x2048x1024.Idx) :=
    ⟨i 0, i 1, i 2, eq_ix3 (i : Cert.Kernel3Ideal.S8x2048x1024.Idx)⟩
  obtain ⟨h0, h1, h2, h3, h4, h5, h6⟩ := hagree c
  refine (Cert.Reference3Ideal.Ref.res_apply m' c b R d).trans ?_
  rw [h0, h1, h2, h3, h4, h5, h6]
  rfl

end First

end Cert.Ffn

end
-- ==== Proof.lean ====
/- The claims of the certificate, assembled from the modules that prove them. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_finite
public import proofs.«01_k».proof.Proof.Gen.KernelIdeal.Value
public import proofs.«01_k».proof.Proof.Gen.ReferenceIdeal.Run
public import proofs.«01_k».proof.Proof.Attention
public import proofs.«01_k».proof.Proof.Gen.Kernel2
public import proofs.«01_k».proof.Proof.Gen.Kernel3
public import proofs.«01_k».proof.Proof.Gen.Kernel3.Skeleton
public import proofs.«01_k».proof.Proof.Gen.Kernel3.Points
public import proofs.«01_k».proof.Proof.Gen.Kernel2.Skeleton
public import proofs.«01_k».proof.Proof.Gen.Kernel2.Launch
public import proofs.«01_k».proof.Proof.Gen.Kernel3.Launch
public import proofs.«01_k».proof.Proof.Gen.Kernel2.Points
public import proofs.«01_k».proof.Proof.Gen.Kernel2.Frame
public import proofs.«01_k».proof.Proof.Gen.Kernel3.Frame
public import proofs.«01_k».proof.Proof.Gen.Kernel2Ideal
public import proofs.«01_k».proof.Proof.Gen.Kernel3Ideal
public import proofs.«01_k».proof.Proof.Gen.Kernel2Ideal.Skeleton
public import proofs.«01_k».proof.Proof.Gen.Kernel3Ideal.Skeleton
public import proofs.«01_k».proof.Proof.Gen.Kernel2Ideal.Launch
public import proofs.«01_k».proof.Proof.Gen.Kernel3Ideal.Launch
public import proofs.«01_k».proof.Proof.Gen.Kernel2Ideal.Points
public import proofs.«01_k».proof.Proof.Gen.Kernel3Ideal.Points
public import proofs.«01_k».proof.Proof.Gen.Kernel2Ideal.Frame
public import proofs.«01_k».proof.Proof.Gen.Kernel3Ideal.Frame
public import proofs.«01_k».proof.Proof.Gen.Reference2Ideal
public import proofs.«01_k».proof.Proof.Gen.Reference3Ideal
public import proofs.«01_k».proof.Proof.Gen.Reference2Ideal.Run
public import proofs.«01_k».proof.Proof.Gen.Reference3Ideal.Run
public import proofs.«01_k».proof.Proof.Ffn
public import Idealize.ShloMosaic.Adequacy
public import Idealize.ShloMosaic.Init

@[expose] public section

noncomputable section

namespace Cert.Proof

open Idealize.ShloMosaic Idealize.SL.Sem Cert.Kernel

/-- Everything that the certificate claims. -/
theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts, Cert.Kernel3.Gen.facts, Cert.Kernel3Ideal.Gen.facts,
  Cert.Reference3Ideal.Gen.facts, Cert.Pre_finite.Gen.facts,
  Cert.Attention.kernel_frame, Cert.Attention.ideal_frame, Cert.Attention.ideal_frame_finite, Cert.Attention.reference_frame,
  Cert.Attention.reference_frame_finite, Cert.Ffn.Last.kernel_frame, Cert.Ffn.Last.ideal_frame, Cert.Ffn.Last.reference_frame,
  Cert.Ffn.First.kernel_frame, Cert.Ffn.First.ideal_frame, Cert.Ffn.First.reference_frame,
  trivial, Cert.Attention.algebraic, trivial, Cert.Ffn.Last.algebraic, trivial, Cert.Ffn.First.algebraic⟩

end Cert.Proof

end
